-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def Pre_Accept (m : (ℓ : Loc Cert.Accept.nD Cert.Accept.τ Cert.Accept.sig) → Buf (Elt Bits) ℓ) : Prop :=
  True

def Pre_AcceptIdeal (m : (ℓ : Loc Cert.AcceptIdeal.nD Cert.AcceptIdeal.τ Cert.AcceptIdeal.sig) → Buf (Elt Ideal) ℓ) : Prop :=
  True

def Pre_AcceptReferenceIdeal (m : (ℓ : Loc Cert.AcceptReferenceIdeal.nD Cert.AcceptReferenceIdeal.τ Cert.AcceptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def quiescent_Accept [hAccept : Cert.Accept.Facts] : Prop :=
  ∀ (m : (ℓ : Loc Cert.Accept.nD Cert.Accept.τ Cert.Accept.sig) → Buf (Elt Bits) ℓ) (g : Dev Cert.Accept.nD → PrngReg), Pre_Accept m →
    θ_run (Cert.Accept.defs (F := Bits)) (onTc (τ := Cert.Accept.τ) (Cert.Accept.main (F := Bits))) ⟨m, fun _ => 0, g⟩ (fun r => (∀ c : Dev Cert.Accept.nD,
      r.2.mem ((c.tc : Thread Cert.Accept.nD Cert.Accept.τ).loc Cert.Accept.main_arg0) = m ((c.tc : Thread Cert.Accept.nD Cert.Accept.τ).loc Cert.Accept.main_arg0)
      ∧ r.2.mem ((c.tc : Thread Cert.Accept.nD Cert.Accept.τ).loc Cert.Accept.main_arg1) = m ((c.tc : Thread Cert.Accept.nD Cert.Accept.τ).loc Cert.Accept.main_arg1)
      ∧ r.2.mem ((c.tc : Thread Cert.Accept.nD Cert.Accept.τ).loc Cert.Accept.main_arg2) = m ((c.tc : Thread Cert.Accept.nD Cert.Accept.τ).loc Cert.Accept.main_arg2)
      ∧ r.2.mem ((c.tc : Thread Cert.Accept.nD Cert.Accept.τ).loc Cert.Accept.main_arg3) = m ((c.tc : Thread Cert.Accept.nD Cert.Accept.τ).loc Cert.Accept.main_arg3)
      ∧ r.2.mem ((c.tc : Thread Cert.Accept.nD Cert.Accept.τ).loc Cert.Accept.main_arg4) = m ((c.tc : Thread Cert.Accept.nD Cert.Accept.τ).loc Cert.Accept.main_arg4)
      ∧ r.2.mem ((c.tc : Thread Cert.Accept.nD Cert.Accept.τ).loc Cert.Accept.main_arg5) = m ((c.tc : Thread Cert.Accept.nD Cert.Accept.τ).loc Cert.Accept.main_arg5)
      ∧ r.2.mem ((c.tc : Thread Cert.Accept.nD Cert.Accept.τ).loc Cert.Accept.main_arg6) = m ((c.tc : Thread Cert.Accept.nD Cert.Accept.τ).loc Cert.Accept.main_arg6)
      ∧ r.2.mem ((c.tc : Thread Cert.Accept.nD Cert.Accept.τ).loc Cert.Accept.main_arg7) = m ((c.tc : Thread Cert.Accept.nD Cert.Accept.τ).loc Cert.Accept.main_arg7)
      ∧ r.2.mem ((c.tc : Thread Cert.Accept.nD Cert.Accept.τ).loc Cert.Accept.main_arg8) = m ((c.tc : Thread Cert.Accept.nD Cert.Accept.τ).loc Cert.Accept.main_arg8))
      ∧ r.2.sem = fun _ => 0)

def quiescent_AcceptIdeal [hAcceptIdeal : Cert.AcceptIdeal.Facts] : Prop :=
  ∀ (m : (ℓ : Loc Cert.AcceptIdeal.nD Cert.AcceptIdeal.τ Cert.AcceptIdeal.sig) → Buf (Elt Ideal) ℓ) (g : Dev Cert.AcceptIdeal.nD → PrngReg), Pre_AcceptIdeal m →
    θ_run (Cert.AcceptIdeal.defs (F := Ideal)) (onTc (τ := Cert.AcceptIdeal.τ) (Cert.AcceptIdeal.main (F := Ideal))) ⟨m, fun _ => 0, g⟩ (fun r => (∀ c : Dev Cert.AcceptIdeal.nD,
      r.2.mem ((c.tc : Thread Cert.AcceptIdeal.nD Cert.AcceptIdeal.τ).loc Cert.AcceptIdeal.main_arg0) = m ((c.tc : Thread Cert.AcceptIdeal.nD Cert.AcceptIdeal.τ).loc Cert.AcceptIdeal.main_arg0)
      ∧ r.2.mem ((c.tc : Thread Cert.AcceptIdeal.nD Cert.AcceptIdeal.τ).loc Cert.AcceptIdeal.main_arg1) = m ((c.tc : Thread Cert.AcceptIdeal.nD Cert.AcceptIdeal.τ).loc Cert.AcceptIdeal.main_arg1)
      ∧ r.2.mem ((c.tc : Thread Cert.AcceptIdeal.nD Cert.AcceptIdeal.τ).loc Cert.AcceptIdeal.main_arg2) = m ((c.tc : Thread Cert.AcceptIdeal.nD Cert.AcceptIdeal.τ).loc Cert.AcceptIdeal.main_arg2)
      ∧ r.2.mem ((c.tc : Thread Cert.AcceptIdeal.nD Cert.AcceptIdeal.τ).loc Cert.AcceptIdeal.main_arg3) = m ((c.tc : Thread Cert.AcceptIdeal.nD Cert.AcceptIdeal.τ).loc Cert.AcceptIdeal.main_arg3)
      ∧ r.2.mem ((c.tc : Thread Cert.AcceptIdeal.nD Cert.AcceptIdeal.τ).loc Cert.AcceptIdeal.main_arg4) = m ((c.tc : Thread Cert.AcceptIdeal.nD Cert.AcceptIdeal.τ).loc Cert.AcceptIdeal.main_arg4)
      ∧ r.2.mem ((c.tc : Thread Cert.AcceptIdeal.nD Cert.AcceptIdeal.τ).loc Cert.AcceptIdeal.main_arg5) = m ((c.tc : Thread Cert.AcceptIdeal.nD Cert.AcceptIdeal.τ).loc Cert.AcceptIdeal.main_arg5)
      ∧ r.2.mem ((c.tc : Thread Cert.AcceptIdeal.nD Cert.AcceptIdeal.τ).loc Cert.AcceptIdeal.main_arg6) = m ((c.tc : Thread Cert.AcceptIdeal.nD Cert.AcceptIdeal.τ).loc Cert.AcceptIdeal.main_arg6)
      ∧ r.2.mem ((c.tc : Thread Cert.AcceptIdeal.nD Cert.AcceptIdeal.τ).loc Cert.AcceptIdeal.main_arg7) = m ((c.tc : Thread Cert.AcceptIdeal.nD Cert.AcceptIdeal.τ).loc Cert.AcceptIdeal.main_arg7)
      ∧ r.2.mem ((c.tc : Thread Cert.AcceptIdeal.nD Cert.AcceptIdeal.τ).loc Cert.AcceptIdeal.main_arg8) = m ((c.tc : Thread Cert.AcceptIdeal.nD Cert.AcceptIdeal.τ).loc Cert.AcceptIdeal.main_arg8))
      ∧ r.2.sem = fun _ => 0)

def quiescent_AcceptReferenceIdeal [hAcceptReferenceIdeal : Cert.AcceptReferenceIdeal.Facts] : Prop :=
  ∀ (m : (ℓ : Loc Cert.AcceptReferenceIdeal.nD Cert.AcceptReferenceIdeal.τ Cert.AcceptReferenceIdeal.sig) → Buf (Elt Ideal) ℓ) (g : Dev Cert.AcceptReferenceIdeal.nD → PrngReg), Pre_AcceptReferenceIdeal m →
    θ_run (Cert.AcceptReferenceIdeal.defs (F := Ideal)) (onTc (τ := Cert.AcceptReferenceIdeal.τ) (Cert.AcceptReferenceIdeal.main (F := Ideal))) ⟨m, fun _ => 0, g⟩ (fun r => (∀ c : Dev Cert.AcceptReferenceIdeal.nD,
      r.2.mem ((c.tc : Thread Cert.AcceptReferenceIdeal.nD Cert.AcceptReferenceIdeal.τ).loc Cert.AcceptReferenceIdeal.main_arg0) = m ((c.tc : Thread Cert.AcceptReferenceIdeal.nD Cert.AcceptReferenceIdeal.τ).loc Cert.AcceptReferenceIdeal.main_arg0)
      ∧ r.2.mem ((c.tc : Thread Cert.AcceptReferenceIdeal.nD Cert.AcceptReferenceIdeal.τ).loc Cert.AcceptReferenceIdeal.main_arg1) = m ((c.tc : Thread Cert.AcceptReferenceIdeal.nD Cert.AcceptReferenceIdeal.τ).loc Cert.AcceptReferenceIdeal.main_arg1)
      ∧ r.2.mem ((c.tc : Thread Cert.AcceptReferenceIdeal.nD Cert.AcceptReferenceIdeal.τ).loc Cert.AcceptReferenceIdeal.main_arg2) = m ((c.tc : Thread Cert.AcceptReferenceIdeal.nD Cert.AcceptReferenceIdeal.τ).loc Cert.AcceptReferenceIdeal.main_arg2)
      ∧ r.2.mem ((c.tc : Thread Cert.AcceptReferenceIdeal.nD Cert.AcceptReferenceIdeal.τ).loc Cert.AcceptReferenceIdeal.main_arg3) = m ((c.tc : Thread Cert.AcceptReferenceIdeal.nD Cert.AcceptReferenceIdeal.τ).loc Cert.AcceptReferenceIdeal.main_arg3)
      ∧ r.2.mem ((c.tc : Thread Cert.AcceptReferenceIdeal.nD Cert.AcceptReferenceIdeal.τ).loc Cert.AcceptReferenceIdeal.main_arg4) = m ((c.tc : Thread Cert.AcceptReferenceIdeal.nD Cert.AcceptReferenceIdeal.τ).loc Cert.AcceptReferenceIdeal.main_arg4)
      ∧ r.2.mem ((c.tc : Thread Cert.AcceptReferenceIdeal.nD Cert.AcceptReferenceIdeal.τ).loc Cert.AcceptReferenceIdeal.main_arg5) = m ((c.tc : Thread Cert.AcceptReferenceIdeal.nD Cert.AcceptReferenceIdeal.τ).loc Cert.AcceptReferenceIdeal.main_arg5)
      ∧ r.2.mem ((c.tc : Thread Cert.AcceptReferenceIdeal.nD Cert.AcceptReferenceIdeal.τ).loc Cert.AcceptReferenceIdeal.main_arg6) = m ((c.tc : Thread Cert.AcceptReferenceIdeal.nD Cert.AcceptReferenceIdeal.τ).loc Cert.AcceptReferenceIdeal.main_arg6)
      ∧ r.2.mem ((c.tc : Thread Cert.AcceptReferenceIdeal.nD Cert.AcceptReferenceIdeal.τ).loc Cert.AcceptReferenceIdeal.main_arg7) = m ((c.tc : Thread Cert.AcceptReferenceIdeal.nD Cert.AcceptReferenceIdeal.τ).loc Cert.AcceptReferenceIdeal.main_arg7)
      ∧ r.2.mem ((c.tc : Thread Cert.AcceptReferenceIdeal.nD Cert.AcceptReferenceIdeal.τ).loc Cert.AcceptReferenceIdeal.main_arg8) = m ((c.tc : Thread Cert.AcceptReferenceIdeal.nD Cert.AcceptReferenceIdeal.τ).loc Cert.AcceptReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v1_0) = v0 c
          ∧ r.2.mem ((c.tc : Thread Cert.QuantReferenceIdeal.nD Cert.QuantReferenceIdeal.τ).loc Cert.QuantReferenceIdeal.main_v1_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def preserves_Accept_AcceptIdeal : Prop :=
  True

def algebraic_AcceptIdeal_AcceptReferenceIdeal [hAcceptIdeal : Cert.AcceptIdeal.Facts] [hAcceptReferenceIdeal : Cert.AcceptReferenceIdeal.Facts] : Prop :=
  ∀ (m : (ℓ : Loc Cert.AcceptIdeal.nD Cert.AcceptIdeal.τ Cert.AcceptIdeal.sig) → Buf (Elt Ideal) ℓ) (g : Dev Cert.AcceptIdeal.nD → PrngReg)
    (m' : (ℓ : Loc Cert.AcceptReferenceIdeal.nD Cert.AcceptReferenceIdeal.τ Cert.AcceptReferenceIdeal.sig) → Buf (Elt Ideal) ℓ) (g' : Dev Cert.AcceptReferenceIdeal.nD → PrngReg), Pre_AcceptIdeal m →
    (∀ c : Dev Cert.AcceptIdeal.nD,
      m' ((c.tc : Thread Cert.AcceptReferenceIdeal.nD Cert.AcceptReferenceIdeal.τ).loc Cert.AcceptReferenceIdeal.main_arg0) = m ((c.tc : Thread Cert.AcceptIdeal.nD Cert.AcceptIdeal.τ).loc Cert.AcceptIdeal.main_arg0)
      ∧ m' ((c.tc : Thread Cert.AcceptReferenceIdeal.nD Cert.AcceptReferenceIdeal.τ).loc Cert.AcceptReferenceIdeal.main_arg1) = m ((c.tc : Thread Cert.AcceptIdeal.nD Cert.AcceptIdeal.τ).loc Cert.AcceptIdeal.main_arg1)
      ∧ m' ((c.tc : Thread Cert.AcceptReferenceIdeal.nD Cert.AcceptReferenceIdeal.τ).loc Cert.AcceptReferenceIdeal.main_arg2) = m ((c.tc : Thread Cert.AcceptIdeal.nD Cert.AcceptIdeal.τ).loc Cert.AcceptIdeal.main_arg2)
      ∧ m' ((c.tc : Thread Cert.AcceptReferenceIdeal.nD Cert.AcceptReferenceIdeal.τ).loc Cert.AcceptReferenceIdeal.main_arg3) = m ((c.tc : Thread Cert.AcceptIdeal.nD Cert.AcceptIdeal.τ).loc Cert.AcceptIdeal.main_arg3)
      ∧ m' ((c.tc : Thread Cert.AcceptReferenceIdeal.nD Cert.AcceptReferenceIdeal.τ).loc Cert.AcceptReferenceIdeal.main_arg4) = m ((c.tc : Thread Cert.AcceptIdeal.nD Cert.AcceptIdeal.τ).loc Cert.AcceptIdeal.main_arg4)
      ∧ m' ((c.tc : Thread Cert.AcceptReferenceIdeal.nD Cert.AcceptReferenceIdeal.τ).loc Cert.AcceptReferenceIdeal.main_arg5) = m ((c.tc : Thread Cert.AcceptIdeal.nD Cert.AcceptIdeal.τ).loc Cert.AcceptIdeal.main_arg5)
      ∧ m' ((c.tc : Thread Cert.AcceptReferenceIdeal.nD Cert.AcceptReferenceIdeal.τ).loc Cert.AcceptReferenceIdeal.main_arg6) = m ((c.tc : Thread Cert.AcceptIdeal.nD Cert.AcceptIdeal.τ).loc Cert.AcceptIdeal.main_arg6)
      ∧ m' ((c.tc : Thread Cert.AcceptReferenceIdeal.nD Cert.AcceptReferenceIdeal.τ).loc Cert.AcceptReferenceIdeal.main_arg7) = m ((c.tc : Thread Cert.AcceptIdeal.nD Cert.AcceptIdeal.τ).loc Cert.AcceptIdeal.main_arg7)
      ∧ m' ((c.tc : Thread Cert.AcceptReferenceIdeal.nD Cert.AcceptReferenceIdeal.τ).loc Cert.AcceptReferenceIdeal.main_arg8) = m ((c.tc : Thread Cert.AcceptIdeal.nD Cert.AcceptIdeal.τ).loc Cert.AcceptIdeal.main_arg8)) →
    ∃ (v0 : (c : Dev Cert.AcceptIdeal.nD) → Buf (Elt Ideal) ((c.tc : Thread Cert.AcceptIdeal.nD Cert.AcceptIdeal.τ).loc Cert.AcceptIdeal.main_v16)),
      θ_run (Cert.AcceptIdeal.defs (F := Ideal)) (onTc (τ := Cert.AcceptIdeal.τ) (Cert.AcceptIdeal.main (F := Ideal))) ⟨m, fun _ => 0, g⟩ (fun r => ∀ c : Dev Cert.AcceptIdeal.nD,
          r.2.mem ((c.tc : Thread Cert.AcceptIdeal.nD Cert.AcceptIdeal.τ).loc Cert.AcceptIdeal.main_v16) = v0 c
          ∧ r.2.mem ((c.tc : Thread Cert.AcceptIdeal.nD Cert.AcceptIdeal.τ).loc Cert.AcceptIdeal.main_arg0) = m ((c.tc : Thread Cert.AcceptIdeal.nD Cert.AcceptIdeal.τ).loc Cert.AcceptIdeal.main_arg0)
          ∧ r.2.mem ((c.tc : Thread Cert.AcceptIdeal.nD Cert.AcceptIdeal.τ).loc Cert.AcceptIdeal.main_arg1) = m ((c.tc : Thread Cert.AcceptIdeal.nD Cert.AcceptIdeal.τ).loc Cert.AcceptIdeal.main_arg1)
          ∧ r.2.mem ((c.tc : Thread Cert.AcceptIdeal.nD Cert.AcceptIdeal.τ).loc Cert.AcceptIdeal.main_arg2) = m ((c.tc : Thread Cert.AcceptIdeal.nD Cert.AcceptIdeal.τ).loc Cert.AcceptIdeal.main_arg2)
          ∧ r.2.mem ((c.tc : Thread Cert.AcceptIdeal.nD Cert.AcceptIdeal.τ).loc Cert.AcceptIdeal.main_arg3) = m ((c.tc : Thread Cert.AcceptIdeal.nD Cert.AcceptIdeal.τ).loc Cert.AcceptIdeal.main_arg3)
          ∧ r.2.mem ((c.tc : Thread Cert.AcceptIdeal.nD Cert.AcceptIdeal.τ).loc Cert.AcceptIdeal.main_arg4) = m ((c.tc : Thread Cert.AcceptIdeal.nD Cert.AcceptIdeal.τ).loc Cert.AcceptIdeal.main_arg4)
          ∧ r.2.mem ((c.tc : Thread Cert.AcceptIdeal.nD Cert.AcceptIdeal.τ).loc Cert.AcceptIdeal.main_arg5) = m ((c.tc : Thread Cert.AcceptIdeal.nD Cert.AcceptIdeal.τ).loc Cert.AcceptIdeal.main_arg5)
          ∧ r.2.mem ((c.tc : Thread Cert.AcceptIdeal.nD Cert.AcceptIdeal.τ).loc Cert.AcceptIdeal.main_arg6) = m ((c.tc : Thread Cert.AcceptIdeal.nD Cert.AcceptIdeal.τ).loc Cert.AcceptIdeal.main_arg6)
          ∧ r.2.mem ((c.tc : Thread Cert.AcceptIdeal.nD Cert.AcceptIdeal.τ).loc Cert.AcceptIdeal.main_arg7) = m ((c.tc : Thread Cert.AcceptIdeal.nD Cert.AcceptIdeal.τ).loc Cert.AcceptIdeal.main_arg7)
          ∧ r.2.mem ((c.tc : Thread Cert.AcceptIdeal.nD Cert.AcceptIdeal.τ).loc Cert.AcceptIdeal.main_arg8) = m ((c.tc : Thread Cert.AcceptIdeal.nD Cert.AcceptIdeal.τ).loc Cert.AcceptIdeal.main_arg8))
      ∧ θ_run (Cert.AcceptReferenceIdeal.defs (F := Ideal)) (onTc (τ := Cert.AcceptReferenceIdeal.τ) (Cert.AcceptReferenceIdeal.main (F := Ideal))) ⟨m', fun _ => 0, g'⟩ (fun r => ∀ c : Dev Cert.AcceptReferenceIdeal.nD,
          r.2.mem ((c.tc : Thread Cert.AcceptReferenceIdeal.nD Cert.AcceptReferenceIdeal.τ).loc Cert.AcceptReferenceIdeal.main_v2) = v0 c
          ∧ r.2.mem ((c.tc : Thread Cert.AcceptReferenceIdeal.nD Cert.AcceptReferenceIdeal.τ).loc Cert.AcceptReferenceIdeal.main_arg0) = m' ((c.tc : Thread Cert.AcceptReferenceIdeal.nD Cert.AcceptReferenceIdeal.τ).loc Cert.AcceptReferenceIdeal.main_arg0)
          ∧ r.2.mem ((c.tc : Thread Cert.AcceptReferenceIdeal.nD Cert.AcceptReferenceIdeal.τ).loc Cert.AcceptReferenceIdeal.main_arg1) = m' ((c.tc : Thread Cert.AcceptReferenceIdeal.nD Cert.AcceptReferenceIdeal.τ).loc Cert.AcceptReferenceIdeal.main_arg1)
          ∧ r.2.mem ((c.tc : Thread Cert.AcceptReferenceIdeal.nD Cert.AcceptReferenceIdeal.τ).loc Cert.AcceptReferenceIdeal.main_arg2) = m' ((c.tc : Thread Cert.AcceptReferenceIdeal.nD Cert.AcceptReferenceIdeal.τ).loc Cert.AcceptReferenceIdeal.main_arg2)
          ∧ r.2.mem ((c.tc : Thread Cert.AcceptReferenceIdeal.nD Cert.AcceptReferenceIdeal.τ).loc Cert.AcceptReferenceIdeal.main_arg3) = m' ((c.tc : Thread Cert.AcceptReferenceIdeal.nD Cert.AcceptReferenceIdeal.τ).loc Cert.AcceptReferenceIdeal.main_arg3)
          ∧ r.2.mem ((c.tc : Thread Cert.AcceptReferenceIdeal.nD Cert.AcceptReferenceIdeal.τ).loc Cert.AcceptReferenceIdeal.main_arg4) = m' ((c.tc : Thread Cert.AcceptReferenceIdeal.nD Cert.AcceptReferenceIdeal.τ).loc Cert.AcceptReferenceIdeal.main_arg4)
          ∧ r.2.mem ((c.tc : Thread Cert.AcceptReferenceIdeal.nD Cert.AcceptReferenceIdeal.τ).loc Cert.AcceptReferenceIdeal.main_arg5) = m' ((c.tc : Thread Cert.AcceptReferenceIdeal.nD Cert.AcceptReferenceIdeal.τ).loc Cert.AcceptReferenceIdeal.main_arg5)
          ∧ r.2.mem ((c.tc : Thread Cert.AcceptReferenceIdeal.nD Cert.AcceptReferenceIdeal.τ).loc Cert.AcceptReferenceIdeal.main_arg6) = m' ((c.tc : Thread Cert.AcceptReferenceIdeal.nD Cert.AcceptReferenceIdeal.τ).loc Cert.AcceptReferenceIdeal.main_arg6)
          ∧ r.2.mem ((c.tc : Thread Cert.AcceptReferenceIdeal.nD Cert.AcceptReferenceIdeal.τ).loc Cert.AcceptReferenceIdeal.main_arg7) = m' ((c.tc : Thread Cert.AcceptReferenceIdeal.nD Cert.AcceptReferenceIdeal.τ).loc Cert.AcceptReferenceIdeal.main_arg7)
          ∧ r.2.mem ((c.tc : Thread Cert.AcceptReferenceIdeal.nD Cert.AcceptReferenceIdeal.τ).loc Cert.AcceptReferenceIdeal.main_arg8) = m' ((c.tc : Thread Cert.AcceptReferenceIdeal.nD Cert.AcceptReferenceIdeal.τ).loc Cert.AcceptReferenceIdeal.main_arg8))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hAccept : Cert.Accept.Facts) (hAcceptIdeal : Cert.AcceptIdeal.Facts) (hAcceptReferenceIdeal : Cert.AcceptReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ quiescent_Accept (hAccept := hAccept)
    ∧ quiescent_AcceptIdeal (hAcceptIdeal := hAcceptIdeal)
    ∧ quiescent_AcceptReferenceIdeal (hAcceptReferenceIdeal := hAcceptReferenceIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantReferenceIdeal (hQuantIdeal := hQuantIdeal) (hQuantReferenceIdeal := hQuantReferenceIdeal)
    ∧ preserves_Accept_AcceptIdeal
    ∧ algebraic_AcceptIdeal_AcceptReferenceIdeal (hAcceptIdeal := hAcceptIdeal) (hAcceptReferenceIdeal := hAcceptReferenceIdeal)
-- ==== Kernel.lean ====
abbrev S96x4096 : Shape := ⟨2, ![96, 4096]⟩
abbrev S72 : Shape := ⟨1, ![72]⟩
abbrev S32768x4096 : Shape := ⟨2, ![32768, 4096]⟩
abbrev S32768 : Shape := ⟨1, ![32768]⟩
abbrev S72x1 : Shape := ⟨2, ![72, 1]⟩
abbrev S72x128 : Shape := ⟨2, ![72, 128]⟩
abbrev S256x128 : Shape := ⟨2, ![256, 128]⟩
abbrev S96x128 : Shape := ⟨2, ![96, 128]⟩
abbrev S4x1024x4096 : Shape := ⟨3, ![4, 1024, 4096]⟩
abbrev S96x1024 : Shape := ⟨2, ![96, 1024]⟩
abbrev S4 : Shape := ⟨1, ![4]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S8x128 : Shape := ⟨2, ![8, 128]⟩
abbrev S1x128 : Shape := ⟨2, ![1, 128]⟩
abbrev S8 : Shape := ⟨1, ![8]⟩
abbrev S8x1 : Shape := ⟨2, ![8, 1]⟩

abbrev nBuf : Space → Nat
  | .hbm => 11
  | .vmem => 11
  | .smem => 0
  | _ => 0

abbrev bufTy : (tb : Table) → Fin (tcTables nBuf tb) → BufTy
  | .hbm, ⟨0, _⟩ => ⟨S96x4096, .fp8e4m3⟩
  | .hbm, ⟨1, _⟩ => ⟨S72, .f32⟩
  | .hbm, ⟨2, _⟩ => ⟨S72, .f32⟩
  | .hbm, ⟨3, _⟩ => ⟨S32768x4096, .fp8e4m3⟩
  | .hbm, ⟨4, _⟩ => ⟨S32768, .f32⟩
  | .hbm, ⟨5, _⟩ => ⟨S72x1, .f32⟩
  | .hbm, ⟨6, _⟩ => ⟨S72x128, .f32⟩
  | .hbm, ⟨7, _⟩ => ⟨S72x1, .f32⟩
  | .hbm, ⟨8, _⟩ => ⟨S72x128, .f32⟩
  | .hbm, ⟨9, _⟩ => ⟨S256x128, .f32⟩
  | .hbm, ⟨10, _⟩ => ⟨S72x128, .f32⟩
  | .local _ .vmem, ⟨0, _⟩ => ⟨S96x4096, .fp8e4m3⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S96x128, .f32⟩
  | .local _ .vmem, ⟨5, _⟩ => ⟨S256x128, .f32⟩
  | .local _ .vmem, ⟨6, _⟩ => ⟨S4x1024x4096, .fp8e4m3⟩
  | .local _ .vmem, ⟨7, _⟩ => ⟨S96x1024, .f32⟩
  | .local _ .vmem, ⟨8, _⟩ => ⟨S96x1024, .f32⟩
  | .local _ .vmem, ⟨9, _⟩ => ⟨S72x128, .f32⟩
  | .local _ .vmem, ⟨10, _⟩ => ⟨S72x128, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 (c0_i32_0 : BitVec 32) : Fin 1 → Nat :=
  let c4_i32_1 : BitVec 32 := 4#32
  let v3 : BitVec 32 := Scalar.remsi c0_i32_0 c4_i32_1
  ![v3.toNat]
def k0_off1_at (r : Fin 5) : BitVec 32 :=
  if r.val < 2 then
    if r.val < 1 then
      0#32
    else
      1#32
  else
    if r.val < 3 then
      2#32
    else
      if r.val < 4 then
        3#32
      else
        31#32
def k0_off2 (c0_i32 : BitVec 32) : Fin 3 → Nat :=
  let c4_i32 : BitVec 32 := 4#32
  let v2 : BitVec 32 := Scalar.remsi c0_i32 c4_i32
  let c0_i32_2 : BitVec 32 := 0#32
  let c0_i32_3 : BitVec 32 := 0#32
  ![v2.toNat, 0, 0]
def k0_off2_at (r : Fin 5) : BitVec 32 :=
  if r.val < 2 then
    if r.val < 1 then
      0#32
    else
      1#32
  else
    if r.val < 3 then
      2#32
    else
      if r.val < 4 then
        3#32
      else
        31#32
def k0_off3 (c0_i32_40 : BitVec 32) : Fin 2 → Nat :=
  let c1024_i32_41 : BitVec 32 := 1024#32
  let v55 : BitVec 32 := Scalar.muli c0_i32_40 c1024_i32_41
  let c0_i32_48 : BitVec 32 := 0#32
  ![v55.toNat, 0]
def k0_off4 (c0_i32_51 : BitVec 32) : Fin 3 → Nat :=
  let c4_i32_52 : BitVec 32 := 4#32
  let v64 : BitVec 32 := Scalar.remsi c0_i32_51 c4_i32_52
  let v65 : Index := Scalar.indexCast v64
  let c0_53 : Index := 0#32
  let c0_54 : Index := 0#32
  ![v65.toNat, 0, 0]
def k0_cond1 : BitVec 1 :=
  let c0_i32_58 : BitVec 32 := 0#32
  let c4_i32_59 : BitVec 32 := 4#32
  let v72 : BitVec 32 := Scalar.addi c0_i32_58 c4_i32_59
  let c32_i32 : BitVec 32 := 32#32
  let v73 : BitVec 1 := Scalar.cmpi .slt v72 c32_i32
  let v74 : BitVec 32 := Scalar.extui v73
  let c0_i32_61 : BitVec 32 := 0#32
  let v75 : BitVec 1 := Scalar.cmpi .ne v74 c0_i32_61
  v75

def k0_off5 : Fin 1 → Nat :=
  let c0_i32_60 : BitVec 32 := 0#32
  let c4_i32_954 : BitVec 32 := 4#32
  let v2300 : BitVec 32 := Scalar.addi c0_i32_60 c4_i32_954
  let c4_i32_957 : BitVec 32 := 4#32
  let v2303 : BitVec 32 := Scalar.remsi v2300 c4_i32_957
  ![v2303.toNat]
def k0_off6 : Fin 3 → Nat :=
  let c0_i32_60 : BitVec 32 := 0#32
  let c4_i32_954 : BitVec 32 := 4#32
  let v2300 : BitVec 32 := Scalar.addi c0_i32_60 c4_i32_954
  let c4_i32_956 : BitVec 32 := 4#32
  let v2302 : BitVec 32 := Scalar.remsi v2300 c4_i32_956
  let c0_i32_958 : BitVec 32 := 0#32
  let c0_i32_959 : BitVec 32 := 0#32
  ![v2302.toNat, 0, 0]
def k0_off7 : Fin 2 → Nat :=
  let c0_i32_60 : BitVec 32 := 0#32
  let c4_i32_954 : BitVec 32 := 4#32
  let v2300 : BitVec 32 := Scalar.addi c0_i32_60 c4_i32_954
  let c1024_i32_955 : BitVec 32 := 1024#32
  let v2301 : BitVec 32 := Scalar.muli v2300 c1024_i32_955
  let c0_i32_960 : BitVec 32 := 0#32
  ![v2301.toNat, 0]
@[reducible] def k0_t1_loop : Scf.Loop 32 :=
  let c0_i32_62 : BitVec 32 := 0#32
  let c15_i32 : BitVec 32 := 15#32
  let v76 : BitVec 32 := Scalar.addi c0_i32_62 c15_i32
  let c1_i32_63 : BitVec 32 := 1#32
  ⟨c0_i32_62, v76, c1_i32_63⟩
def k0_off8 (k0_t1 : Fin k0_t1_loop.trips) (c1_i32_955 : BitVec 32) : Fin 1 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let v2301 : BitVec 32 := Scalar.addi v2300 c1_i32_955
  let c4_i32_958 : BitVec 32 := 4#32
  let v2304 : BitVec 32 := Scalar.remsi v2301 c4_i32_958
  ![v2304.toNat]
def k0_off9 (k0_t1 : Fin k0_t1_loop.trips) (c1_i32_955 : BitVec 32) : Fin 3 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let v2301 : BitVec 32 := Scalar.addi v2300 c1_i32_955
  let c4_i32_957 : BitVec 32 := 4#32
  let v2303 : BitVec 32 := Scalar.remsi v2301 c4_i32_957
  let c0_i32_959 : BitVec 32 := 0#32
  let c0_i32_960 : BitVec 32 := 0#32
  ![v2303.toNat, 0, 0]
def k0_off10 (k0_t1 : Fin k0_t1_loop.trips) (c1_i32_955 : BitVec 32) : Fin 2 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let v2301 : BitVec 32 := Scalar.addi v2300 c1_i32_955
  let c1024_i32_956 : BitVec 32 := 1024#32
  let v2302 : BitVec 32 := Scalar.muli v2301 c1024_i32_956
  let c0_i32_961 : BitVec 32 := 0#32
  ![v2302.toNat, 0]
def k0_off11 (k0_t1 : Fin k0_t1_loop.trips) (c1_i32_955 : BitVec 32) (c0_i32_972 : BitVec 32) : Fin 2 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let v2301 : BitVec 32 := Scalar.addi v2300 c1_i32_955
  let c1_i32_962 : BitVec 32 := 1#32
  let v2310 : BitVec 32 := Scalar.subi v2301 c1_i32_962
  let c8_i32_963 : BitVec 32 := 8#32
  let v2311 : BitVec 32 := Scalar.muli v2310 c8_i32_963
  let v2317 : BitVec 32 := Scalar.addi v2311 c0_i32_972
  let v2318 : Index := Scalar.indexCast v2317
  let c0_973 : Index := 0#32
  ![v2318.toNat, 0]
def k0_off12 (k0_t1 : Fin k0_t1_loop.trips) (c1_i32_955 : BitVec 32) : Fin 3 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let v2301 : BitVec 32 := Scalar.addi v2300 c1_i32_955
  let c4_i32_1416 : BitVec 32 := 4#32
  let v3492 : BitVec 32 := Scalar.remsi v2301 c4_i32_1416
  let v3493 : Index := Scalar.indexCast v3492
  let c0_1417 : Index := 0#32
  let c0_1418 : Index := 0#32
  ![v3493.toNat, 0, 0]
def k0_cond2 (k0_t1 : Fin k0_t1_loop.trips) : BitVec 1 :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let c1_i32_955 : BitVec 32 := 1#32
  let v2301 : BitVec 32 := Scalar.addi v2300 c1_i32_955
  let c4_i32_1422 : BitVec 32 := 4#32
  let v3500 : BitVec 32 := Scalar.addi v2301 c4_i32_1422
  let c32_i32_1423 : BitVec 32 := 32#32
  let v3501 : BitVec 1 := Scalar.cmpi .slt v3500 c32_i32_1423
  let v3502 : BitVec 32 := Scalar.extui v3501
  let c0_i32_1424 : BitVec 32 := 0#32
  let v3503 : BitVec 1 := Scalar.cmpi .ne v3502 c0_i32_1424
  v3503

def k0_off13 (k0_t1 : Fin k0_t1_loop.trips) : Fin 1 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let c1_i32_955 : BitVec 32 := 1#32
  let v2301 : BitVec 32 := Scalar.addi v2300 c1_i32_955
  let c4_i32_1896 : BitVec 32 := 4#32
  let v4708 : BitVec 32 := Scalar.addi v2301 c4_i32_1896
  let c4_i32_1899 : BitVec 32 := 4#32
  let v4711 : BitVec 32 := Scalar.remsi v4708 c4_i32_1899
  ![v4711.toNat]
def k0_off14 (k0_t1 : Fin k0_t1_loop.trips) : Fin 3 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let c1_i32_955 : BitVec 32 := 1#32
  let v2301 : BitVec 32 := Scalar.addi v2300 c1_i32_955
  let c4_i32_1896 : BitVec 32 := 4#32
  let v4708 : BitVec 32 := Scalar.addi v2301 c4_i32_1896
  let c4_i32_1898 : BitVec 32 := 4#32
  let v4710 : BitVec 32 := Scalar.remsi v4708 c4_i32_1898
  let c0_i32_1900 : BitVec 32 := 0#32
  let c0_i32_1901 : BitVec 32 := 0#32
  ![v4710.toNat, 0, 0]
def k0_off15 (k0_t1 : Fin k0_t1_loop.trips) : Fin 2 → Nat :=
  let c2_i32_954 : BitVec 32 := 2#32
  let c0_i32_62 : BitVec 32 := 0#32
  let c1_i32_63 : BitVec 32 := 1#32
  let arg15 : BitVec 32 := Scf.iv c0_i32_62 c1_i32_63 k0_t1
  let v2300 : BitVec 32 := Scalar.muli c2_i32_954 arg15
  let c1_i32_955 : BitVec 32 := 1#32
  let v2301 : BitVec 32 := Scalar.addi v2300 c1_i32_955
  let c4_i32_1896 : BitVec 32 := 4#32
  let v4708 : BitVec 32 := Scalar.addi v2301 c4_i32_1896
  let c1024_i32_1897 : BitVec 32 := 1024#32
  let v4709 : BitVec 32 := Scalar.muli v4708 c1024_i32_1897
  let c0_i32_1902 : BitVec 32 := 0#32
  ![v4709.toNat, 0]
def k0_cond3 (k0_t1 : Fin k0_t1_loop.trips) : BitVec 1 :=
  let c2_i32_1425 : BitVec 32 := 2#32
  let c0_i32_62 : BitVec 32 := 0#32
  let c1_i32_63 : BitVec 32 := 1#32
  let arg15 : BitVec 32 := Scf.iv c0_i32_62 c1_i32_63 k0_t1
  let v3504 : BitVec 32 := Scalar.muli c2_i32_1425 arg15
  let c2_i32_1426 : BitVec 32 := 2#32
  let v3505 : BitVec 32 := Scalar.addi v3504 c2_i32_1426
  let c4_i32_1893 : BitVec 32 := 4#32
  let v4704 : BitVec 32 := Scalar.addi v3505 c4_i32_1893
  let c32_i32_1894 : BitVec 32 := 32#32
  let v4705 : BitVec 1 := Scalar.cmpi .slt v4704 c32_i32_1894
  let v4706 : BitVec 32 := Scalar.extui v4705
  let c0_i32_1895 : BitVec 32 := 0#32
  let v4707 : BitVec 1 := Scalar.cmpi .ne v4706 c0_i32_1895
  v4707

def k0_off16 (k0_t1 : Fin k0_t1_loop.trips) : Fin 1 → Nat :=
  let c2_i32_1425 : BitVec 32 := 2#32
  let c0_i32_62 : BitVec 32 := 0#32
  let c1_i32_63 : BitVec 32 := 1#32
  let arg15 : BitVec 32 := Scf.iv c0_i32_62 c1_i32_63 k0_t1
  let v3504 : BitVec 32 := Scalar.muli c2_i32_1425 arg15
  let c2_i32_1426 : BitVec 32 := 2#32
  let v3505 : BitVec 32 := Scalar.addi v3504 c2_i32_1426
  let c4_i32_1896 : BitVec 32 := 4#32
  let v4708 : BitVec 32 := Scalar.addi v3505 c4_i32_1896
  let c4_i32_1899 : BitVec 32 := 4#32
  let v4711 : BitVec 32 := Scalar.remsi v4708 c4_i32_1899
  ![v4711.toNat]
def k0_off17 (k0_t1 : Fin k0_t1_loop.trips) : Fin 3 → Nat :=
  let c2_i32_1425 : BitVec 32 := 2#32
  let c0_i32_62 : BitVec 32 := 0#32
  let c1_i32_63 : BitVec 32 := 1#32
  let arg15 : BitVec 32 := Scf.iv c0_i32_62 c1_i32_63 k0_t1
  let v3504 : BitVec 32 := Scalar.muli c2_i32_1425 arg15
  let c2_i32_1426 : BitVec 32 := 2#32
  let v3505 : BitVec 32 := Scalar.addi v3504 c2_i32_1426
  let c4_i32_1896 : BitVec 32 := 4#32
  let v4708 : BitVec 32 := Scalar.addi v3505 c4_i32_1896
  let c4_i32_1898 : BitVec 32 := 4#32
  let v4710 : BitVec 32 := Scalar.remsi v4708 c4_i32_1898
  let c0_i32_1900 : BitVec 32 := 0#32
  let c0_i32_1901 : BitVec 32 := 0#32
  ![v4710.toNat, 0, 0]
def k0_off18 (k0_t1 : Fin k0_t1_loop.trips) : Fin 2 → Nat :=
  let c2_i32_1425 : BitVec 32 := 2#32
  let c0_i32_62 : BitVec 32 := 0#32
  let c1_i32_63 : BitVec 32 := 1#32
  let arg15 : BitVec 32 := Scf.iv c0_i32_62 c1_i32_63 k0_t1
  let v3504 : BitVec 32 := Scalar.muli c2_i32_1425 arg15
  let c2_i32_1426 : BitVec 32 := 2#32
  let v3505 : BitVec 32 := Scalar.addi v3504 c2_i32_1426
  let c4_i32_1896 : BitVec 32 := 4#32
  let v4708 : BitVec 32 := Scalar.addi v3505 c4_i32_1896
  let c1024_i32_1897 : BitVec 32 := 1024#32
  let v4709 : BitVec 32 := Scalar.muli v4708 c1024_i32_1897
  let c0_i32_1902 : BitVec 32 := 0#32
  ![v4709.toNat, 0]
def k0_off19 (c0_i32_83 : BitVec 32) : Fin 2 → Nat :=
  let c31_i32_73 : BitVec 32 := 31#32
  let c1_i32_74 : BitVec 32 := 1#32
  let v85 : BitVec 32 := Scalar.subi c31_i32_73 c1_i32_74
  let c8_i32 : BitVec 32 := 8#32
  let v86 : BitVec 32 := Scalar.muli v85 c8_i32
  let v92 : BitVec 32 := Scalar.addi v86 c0_i32_83
  let v93 : Index := Scalar.indexCast v92
  let c0_84 : Index := 0#32
  ![v93.toNat, 0]
def k0_cond4 : BitVec 1 :=
  let c31_i32_516 : BitVec 32 := 31#32
  let c4_i32_517 : BitVec 32 := 4#32
  let v1275 : BitVec 32 := Scalar.addi c31_i32_516 c4_i32_517
  let c32_i32_518 : BitVec 32 := 32#32
  let v1276 : BitVec 1 := Scalar.cmpi .slt v1275 c32_i32_518
  let v1277 : BitVec 32 := Scalar.extui v1276
  let c0_i32_520 : BitVec 32 := 0#32
  let v1278 : BitVec 1 := Scalar.cmpi .ne v1277 c0_i32_520
  v1278

def k0_off20 : Fin 1 → Nat :=
  let c31_i32_519 : BitVec 32 := 31#32
  let c4_i32_954 : BitVec 32 := 4#32
  let v2300 : BitVec 32 := Scalar.addi c31_i32_519 c4_i32_954
  let c4_i32_957 : BitVec 32 := 4#32
  let v2303 : BitVec 32 := Scalar.remsi v2300 c4_i32_957
  ![v2303.toNat]
def k0_off21 : Fin 3 → Nat :=
  let c31_i32_519 : BitVec 32 := 31#32
  let c4_i32_954 : BitVec 32 := 4#32
  let v2300 : BitVec 32 := Scalar.addi c31_i32_519 c4_i32_954
  let c4_i32_956 : BitVec 32 := 4#32
  let v2302 : BitVec 32 := Scalar.remsi v2300 c4_i32_956
  let c0_i32_958 : BitVec 32 := 0#32
  let c0_i32_959 : BitVec 32 := 0#32
  ![v2302.toNat, 0, 0]
def k0_off22 : Fin 2 → Nat :=
  let c31_i32_519 : BitVec 32 := 31#32
  let c4_i32_954 : BitVec 32 := 4#32
  let v2300 : BitVec 32 := Scalar.addi c31_i32_519 c4_i32_954
  let c1024_i32_955 : BitVec 32 := 1024#32
  let v2301 : BitVec 32 := Scalar.muli v2300 c1024_i32_955
  let c0_i32_960 : BitVec 32 := 0#32
  ![v2301.toNat, 0]
abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S96x4096 : Shape := ⟨2, ![96, 4096]⟩
abbrev S72 : Shape := ⟨1, ![72]⟩
abbrev S32768x4096 : Shape := ⟨2, ![32768, 4096]⟩
abbrev S32768 : Shape := ⟨1, ![32768]⟩
abbrev S72x1 : Shape := ⟨2, ![72, 1]⟩
abbrev S1x32768 : Shape := ⟨2, ![1, 32768]⟩
abbrev S72x128 : Shape := ⟨2, ![72, 128]⟩
abbrev S72x4096 : Shape := ⟨2, ![72, 4096]⟩
abbrev S72x32768 : Shape := ⟨2, ![72, 32768]⟩

abbrev nBuf : Space → Nat
  | .hbm => 9
  | .vmem => 6
  | .smem => 0
  | _ => 0

abbrev bufTy : (tb : Table) → Fin (tcTables nBuf tb) → BufTy
  | .hbm, ⟨0, _⟩ => ⟨S96x4096, .fp8e4m3⟩
  | .hbm, ⟨1, _⟩ => ⟨S72, .f32⟩
  | .hbm, ⟨2, _⟩ => ⟨S72, .f32⟩
  | .hbm, ⟨3, _⟩ => ⟨S32768x4096, .fp8e4m3⟩
  | .hbm, ⟨4, _⟩ => ⟨S32768, .f32⟩
  | .hbm, ⟨5, _⟩ => ⟨S72x1, .f32⟩
  | .hbm, ⟨6, _⟩ => ⟨S72x1, .f32⟩
  | .hbm, ⟨7, _⟩ => ⟨S1x32768, .f32⟩
  | .hbm, ⟨8, _⟩ => ⟨S72x128, .f32⟩
  | .local _ .vmem, ⟨0, _⟩ => ⟨S96x4096, .fp8e4m3⟩
  | .local _ .vmem, ⟨1, _⟩ => ⟨S72x1, .f32⟩
  | .local _ .vmem, ⟨2, _⟩ => ⟨S72x1, .f32⟩
  | .local _ .vmem, ⟨3, _⟩ => ⟨S32768x4096, .fp8e4m3⟩
  | .local _ .vmem, ⟨4, _⟩ => ⟨S1x32768, .f32⟩
  | .local _ .vmem, ⟨5, _⟩ => ⟨S72x128, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quant.lean ====
abbrev S12x6x4096 : Shape := ⟨3, ![12, 6, 4096]⟩
abbrev S4096 : Shape := ⟨1, ![4096]⟩
abbrev S1x4096 : Shape := ⟨2, ![1, 4096]⟩
abbrev S12x6x128 : Shape := ⟨3, ![12, 6, 128]⟩
abbrev S96x4096 : Shape := ⟨2, ![96, 4096]⟩
abbrev S3 : Shape := ⟨1, ![3]⟩
abbrev S1 : Shape := ⟨1, ![1]⟩
abbrev S_ : Shape := ⟨0, ![]⟩
abbrev S1x6x4096 : Shape := ⟨3, ![1, 6, 4096]⟩
abbrev S6x4096 : Shape := ⟨2, ![6, 4096]⟩
abbrev S6 : Shape := ⟨1, ![6]⟩
abbrev S6x1 : Shape := ⟨2, ![6, 1]⟩
abbrev S2x4096 : Shape := ⟨2, ![2, 4096]⟩
abbrev S8x4096 : Shape := ⟨2, ![8, 4096]⟩
abbrev S6x128 : Shape := ⟨2, ![6, 128]⟩
abbrev S1x6x128 : Shape := ⟨3, ![1, 6, 128]⟩

abbrev nBuf : Space → Nat
  | .hbm => 5
  | .vmem => 5
  | .smem => 0
  | _ => 0

abbrev bufTy : (tb : Table) → Fin (tcTables nBuf tb) → BufTy
  | .hbm, ⟨0, _⟩ => ⟨S12x6x4096, .bf16⟩
  | .hbm, ⟨1, _⟩ => ⟨S4096, .f32⟩
  | .hbm, ⟨2, _⟩ => ⟨S1x4096, .f32⟩
  | .hbm, ⟨3, _⟩ => ⟨S12x6x4096, .fp8e4m3⟩
  | .hbm, ⟨4, _⟩ => ⟨S12x6x128, .f32⟩
  | .local _ .vmem, ⟨0, _⟩ => ⟨S12x6x4096, .fp8e4m3⟩
  | .local _ .vmem, ⟨1, _⟩ => ⟨S12x6x128, .f32⟩
  | .local _ .vmem, ⟨2, _⟩ => ⟨S12x6x4096, .bf16⟩
  | .local _ .vmem, ⟨3, _⟩ => ⟨S1x4096, .f32⟩
  | .local _ .vmem, ⟨4, _⟩ => ⟨S96x4096, .f32⟩
  | _, _ => ⟨S12x6x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c12_i32 : BitVec 32 := 12#32
  let v8 : BitVec 32 := Scalar.addi c0_i32_2 c12_i32
  let c1_i32_3 : BitVec 32 := 1#32
  ⟨c0_i32_2, v8, c1_i32_3⟩
def k0_off1 (k0_t1 : Fin k0_t1_loop.trips) : Fin 3 → Nat :=
  let c0_i32_2 : BitVec 32 := 0#32
  let c1_i32_3 : BitVec 32 := 1#32
  let arg8 : BitVec 32 := Scf.iv c0_i32_2 c1_i32_3 k0_t1
  let v9 : Index := Scalar.indexCast arg8
  let c0 : Index := 0#32
  let c0_5 : Index := 0#32
  ![v9.toNat, 0, 0]
def k0_mult1 (k0_t1 : Fin k0_t1_loop.trips) : BitVec 32 :=
  let c0_i32_2 : BitVec 32 := 0#32
  let c1_i32_3 : BitVec 32 := 1#32
  let arg8 : BitVec 32 := Scf.iv c0_i32_2 c1_i32_3 k0_t1
  let c8_i32 : BitVec 32 := 8#32
  let v49 : BitVec 32 := Scalar.muli arg8 c8_i32
  v49
def k0_off2 (k0_t1 : Fin k0_t1_loop.trips) : Fin 2 → Nat :=
  let c0_i32_2 : BitVec 32 := 0#32
  let c1_i32_3 : BitVec 32 := 1#32
  let arg8 : BitVec 32 := Scf.iv c0_i32_2 c1_i32_3 k0_t1
  let c8_i32 : BitVec 32 := 8#32
  let v49 : BitVec 32 := Scalar.muli arg8 c8_i32
  let v50 : BitVec 32 := v49
  let v51 : Index := Scalar.indexCast v50
  let c0_19 : Index := 0#32
  ![v51.toNat, 0]
def k0_off3 (k0_t1 : Fin k0_t1_loop.trips) : Fin 3 → Nat :=
  let c0_i32_2 : BitVec 32 := 0#32
  let c1_i32_3 : BitVec 32 := 1#32
  let arg8 : BitVec 32 := Scf.iv c0_i32_2 c1_i32_3 k0_t1
  let v57 : Index := Scalar.indexCast arg8
  let c0_20 : Index := 0#32
  let c0_21 : Index := 0#32
  ![v57.toNat, 0, 0]
abbrev stage0_0 : Fin 1 → Memref sig .tc .vmem S12x6x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== QuantReferenceIdeal.lean ====
abbrev S12x6x4096 : Shape := ⟨3, ![12, 6, 4096]⟩
abbrev S4096 : Shape := ⟨1, ![4096]⟩
abbrev S1x1x4096 : Shape := ⟨3, ![1, 1, 4096]⟩
abbrev S12x6x128 : Shape := ⟨3, ![12, 6, 128]⟩
abbrev S12x6 : Shape := ⟨2, ![12, 6]⟩
abbrev S12x6x1 : Shape := ⟨3, ![12, 6, 1]⟩

abbrev nBuf : Space → Nat
  | .hbm => 5
  | .vmem => 4
  | .smem => 0
  | _ => 0

abbrev bufTy : (tb : Table) → Fin (tcTables nBuf tb) → BufTy
  | .hbm, ⟨0, _⟩ => ⟨S12x6x4096, .bf16⟩
  | .hbm, ⟨1, _⟩ => ⟨S4096, .f32⟩
  | .hbm, ⟨2, _⟩ => ⟨S1x1x4096, .f32⟩
  | .hbm, ⟨3, _⟩ => ⟨S12x6x4096, .fp8e4m3⟩
  | .hbm, ⟨4, _⟩ => ⟨S12x6x128, .f32⟩
  | .local _ .vmem, ⟨0, _⟩ => ⟨S12x6x4096, .bf16⟩
  | .local _ .vmem, ⟨1, _⟩ => ⟨S1x1x4096, .f32⟩
  | .local _ .vmem, ⟨2, _⟩ => ⟨S12x6x4096, .fp8e4m3⟩
  | .local _ .vmem, ⟨3, _⟩ => ⟨S12x6x128, .f32⟩
  | _, _ => ⟨S12x6x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x6x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x6x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Accept.lean ====
abbrev S1 : Shape := ⟨1, ![1]⟩
abbrev S72 : Shape := ⟨1, ![72]⟩
abbrev S3x64x128 : Shape := ⟨3, ![3, 64, 128]⟩
abbrev S64x3 : Shape := ⟨2, ![64, 3]⟩
abbrev S9x64x128 : Shape := ⟨3, ![9, 64, 128]⟩
abbrev S72x1 : Shape := ⟨2, ![72, 1]⟩
abbrev S72x128 : Shape := ⟨2, ![72, 128]⟩
abbrev S3x64 : Shape := ⟨2, ![3, 64]⟩
abbrev S3x64x1 : Shape := ⟨3, ![3, 64, 1]⟩
abbrev S64x128 : Shape := ⟨2, ![64, 128]⟩
abbrev S1x64x128 : Shape := ⟨3, ![1, 64, 128]⟩
abbrev S64 : Shape := ⟨1, ![64]⟩
abbrev S64x1 : Shape := ⟨2, ![64, 1]⟩
abbrev S8x128 : Shape := ⟨2, ![8, 128]⟩

abbrev nBuf : Space → Nat
  | .hbm => 26
  | .vmem => 9
  | .smem => 1
  | _ => 0

abbrev bufTy : (tb : Table) → Fin (tcTables nBuf tb) → BufTy
  | .hbm, ⟨0, _⟩ => ⟨S1, .i32⟩
  | .hbm, ⟨1, _⟩ => ⟨S72, .f32⟩
  | .hbm, ⟨2, _⟩ => ⟨S72, .f32⟩
  | .hbm, ⟨3, _⟩ => ⟨S3x64x128, .f32⟩
  | .hbm, ⟨4, _⟩ => ⟨S64x3, .i32⟩
  | .hbm, ⟨5, _⟩ => ⟨S9x64x128, .f32⟩
  | .hbm, ⟨6, _⟩ => ⟨S64x3, .f32⟩
  | .hbm, ⟨7, _⟩ => ⟨S64x3, .f32⟩
  | .hbm, ⟨8, _⟩ => ⟨S64x3, .f32⟩
  | .hbm, ⟨9, _⟩ => ⟨S72x1, .f32⟩
  | .hbm, ⟨10, _⟩ => ⟨S72x128, .f32⟩
  | .hbm, ⟨11, _⟩ => ⟨S72x1, .f32⟩
  | .hbm, ⟨12, _⟩ => ⟨S72x128, .f32⟩
  | .hbm, ⟨13, _⟩ => ⟨S3x64, .i32⟩
  | .hbm, ⟨14, _⟩ => ⟨S3x64x1, .i32⟩
  | .hbm, ⟨15, _⟩ => ⟨S3x64x128, .i32⟩
  | .hbm, ⟨16, _⟩ => ⟨S3x64, .f32⟩
  | .hbm, ⟨17, _⟩ => ⟨S3x64x1, .f32⟩
  | .hbm, ⟨18, _⟩ => ⟨S3x64x128, .f32⟩
  | .hbm, ⟨19, _⟩ => ⟨S3x64, .f32⟩
  | .hbm, ⟨20, _⟩ => ⟨S3x64x1, .f32⟩
  | .hbm, ⟨21, _⟩ => ⟨S3x64x128, .f32⟩
  | .hbm, ⟨22, _⟩ => ⟨S3x64, .f32⟩
  | .hbm, ⟨23, _⟩ => ⟨S3x64x1, .f32⟩
  | .hbm, ⟨24, _⟩ => ⟨S3x64x128, .f32⟩
  | .hbm, ⟨25, _⟩ => ⟨S72x128, .f32⟩
  | .local _ .vmem, ⟨0, _⟩ => ⟨S72x128, .f32⟩
  | .local _ .vmem, ⟨1, _⟩ => ⟨S72x128, .f32⟩
  | .local _ .vmem, ⟨2, _⟩ => ⟨S3x64x128, .f32⟩
  | .local _ .vmem, ⟨3, _⟩ => ⟨S3x64x128, .i32⟩
  | .local _ .vmem, ⟨4, _⟩ => ⟨S9x64x128, .f32⟩
  | .local _ .vmem, ⟨5, _⟩ => ⟨S3x64x128, .f32⟩
  | .local _ .vmem, ⟨6, _⟩ => ⟨S3x64x128, .f32⟩
  | .local _ .vmem, ⟨7, _⟩ => ⟨S3x64x128, .f32⟩
  | .local _ .vmem, ⟨8, _⟩ => ⟨S72x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x64x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S72x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== AcceptReferenceIdeal.lean ====
abbrev S1 : Shape := ⟨1, ![1]⟩
abbrev S72 : Shape := ⟨1, ![72]⟩
abbrev S3x64x128 : Shape := ⟨3, ![3, 64, 128]⟩
abbrev S64x3 : Shape := ⟨2, ![64, 3]⟩
abbrev S9x64x128 : Shape := ⟨3, ![9, 64, 128]⟩
abbrev S72x1 : Shape := ⟨2, ![72, 1]⟩
abbrev S72x128 : Shape := ⟨2, ![72, 128]⟩
abbrev S64x1 : Shape := ⟨2, ![64, 1]⟩
abbrev S64x128 : Shape := ⟨2, ![64, 128]⟩
abbrev S1x64x128 : Shape := ⟨3, ![1, 64, 128]⟩
abbrev S64 : Shape := ⟨1, ![64]⟩
abbrev S64x12 : Shape := ⟨2, ![64, 12]⟩
abbrev S8x12 : Shape := ⟨2, ![8, 12]⟩
abbrev S72x12 : Shape := ⟨2, ![72, 12]⟩
abbrev S72x114 : Shape := ⟨2, ![72, 114]⟩

abbrev nBuf : Space → Nat
  | .hbm => 12
  | .vmem => 9
  | .smem => 1
  | _ => 0

abbrev bufTy : (tb : Table) → Fin (tcTables nBuf tb) → BufTy
  | .hbm, ⟨0, _⟩ => ⟨S1, .i32⟩
  | .hbm, ⟨1, _⟩ => ⟨S72, .f32⟩
  | .hbm, ⟨2, _⟩ => ⟨S72, .f32⟩
  | .hbm, ⟨3, _⟩ => ⟨S3x64x128, .f32⟩
  | .hbm, ⟨4, _⟩ => ⟨S64x3, .i32⟩
  | .hbm, ⟨5, _⟩ => ⟨S9x64x128, .f32⟩
  | .hbm, ⟨6, _⟩ => ⟨S64x3, .f32⟩
  | .hbm, ⟨7, _⟩ => ⟨S64x3, .f32⟩
  | .hbm, ⟨8, _⟩ => ⟨S64x3, .f32⟩
  | .hbm, ⟨9, _⟩ => ⟨S72x1, .f32⟩
  | .hbm, ⟨10, _⟩ => ⟨S72x1, .f32⟩
  | .hbm, ⟨11, _⟩ => ⟨S72x128, .f32⟩
  | .local _ .vmem, ⟨0, _⟩ => ⟨S72x1, .f32⟩
  | .local _ .vmem, ⟨1, _⟩ => ⟨S72x1, .f32⟩
  | .local _ .vmem, ⟨2, _⟩ => ⟨S3x64x128, .f32⟩
  | .local _ .vmem, ⟨3, _⟩ => ⟨S64x3, .i32⟩
  | .local _ .vmem, ⟨4, _⟩ => ⟨S9x64x128, .f32⟩
  | .local _ .vmem, ⟨5, _⟩ => ⟨S64x3, .f32⟩
  | .local _ .vmem, ⟨6, _⟩ => ⟨S64x3, .f32⟩
  | .local _ .vmem, ⟨7, _⟩ => ⟨S64x3, .f32⟩
  | .local _ .vmem, ⟨8, _⟩ => ⟨S72x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S72x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KProg.lean ====
module

public import proofs.«01_k».proof.Proof.Gen.Kernel.Skeleton

@[expose] public section

set_option maxRecDepth 65536

noncomputable section

namespace Cert.Kernel.Hand

open Cert.Kernel Cert.Kernel.Gen
open Idealize.ShloMosaic Idealize.SL.Sem

variable {F : FTy → Type} [FloatOps F]

/-- A program of the kernel's core. -/
abbrev Pg (F : FTy → Type) [FloatOps F] (α : Type) := Prog (TpuEff nD τ sig (Elt F) Λ₀ .tc) α

/-! ## The values of one tile -/

/-- One chunk of 128 vocabulary columns of eight rows: the dot products times the row scales times the column scales. -/
def s2v (a x : Vec F S8x128 .f32) (w : Vec F S1x128 .f32) : FVec F S8x128 .f32 :=
  mulf (mulf a x) (broadcastTo S8x128 w broadcasts_S1x128_S8x128)

/-- The ceiling of the row maxima of a tile of four chunks. -/
def tmax (s0 s1 s2 s3 : FVec F S8x128 .f32) : FVec F S8x1 .f32 :=
  ceil (shapeCast S8x1 (multiReduction .maximumf [1] S8 (maximumf (maximumf s0 s1) (maximumf s2 s3)) 0xFF800000#32
    reduces_S8x128_S8 (.inl rfl) rfl) shapeCasts_S8_S8x1)

/-- One chunk's powers of two, the tile's maximum taken off. -/
def tex (s : FVec F S8x128 .f32) (m : FVec F S8x1 .f32) : FVec F S8x128 .f32 :=
  exp2 (subf s (broadcastTo S8x128 m broadcasts_S8x1_S8x128))

/-- The row sums of a tile's powers of two. -/
def tsum (s0 s1 s2 s3 : FVec F S8x128 .f32) (m : FVec F S8x1 .f32) : FVec F S8x1 .f32 :=
  shapeCast S8x1 (multiReduction .add [1] S8 (addf (addf (tex s0 m) (tex s1 m)) (addf (tex s2 m) (tex s3 m))) 0x00000000#32
    reduces_S8x128_S8 (.inl rfl) rfl) shapeCasts_S8_S8x1

/-- Put a column of eight values into the lane whose number is `b`. -/
def put (lane : IVec S8x128 32) (b : BitVec 32) (x : FVec F S8x1 .f32) (prev : FVec F S8x128 .f32) : FVec F S8x128 .f32 :=
  select (cmpi .eq lane (broadcast S8x128 b))
    (broadcastTo S8x128 (shapeCast S8x1 x shapeCasts_S8x1_S8x1) broadcasts_S8x1_S8x128) prev

/-- Eight chunks, two tiles: the sums, put into their lanes. -/
def newD (lane : IVec S8x128 32) (b0 b1 : BitVec 32) (s0 s1 s2 s3 s4 s5 s6 s7 : FVec F S8x128 .f32) (d : FVec F S8x128 .f32) : FVec F S8x128 .f32 :=
  put lane b1 (tsum s4 s5 s6 s7 (tmax s4 s5 s6 s7)) (put lane b0 (tsum s0 s1 s2 s3 (tmax s0 s1 s2 s3)) d)

/-- Eight chunks, two tiles: the maxima, put into their lanes. -/
def newM (lane : IVec S8x128 32) (b0 b1 : BitVec 32) (s0 s1 s2 s3 s4 s5 s6 s7 : FVec F S8x128 .f32) (d : FVec F S8x128 .f32) : FVec F S8x128 .f32 :=
  put lane b1 (tmax s4 s5 s6 s7) (put lane b0 (tmax s0 s1 s2 s3) d)

/-! ## One group of eight rows -/

/-- A group's rows lie inside the statistics arrays. -/
theorem inbRows (g : Fin 9) : ∀ a, (![8 * g.val, 0] : Fin 2 → ℕ) a + S8x128.size a ≤ S72x128.size a := by
  revert g; decide
/-- A group's rows lie inside the row scales. -/
theorem inbRs (g : Fin 9) : ∀ a, (![8 * g.val, 0] : Fin 2 → ℕ) a + S8x128.size a ≤ S96x128.size a := by
  revert g; decide
/-- A group's block of 128 columns lies inside the accumulator. -/
theorem inbAcc (g : Fin 9) (o : Fin 8) : ∀ a, (![8 * g.val, 128 * o.val] : Fin 2 → ℕ) a + S8x128.size a ≤ S96x1024.size a := by
  revert g o; decide

/-- Load a group's rows of a statistics array. -/
def ldRow (m : Memref sig .tc .vmem S72x128 .f32) (g : Fin 9) : Pg F (Vec F S8x128 .f32) :=
  Prog.lift (.load m (Rect.unit (s := S72x128) ![8 * g.val, 0] S8x128.size (inbRows g)).toLoadRect (View.loadsAt_vmem h_S8x128))
/-- Store a group's rows of a statistics array. -/
def stRow (m : Memref sig .tc .vmem S72x128 .f32) (g : Fin 9) (v : FVec F S8x128 .f32) : Pg F PUnit :=
  Prog.lift (.store m (Rect.unit (s := S72x128) ![8 * g.val, 0] S8x128.size (inbRows g)) v Finset.univ (View.stores_vmem_bits_univ h_S8x128 rfl) (.inl rfl))
/-- Load a group's row scales. -/
def ldRs (m : Memref sig .tc .vmem S96x128 .f32) (g : Fin 9) : Pg F (Vec F S8x128 .f32) :=
  Prog.lift (.load m (Rect.unit (s := S96x128) ![8 * g.val, 0] S8x128.size (inbRs g)).toLoadRect (View.loadsAt_vmem h_S8x128))
/-- Load a group's block of 128 columns of an accumulator. -/
def ldAcc (m : Memref sig .tc .vmem S96x1024 .f32) (g : Fin 9) (o : Fin 8) : Pg F (Vec F S8x128 .f32) :=
  Prog.lift (.load m (Rect.unit (s := S96x1024) ![8 * g.val, 128 * o.val] S8x128.size (inbAcc g o)).toLoadRect (View.loadsAt_vmem h_S8x128))
/-- Load 128 column scales. -/
def ldWs (m : Memref sig .tc .vmem S256x128 .f32) (off : Fin 2 → ℕ) (h : ∀ a, off a + S1x128.size a ≤ S256x128.size a) : Pg F (Vec F S1x128 .f32) :=
  Prog.lift (.load m (Rect.unit (s := S256x128) off S1x128.size h).toLoadRect (View.loadsAt_vmem h_S1x128))

/-- The fold of eight rows of a chunk of the head into the running sums and maxima. -/
def grp (rsM : Memref sig .tc .vmem S96x128 .f32) (wsM : Memref sig .tc .vmem S256x128 .f32)
    (accM : Memref sig .tc .vmem S96x1024 .f32) (dM mM : Memref sig .tc .vmem S72x128 .f32) (lane : IVec S8x128 32)
    (b0 b1 : BitVec 32) (offW : Fin 8 → Fin 2 → ℕ) (hW : ∀ o a, offW o a + S1x128.size a ≤ S256x128.size a) (g : Fin 9) : Pg F PUnit := do
  let x ← ldRs rsM g
  let d ← ldRow dM g
  let mm ← ldRow mM g
  let a0 ← ldAcc accM g 0
  let w0 ← ldWs wsM (offW 0) (hW 0)
  let a1 ← ldAcc accM g 1
  let w1 ← ldWs wsM (offW 1) (hW 1)
  let a2 ← ldAcc accM g 2
  let w2 ← ldWs wsM (offW 2) (hW 2)
  let a3 ← ldAcc accM g 3
  let w3 ← ldWs wsM (offW 3) (hW 3)
  let a4 ← ldAcc accM g 4
  let w4 ← ldWs wsM (offW 4) (hW 4)
  let a5 ← ldAcc accM g 5
  let w5 ← ldWs wsM (offW 5) (hW 5)
  let a6 ← ldAcc accM g 6
  let w6 ← ldWs wsM (offW 6) (hW 6)
  let a7 ← ldAcc accM g 7
  let w7 ← ldWs wsM (offW 7) (hW 7)
  let _ ← ldRow dM g
  stRow dM g (shapeCast S8x128 (newD lane b0 b1 (s2v a0 x w0) (s2v a1 x w1) (s2v a2 x w2) (s2v a3 x w3) (s2v a4 x w4) (s2v a5 x w5) (s2v a6 x w6) (s2v a7 x w7) d) shapeCasts_S8x128_S8x128)
  let _ ← ldRow mM g
  stRow mM g (shapeCast S8x128 (newM lane b0 b1 (s2v a0 x w0) (s2v a1 x w1) (s2v a2 x w2) (s2v a3 x w3) (s2v a4 x w4) (s2v a5 x w5) (s2v a6 x w6) (s2v a7 x w7) mm) shapeCasts_S8x128_S8x128)

/-- The fold of all 72 rows of a chunk. -/
def epi (rsM : Memref sig .tc .vmem S96x128 .f32) (wsM : Memref sig .tc .vmem S256x128 .f32)
    (accM : Memref sig .tc .vmem S96x1024 .f32) (dM mM : Memref sig .tc .vmem S72x128 .f32) (lane : IVec S8x128 32)
    (b0 b1 : BitVec 32) (offW : Fin 8 → Fin 2 → ℕ) (hW : ∀ o a, offW o a + S1x128.size a ≤ S256x128.size a) : Pg F PUnit := do
  grp rsM wsM accM dM mM lane b0 b1 offW hW 0
  grp rsM wsM accM dM mM lane b0 b1 offW hW 1
  grp rsM wsM accM dM mM lane b0 b1 offW hW 2
  grp rsM wsM accM dM mM lane b0 b1 offW hW 3
  grp rsM wsM accM dM mM lane b0 b1 offW hW 4
  grp rsM wsM accM dM mM lane b0 b1 offW hW 5
  grp rsM wsM accM dM mM lane b0 b1 offW hW 6
  grp rsM wsM accM dM mM lane b0 b1 offW hW 7
  grp rsM wsM accM dM mM lane b0 b1 offW hW 8

/-! ## The ring, the products -/

/-- One slot of the ring. -/
def slotV (m : Memref sig .tc .vmem S4x1024x4096 .fp8e4m3) (off : Fin 3 → ℕ) (h : ∀ a, off a + S1x1024x4096.size a ≤ S4x1024x4096.size a) :
    Memref sig .tc .vmem S1024x4096 .fp8e4m3 :=
  (m.slice (Rect.unit (s := S4x1024x4096) off S1x1024x4096.size h) (fun _ => rfl)).squeeze S1024x4096 squeezes_S1x1024x4096_S1024x4096
/-- One chunk of the head. -/
def srcV (m : Memref sig .tc .hbm S32768x4096 .fp8e4m3) (off : Fin 2 → ℕ) (h : ∀ a, off a + S1024x4096.size a ≤ S32768x4096.size a) :
    Memref sig .tc .hbm S1024x4096 .fp8e4m3 :=
  m.slice (Rect.unit (s := S32768x4096) off S1024x4096.size h) (fun _ => rfl)
/-- One semaphore of the ring. -/
def semV (m : DmaSems sig S4) (off : Fin 1 → ℕ) (h : ∀ a, off a + S1.size a ≤ S4.size a) : DmaSems sig S_ :=
  (m.slice (Rect.unit (s := S4) off S1.size h)).squeeze S_ squeezes_S1_S_

/-- Wait for the copy into a ring slot. -/
def wtW (hbm : Memref sig .tc .hbm S32768x4096 .fp8e4m3) (ring : Memref sig .tc .vmem S4x1024x4096 .fp8e4m3) (sems : DmaSems sig S4)
    (o1 : Fin 1 → ℕ) (h1 : ∀ a, o1 a + S1.size a ≤ S4.size a) (o2 : Fin 3 → ℕ) (h2 : ∀ a, o2 a + S1x1024x4096.size a ≤ S4x1024x4096.size a)
    (o3 : Fin 2 → ℕ) (h3 : ∀ a, o3 a + S1024x4096.size a ≤ S32768x4096.size a)
    (e3 : (srcV hbm o3 h3).view.WordExact) (e2 : (slotV ring o2 h2).view.WordExact) : Pg F PUnit :=
  Prog.lift (.waitDma2 (semV sems o1 h1).sem (srcV hbm o3 h3) (slotV ring o2 h2) e3 e2)

/-- Start the copy into a ring slot. -/
def enW (hbm : Memref sig .tc .hbm S32768x4096 .fp8e4m3) (ring : Memref sig .tc .vmem S4x1024x4096 .fp8e4m3) (sems : DmaSems sig S4)
    (o1 : Fin 1 → ℕ) (h1 : ∀ a, o1 a + S1.size a ≤ S4.size a) (o2 : Fin 3 → ℕ) (h2 : ∀ a, o2 a + S1x1024x4096.size a ≤ S4x1024x4096.size a)
    (o3 : Fin 2 → ℕ) (h3 : ∀ a, o3 a + S1024x4096.size a ≤ S32768x4096.size a)
    (e3 : (srcV hbm o3 h3).view.WordExact) (e2 : (slotV ring o2 h2).view.WordExact) : Pg F PUnit :=
  Prog.lift (.enqueueDma (srcV hbm o3 h3) (.here (slotV ring o2 h2)) (.dma (semV sems o1 h1).sem) e3 e2 ⟨Or.inl rfl, trivial⟩)

/-- The products of the codes with the chunk of the head in a ring slot. -/
def mm (xqM : Memref sig .tc .vmem S96x4096 .fp8e4m3) (ring : Memref sig .tc .vmem S4x1024x4096 .fp8e4m3)
    (accM : Memref sig .tc .vmem S96x1024 .f32) (o2 : Fin 3 → ℕ) (h2 : ∀ a, o2 a + S1x1024x4096.size a ≤ S4x1024x4096.size a) : Pg F PUnit := do
  let a ← Prog.lift (.load xqM (Rect.unit (s := S96x4096) ![0, 0] S96x4096.size inb_S96x4096_S96x4096_0_0).toLoadRect (View.loadsAt_vmem h_S96x4096))
  let b ← Prog.lift (.load ring (Rect.unit (s := S4x1024x4096) o2 S1x1024x4096.size h2).toLoadRect (View.loadsAt_vmem h_S1x1024x4096))
  let _ ← Prog.lift (.load accM (Rect.unit (s := S96x1024) ![0, 0] S96x1024.size inb_S96x1024_S96x1024_0_0).toLoadRect (View.loadsAt_vmem h_S96x1024))
  Prog.lift (.store accM (Rect.unit (s := S96x1024) ![0, 0] S96x1024.size inb_S96x1024_S96x1024_0_0) (k0_pay354 a b) Finset.univ (View.stores_vmem_bits_univ h_S96x1024 rfl) (.inl rfl))

end Cert.Kernel.Hand

end
-- ==== Proof.KBody.lean ====
module

public import proofs.«01_k».proof.Proof.KProg
public import Idealize.ShloMosaic.Lib.Tactic

@[expose] public section

set_option maxRecDepth 65536

noncomputable section

namespace Cert.Kernel.Hand

open Cert.Kernel Cert.Kernel.Gen
open Idealize.ShloMosaic Idealize.ShloMosaic.Tactic Idealize.SL.Sem

variable {F : FTy → Type} [FloatOps F]

/-- A step taken only under a condition. -/
def rf (c : Prop) [Decidable c] (A : c → Pg F PUnit) : Pg F PUnit := if h : c then A h else pure ⟨⟩

/-- The number of the chunk before. -/
def prevW (n : BitVec 32) : BitVec 32 := Scalar.subi n 1#32

/-- The numbers of a chunk's two lanes. -/
def laneW (n t : BitVec 32) : BitVec 32 := Scalar.addi (Scalar.muli n 2#32) t

/-- The number of the chunk that a half of the loop's body takes. -/
def halfW (k : Fin k0_t1_loop.trips) (b : BitVec 32) : BitVec 32 := Scalar.addi (Scalar.muli 2#32 (Scf.iv 0#32 1#32 k)) b

/-- The first half of the loop's body. -/
def half1 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (lane : IVec S8x128 32) (k : Fin k0_t1_loop.trips) : Pg F PUnit := do
  wtW arg3 arg8 arg13 (k0_off8 k 1#32) (k0_off8_inb k 0) (k0_off9 k 1#32) (k0_off9_inb k 0) (k0_off10 k 1#32) (k0_off10_inb k 0)
    (harg3.wordExact_slice rfl _ (k0_off10_wordsfp8e4m3 k 0)) ((harg8.wordExact_slice rfl _ (k0_off9_wordsfp8e4m3 k 0)).reshape _ _)
  epi arg6 arg7 arg9 arg11 arg12 lane (laneW (prevW (halfW k 1#32)) 0#32) (laneW (prevW (halfW k 1#32)) 1#32)
    (fun o => k0_off11 k 1#32 (BitVec.ofNat 32 o.val)) (fun o => k0_off11_inb k 0 o)
  mm arg0 arg8 arg10 (k0_off12 k 1#32) (k0_off12_inb k 0)
  rf (k0_cond2 k = 1#1) fun h => enW arg3 arg8 arg13 (k0_off13 k) (k0_off13_inb k h) (k0_off14 k) (k0_off14_inb k h) (k0_off15 k) (k0_off15_inb k h)
    (harg3.wordExact_slice rfl _ (k0_off15_wordsfp8e4m3 k h)) ((harg8.wordExact_slice rfl _ (k0_off14_wordsfp8e4m3 k h)).reshape _ _)

/-- The second half of the loop's body. -/
def half2 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (lane : IVec S8x128 32) (k : Fin k0_t1_loop.trips) : Pg F PUnit := do
  wtW arg3 arg8 arg13 (k0_off8 k 2#32) (k0_off8_inb k 1) (k0_off9 k 2#32) (k0_off9_inb k 1) (k0_off10 k 2#32) (k0_off10_inb k 1)
    (harg3.wordExact_slice rfl _ (k0_off10_wordsfp8e4m3 k 1)) ((harg8.wordExact_slice rfl _ (k0_off9_wordsfp8e4m3 k 1)).reshape _ _)
  epi arg6 arg7 arg10 arg11 arg12 lane (laneW (prevW (halfW k 2#32)) 0#32) (laneW (prevW (halfW k 2#32)) 1#32)
    (fun o => k0_off11 k 2#32 (BitVec.ofNat 32 o.val)) (fun o => k0_off11_inb k 1 o)
  mm arg0 arg8 arg9 (k0_off12 k 2#32) (k0_off12_inb k 1)
  rf (k0_cond3 k = 1#1) fun h => enW arg3 arg8 arg13 (k0_off16 k) (k0_off16_inb k h) (k0_off17 k) (k0_off17_inb k h) (k0_off18 k) (k0_off18_inb k h)
    (harg3.wordExact_slice rfl _ (k0_off18_wordsfp8e4m3 k h)) ((harg8.wordExact_slice rfl _ (k0_off17_wordsfp8e4m3 k h)).reshape _ _)

set_option maxHeartbeats 4000000 in
/-- The printed loop body is the two half steps, named in their parts. -/
theorem body_eq (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (lane : IVec S8x128 32) (c0 c4 : BitVec 32) (k : Fin k0_t1_loop.trips) :
    k0_t1_body (F := F) arg0 harg0 arg1 harg1 arg2 harg2 arg3 harg3 arg4 harg4 arg5 harg5 arg6 harg6 arg7 harg7 arg8 harg8 arg9 harg9 arg10 harg10 arg11 harg11 arg12 harg12 arg13 arg14 lane c0 c4 k ⟨⟩
      = (do half1 arg0 harg0 arg1 harg1 arg2 harg2 arg3 harg3 arg4 harg4 arg5 harg5 arg6 harg6 arg7 harg7 arg8 harg8 arg9 harg9 arg10 harg10 arg11 harg11 arg12 harg12 arg13 arg14 lane k; half2 arg0 harg0 arg1 harg1 arg2 harg2 arg3 harg3 arg4 harg4 arg5 harg5 arg6 harg6 arg7 harg7 arg8 harg8 arg9 harg9 arg10 harg10 arg11 harg11 arg12 harg12 arg13 arg14 lane k) := by
  by_cases h2 : k0_cond2 k = 1#1 <;> by_cases h3 : k0_cond3 k = 1#1
  · simp only [k0_t1_body, k0_part57_eq_skeleton, k0_part57_skel, k0_part29_eq_skeleton, k0_part29_skel, half1, half2, rf, dif_pos h2, dif_pos h3]
    sl_kernel_rfl
  · simp only [k0_t1_body, k0_part57_eq_skeleton, k0_part57_skel, k0_part29_eq_skeleton, k0_part29_skel, half1, half2, rf, dif_pos h2, dif_neg h3]
    sl_kernel_rfl
  · simp only [k0_t1_body, k0_part57_eq_skeleton, k0_part57_skel, k0_part29_eq_skeleton, k0_part29_skel, half1, half2, rf, dif_neg h2, dif_pos h3]
    sl_kernel_rfl
  · simp only [k0_t1_body, k0_part57_eq_skeleton, k0_part57_skel, k0_part29_eq_skeleton, k0_part29_skel, half1, half2, rf, dif_neg h2, dif_neg h3]
    sl_kernel_rfl

end Cert.Kernel.Hand

end
-- ==== Proof.KHead.lean ====
module

public import proofs.«01_k».proof.Proof.KBody

@[expose] public section

set_option maxRecDepth 65536

noncomputable section

namespace Cert.Kernel.Hand

open Cert.Kernel Cert.Kernel.Gen
open Idealize.ShloMosaic Idealize.ShloMosaic.Tactic Idealize.SL.Sem

variable {F : FTy → Type} [FloatOps F]

/-- The lane numbers. -/
abbrev laneV : IVec S8x128 32 := iota .tc S8x128 32 [1] iota_S8x128_d1_w32

/-- The first refill always happens. -/
theorem cond1_pos : k0_cond1 = 1#1 := by decide +kernel
/-- The last refill never happens. -/
theorem cond4_neg : ¬ k0_cond4 = 1#1 := by decide +kernel

/-- The semaphore of the copy of the column scales. -/
def semI (m : DmaSems sig S3) : DmaSems sig S_ :=
  (m.slice (Rect.unit (s := S3) ![2] S1.size inb_S3_S1_2)).squeeze S_ squeezes_S1_S_

/-- The copies started before anything else: the column scales, and the first four chunks of the head. -/
def startP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  Prog.lift (.enqueueDma arg4 (.here arg7) (.dma (semI arg14).sem) harg4.wordExact harg7.wordExact ⟨Or.inl rfl, trivial⟩)
  enW arg3 arg8 arg13 (k0_off1 0#32) (k0_off1_inb 0) (k0_off2 0#32) (k0_off2_inb 0) ![0, 0] inb_S32768x4096_S1024x4096_0_0
    (harg3.wordExact_slice rfl _ wordsfp8e4m3_S32768x4096_S1024x4096_0_0) ((harg8.wordExact_slice rfl _ (k0_off2_wordsfp8e4m3 0)).reshape _ _)
  enW arg3 arg8 arg13 (k0_off1 1#32) (k0_off1_inb 1) (k0_off2 1#32) (k0_off2_inb 1) ![1024, 0] inb_S32768x4096_S1024x4096_1024_0
    (harg3.wordExact_slice rfl _ wordsfp8e4m3_S32768x4096_S1024x4096_1024_0) ((harg8.wordExact_slice rfl _ (k0_off2_wordsfp8e4m3 1)).reshape _ _)
  enW arg3 arg8 arg13 (k0_off1 2#32) (k0_off1_inb 2) (k0_off2 2#32) (k0_off2_inb 2) ![2048, 0] inb_S32768x4096_S1024x4096_2048_0
    (harg3.wordExact_slice rfl _ wordsfp8e4m3_S32768x4096_S1024x4096_2048_0) ((harg8.wordExact_slice rfl _ (k0_off2_wordsfp8e4m3 2)).reshape _ _)
  enW arg3 arg8 arg13 (k0_off1 3#32) (k0_off1_inb 3) (k0_off2 3#32) (k0_off2_inb 3) ![3072, 0] inb_S32768x4096_S1024x4096_3072_0
    (harg3.wordExact_slice rfl _ wordsfp8e4m3_S32768x4096_S1024x4096_3072_0) ((harg8.wordExact_slice rfl _ (k0_off2_wordsfp8e4m3 3)).reshape _ _)

/-- The row scales, the empty sums and maxima, and the wait for the column scales. -/
def initP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  let _ ← Prog.lift (.load arg6 (Rect.unit (s := S96x128) ![0, 0] S96x128.size inb_S96x128_S96x128_0_0).toLoadRect (View.loadsAt_vmem h_S96x128))
  Prog.lift (.store arg6 (Rect.unit (s := S96x128) ![0, 0] S96x128.size inb_S96x128_S96x128_0_0) (k0_pay350 (F := F)) Finset.univ (View.stores_vmem_bits_univ h_S96x128 rfl) (.inl rfl))
  let xs ← Prog.lift (.load arg1 (Rect.unit (s := S72x128) ![0, 0] S72x128.size inb_S72x128_S72x128_0_0).toLoadRect (View.loadsAt_vmem h_S72x128))
  let ts ← Prog.lift (.load arg2 (Rect.unit (s := S72x128) ![0, 0] S72x128.size inb_S72x128_S72x128_0_0).toLoadRect (View.loadsAt_vmem h_S72x128))
  let _ ← Prog.lift (.load arg6 (Rect.unit (s := S96x128) ![0, 0] S72x128.size inb_S96x128_S72x128_0_0).toLoadRect (View.loadsAt_vmem h_S72x128))
  Prog.lift (.store arg6 (Rect.unit (s := S96x128) ![0, 0] S72x128.size inb_S96x128_S72x128_0_0) (k0_pay351 xs ts) Finset.univ (View.stores_vmem_bits_univ h_S72x128 rfl) (.inl rfl))
  let _ ← Prog.lift (.load arg11 (Rect.unit (s := S72x128) ![0, 0] S72x128.size inb_S72x128_S72x128_0_0).toLoadRect (View.loadsAt_vmem h_S72x128))
  Prog.lift (.store arg11 (Rect.unit (s := S72x128) ![0, 0] S72x128.size inb_S72x128_S72x128_0_0) (k0_pay352 (F := F)) Finset.univ (View.stores_vmem_bits_univ h_S72x128 rfl) (.inl rfl))
  let _ ← Prog.lift (.load arg12 (Rect.unit (s := S72x128) ![0, 0] S72x128.size inb_S72x128_S72x128_0_0).toLoadRect (View.loadsAt_vmem h_S72x128))
  Prog.lift (.store arg12 (Rect.unit (s := S72x128) ![0, 0] S72x128.size inb_S72x128_S72x128_0_0) (k0_pay353 (F := F)) Finset.univ (View.stores_vmem_bits_univ h_S72x128 rfl) (.inl rfl))
  Prog.lift (.waitDma2 (semI arg14).sem arg4 arg7 harg4.wordExact harg7.wordExact)

/-- The first chunk's products, and the copy of the fifth chunk started. -/
def firstP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  wtW arg3 arg8 arg13 (k0_off1 0#32) (k0_off1_inb 0) (k0_off2 0#32) (k0_off2_inb 0) (k0_off3 0#32) (k0_off3_inb 0)
    (harg3.wordExact_slice rfl _ (k0_off3_wordsfp8e4m3 0)) ((harg8.wordExact_slice rfl _ (k0_off2_wordsfp8e4m3 0)).reshape _ _)
  mm arg0 arg8 arg9 (k0_off4 0#32) (k0_off4_inb 0)
  enW arg3 arg8 arg13 k0_off5 (k0_off5_inb cond1_pos) k0_off6 (k0_off6_inb cond1_pos) k0_off7 (k0_off7_inb cond1_pos)
    (harg3.wordExact_slice rfl _ (k0_off7_wordsfp8e4m3 cond1_pos)) ((harg8.wordExact_slice rfl _ (k0_off6_wordsfp8e4m3 cond1_pos)).reshape _ _)

/-- The result from the running sums and maxima. -/
def finP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  let m ← Prog.lift (.load arg12 (Rect.unit (s := S72x128) ![0, 0] S72x128.size inb_S72x128_S72x128_0_0).toLoadRect (View.loadsAt_vmem h_S72x128))
  let d ← Prog.lift (.load arg11 (Rect.unit (s := S72x128) ![0, 0] S72x128.size inb_S72x128_S72x128_0_0).toLoadRect (View.loadsAt_vmem h_S72x128))
  let _ ← Prog.lift (.load arg5 (Rect.unit (s := S72x128) ![0, 0] S72x128.size inb_S72x128_S72x128_0_0).toLoadRect (View.loadsAt_vmem h_S72x128))
  Prog.lift (.store arg5 (Rect.unit (s := S72x128) ![0, 0] S72x128.size inb_S72x128_S72x128_0_0) (k0_pay3 m d) Finset.univ (View.stores_vmem_bits_univ h_S72x128 rfl) (.inl rfl))

/-- The rows of column scales of the last chunk lie inside the array. -/
theorem inbLast (o : Fin 8) : ∀ a, (![248 + o.val, 0] : Fin 2 → ℕ) a + S1x128.size a ≤ S256x128.size a := by
  revert o; decide

/-- The last chunk, the last two folds, the result. -/
def lastP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  wtW arg3 arg8 arg13 (k0_off1 31#32) (k0_off1_inb 4) (k0_off2 31#32) (k0_off2_inb 4) (k0_off3 31#32) (k0_off3_inb 1)
    (harg3.wordExact_slice rfl _ (k0_off3_wordsfp8e4m3 1)) ((harg8.wordExact_slice rfl _ (k0_off2_wordsfp8e4m3 4)).reshape _ _)
  epi arg6 arg7 arg9 arg11 arg12 laneV (laneW (prevW 31#32) 0#32) (laneW (prevW 31#32) 1#32)
    (fun o => k0_off19 (BitVec.ofNat 32 o.val)) (fun o => k0_off19_inb o)
  mm arg0 arg8 arg10 (k0_off4 31#32) (k0_off4_inb 1)
  epi arg6 arg7 arg10 arg11 arg12 laneV 62#32 63#32 (fun o => ![248 + o.val, 0]) inbLast
  finP arg0 harg0 arg1 harg1 arg2 harg2 arg3 harg3 arg4 harg4 arg5 harg5 arg6 harg6 arg7 harg7 arg8 harg8 arg9 harg9 arg10 harg10 arg11 harg11 arg12 harg12 arg13 arg14

/-- The body as a sequence of these. -/
def headP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  startP arg0 harg0 arg1 harg1 arg2 harg2 arg3 harg3 arg4 harg4 arg5 harg5 arg6 harg6 arg7 harg7 arg8 harg8 arg9 harg9 arg10 harg10 arg11 harg11 arg12 harg12 arg13 arg14
  initP arg0 harg0 arg1 harg1 arg2 harg2 arg3 harg3 arg4 harg4 arg5 harg5 arg6 harg6 arg7 harg7 arg8 harg8 arg9 harg9 arg10 harg10 arg11 harg11 arg12 harg12 arg13 arg14
  firstP arg0 harg0 arg1 harg1 arg2 harg2 arg3 harg3 arg4 harg4 arg5 harg5 arg6 harg6 arg7 harg7 arg8 harg8 arg9 harg9 arg10 harg10 arg11 harg11 arg12 harg12 arg13 arg14
  Scf.Loop.for k0_t1_loop k0_t1_ok ⟨⟩ (fun k _ => do half1 arg0 harg0 arg1 harg1 arg2 harg2 arg3 harg3 arg4 harg4 arg5 harg5 arg6 harg6 arg7 harg7 arg8 harg8 arg9 harg9 arg10 harg10 arg11 harg11 arg12 harg12 arg13 arg14 laneV k; half2 arg0 harg0 arg1 harg1 arg2 harg2 arg3 harg3 arg4 harg4 arg5 harg5 arg6 harg6 arg7 harg7 arg8 harg8 arg9 harg9 arg10 harg10 arg11 harg11 arg12 harg12 arg13 arg14 laneV k)
  lastP arg0 harg0 arg1 harg1 arg2 harg2 arg3 harg3 arg4 harg4 arg5 harg5 arg6 harg6 arg7 harg7 arg8 harg8 arg9 harg9 arg10 harg10 arg11 harg11 arg12 harg12 arg13 arg14

/-- What the printed body runs after the loop, up to its last two stores. -/
def rest1 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F (Σ' (v2268 : FVec F S8x128 .f32), FVec F S8x128 .f32) := do
  let ⟨v85, v86, v87, v88, v89, v96, v103, v110, v112⟩ : Σ' (v85 : BitVec 32) (v86 : BitVec 32) (v87 : Vec F S8x128 .f32) (v88 : Vec F S8x128 .f32) (v89 : Vec F S8x128 .f32) (v96 : FVec F S8x128 .f32) (v103 : FVec F S8x128 .f32) (v110 : FVec F S8x128 .f32), FVec F S8x128 .f32 ← k0_part61 arg0 harg0 arg1 harg1 arg2 harg2 arg3 harg3 arg4 harg4 arg5 harg5 arg6 harg6 arg7 harg7 arg8 harg8 arg9 harg9 arg10 harg10 arg11 harg11 arg12 harg12 arg13 arg14
  let ⟨v147, v150, v157, v159⟩ : Σ' (v147 : FVec F S8x128 .f32) (v150 : FVec F S8x128 .f32) (v157 : FVec F S8x128 .f32), FVec F S8x128 .f32 ← k0_part62 arg0 harg0 arg1 harg1 arg2 harg2 arg3 harg3 arg4 harg4 arg5 harg5 arg6 harg6 arg7 harg7 arg8 harg8 arg9 harg9 arg10 harg10 arg11 harg11 arg12 harg12 arg13 arg14 laneV v85 v86 v87 v88 v89 v96 v103 v110 v112
  let ⟨v205, v208, v209⟩ : Σ' (v205 : IVec S8x128 1) (v208 : FVec F S8x128 .f32), FVec F S8x1 .f32 ← k0_part63 arg0 harg0 arg1 harg1 arg2 harg2 arg3 harg3 arg4 harg4 arg5 harg5 arg6 harg6 arg7 harg7 arg8 harg8 arg9 harg9 arg10 harg10 arg11 harg11 arg12 harg12 arg13 arg14 laneV v85 v86 v87 v147 v157 v159
  let ⟨v218, v219, v220, v227, v234, v241, v243⟩ : Σ' (v218 : Vec F S8x128 .f32) (v219 : Vec F S8x128 .f32) (v220 : Vec F S8x128 .f32) (v227 : FVec F S8x128 .f32) (v234 : FVec F S8x128 .f32) (v241 : FVec F S8x128 .f32), FVec F S8x128 .f32 ← k0_part64 arg0 harg0 arg1 harg1 arg2 harg2 arg3 harg3 arg4 harg4 arg5 harg5 arg6 harg6 arg7 harg7 arg8 harg8 arg9 harg9 arg10 harg10 arg11 harg11 arg12 harg12 arg13 arg14 v86 v150 v205 v208 v209
  let ⟨v278, v281, v288, v290, c5_i32_146⟩ : Σ' (v278 : FVec F S8x128 .f32) (v281 : FVec F S8x128 .f32) (v288 : FVec F S8x128 .f32) (v290 : FVec F S8x128 .f32), BitVec 32 ← k0_part65 arg0 harg0 arg1 harg1 arg2 harg2 arg3 harg3 arg4 harg4 arg5 harg5 arg6 harg6 arg7 harg7 arg8 harg8 arg9 harg9 arg10 harg10 arg11 harg11 arg12 harg12 arg13 arg14 laneV v85 v86 v218 v219 v220 v227 v234 v241 v243
  let ⟨v315, v336, v337⟩ : Σ' (v315 : FVec F S8x1 .f32) (v336 : IVec S8x128 1), FVec F S8x1 .f32 ← k0_part66 arg0 harg0 arg1 harg1 arg2 harg2 arg3 harg3 arg4 harg4 arg5 harg5 arg6 harg6 arg7 harg7 arg8 harg8 arg9 harg9 arg10 harg10 arg11 harg11 arg12 harg12 arg13 arg14 laneV v85 v86 v218 v288 v290 c5_i32_146
  let ⟨v349, v350, v351, v358, v365, v372⟩ : Σ' (v349 : Vec F S8x128 .f32) (v350 : Vec F S8x128 .f32) (v351 : Vec F S8x128 .f32) (v358 : FVec F S8x128 .f32) (v365 : FVec F S8x128 .f32), FVec F S8x128 .f32 ← k0_part67 arg0 harg0 arg1 harg1 arg2 harg2 arg3 harg3 arg4 harg4 arg5 harg5 arg6 harg6 arg7 harg7 arg8 harg8 arg9 harg9 arg10 harg10 arg11 harg11 arg12 harg12 arg13 arg14 v86 v278 v281 v315 v336 v337
  let ⟨v409, v412, v419⟩ : Σ' (v409 : FVec F S8x128 .f32) (v412 : FVec F S8x128 .f32), FVec F S8x128 .f32 ← k0_part68 arg0 harg0 arg1 harg1 arg2 harg2 arg3 harg3 arg4 harg4 arg5 harg5 arg6 harg6 arg7 harg7 arg8 harg8 arg9 harg9 arg10 harg10 arg11 harg11 arg12 harg12 arg13 arg14 laneV v85 v86 v349 v350 v351 v358 v365 v372
  let ⟨v446, v463, v465⟩ : Σ' (v446 : FVec F S8x1 .f32) (v463 : FVec F S8x1 .f32), BitVec 32 ← k0_part69 arg0 harg0 arg1 harg1 arg2 harg2 arg3 harg3 arg4 harg4 arg5 harg5 arg6 harg6 arg7 harg7 arg8 harg8 arg9 harg9 arg10 harg10 arg11 harg11 arg12 harg12 arg13 arg14 v85 v86 v349 v419
  let ⟨v480, v481, v482, v489, v496, v498, v501⟩ : Σ' (v480 : Vec F S8x128 .f32) (v481 : Vec F S8x128 .f32) (v482 : Vec F S8x128 .f32) (v489 : FVec F S8x128 .f32) (v496 : FVec F S8x128 .f32) (v498 : FVec F S8x128 .f32), Vec F S1x128 .f32 ← k0_part70 arg0 harg0 arg1 harg1 arg2 harg2 arg3 harg3 arg4 harg4 arg5 harg5 arg6 harg6 arg7 harg7 arg8 harg8 arg9 harg9 arg10 harg10 arg11 harg11 arg12 harg12 arg13 arg14 laneV v86 v409 v412 v446 v463 v465
  let ⟨laneV0, laneV3, laneV5, laneV9⟩ : Σ' (laneV0 : FVec F S8x128 .f32) (laneV3 : FVec F S8x128 .f32) (laneV5 : FVec F S8x128 .f32), FVec F S8x128 .f32 ← k0_part71 arg0 harg0 arg1 harg1 arg2 harg2 arg3 harg3 arg4 harg4 arg5 harg5 arg6 harg6 arg7 harg7 arg8 harg8 arg9 harg9 arg10 harg10 arg11 harg11 arg12 harg12 arg13 arg14 laneV v85 v86 v480 v481 v482 v489 v496 v498 v501
  let ⟨v577, v594, c2_i32_256⟩ : Σ' (v577 : FVec F S8x1 .f32) (v594 : FVec F S8x1 .f32), BitVec 32 ← k0_part72 arg0 harg0 arg1 harg1 arg2 harg2 arg3 harg3 arg4 harg4 arg5 harg5 arg6 harg6 arg7 harg7 arg8 harg8 arg9 harg9 arg10 harg10 arg11 harg11 arg12 harg12 arg13 arg14 v86 v480 laneV5 laneV9
  let ⟨v611, v612, v613, v620, v627, v629, v630⟩ : Σ' (v611 : Vec F S8x128 .f32) (v612 : Vec F S8x128 .f32) (v613 : Vec F S8x128 .f32) (v620 : FVec F S8x128 .f32) (v627 : FVec F S8x128 .f32) (v629 : FVec F S8x128 .f32), BitVec 32 ← k0_part73 arg0 harg0 arg1 harg1 arg2 harg2 arg3 harg3 arg4 harg4 arg5 harg5 arg6 harg6 arg7 harg7 arg8 harg8 arg9 harg9 arg10 harg10 arg11 harg11 arg12 harg12 arg13 arg14 laneV v85 v86 laneV0 laneV3 v577 v594 c2_i32_256
  let ⟨v671, v674, v676⟩ : Σ' (v671 : FVec F S8x128 .f32) (v674 : FVec F S8x128 .f32), FVec F S8x128 .f32 ← k0_part74 arg0 harg0 arg1 harg1 arg2 harg2 arg3 harg3 arg4 harg4 arg5 harg5 arg6 harg6 arg7 harg7 arg8 harg8 arg9 harg9 arg10 harg10 arg11 harg11 arg12 harg12 arg13 arg14 laneV v85 v86 v611 v612 v613 v620 v627 v629 v630
  let ⟨v708, v723⟩ : Σ' (v708 : FVec F S8x1 .f32), FVec F S8x128 .f32 ← k0_part75 arg0 harg0 arg1 harg1 arg2 harg2 arg3 harg3 arg4 harg4 arg5 harg5 arg6 harg6 arg7 harg7 arg8 harg8 arg9 harg9 arg10 harg10 arg11 harg11 arg12 harg12 arg13 arg14 v86 v611 v676
  let ⟨v742, v743, v744, v751, v758, v759⟩ : Σ' (v742 : Vec F S8x128 .f32) (v743 : Vec F S8x128 .f32) (v744 : Vec F S8x128 .f32) (v751 : FVec F S8x128 .f32) (v758 : FVec F S8x128 .f32), Vec F S8x128 .f32 ← k0_part76 arg0 harg0 arg1 harg1 arg2 harg2 arg3 harg3 arg4 harg4 arg5 harg5 arg6 harg6 arg7 harg7 arg8 harg8 arg9 harg9 arg10 harg10 arg11 harg11 arg12 harg12 arg13 arg14 laneV v85 v86 v671 v674 v708 v723
  let ⟨v802, v805, v807⟩ : Σ' (v802 : FVec F S8x128 .f32) (v805 : FVec F S8x128 .f32), FVec F S8x128 .f32 ← k0_part77 arg0 harg0 arg1 harg1 arg2 harg2 arg3 harg3 arg4 harg4 arg5 harg5 arg6 harg6 arg7 harg7 arg8 harg8 arg9 harg9 arg10 harg10 arg11 harg11 arg12 harg12 arg13 arg14 laneV v85 v86 v742 v743 v744 v751 v758 v759
  let ⟨v839, v848, v851, v852⟩ : Σ' (v839 : FVec F S8x1 .f32) (v848 : FVec F S8x128 .f32) (v851 : FVec F S8x128 .f32), FVec F S8x128 .f32 ← k0_part78 arg0 harg0 arg1 harg1 arg2 harg2 arg3 harg3 arg4 harg4 arg5 harg5 arg6 harg6 arg7 harg7 arg8 harg8 arg9 harg9 arg10 harg10 arg11 harg11 arg12 harg12 arg13 arg14 v86 v742 v807
  let ⟨v873, v874, v875, v882, v889⟩ : Σ' (v873 : Vec F S8x128 .f32) (v874 : Vec F S8x128 .f32) (v875 : Vec F S8x128 .f32) (v882 : FVec F S8x128 .f32), FVec F S8x128 .f32 ← k0_part79 arg0 harg0 arg1 harg1 arg2 harg2 arg3 harg3 arg4 harg4 arg5 harg5 arg6 harg6 arg7 harg7 arg8 harg8 arg9 harg9 arg10 harg10 arg11 harg11 arg12 harg12 arg13 arg14 laneV v85 v86 v802 v805 v839 v848 v851 v852
  let ⟨v933, v936⟩ : Σ' (v933 : FVec F S8x128 .f32), FVec F S8x128 .f32 ← k0_part80 arg0 harg0 arg1 harg1 arg2 harg2 arg3 harg3 arg4 harg4 arg5 harg5 arg6 harg6 arg7 harg7 arg8 harg8 arg9 harg9 arg10 harg10 arg11 harg11 arg12 harg12 arg13 arg14 laneV v85 v86 v873 v874 v875 v882 v889
  let ⟨v964, v970, v973, v976, v979, v980⟩ : Σ' (v964 : FVec F S8x128 .f32) (v970 : FVec F S8x1 .f32) (v973 : FVec F S8x128 .f32) (v976 : FVec F S8x128 .f32) (v979 : FVec F S8x128 .f32), FVec F S8x128 .f32 ← k0_part81 arg0 harg0 arg1 harg1 arg2 harg2 arg3 harg3 arg4 harg4 arg5 harg5 arg6 harg6 arg7 harg7 arg8 harg8 arg9 harg9 arg10 harg10 arg11 harg11 arg12 harg12 arg13 arg14 v86 v873
  let ⟨v1004, v1005, v1006, v1013, v1015⟩ : Σ' (v1004 : Vec F S8x128 .f32) (v1005 : Vec F S8x128 .f32) (v1006 : Vec F S8x128 .f32) (v1013 : FVec F S8x128 .f32), FVec F S8x128 .f32 ← k0_part82 arg0 harg0 arg1 harg1 arg2 harg2 arg3 harg3 arg4 harg4 arg5 harg5 arg6 harg6 arg7 harg7 arg8 harg8 arg9 harg9 arg10 harg10 arg11 harg11 arg12 harg12 arg13 arg14 laneV v85 v86 v933 v936 v964 v970 v973 v976 v979 v980
  let ⟨v1061, v1064, v1065⟩ : Σ' (v1061 : IVec S8x128 1) (v1064 : FVec F S8x128 .f32), FVec F S8x1 .f32 ← k0_part83 arg0 harg0 arg1 harg1 arg2 harg2 arg3 harg3 arg4 harg4 arg5 harg5 arg6 harg6 arg7 harg7 arg8 harg8 arg9 harg9 arg10 harg10 arg11 harg11 arg12 harg12 arg13 arg14 laneV v85 v86 v1004 v1005 v1013 v1015
  let ⟨v1067, v1088, v1095, v1101, v1104, v1107, v1108⟩ : Σ' (v1067 : FVec F S8x128 .f32) (v1088 : FVec F S8x128 .f32) (v1095 : FVec F S8x128 .f32) (v1101 : FVec F S8x1 .f32) (v1104 : FVec F S8x128 .f32) (v1107 : FVec F S8x128 .f32), FVec F S8x128 .f32 ← k0_part84 arg0 harg0 arg1 harg1 arg2 harg2 arg3 harg3 arg4 harg4 arg5 harg5 arg6 harg6 arg7 harg7 arg8 harg8 arg9 harg9 arg10 harg10 arg11 harg11 arg12 harg12 arg13 arg14 v86 v1004 v1006 v1061 v1065
  let ⟨v1135, v1136, v1137, v1144, v1146, c1_i32_469⟩ : Σ' (v1135 : Vec F S8x128 .f32) (v1136 : Vec F S8x128 .f32) (v1137 : Vec F S8x128 .f32) (v1144 : FVec F S8x128 .f32) (v1146 : FVec F S8x128 .f32), BitVec 32 ← k0_part85 arg0 harg0 arg1 harg1 arg2 harg2 arg3 harg3 arg4 harg4 arg5 harg5 arg6 harg6 arg7 harg7 arg8 harg8 arg9 harg9 arg10 harg10 arg11 harg11 arg12 harg12 arg13 arg14 laneV v85 v86 v1064 v1067 v1088 v1095 v1101 v1104 v1107 v1108
  let ⟨v1171, v1192, v1193⟩ : Σ' (v1171 : FVec F S8x1 .f32) (v1192 : IVec S8x128 1), FVec F S8x1 .f32 ← k0_part86 arg0 harg0 arg1 harg1 arg2 harg2 arg3 harg3 arg4 harg4 arg5 harg5 arg6 harg6 arg7 harg7 arg8 harg8 arg9 harg9 arg10 harg10 arg11 harg11 arg12 harg12 arg13 arg14 laneV v85 v86 v1135 v1144 v1146 c1_i32_469
  let ⟨v1195, v1198, v1212, v1219, v1226, v1232, v1235, v1236⟩ : Σ' (v1195 : FVec F S8x128 .f32) (v1198 : FVec F S8x128 .f32) (v1212 : FVec F S8x128 .f32) (v1219 : FVec F S8x128 .f32) (v1226 : FVec F S8x128 .f32) (v1232 : FVec F S8x1 .f32) (v1235 : FVec F S8x128 .f32), FVec F S8x128 .f32 ← k0_part87 arg0 harg0 arg1 harg1 arg2 harg2 arg3 harg3 arg4 harg4 arg5 harg5 arg6 harg6 arg7 harg7 arg8 harg8 arg9 harg9 arg10 harg10 arg11 harg11 arg12 harg12 arg13 arg14 v86 v1135 v1136 v1137 v1171 v1192 v1193
  let v1275 : BitVec 32 ← k0_part88 arg0 harg0 arg1 harg1 arg2 harg2 arg3 harg3 arg4 harg4 arg5 harg5 arg6 harg6 arg7 harg7 arg8 harg8 arg9 harg9 arg10 harg10 arg11 harg11 arg12 harg12 arg13 arg14 laneV v85 v1195 v1198 v1212 v1219 v1226 v1232 v1235 v1236
  let ⟨v1279, v1280, v1281, v1286, v1291, v1296, v1301, v1307, v1308⟩ : Σ' (v1279 : Vec F S8x128 .f32) (v1280 : Vec F S8x128 .f32) (v1281 : Vec F S8x128 .f32) (v1286 : FVec F S8x128 .f32) (v1291 : FVec F S8x128 .f32) (v1296 : FVec F S8x128 .f32) (v1301 : FVec F S8x128 .f32) (v1307 : FVec F S8x1 .f32), FVec F S8x128 .f32 ← k0_part89 arg0 harg0 arg1 harg1 arg2 harg2 arg3 harg3 arg4 harg4 arg5 harg5 arg6 harg6 arg7 harg7 arg8 harg8 arg9 harg9 arg10 harg10 arg11 harg11 arg12 harg12 arg13 arg14 v1275
  let ⟨v1329, v1332, v1337, v1342, v1347, v1349, v1350⟩ : Σ' (v1329 : FVec F S8x128 .f32) (v1332 : FVec F S8x128 .f32) (v1337 : FVec F S8x128 .f32) (v1342 : FVec F S8x128 .f32) (v1347 : FVec F S8x128 .f32) (v1349 : FVec F S8x128 .f32), Vec F S1x128 .f32 ← k0_part90 arg0 harg0 arg1 harg1 arg2 harg2 arg3 harg3 arg4 harg4 arg5 harg5 arg6 harg6 arg7 harg7 arg8 harg8 arg9 harg9 arg10 harg10 arg11 harg11 arg12 harg12 arg13 arg14 laneV v1279 v1280 v1281 v1286 v1291 v1296 v1301 v1307 v1308
  let ⟨v1390, v1391, v1392, v1393⟩ : Σ' (v1390 : Vec F S8x128 .f32) (v1391 : Vec F S8x128 .f32) (v1392 : Vec F S8x128 .f32), Vec F S8x128 .f32 ← k0_part91 arg0 harg0 arg1 harg1 arg2 harg2 arg3 harg3 arg4 harg4 arg5 harg5 arg6 harg6 arg7 harg7 arg8 harg8 arg9 harg9 arg10 harg10 arg11 harg11 arg12 harg12 arg13 arg14 laneV v1329 v1332 v1337 v1342 v1347 v1349 v1350
  let ⟨v1418, v1435, v1436⟩ : Σ' (v1418 : FVec F S8x1 .f32) (v1435 : FVec F S8x1 .f32), IVec S8x128 32 ← k0_part92 arg0 harg0 arg1 harg1 arg2 harg2 arg3 harg3 arg4 harg4 arg5 harg5 arg6 harg6 arg7 harg7 arg8 harg8 arg9 harg9 arg10 harg10 arg11 harg11 arg12 harg12 arg13 arg14 v1390 v1393
  let ⟨v1440, v1443, v1463, v1469, v1472, v1475, v1478, v1479⟩ : Σ' (v1440 : FVec F S8x128 .f32) (v1443 : FVec F S8x128 .f32) (v1463 : FVec F S8x128 .f32) (v1469 : FVec F S8x1 .f32) (v1472 : FVec F S8x128 .f32) (v1475 : FVec F S8x128 .f32) (v1478 : FVec F S8x128 .f32), FVec F S8x128 .f32 ← k0_part93 arg0 harg0 arg1 harg1 arg2 harg2 arg3 harg3 arg4 harg4 arg5 harg5 arg6 harg6 arg7 harg7 arg8 harg8 arg9 harg9 arg10 harg10 arg11 harg11 arg12 harg12 arg13 arg14 laneV v1390 v1391 v1392 v1418 v1435 v1436
  let ⟨v1501, v1502, v1503, v1508, v1513, v1515⟩ : Σ' (v1501 : Vec F S8x128 .f32) (v1502 : Vec F S8x128 .f32) (v1503 : Vec F S8x128 .f32) (v1508 : FVec F S8x128 .f32) (v1513 : FVec F S8x128 .f32), FVec F S8x128 .f32 ← k0_part94 arg0 harg0 arg1 harg1 arg2 harg2 arg3 harg3 arg4 harg4 arg5 harg5 arg6 harg6 arg7 harg7 arg8 harg8 arg9 harg9 arg10 harg10 arg11 harg11 arg12 harg12 arg13 arg14 laneV v1440 v1443 v1463 v1469 v1472 v1475 v1478 v1479
  let ⟨v1551, v1554, v1559, v1560⟩ : Σ' (v1551 : FVec F S8x128 .f32) (v1554 : FVec F S8x128 .f32) (v1559 : FVec F S8x128 .f32), Vec F S8x128 .f32 ← k0_part95 arg0 harg0 arg1 harg1 arg2 harg2 arg3 harg3 arg4 harg4 arg5 harg5 arg6 harg6 arg7 harg7 arg8 harg8 arg9 harg9 arg10 harg10 arg11 harg11 arg12 harg12 arg13 arg14 laneV v1501 v1502 v1503 v1508 v1513 v1515
  let ⟨v1602, v1605⟩ : Σ' (v1602 : FVec F S8x128 .f32), FVec F S8x128 .f32 ← k0_part96 arg0 harg0 arg1 harg1 arg2 harg2 arg3 harg3 arg4 harg4 arg5 harg5 arg6 harg6 arg7 harg7 arg8 harg8 arg9 harg9 arg10 harg10 arg11 harg11 arg12 harg12 arg13 arg14 laneV v1501 v1551 v1554 v1559 v1560
  let ⟨v1612, v1613, v1614, v1619, v1624, v1629, v1634, v1638⟩ : Σ' (v1612 : Vec F S8x128 .f32) (v1613 : Vec F S8x128 .f32) (v1614 : Vec F S8x128 .f32) (v1619 : FVec F S8x128 .f32) (v1624 : FVec F S8x128 .f32) (v1629 : FVec F S8x128 .f32) (v1634 : FVec F S8x128 .f32), FVec F S8 .f32 ← k0_part97 arg0 harg0 arg1 harg1 arg2 harg2 arg3 harg3 arg4 harg4 arg5 harg5 arg6 harg6 arg7 harg7 arg8 harg8 arg9 harg9 arg10 harg10 arg11 harg11 arg12 harg12 arg13 arg14 v1602 v1605
  let ⟨v1662, v1665, v1670, v1675, v1680, v1682⟩ : Σ' (v1662 : FVec F S8x128 .f32) (v1665 : FVec F S8x128 .f32) (v1670 : FVec F S8x128 .f32) (v1675 : FVec F S8x128 .f32) (v1680 : FVec F S8x128 .f32), FVec F S8x128 .f32 ← k0_part98 arg0 harg0 arg1 harg1 arg2 harg2 arg3 harg3 arg4 harg4 arg5 harg5 arg6 harg6 arg7 harg7 arg8 harg8 arg9 harg9 arg10 harg10 arg11 harg11 arg12 harg12 arg13 arg14 laneV v1612 v1613 v1614 v1619 v1624 v1629 v1634 v1638
  let ⟨v1723, v1724, v1725⟩ : Σ' (v1723 : Vec F S8x128 .f32) (v1724 : Vec F S8x128 .f32), Vec F S8x128 .f32 ← k0_part99 arg0 harg0 arg1 harg1 arg2 harg2 arg3 harg3 arg4 harg4 arg5 harg5 arg6 harg6 arg7 harg7 arg8 harg8 arg9 harg9 arg10 harg10 arg11 harg11 arg12 harg12 arg13 arg14 laneV v1662 v1665 v1670 v1675 v1680 v1682
  let ⟨v1751, v1767⟩ : Σ' (v1751 : FVec F S8x1 .f32), FVec F S8 .f32 ← k0_part100 arg0 harg0 arg1 harg1 arg2 harg2 arg3 harg3 arg4 harg4 arg5 harg5 arg6 harg6 arg7 harg7 arg8 harg8 arg9 harg9 arg10 harg10 arg11 harg11 arg12 harg12 arg13 arg14 v1723
  let ⟨v1773, v1776, v1791, v1796, v1802, v1805, v1808, v1809⟩ : Σ' (v1773 : FVec F S8x128 .f32) (v1776 : FVec F S8x128 .f32) (v1791 : FVec F S8x128 .f32) (v1796 : FVec F S8x128 .f32) (v1802 : FVec F S8x1 .f32) (v1805 : FVec F S8x128 .f32) (v1808 : FVec F S8x128 .f32), FVec F S8x128 .f32 ← k0_part101 arg0 harg0 arg1 harg1 arg2 harg2 arg3 harg3 arg4 harg4 arg5 harg5 arg6 harg6 arg7 harg7 arg8 harg8 arg9 harg9 arg10 harg10 arg11 harg11 arg12 harg12 arg13 arg14 laneV v1723 v1724 v1725 v1751 v1767
  let ⟨v1834, v1835, v1836, v1841, v1846⟩ : Σ' (v1834 : Vec F S8x128 .f32) (v1835 : Vec F S8x128 .f32) (v1836 : Vec F S8x128 .f32) (v1841 : FVec F S8x128 .f32), FVec F S8x128 .f32 ← k0_part102 arg0 harg0 arg1 harg1 arg2 harg2 arg3 harg3 arg4 harg4 arg5 harg5 arg6 harg6 arg7 harg7 arg8 harg8 arg9 harg9 arg10 harg10 arg11 harg11 arg12 harg12 arg13 arg14 laneV v1773 v1776 v1791 v1796 v1802 v1805 v1808 v1809
  let ⟨v1884, v1887, v1892⟩ : Σ' (v1884 : FVec F S8x128 .f32) (v1887 : FVec F S8x128 .f32), FVec F S8x128 .f32 ← k0_part103 arg0 harg0 arg1 harg1 arg2 harg2 arg3 harg3 arg4 harg4 arg5 harg5 arg6 harg6 arg7 harg7 arg8 harg8 arg9 harg9 arg10 harg10 arg11 harg11 arg12 harg12 arg13 arg14 laneV v1834 v1835 v1836 v1841 v1846
  let ⟨v1932, v1935, v1937⟩ : Σ' (v1932 : IVec S8x128 1) (v1935 : FVec F S8x128 .f32), FVec F S8x128 .f32 ← k0_part104 arg0 harg0 arg1 harg1 arg2 harg2 arg3 harg3 arg4 harg4 arg5 harg5 arg6 harg6 arg7 harg7 arg8 harg8 arg9 harg9 arg10 harg10 arg11 harg11 arg12 harg12 arg13 arg14 laneV v1834 v1884 v1892
  let ⟨v1945, v1946, v1947, v1952, v1957, v1962, v1967, v1968, v1969⟩ : Σ' (v1945 : Vec F S8x128 .f32) (v1946 : Vec F S8x128 .f32) (v1947 : Vec F S8x128 .f32) (v1952 : FVec F S8x128 .f32) (v1957 : FVec F S8x128 .f32) (v1962 : FVec F S8x128 .f32) (v1967 : FVec F S8x128 .f32) (v1968 : FVec F S8x128 .f32), FVec F S8x128 .f32 ← k0_part105 arg0 harg0 arg1 harg1 arg2 harg2 arg3 harg3 arg4 harg4 arg5 harg5 arg6 harg6 arg7 harg7 arg8 harg8 arg9 harg9 arg10 harg10 arg11 harg11 arg12 harg12 arg13 arg14 v1887 v1932 v1935 v1937
  let ⟨v1995, v1998, v2003, v2008, v2013⟩ : Σ' (v1995 : FVec F S8x128 .f32) (v1998 : FVec F S8x128 .f32) (v2003 : FVec F S8x128 .f32) (v2008 : FVec F S8x128 .f32), FVec F S8x128 .f32 ← k0_part106 arg0 harg0 arg1 harg1 arg2 harg2 arg3 harg3 arg4 harg4 arg5 harg5 arg6 harg6 arg7 harg7 arg8 harg8 arg9 harg9 arg10 harg10 arg11 harg11 arg12 harg12 arg13 arg14 laneV v1945 v1946 v1947 v1952 v1957 v1962 v1967 v1968 v1969
  let ⟨v2056, v2057⟩ : Σ' (v2056 : Vec F S8x128 .f32), Vec F S8x128 .f32 ← k0_part107 arg0 harg0 arg1 harg1 arg2 harg2 arg3 harg3 arg4 harg4 arg5 harg5 arg6 harg6 arg7 harg7 arg8 harg8 arg9 harg9 arg10 harg10 arg11 harg11 arg12 harg12 arg13 arg14 laneV v1945 v1995 v1998 v2003 v2008 v2013
  let ⟨v2058, v2084, v2097, v2098⟩ : Σ' (v2058 : Vec F S8x128 .f32) (v2084 : FVec F S8x1 .f32) (v2097 : FVec F S8x128 .f32), FVec F S8x128 .f32 ← k0_part108 arg0 harg0 arg1 harg1 arg2 harg2 arg3 harg3 arg4 harg4 arg5 harg5 arg6 harg6 arg7 harg7 arg8 harg8 arg9 harg9 arg10 harg10 arg11 harg11 arg12 harg12 arg13 arg14 v2056
  let ⟨v2106, v2109, v2119, v2124, v2129, v2135, v2138, v2139⟩ : Σ' (v2106 : FVec F S8x128 .f32) (v2109 : FVec F S8x128 .f32) (v2119 : FVec F S8x128 .f32) (v2124 : FVec F S8x128 .f32) (v2129 : FVec F S8x128 .f32) (v2135 : FVec F S8x1 .f32) (v2138 : FVec F S8x128 .f32), FVec F S8x128 .f32 ← k0_part109 arg0 harg0 arg1 harg1 arg2 harg2 arg3 harg3 arg4 harg4 arg5 harg5 arg6 harg6 arg7 harg7 arg8 harg8 arg9 harg9 arg10 harg10 arg11 harg11 arg12 harg12 arg13 arg14 laneV v2056 v2057 v2058 v2084 v2097 v2098
  let ⟨v2167, v2168, v2169, v2174, v2176, v2177⟩ : Σ' (v2167 : Vec F S8x128 .f32) (v2168 : Vec F S8x128 .f32) (v2169 : Vec F S8x128 .f32) (v2174 : FVec F S8x128 .f32) (v2176 : FVec F S8x128 .f32), Vec F S1x128 .f32 ← k0_part110 arg0 harg0 arg1 harg1 arg2 harg2 arg3 harg3 arg4 harg4 arg5 harg5 arg6 harg6 arg7 harg7 arg8 harg8 arg9 harg9 arg10 harg10 arg11 harg11 arg12 harg12 arg13 arg14 laneV v2106 v2109 v2119 v2124 v2129 v2135 v2138 v2139
  let ⟨v2217, v2220, v2222⟩ : Σ' (v2217 : FVec F S8x128 .f32) (v2220 : FVec F S8x128 .f32), FVec F S8x128 .f32 ← k0_part111 arg0 harg0 arg1 harg1 arg2 harg2 arg3 harg3 arg4 harg4 arg5 harg5 arg6 harg6 arg7 harg7 arg8 harg8 arg9 harg9 arg10 harg10 arg11 harg11 arg12 harg12 arg13 arg14 laneV v2167 v2168 v2169 v2174 v2176 v2177
  let ⟨v2246, v2265, v2267⟩ : Σ' (v2246 : FVec F S8x1 .f32) (v2265 : IVec S8x128 1), FVec F S8x128 .f32 ← k0_part112 arg0 harg0 arg1 harg1 arg2 harg2 arg3 harg3 arg4 harg4 arg5 harg5 arg6 harg6 arg7 harg7 arg8 harg8 arg9 harg9 arg10 harg10 arg11 harg11 arg12 harg12 arg13 arg14 laneV v2167 v2222
  pure ⟨k0_pay704 v2217 v2265 v2267, k0_pay705 v2220 v2246 v2265⟩

/-- The printed body's last stores. -/
def rest2 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (x : Σ' (v2268 : FVec F S8x128 .f32), FVec F S8x128 .f32) : Pg F PUnit := do
  let ⟨v2268, v2271⟩ := x
  let v2272 : Vec F S8x128 .f32 ← Prog.lift (.load arg11 (Rect.unit (s := S72x128) ![64, 0] S8x128.size inb_S72x128_S8x128_64_0).toLoadRect (View.loadsAt_vmem h_S8x128))
  Prog.lift (.store arg11 (Rect.unit (s := S72x128) ![64, 0] S8x128.size inb_S72x128_S8x128_64_0) (k0_pay1 v2268) Finset.univ (View.stores_vmem_bits_univ h_S8x128 rfl) (.inl rfl))
  let v2275 : Vec F S8x128 .f32 ← Prog.lift (.load arg12 (Rect.unit (s := S72x128) ![64, 0] S8x128.size inb_S72x128_S8x128_64_0).toLoadRect (View.loadsAt_vmem h_S8x128))
  Prog.lift (.store arg12 (Rect.unit (s := S72x128) ![64, 0] S8x128.size inb_S72x128_S8x128_64_0) (k0_pay2 v2271) Finset.univ (View.stores_vmem_bits_univ h_S8x128 rfl) (.inl rfl))
  let v2278 : Vec F S72x128 .f32 ← Prog.lift (.load arg12 (Rect.unit (s := S72x128) ![0, 0] S72x128.size inb_S72x128_S72x128_0_0).toLoadRect (View.loadsAt_vmem h_S72x128))
  let v2281 : Vec F S72x128 .f32 ← Prog.lift (.load arg11 (Rect.unit (s := S72x128) ![0, 0] S72x128.size inb_S72x128_S72x128_0_0).toLoadRect (View.loadsAt_vmem h_S72x128))
  let v2299 : Vec F S72x128 .f32 ← Prog.lift (.load arg5 (Rect.unit (s := S72x128) ![0, 0] S72x128.size inb_S72x128_S72x128_0_0).toLoadRect (View.loadsAt_vmem h_S72x128))
  Prog.lift (.store arg5 (Rect.unit (s := S72x128) ![0, 0] S72x128.size inb_S72x128_S72x128_0_0) (k0_pay3 v2278 v2281) Finset.univ (View.stores_vmem_bits_univ h_S72x128 rfl) (.inl rfl))
  pure ⟨⟩

set_option maxHeartbeats 4000000 in
/-- The printed text before the loop is the named parts. -/
theorem head_eq1 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) :
    cc0_spec_head (F := F) arg0 harg0 arg1 harg1 arg2 harg2 arg3 harg3 arg4 harg4 arg5 harg5 arg6 harg6 arg7 harg7 arg8 harg8 arg9 harg9 arg10 harg10 arg11 harg11 arg12 harg12 arg13 arg14
      = ((do startP arg0 harg0 arg1 harg1 arg2 harg2 arg3 harg3 arg4 harg4 arg5 harg5 arg6 harg6 arg7 harg7 arg8 harg8 arg9 harg9 arg10 harg10 arg11 harg11 arg12 harg12 arg13 arg14; initP arg0 harg0 arg1 harg1 arg2 harg2 arg3 harg3 arg4 harg4 arg5 harg5 arg6 harg6 arg7 harg7 arg8 harg8 arg9 harg9 arg10 harg10 arg11 harg11 arg12 harg12 arg13 arg14; firstP arg0 harg0 arg1 harg1 arg2 harg2 arg3 harg3 arg4 harg4 arg5 harg5 arg6 harg6 arg7 harg7 arg8 harg8 arg9 harg9 arg10 harg10 arg11 harg11 arg12 harg12 arg13 arg14) >>= fun _ =>
          ((Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 arg14 laneV 0#32 4#32) >>= fun _ => (pure PUnit.unit : Pg F PUnit)) >>= fun _ => rest1 arg0 harg0 arg1 harg1 arg2 harg2 arg3 harg3 arg4 harg4 arg5 harg5 arg6 harg6 arg7 harg7 arg8 harg8 arg9 harg9 arg10 harg10 arg11 harg11 arg12 harg12 arg13 arg14)) >>= rest2 arg0 harg0 arg1 harg1 arg2 harg2 arg3 harg3 arg4 harg4 arg5 harg5 arg6 harg6 arg7 harg7 arg8 harg8 arg9 harg9 arg10 harg10 arg11 harg11 arg12 harg12 arg13 arg14 := by
  simp only [cc0_spec_head_eq_skeleton, cc0_spec_head_skel, k0_part113_eq_skeleton, k0_part113_skel, k0_part60_eq_skeleton, k0_part60_skel, dif_pos cond1_pos]
  sl_kernel_rfl

set_option maxHeartbeats 4000000 in
/-- The printed text after the loop is the named parts. -/
theorem rest_eq (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : (rest1 arg0 harg0 arg1 harg1 arg2 harg2 arg3 harg3 arg4 harg4 arg5 harg5 arg6 harg6 arg7 harg7 arg8 harg8 arg9 harg9 arg10 harg10 arg11 harg11 arg12 harg12 arg13 arg14 >>= rest2 arg0 harg0 arg1 harg1 arg2 harg2 arg3 harg3 arg4 harg4 arg5 harg5 arg6 harg6 arg7 harg7 arg8 harg8 arg9 harg9 arg10 harg10 arg11 harg11 arg12 harg12 arg13 arg14) = lastP (F := F) arg0 harg0 arg1 harg1 arg2 harg2 arg3 harg3 arg4 harg4 arg5 harg5 arg6 harg6 arg7 harg7 arg8 harg8 arg9 harg9 arg10 harg10 arg11 harg11 arg12 harg12 arg13 arg14 := by
  simp only [rest1, k0_part89_eq_skeleton, k0_part89_skel, dif_neg cond4_neg]
  sl_kernel_rfl

/-- The whole printed kernel is the named parts: start, loop, last half step, result. -/
theorem head_eq (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : cc0_spec_head (F := F) arg0 harg0 arg1 harg1 arg2 harg2 arg3 harg3 arg4 harg4 arg5 harg5 arg6 harg6 arg7 harg7 arg8 harg8 arg9 harg9 arg10 harg10 arg11 harg11 arg12 harg12 arg13 arg14 = headP arg0 harg0 arg1 harg1 arg2 harg2 arg3 harg3 arg4 harg4 arg5 harg5 arg6 harg6 arg7 harg7 arg8 harg8 arg9 harg9 arg10 harg10 arg11 harg11 arg12 harg12 arg13 arg14 := by
  rw [head_eq1]
  unfold headP
  rw [← rest_eq]
  rw [show (fun (k : Fin k0_t1_loop.trips) (_ : Unit) => (do half1 (F := F) arg0 harg0 arg1 harg1 arg2 harg2 arg3 harg3 arg4 harg4 arg5 harg5 arg6 harg6 arg7 harg7 arg8 harg8 arg9 harg9 arg10 harg10 arg11 harg11 arg12 harg12 arg13 arg14 laneV k; half2 arg0 harg0 arg1 harg1 arg2 harg2 arg3 harg3 arg4 harg4 arg5 harg5 arg6 harg6 arg7 harg7 arg8 harg8 arg9 harg9 arg10 harg10 arg11 harg11 arg12 harg12 arg13 arg14 laneV k))
      = k0_t1_body arg0 harg0 arg1 harg1 arg2 harg2 arg3 harg3 arg4 harg4 arg5 harg5 arg6 harg6 arg7 harg7 arg8 harg8 arg9 harg9 arg10 harg10 arg11 harg11 arg12 harg12 arg13 arg14 laneV 0#32 4#32 from funext fun k => funext fun _ => (body_eq arg0 harg0 arg1 harg1 arg2 harg2 arg3 harg3 arg4 harg4 arg5 harg5 arg6 harg6 arg7 harg7 arg8 harg8 arg9 harg9 arg10 harg10 arg11 harg11 arg12 harg12 arg13 arg14 laneV 0#32 4#32 k).symm]
  simp only [bind_assoc, pure_bind]

end Cert.Kernel.Hand

end
-- ==== Proof.Base.lean ====
module

public import Idealize.ShloMosaic.Lib.Pipeline.FrameBody
public import Idealize.ShloMosaic.Lib.Pipeline.Kit
public import Idealize.ShloMosaic.Lib.Transfers
public import Idealize.ShloMosaic.Lib.Tactic
public import Idealize.ShloMosaic.Lib.MemrefSat
public import Idealize.ShloMosaic.Lib.Scf
public import Idealize.ShloMosaic.Lib.ViewIndex

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through a rectangle of a memref owned at `X` reads `X` on the rectangle. -/
theorem owns_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (fun i => X (r.emb i))) Q)
        -∗ wp frame (wpE defs 𝒱 c bd) E (.op (.load m r.toLoadRect hl) k) Q) := by
  unfold owns
  iintro ⟨%f, %hf, H⟩ HK
  iapply (wp_load_rect 𝒱 c bd E (m := m) (r := r) (hl := hl) (k := k) (S := m.view.set) (q := q) (f := f) (View.set_slice_subset _ r)) $$ [H]
  · iexact H
  iintro H
  have hr : (m.access r).read Val f = fun i => X (r.emb i) := by subst hf; rfl
  rw [hr]
  iapply HK
  iexists f
  isplitr
  · ipureintro; exact hf
  · iexact H

/-- A store through a rectangle of a memref owned at `X` puts the stored values over `X`. -/
theorem owns_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ HK
  iapply (wp_store 𝒱 c bd E (Q := Q) (w := w) (hx := hx) (hm := hm) (k := k) (Mk := Finset.univ) (f := f) (S := m.view.set)
    (View.set_slice_subset _ r)) $$ [H]
  · iexact H
  iintro H
  iapply HK
  iexists _
  isplitr
  swap
  · iexact H
  · ipureintro
    subst hf
    funext j
    by_cases hj : j ∈ r.set
    · rw [← Rect.map_emb_univ] at hj
      obtain ⟨i, -, rfl⟩ := Finset.mem_map.mp hj
      rw [Rect.overlay_emb]
      exact View.read_slice_write_emb r f w (Finset.mem_univ i)
    · rw [Rect.overlay_of_not_mem _ _ _ hj]
      exact View.read_slice_write_of_not_mem r f w _ (by rw [Rect.map_emb_univ]; exact hj)

/-- The rectangle of a whole shape places every index at itself. -/
theorem emb_whole {s : Shape} {off : Fin s.rank → ℕ} {h : ∀ a, off a + s.size a ≤ s.size a} (i : s.Idx) :
    (Rect.unit (s := s) off s.size h).emb i = i := by
  funext a
  apply Fin.ext
  have := h a
  have e := Rect.emb_apply (Rect.unit (s := s) off s.size h) i a
  have e1 : (Rect.unit (s := s) off s.size h).stride a = 1 := rfl
  have e2 : (Rect.unit (s := s) off s.size h).off a = off a := rfl
  rw [e1, e2] at e
  omega

/-- The rectangle that covers a whole shape sends every index to itself. -/
theorem emb_full {s : Shape} {β : Type} {off : Fin s.rank → ℕ} {h : ∀ a, off a + s.size a ≤ s.size a} (X : s.Idx → β) :
    (fun i : (Rect.unit (s := s) off s.size h).shape.Idx => X ((Rect.unit (s := s) off s.size h).emb i)) = X := by
  funext i; exact congrArg X (emb_whole i)

/-- Writing over the whole of an array leaves just what was written. -/
theorem overlay_full {s : Shape} {β : Type} {off : Fin s.rank → ℕ} {h : ∀ a, off a + s.size a ≤ s.size a} (X w : s.Idx → β) :
    (Rect.unit (s := s) off s.size h).overlay X w = w := by
  funext i
  have := Rect.overlay_emb (Rect.unit (s := s) off s.size h) X w i
  rwa [emb_whole] at this

/-- A program that returns. -/
theorem wp_done {x : α} : Q x ⊢ (wp frame (wpE defs 𝒱 c bd) E (.ret x) Q : sProp (MT nD τ sig Ix Val Name U Lvl)) := by
  rw [wp_ret]; exact fupd_intro

/-- Two programs one after the other: the first's post, then the second from it. -/
theorem wp_then {p : Prog (TpuEff nD τ sig Val Λ c.2) α} {β : Type} {k : α → Prog (TpuEff nD τ sig Val Λ c.2) β}
    {Q' : β → sProp (MT nD τ sig Ix Val Name U Lvl)} {H : sProp (MT nD τ sig Ix Val Name U Lvl)}
    (h : H ⊢ wp frame (wpE defs 𝒱 c bd) E p Q) :
    H ⊢ iprop((∀ x, Q x -∗ wp frame (wpE defs 𝒱 c bd) E (k x) Q') -∗ wp frame (wpE defs 𝒱 c bd) E (p >>= k) Q') := by
  rw [wp_bind]
  iintro H HK
  iapply (wp_wand_r frame (wpE defs 𝒱 c bd) E)
  isplitl [H]
  · iapply h; iexact H
  · iexact HK

end Cert.Hand

end
-- ==== Proof.KRing.lean ====
module

public import proofs.«01_k».proof.Proof.KHead
public import proofs.«01_k».proof.Proof.Base
public import Idealize.ShloMosaic.Lib.ReshapeSlab

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The weakest precondition of a piece of the kernel. -/
abbrev WP (c : Dev nD) {α : Type} (p : Pg F α) (Q : α → sProp 𝕄) : sProp 𝕄 :=
  wp frame (wpE (defs₀ (F := F)) Variants.none (c : Thread nD τ) none) Set.univ p Q

/-! ## The ring's slots and the chunks of the head -/

/-- A semaphore of the ring is one of the four. -/
theorem inbSem (s : Fin 4) : ∀ a, (![s.val] : Fin 1 → ℕ) a + S1.size a ≤ S4.size a := by revert s; decide
/-- A slot lies inside the ring. -/
theorem inbSlot (s : Fin 4) : ∀ a, (![s.val, 0, 0] : Fin 3 → ℕ) a + S1x1024x4096.size a ≤ S4x1024x4096.size a := by
  revert s; decide
/-- A chunk lies inside the head. -/
theorem inbSrc (p : Fin 32) : ∀ a, (![1024 * p.val, 0] : Fin 2 → ℕ) a + S1024x4096.size a ≤ S32768x4096.size a := by
  revert p; decide

/-- Slot `s` of the ring. -/
abbrev slotM (ring : Memref sig .tc .vmem S4x1024x4096 .fp8e4m3) (s : Fin 4) : Memref sig .tc .vmem S1024x4096 .fp8e4m3 :=
  slotV ring ![s.val, 0, 0] (inbSlot s)
/-- Chunk `p` of the head. -/
abbrev srcM (hbm : Memref sig .tc .hbm S32768x4096 .fp8e4m3) (p : Fin 32) : Memref sig .tc .hbm S1024x4096 .fp8e4m3 :=
  srcV hbm ![1024 * p.val, 0] (inbSrc p)
/-- The semaphore of slot `s`. -/
abbrev semM (sems : DmaSems sig S4) (s : Fin 4) : SemLoc sig := .dma (semV sems ![s.val] (inbSem s)).sem

/-- A chunk of 1024 rows of the head. -/
def chunk (X : S32768x4096.Idx → Elt F .fp8e4m3) (p : Fin 32) : S1024x4096.Idx → Elt F .fp8e4m3 :=
  fun i => X ((Rect.unit (s := S32768x4096) ![1024 * p.val, 0] S1024x4096.size (inbSrc p)).emb i)

/-- A chunk as a load of its slot reads it. -/
def asSlot (Y : S1024x4096.Idx → Elt F .fp8e4m3) : Vec F S1x1024x4096 .fp8e4m3 :=
  fun i => Y ((Shape.reshapeEquiv (squeezes_S1x1024x4096_S1024x4096).numel_eq).symm i)

/-- The products of the codes with a chunk of the head. -/
def dotC (XQ : Vec F S96x4096 .fp8e4m3) (X : S32768x4096.Idx → Elt F .fp8e4m3) (p : Fin 32) : FVec F S96x1024 .f32 :=
  k0_pay354 XQ (asSlot (chunk X p))

section Ring

variable (c : Dev nD) (hbm : Memref sig .tc .hbm S32768x4096 .fp8e4m3) (ring : Memref sig .tc .vmem S4x1024x4096 .fp8e4m3)
  (sems : DmaSems sig S4) (q : PosShare TreeShare) (X : S32768x4096.Idx → Elt F .fp8e4m3)

/-- The head without one chunk, at one share. -/
def restS (p : Fin 32) : sProp 𝕄 :=
  iprop(∃ f, ⌜hbm.view.read (Elt F) f = X⌝ ∗ hbm.view.loc (c : Thread nD τ) ↦[hbm.view.set \ (srcM hbm p).view.set]{q} f)

/-- A slot not in use, and its share of the head. -/
def freeS (s : Fin 4) : sProp 𝕄 :=
  iprop((∃ Y, owns (c : Thread nD τ) (slotM ring s) fullShare Y) ∗ semVal ((c : Thread nD τ), semM sems s) 0
    ∗ owns (c : Thread nD τ) hbm q X)

/-- A slot with a copy under way. -/
def fltS (s : Fin 4) (p : Fin 32) : sProp 𝕄 :=
  iprop(Transfers.Flight (countersEmb (U := Pipeline.UD sig nD τ)) (c : Thread nD τ) (semM sems s) () ((slotM ring s).view.amount (semM sems s))
      iprop(owns (c : Thread nD τ) (slotM ring s) fullShare (chunk X p) ∗ owns (c : Thread nD τ) (srcM hbm p) q (chunk X p))
    ∗ restS c hbm q X p)

/-- A slot with its copy landed. -/
def fullS (s : Fin 4) (p : Fin 32) : sProp 𝕄 :=
  iprop(owns (c : Thread nD τ) (slotM ring s) fullShare (chunk X p) ∗ semVal ((c : Thread nD τ), semM sems s) 0
    ∗ owns (c : Thread nD τ) hbm q X)

/-- A slot whose chunk has been used may be filled again. -/
theorem fullS_free (s : Fin 4) (p : Fin 32) : fullS c hbm ring sems q X s p ⊢ (freeS c hbm ring sems q X s : sProp 𝕄) := by
  unfold fullS freeS
  iintro ⟨H1, H2, H3⟩
  isplitl [H1]; · iexists _; iexact H1
  isplitl [H2]; · iexact H2
  iexact H3

/-- A share of the head splits into a chunk and the rest. -/
theorem src_split (p : Fin 32) :
    (owns (c : Thread nD τ) hbm q X : sProp 𝕄) ⊢ iprop(owns (c : Thread nD τ) (srcM hbm p) q (chunk X p) ∗ restS c hbm q X p) :=
  owns_slice_split (c : Thread nD τ) hbm q _ (fun _ => rfl) X

/-- A chunk and the rest join to a share of the head. -/
theorem src_join (p : Fin 32) :
    iprop(owns (c : Thread nD τ) (srcM hbm p) q (chunk X p) ∗ restS c hbm q X p) ⊢ (owns (c : Thread nD τ) hbm q X : sProp 𝕄) := by
  unfold restS
  iintro ⟨H, %f, %hf, HR⟩
  have h := owns_slice_join (Ix := Unit) (Name := ℕ) (U := Pipeline.UD sig nD τ) (Lvl := ℕ) (c : Thread nD τ) hbm q
    (Rect.unit (s := S32768x4096) ![1024 * p.val, 0] S1024x4096.size (inbSrc p)) (fun _ => rfl) (chunk X p) f
  have e : (Rect.unit (s := S32768x4096) ![1024 * p.val, 0] S1024x4096.size (inbSrc p)).overlay (hbm.view.read (Elt F) f) (chunk X p) = X := by
    rw [hf]; funext j
    by_cases hj : j ∈ (Rect.unit (s := S32768x4096) ![1024 * p.val, 0] S1024x4096.size (inbSrc p)).set
    · rw [← Rect.map_emb_univ] at hj
      obtain ⟨i, -, rfl⟩ := Finset.mem_map.mp hj
      rw [Rect.overlay_emb]; rfl
    · rw [Rect.overlay_of_not_mem _ _ _ hj]
  rw [e] at h
  iapply h
  isplitl [H]; · iexact H
  iexact HR

/-- Ownership of a buffer as points-to facts. -/
theorem owns_elim {sp : Space} {s : Shape} {e : EltTy} (m : Memref sig .tc sp s e) (q : PosShare TreeShare) (X : s.Idx → Elt F e) :
    (owns (c : Thread nD τ) m q X : sProp 𝕄)
      ⊢ iprop(∃ f, ⌜m.view.read (Elt F) f = X⌝ ∗ m.view.loc (c : Thread nD τ) ↦[m.view.set]{q} f) := .rfl

/-- Points-to facts as ownership of a buffer. -/
theorem owns_of {sp : Space} {s : Shape} {e : EltTy} (m : Memref sig .tc sp s e) (q : PosShare TreeShare) {X : s.Idx → Elt F e}
    {f : m.view.ty.Contents (Elt F)} (h : m.view.read (Elt F) f = X) :
    (m.view.loc (c : Thread nD τ) ↦[m.view.set]{q} f : sProp 𝕄) ⊢ owns (c : Thread nD τ) m q X := by
  subst h; unfold owns; iintro H; iexists f; isplitr; · ipureintro; rfl
  iexact H

/-- Starting the copy of a chunk into a free slot. -/
theorem wp_enW (s : Fin 4) (p : Fin 32) {o1 : Fin 1 → ℕ} {h1 : ∀ a, o1 a + S1.size a ≤ S4.size a} {o2 : Fin 3 → ℕ} {h2 : ∀ a, o2 a + S1x1024x4096.size a ≤ S4x1024x4096.size a}
    {o3 : Fin 2 → ℕ} {h3 : ∀ a, o3 a + S1024x4096.size a ≤ S32768x4096.size a}
    {e3 : (srcV hbm o3 h3).view.WordExact} {e2 : (slotV ring o2 h2).view.WordExact}
    (E1 : o1 = ![s.val]) (E2 : o2 = ![s.val, 0, 0]) (E3 : o3 = ![1024 * p.val, 0]) :
    (freeS c hbm ring sems q X s : sProp 𝕄)
      ⊢ WP c (enW hbm ring sems o1 h1 o2 h2 o3 h3 e3 e2) (fun _ => fltS c hbm ring sems q X s p) := by
  subst E1 E2 E3
  unfold freeS fltS enW
  iintro ⟨⟨%Y, Hd⟩, Hs, Hw⟩
  ihave Hw := (src_split c hbm q X p) $$ Hw
  icases Hw with ⟨Hw, Hr⟩
  ihave Hd := (owns_elim c _ _ _) $$ Hd
  icases Hd with ⟨%fd, %hfd, Hd⟩
  ihave Hw := (owns_elim c _ _ _) $$ Hw
  icases Hw with ⟨%fs, %hfs, Hw⟩
  iapply (Transfers.wp_dmaLocal (countersEmb (U := Pipeline.UD sig nD τ)) Variants.none (c : Thread nD τ) none (src := srcM hbm p) (dst := slotM ring s)
    (sm := semM sems s) (k := fun x => Prog.ret x) (q := q) (fs := fs) (fd := fd) (Sd := (slotM ring s).view.set) () _ rfl (View.amount_pos _ _ (by decide)) (Finset.Subset.refl _)) $$ [Hd Hw Hs]
  · isplitl [Hw]; · iexact Hw
    isplitl [Hd]; · iexact Hd
    iexact Hs
  iintro HF
  iapply (wp_done Variants.none (c : Thread nD τ) none Set.univ)
  isplitl [HF]
  · iapply (Transfers.Flight_mono (D' := iprop(owns (c : Thread nD τ) (slotM ring s) fullShare (chunk X p) ∗ owns (c : Thread nD τ) (srcM hbm p) q (chunk X p))) _ _ ?_) $$ HF
    iintro ⟨H1, H2⟩
    isplitl [H1]
    · iapply (owns_of c _ _ (by rw [View.read_write_univ, ← hfs])) $$ H1
    · iapply (owns_of c _ _ hfs) $$ H2
  · iexact Hr

/-- Waiting for the copy of a chunk: the slot then holds it. -/
theorem wp_wtW (s : Fin 4) (p : Fin 32) {o1 : Fin 1 → ℕ} {h1 : ∀ a, o1 a + S1.size a ≤ S4.size a} {o2 : Fin 3 → ℕ} {h2 : ∀ a, o2 a + S1x1024x4096.size a ≤ S4x1024x4096.size a}
    {o3 : Fin 2 → ℕ} {h3 : ∀ a, o3 a + S1024x4096.size a ≤ S32768x4096.size a}
    {e3 : (srcV hbm o3 h3).view.WordExact} {e2 : (slotV ring o2 h2).view.WordExact}
    (E1 : o1 = ![s.val]) (E2 : o2 = ![s.val, 0, 0]) (E3 : o3 = ![1024 * p.val, 0]) :
    iprop(fltS c hbm ring sems q X s p ∗ ∃ W, owes (c : Thread nD τ) 0 W)
      ⊢ (WP c (wtW hbm ring sems o1 h1 o2 h2 o3 h3 e3 e2) (fun _ => iprop(fullS c hbm ring sems q X s p ∗ ∃ W, owes (c : Thread nD τ) 0 W)) : sProp 𝕄) := by
  subst E1 E2 E3
  unfold fullS fltS wtW
  iintro ⟨⟨HF, HR⟩, %W, HO⟩
  iapply (Transfers.wp_waitLocal (countersEmb (U := Pipeline.UD sig nD τ)) Variants.none (c : Thread nD τ) none (srcw := srcM hbm p) (dstw := slotM ring s)
    (k := fun x => Prog.ret x) () rfl) $$ [HF HO]
  · isplitl [HF]; · iexact HF
    iexact HO
  iintro ⟨⟨H1, H2⟩, H3, H4⟩
  iapply (wp_done Variants.none (c : Thread nD τ) none Set.univ)
  isplitr [H4]
  · isplitl [H1]; · iexact H1
    isplitl [H3]; · iexact H3
    iapply (src_join c hbm q X p)
    isplitl [H2]; · iexact H2
    iexact HR
  · iexists _; iexact H4

end Ring

end Cert.Kernel.Hand

end
-- ==== Proof.KFold.lean ====
module

public import proofs.«01_k».proof.Proof.KRing

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The products -/

/-- A load of a ring slot reads the slot's contents. -/
theorem slot_load (c : Dev nD) (ring : Memref sig .tc .vmem S4x1024x4096 .fp8e4m3) (s : Fin 4) {α : Type} {Q : α → sProp 𝕄}
    {o2 : Fin 3 → ℕ} {h2 : ∀ a, o2 a + S1x1024x4096.size a ≤ S4x1024x4096.size a} (E2 : o2 = ![s.val, 0, 0])
    {hl : ring.view.LoadsAt (Rect.unit (s := S4x1024x4096) o2 S1x1024x4096.size h2).toLoadRect}
    {k : Vec F S1x1024x4096 .fp8e4m3 → Pg F α} {Y : S1024x4096.Idx → Elt F .fp8e4m3} :
    (owns (c : Thread nD τ) (slotM ring s) fullShare Y : sProp 𝕄)
      ⊢ iprop((owns (c : Thread nD τ) (slotM ring s) fullShare Y -∗ WP c (k (asSlot Y)) Q)
        -∗ WP c (.op (.load ring (Rect.unit (s := S4x1024x4096) o2 S1x1024x4096.size h2).toLoadRect hl) k) Q) := by
  subst E2
  iintro H HK
  ihave H := (owns_elim c _ _ _) $$ H
  icases H with ⟨%f, %hf, H⟩
  iapply (wp_load_rect Variants.none (c : Thread nD τ) none Set.univ (m := ring)
    (r := Rect.unit (s := S4x1024x4096) ![s.val, 0, 0] S1x1024x4096.size h2) (hl := hl) (k := k) (S := (slotM ring s).view.set) (q := fullShare) (f := f)
    (by
      have : (slotM ring s).view.set = (ring.access (Rect.unit (s := S4x1024x4096) ![s.val, 0, 0] S1x1024x4096.size h2)).set := View.set_reshape _ _
      rw [this])) $$ [H]
  · iexact H
  iintro H
  have hr : (ring.access (Rect.unit (s := S4x1024x4096) ![s.val, 0, 0] S1x1024x4096.size h2)).read (Elt F) f = asSlot Y := by
    subst hf
    funext i
    show _ = (ring.access (Rect.unit (s := S4x1024x4096) ![s.val, 0, 0] S1x1024x4096.size h2)).read (Elt F) f
      (Shape.reshapeEquiv (squeezes_S1x1024x4096_S1024x4096).numel_eq ((Shape.reshapeEquiv (squeezes_S1x1024x4096_S1024x4096).numel_eq).symm i))
    rw [Equiv.apply_symm_apply]
  rw [hr]
  iapply HK
  have e : ((ring.access (Rect.unit (s := S4x1024x4096) ![s.val, 0, 0] S1x1024x4096.size h2)).loc (c : Thread nD τ) ↦[(slotM ring s).view.set]{fullShare} f : sProp 𝕄)
      ⊢ owns (c : Thread nD τ) (slotM ring s) fullShare Y := owns_of c (slotM ring s) fullShare hf
  iapply e $$ H

/-- The product of the codes with one chunk of the head: it reads the ring slot and fills an accumulator. -/
theorem wp_mm (c : Dev nD) (xqM : Memref sig .tc .vmem S96x4096 .fp8e4m3) (ring : Memref sig .tc .vmem S4x1024x4096 .fp8e4m3)
    (accM : Memref sig .tc .vmem S96x1024 .f32) (s : Fin 4) {o2 : Fin 3 → ℕ} {h2 : ∀ a, o2 a + S1x1024x4096.size a ≤ S4x1024x4096.size a}
    (E2 : o2 = ![s.val, 0, 0]) (XQ : Vec F S96x4096 .fp8e4m3) (Y : S1024x4096.Idx → Elt F .fp8e4m3) :
    iprop(owns (c : Thread nD τ) xqM fullShare XQ ∗ owns (c : Thread nD τ) (slotM ring s) fullShare Y ∗ ∃ A, owns (c : Thread nD τ) accM fullShare A)
      ⊢ (WP c (mm xqM ring accM o2 h2) (fun _ => iprop(owns (c : Thread nD τ) xqM fullShare XQ ∗ owns (c : Thread nD τ) (slotM ring s) fullShare Y
          ∗ owns (c : Thread nD τ) accM fullShare (k0_pay354 XQ (asSlot Y)))) : sProp 𝕄) := by
  unfold mm
  simp only [Prog.bind_lift]
  unfold Prog.lift
  iintro ⟨H1, H2, %A, H3⟩
  iapply (owns_load Variants.none (c : Thread nD τ) none Set.univ) $$ H1
  iintro H1
  iapply (slot_load c ring s E2) $$ H2
  iintro H2
  iapply (owns_load Variants.none (c : Thread nD τ) none Set.univ) $$ H3
  iintro H3
  iapply (owns_store Variants.none (c : Thread nD τ) none Set.univ) $$ H3
  iintro H3
  iapply (wp_done Variants.none (c : Thread nD τ) none Set.univ)
  isplitl [H1]; · iexact H1
  isplitl [H2]; · iexact H2
  rw [overlay_full, emb_full]
  iexact H3

/-! ## One group of rows -/

section Fold

variable (lane : IVec S8x128 32) (b0 b1 : BitVec 32) (A : S96x1024.Idx → F .f32) (RS : S96x128.Idx → F .f32) (WS : S256x128.Idx → F .f32)
  (offW : Fin 8 → Fin 2 → ℕ) (hW : ∀ o a, offW o a + S1x128.size a ≤ S256x128.size a)

/-- The rows of group `g` of the statistics arrays. -/
abbrev rowR (g : Fin 9) : Rect S72x128 := Rect.unit (s := S72x128) ![8 * g.val, 0] S8x128.size (inbRows g)

/-- A chunk of 128 columns of eight rows, scaled. -/
def sC (g : Fin 9) (o : Fin 8) : FVec F S8x128 .f32 :=
  s2v (fun i => A ((Rect.unit (s := S96x1024) ![8 * g.val, 128 * o.val] S8x128.size (inbAcc g o)).emb i))
    (fun i => RS ((Rect.unit (s := S96x128) ![8 * g.val, 0] S8x128.size (inbRs g)).emb i))
    (fun i => WS ((Rect.unit (s := S256x128) (offW o) S1x128.size (hW o)).emb i))

/-- The running sums after one group's fold. -/
def stepD (g : Fin 9) (D : S72x128.Idx → F .f32) : S72x128.Idx → F .f32 :=
  (rowR g).overlay D (shapeCast S8x128 (newD lane b0 b1 (sC A RS WS offW hW g 0) (sC A RS WS offW hW g 1) (sC A RS WS offW hW g 2) (sC A RS WS offW hW g 3)
    (sC A RS WS offW hW g 4) (sC A RS WS offW hW g 5) (sC A RS WS offW hW g 6) (sC A RS WS offW hW g 7) (fun i => D ((rowR g).emb i))) shapeCasts_S8x128_S8x128)

/-- The running maxima after one group's fold. -/
def stepM (g : Fin 9) (D : S72x128.Idx → F .f32) : S72x128.Idx → F .f32 :=
  (rowR g).overlay D (shapeCast S8x128 (newM lane b0 b1 (sC A RS WS offW hW g 0) (sC A RS WS offW hW g 1) (sC A RS WS offW hW g 2) (sC A RS WS offW hW g 3)
    (sC A RS WS offW hW g 4) (sC A RS WS offW hW g 5) (sC A RS WS offW hW g 6) (sC A RS WS offW hW g 7) (fun i => D ((rowR g).emb i))) shapeCasts_S8x128_S8x128)

/-- The running sums after all nine groups. -/
def epiD (D : S72x128.Idx → F .f32) : S72x128.Idx → F .f32 :=
  (List.finRange 9).foldl (fun D g => stepD lane b0 b1 A RS WS offW hW g D) D
/-- What a whole epilogue leaves in the array of tile maxima: the nine group steps one after another. -/
def epiM (D : S72x128.Idx → F .f32) : S72x128.Idx → F .f32 :=
  (List.finRange 9).foldl (fun D g => stepM lane b0 b1 A RS WS offW hW g D) D

variable (c : Dev nD) (rsM : Memref sig .tc .vmem S96x128 .f32) (wsM : Memref sig .tc .vmem S256x128 .f32)
    (accM : Memref sig .tc .vmem S96x1024 .f32) (dM mM : Memref sig .tc .vmem S72x128 .f32)

/-- The fold's buffers. -/
def foldO (D M : S72x128.Idx → F .f32) : sProp 𝕄 :=
  iprop(owns (c : Thread nD τ) rsM fullShare RS ∗ owns (c : Thread nD τ) wsM fullShare WS ∗ owns (c : Thread nD τ) accM fullShare A
    ∗ owns (c : Thread nD τ) dM fullShare D ∗ owns (c : Thread nD τ) mM fullShare M)

/-- One group of an epilogue runs, and changes the two statistics arrays by its step. -/
theorem wp_grp (g : Fin 9) (D M : S72x128.Idx → F .f32) :
    foldO A RS WS c rsM wsM accM dM mM D M
      ⊢ (WP c (grp rsM wsM accM dM mM lane b0 b1 offW hW g)
          (fun _ => foldO A RS WS c rsM wsM accM dM mM (stepD lane b0 b1 A RS WS offW hW g D) (stepM lane b0 b1 A RS WS offW hW g M)) : sProp 𝕄) := by
  unfold grp foldO ldRs ldRow ldAcc ldWs stRow
  simp only [Prog.bind_lift]
  unfold Prog.lift
  iintro ⟨Hr, Hw, Ha, Hd, Hm⟩
  iapply (owns_load Variants.none (c : Thread nD τ) none Set.univ) $$ Hr
  iintro Hr
  iapply (owns_load Variants.none (c : Thread nD τ) none Set.univ) $$ Hd
  iintro Hd
  iapply (owns_load Variants.none (c : Thread nD τ) none Set.univ) $$ Hm
  iintro Hm
  iterate 8
    iapply (owns_load Variants.none (c : Thread nD τ) none Set.univ) $$ Ha
    iintro Ha
    iapply (owns_load Variants.none (c : Thread nD τ) none Set.univ) $$ Hw
    iintro Hw
  iapply (owns_load Variants.none (c : Thread nD τ) none Set.univ) $$ Hd
  iintro Hd
  iapply (owns_store Variants.none (c : Thread nD τ) none Set.univ) $$ Hd
  iintro Hd
  iapply (owns_load Variants.none (c : Thread nD τ) none Set.univ) $$ Hm
  iintro Hm
  iapply (owns_store Variants.none (c : Thread nD τ) none Set.univ) $$ Hm
  iintro Hm
  iapply (wp_done Variants.none (c : Thread nD τ) none Set.univ)
  isplitl [Hr]; · iexact Hr
  isplitl [Hw]; · iexact Hw
  isplitl [Ha]; · iexact Ha
  isplitl [Hd]; · iexact Hd
  iexact Hm

/-- A whole epilogue runs, and changes the two statistics arrays by `epiD` and `epiM`. -/
theorem wp_epi (D M : S72x128.Idx → F .f32) :
    foldO A RS WS c rsM wsM accM dM mM D M
      ⊢ (WP c (epi rsM wsM accM dM mM lane b0 b1 offW hW)
          (fun _ => foldO A RS WS c rsM wsM accM dM mM (epiD lane b0 b1 A RS WS offW hW D) (epiM lane b0 b1 A RS WS offW hW M)) : sProp 𝕄) := by
  unfold epi
  iintro H
  iterate 8
    iapply (wp_then Variants.none (c : Thread nD τ) none Set.univ (wp_grp lane b0 b1 A RS WS offW hW c rsM wsM accM dM mM _ _ _)) $$ H
    iintro %_ H
  iapply (wp_grp lane b0 b1 A RS WS offW hW c rsM wsM accM dM mM _ _ _) $$ H

end Fold

end Cert.Kernel.Hand

end
-- ==== Proof.KLoop.lean ====
module

public import proofs.«01_k».proof.Proof.KFold

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

/-- A chunk's slot. -/
def sl (p : ℕ) : Fin 4 := ⟨p % 4, Nat.mod_lt _ (by decide)⟩
/-- A chunk's number. -/
def fN (p : ℕ) : Fin 32 := ⟨p % 32, Nat.mod_lt _ (by decide)⟩

/-- The ring returns to a slot after four chunks. -/
theorem sl_add (p : ℕ) : sl (p + 4) = sl p := Fin.ext (Nat.add_mod_right p 4)

/-- Where a chunk's column scales lie: eight rows of 128. -/
def offC (p : Fin 32) (o : Fin 8) : Fin 2 → ℕ := ![8 * p.val + o.val, 0]
/-- The rows of column scales of a chunk lie inside the array. -/
theorem inbC (p : Fin 32) : ∀ o a, offC p o a + S1x128.size a ≤ S256x128.size a := by revert p; decide

/-- The running sums after the first `n` chunks. -/
def dN (XQ : Vec F S96x4096 .fp8e4m3) (X : S32768x4096.Idx → Elt F .fp8e4m3) (RS : S96x128.Idx → F .f32) (WS : S256x128.Idx → F .f32) : ℕ → S72x128.Idx → F .f32
  | 0 => k0_pay352
  | n + 1 => epiD laneV (BitVec.ofNat 32 (2 * n)) (BitVec.ofNat 32 (2 * n + 1)) (dotC XQ X (fN n)) RS WS (offC (fN n)) (inbC (fN n)) (dN XQ X RS WS n)

/-- The running maxima after the first `n` chunks. -/
def mN (XQ : Vec F S96x4096 .fp8e4m3) (X : S32768x4096.Idx → Elt F .fp8e4m3) (RS : S96x128.Idx → F .f32) (WS : S256x128.Idx → F .f32) : ℕ → S72x128.Idx → F .f32
  | 0 => k0_pay353
  | n + 1 => epiM laneV (BitVec.ofNat 32 (2 * n)) (BitVec.ofNat 32 (2 * n + 1)) (dotC XQ X (fN n)) RS WS (offC (fN n)) (inbC (fN n)) (mN XQ X RS WS n)

/-- The row scales: those of the 72 rows, and ones below. -/
def rsV (XS TS : Vec F S72x128 .f32) : S96x128.Idx → F .f32 :=
  (Rect.unit (s := S96x128) ![0, 0] S72x128.size inb_S96x128_S72x128_0_0).overlay (k0_pay350 (F := F)) (k0_pay351 XS TS)

/-- The result. -/
def outV (XQ : Vec F S96x4096 .fp8e4m3) (X : S32768x4096.Idx → Elt F .fp8e4m3) (XS TS : Vec F S72x128 .f32) (WS : S256x128.Idx → F .f32) : FVec F S72x128 .f32 :=
  k0_pay3 (mN XQ X (rsV XS TS) WS 32) (dN XQ X (rsV XS TS) WS 32)

/-! ## The pieces around the loop -/

/-- The refill of an odd chunk happens while there is a chunk four further on. -/
theorem cond2_iff : ∀ k : Fin k0_t1_loop.trips, k0_cond2 k = 1#1 ↔ 2 * k.val + 1 + 4 < 32 := by decide +kernel
/-- The refill of an even chunk happens while there is a chunk four further on. -/
theorem cond3_iff : ∀ k : Fin k0_t1_loop.trips, k0_cond3 k = 1#1 ↔ 2 * k.val + 1 + 1 + 4 < 32 := by decide +kernel
/-- The loop makes fifteen trips. -/
theorem trips_eq : k0_t1_loop.trips = 15 := by decide +kernel
/-- The lanes that the first epilogue of a trip fills. -/
theorem lane1 : ∀ k : Fin k0_t1_loop.trips, laneW (prevW (halfW k 1#32)) 0#32 = BitVec.ofNat 32 (2 * (2 * k.val))
    ∧ laneW (prevW (halfW k 1#32)) 1#32 = BitVec.ofNat 32 (2 * (2 * k.val) + 1) := by decide +kernel
/-- The lanes that the second epilogue of a trip fills. -/
theorem lane2 : ∀ k : Fin k0_t1_loop.trips, laneW (prevW (halfW k 2#32)) 0#32 = BitVec.ofNat 32 (2 * (2 * k.val + 1))
    ∧ laneW (prevW (halfW k 2#32)) 1#32 = BitVec.ofNat 32 (2 * (2 * k.val + 1) + 1) := by decide +kernel

/-- The offsets of an access, from the printed words to plain numbers. -/
theorem o8_1 : ∀ k : Fin k0_t1_loop.trips, k0_off8 k 1#32 = ![(2 * k.val + 1) % 4] := by decide +kernel
/-- The offsets of an access, from the printed words to plain numbers. -/
theorem o9_1 : ∀ k : Fin k0_t1_loop.trips, k0_off9 k 1#32 = ![(2 * k.val + 1) % 4, 0, 0] := by decide +kernel
/-- The offsets of an access, from the printed words to plain numbers. -/
theorem o10_1 : ∀ k : Fin k0_t1_loop.trips, k0_off10 k 1#32 = ![1024 * (2 * k.val + 1), 0] := by decide +kernel
/-- The offsets of an access, from the printed words to plain numbers. -/
theorem o11_1 : ∀ (k : Fin k0_t1_loop.trips) (o : Fin 8), k0_off11 k 1#32 (BitVec.ofNat 32 o.val) = ![8 * (2 * k.val) + o.val, 0] := by decide +kernel
/-- The offsets of an access, from the printed words to plain numbers. -/
theorem o12_1 : ∀ k : Fin k0_t1_loop.trips, k0_off12 k 1#32 = ![(2 * k.val + 1) % 4, 0, 0] := by decide +kernel
/-- The offsets of an access, from the printed words to plain numbers. -/
theorem o8_2 : ∀ k : Fin k0_t1_loop.trips, k0_off8 k 2#32 = ![((2 * k.val + 1) + 1) % 4] := by decide +kernel
/-- The offsets of an access, from the printed words to plain numbers. -/
theorem o9_2 : ∀ k : Fin k0_t1_loop.trips, k0_off9 k 2#32 = ![((2 * k.val + 1) + 1) % 4, 0, 0] := by decide +kernel
/-- The offsets of an access, from the printed words to plain numbers. -/
theorem o10_2 : ∀ k : Fin k0_t1_loop.trips, k0_off10 k 2#32 = ![1024 * ((2 * k.val + 1) + 1), 0] := by decide +kernel
/-- The offsets of an access, from the printed words to plain numbers. -/
theorem o11_2 : ∀ (k : Fin k0_t1_loop.trips) (o : Fin 8), k0_off11 k 2#32 (BitVec.ofNat 32 o.val) = ![8 * ((2 * k.val + 1)) + o.val, 0] := by decide +kernel
/-- The offsets of an access, from the printed words to plain numbers. -/
theorem o12_2 : ∀ k : Fin k0_t1_loop.trips, k0_off12 k 2#32 = ![((2 * k.val + 1) + 1) % 4, 0, 0] := by decide +kernel
/-- The offsets of an access, from the printed words to plain numbers. -/
theorem o13 : ∀ k : Fin k0_t1_loop.trips, k0_off13 k = ![(2 * k.val + 1 + 4) % 4] := by decide +kernel
/-- The offsets of an access, from the printed words to plain numbers. -/
theorem o14 : ∀ k : Fin k0_t1_loop.trips, k0_off14 k = ![(2 * k.val + 1 + 4) % 4, 0, 0] := by decide +kernel
/-- The offsets of an access, from the printed words to plain numbers. -/
theorem o15 : ∀ k : Fin k0_t1_loop.trips, k0_off15 k = ![1024 * (2 * k.val + 1 + 4), 0] := by decide +kernel
/-- The offsets of an access, from the printed words to plain numbers. -/
theorem o16 : ∀ k : Fin k0_t1_loop.trips, k0_off16 k = ![(2 * k.val + 1 + 1 + 4) % 4] := by decide +kernel
/-- The offsets of an access, from the printed words to plain numbers. -/
theorem o17 : ∀ k : Fin k0_t1_loop.trips, k0_off17 k = ![(2 * k.val + 1 + 1 + 4) % 4, 0, 0] := by decide +kernel
/-- The offsets of an access, from the printed words to plain numbers. -/
theorem o18 : ∀ k : Fin k0_t1_loop.trips, k0_off18 k = ![1024 * (2 * k.val + 1 + 1 + 4), 0] := by decide +kernel

section Pieces

variable (c : Dev nD) (arg0 : Memref sig .tc .vmem S96x4096 .fp8e4m3) (arg3 : Memref sig .tc .hbm S32768x4096 .fp8e4m3)
  (arg6 : Memref sig .tc .vmem S96x128 .f32) (arg7 : Memref sig .tc .vmem S256x128 .f32) (arg8 : Memref sig .tc .vmem S4x1024x4096 .fp8e4m3)
  (arg11 arg12 : Memref sig .tc .vmem S72x128 .f32) (arg13 : DmaSems sig S4)
  (qs : Fin 4 → PosShare TreeShare) (XQ : Vec F S96x4096 .fp8e4m3) (X : S32768x4096.Idx → Elt F .fp8e4m3)
  (RS : S96x128.Idx → F .f32) (WS : S256x128.Idx → F .f32)

/-- The slot of chunk `p`: its copy under way, or nothing once the chunks are done. -/
def role (p : ℕ) : sProp 𝕄 :=
  if p < 32 then fltS c arg3 arg8 arg13 (qs (sl p)) X (sl p) (fN p) else freeS c arg3 arg8 arg13 (qs (sl p)) X (sl p)

/-- A refill: it starts the copy four chunks further on, if there is one. -/
theorem wp_rf_enW (n : ℕ) {P : Prop} [Decidable P] (hP : P ↔ n + 4 < 32)
    {o1 : Fin 1 → ℕ} {h1 : P → ∀ a, o1 a + S1.size a ≤ S4.size a} {o2 : Fin 3 → ℕ} {h2 : P → ∀ a, o2 a + S1x1024x4096.size a ≤ S4x1024x4096.size a}
    {o3 : Fin 2 → ℕ} {h3 : P → ∀ a, o3 a + S1024x4096.size a ≤ S32768x4096.size a}
    {e3 : ∀ h, (srcV arg3 o3 (h3 h)).view.WordExact} {e2 : ∀ h, (slotV arg8 o2 (h2 h)).view.WordExact}
    (E1 : o1 = ![(n + 4) % 4]) (E2 : o2 = ![(n + 4) % 4, 0, 0]) (E3 : P → o3 = ![1024 * (n + 4), 0]) :
    (freeS c arg3 arg8 arg13 (qs (sl n)) X (sl n) : sProp 𝕄)
      ⊢ WP c (rf P fun h => enW arg3 arg8 arg13 o1 (h1 h) o2 (h2 h) o3 (h3 h) (e3 h) (e2 h)) (fun _ => role c arg3 arg8 arg13 qs X (n + 4)) := by
  unfold rf role
  by_cases h : P
  · rw [dif_pos h, if_pos (hP.1 h), ← sl_add n]
    refine wp_enW c arg3 arg8 arg13 _ X (sl (n + 4)) (fN (n + 4)) E1 E2 ?_
    rw [E3 h]
    have : (fN (n + 4)).val = n + 4 := Nat.mod_eq_of_lt (hP.1 h)
    rw [this]
  · rw [dif_neg h, if_neg (fun h' => h (hP.2 h')), sl_add n]
    iintro H
    iapply (wp_done Variants.none (c : Thread nD τ) none Set.univ)
    iexact H

/-- The state between two chunks: the codes, and the fold's buffers, the products of chunk `m` in one of the accumulators. -/
def midS (accP accN : Memref sig .tc .vmem S96x1024 .f32) (m : ℕ) : sProp 𝕄 :=
  iprop((∃ W, owes (c : Thread nD τ) 0 W) ∗ owns (c : Thread nD τ) arg0 fullShare XQ
    ∗ foldO (dotC XQ X (fN m)) RS WS c arg6 arg7 accP arg11 arg12 (dN XQ X RS WS m) (mN XQ X RS WS m)
    ∗ ∃ A, owns (c : Thread nD τ) accN fullShare A)

/-- The epilogue of chunk `m`, with the loop's own words for offsets and lanes. -/
theorem wp_epiC (accP : Memref sig .tc .vmem S96x1024 .f32) (m : ℕ) {b0 b1 : BitVec 32} {offW : Fin 8 → Fin 2 → ℕ} {hW : ∀ o a, offW o a + S1x128.size a ≤ S256x128.size a}
    (B0 : b0 = BitVec.ofNat 32 (2 * m)) (B1 : b1 = BitVec.ofNat 32 (2 * m + 1)) (EW : ∀ o, offW o = offC (fN m) o) :
    foldO (dotC XQ X (fN m)) RS WS c arg6 arg7 accP arg11 arg12 (dN XQ X RS WS m) (mN XQ X RS WS m)
      ⊢ (WP c (epi arg6 arg7 accP arg11 arg12 laneV b0 b1 offW hW)
        (fun _ => foldO (dotC XQ X (fN m)) RS WS c arg6 arg7 accP arg11 arg12 (dN XQ X RS WS (m + 1)) (mN XQ X RS WS (m + 1))) : sProp 𝕄) := by
  obtain rfl : offW = offC (fN m) := funext EW
  subst B0 B1
  exact wp_epi _ _ _ _ _ _ _ _ c arg6 arg7 accP arg11 arg12 _ _

/-- A half step: wait for a chunk, epilogue of the chunk before, product with the chunk. -/
theorem wp_half (m : ℕ) (hn : m + 1 < 32) (accP accN : Memref sig .tc .vmem S96x1024 .f32)
    {o1 : Fin 1 → ℕ} {h1 : ∀ a, o1 a + S1.size a ≤ S4.size a} {o2 : Fin 3 → ℕ} {h2 : ∀ a, o2 a + S1x1024x4096.size a ≤ S4x1024x4096.size a}
    {o3 : Fin 2 → ℕ} {h3 : ∀ a, o3 a + S1024x4096.size a ≤ S32768x4096.size a}
    {e3 : (srcV arg3 o3 h3).view.WordExact} {e2 : (slotV arg8 o2 h2).view.WordExact}
    {b0 b1 : BitVec 32} {offW : Fin 8 → Fin 2 → ℕ} {hW : ∀ o a, offW o a + S1x128.size a ≤ S256x128.size a}
    {o4 : Fin 3 → ℕ} {h4 : ∀ a, o4 a + S1x1024x4096.size a ≤ S4x1024x4096.size a}
    {R : Pg F PUnit} {QR : sProp 𝕄}
    (E1 : o1 = ![(m + 1) % 4]) (E2 : o2 = ![(m + 1) % 4, 0, 0]) (E3 : o3 = ![1024 * (m + 1), 0])
    (B0 : b0 = BitVec.ofNat 32 (2 * m)) (B1 : b1 = BitVec.ofNat 32 (2 * m + 1)) (EW : ∀ o, offW o = ![8 * m + o.val, 0])
    (E4 : o4 = ![(m + 1) % 4, 0, 0])
    (hR : iprop(freeS c arg3 arg8 arg13 (qs (sl (m + 1))) X (sl (m + 1)) ∗ midS c arg0 arg6 arg7 arg11 arg12 XQ X RS WS accN accP (m + 1)) ⊢ WP c R (fun _ => QR)) :
    iprop(role c arg3 arg8 arg13 qs X (m + 1) ∗ midS c arg0 arg6 arg7 arg11 arg12 XQ X RS WS accP accN m)
      ⊢ (WP c (do wtW arg3 arg8 arg13 o1 h1 o2 h2 o3 h3 e3 e2
                  epi arg6 arg7 accP arg11 arg12 laneV b0 b1 offW hW
                  mm arg0 arg8 accN o4 h4
                  R) (fun _ => QR) : sProp 𝕄) := by
  have hfv : (fN (m + 1)).val = m + 1 := Nat.mod_eq_of_lt hn
  have hfm : (fN m).val = m := Nat.mod_eq_of_lt (by omega)
  refine Entails.trans ?_ (show _ ⊢ _ from .rfl)
  unfold role
  rw [if_pos hn]
  iintro ⟨HF, HM⟩
  unfold midS
  icases HM with ⟨HO, HX, HD, HA⟩
  iapply (wp_then Variants.none (c : Thread nD τ) none Set.univ (wp_wtW c arg3 arg8 arg13 _ X (sl (m + 1)) (fN (m + 1)) E1 E2 (by rw [hfv]; exact E3))) $$ [HF HO]
  · isplitl [HF]; · iexact HF
    iexact HO
  iintro %_ ⟨HF, HO⟩
  iapply (wp_then Variants.none (c : Thread nD τ) none Set.univ (wp_epiC c arg6 arg7 arg11 arg12 XQ X RS WS accP m B0 B1
    (fun o => by rw [EW o]; unfold offC; rw [hfm]))) $$ HD
  iintro %_ HD
  unfold fullS
  icases HF with ⟨HF, HS, HW⟩
  iapply (wp_then Variants.none (c : Thread nD τ) none Set.univ (wp_mm c arg0 arg8 accN (sl (m + 1)) E4 XQ (chunk X (fN (m + 1))))) $$ [HX HF HA]
  · isplitl [HX]; · iexact HX
    isplitl [HF]; · iexact HF
    iexact HA
  iintro %_ ⟨HX, HF, HA⟩
  iapply hR
  unfold freeS midS foldO
  icases HD with ⟨Hr, Hw, Ha, Hd, Hm⟩
  isplitl [HF HS HW]
  · isplitl [HF]; · iexists _; iexact HF
    isplitl [HS]; · iexact HS
    iexact HW
  isplitl [HO]; · iexact HO
  isplitl [HX]; · iexact HX
  isplitr [Ha]
  · isplitl [Hr]; · iexact Hr
    isplitl [Hw]; · iexact Hw
    isplitl [HA]; · iexact HA
    isplitl [Hd]; · iexact Hd
    iexact Hm
  · iexists _; iexact Ha

/-- The loop's invariant before trip `i`. -/
def loopI (arg9 arg10 : Memref sig .tc .vmem S96x1024 .f32) (i : ℕ) : sProp 𝕄 :=
  iprop(role c arg3 arg8 arg13 qs X (2 * i + 1) ∗ role c arg3 arg8 arg13 qs X (2 * i + 2) ∗ role c arg3 arg8 arg13 qs X (2 * i + 3)
    ∗ role c arg3 arg8 arg13 qs X (2 * i + 4) ∗ midS c arg0 arg6 arg7 arg11 arg12 XQ X RS WS arg9 arg10 (2 * i))

end Pieces

section Loop

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (RS : S96x128.Idx → F .f32) (WS : S256x128.Idx → F .f32)

/-- The refill that ends a half step. -/
theorem wp_rf_mid (n : ℕ) (accP accN : Memref sig .tc .vmem S96x1024 .f32) {R : Pg F PUnit}
    (h : (freeS c arg3 arg8 arg13 (qs (sl n)) X (sl n) : sProp 𝕄) ⊢ WP c R (fun _ => role c arg3 arg8 arg13 qs X (n + 4))) :
    iprop(freeS c arg3 arg8 arg13 (qs (sl n)) X (sl n) ∗ midS c arg0 arg6 arg7 arg11 arg12 XQ X RS WS accN accP n)
      ⊢ (WP c R (fun _ => iprop(role c arg3 arg8 arg13 qs X (n + 4) ∗ midS c arg0 arg6 arg7 arg11 arg12 XQ X RS WS accN accP n)) : sProp 𝕄) := by
  iintro ⟨H, HM⟩
  iapply (wp_wand_r frame (wpE (defs₀ (F := F)) Variants.none (c : Thread nD τ) none) Set.univ)
  isplitl [H]
  · iapply h; iexact H
  · iintro %_ H
    isplitl [H]; · iexact H
    iexact HM

/-- The first half step of a trip. -/
theorem wp_half1 (k : Fin k0_t1_loop.trips) :
    iprop(role c arg3 arg8 arg13 qs X (2 * k.val + 1) ∗ midS c arg0 arg6 arg7 arg11 arg12 XQ X RS WS arg9 arg10 (2 * k.val))
      ⊢ (WP c (half1 arg0 harg0 arg1 harg1 arg2 harg2 arg3 harg3 arg4 harg4 arg5 harg5 arg6 harg6 arg7 harg7 arg8 harg8 arg9 harg9 arg10 harg10 arg11 harg11 arg12 harg12 arg13 arg14 laneV k)
        (fun _ => iprop(role c arg3 arg8 arg13 qs X (2 * k.val + 1 + 4) ∗ midS c arg0 arg6 arg7 arg11 arg12 XQ X RS WS arg10 arg9 (2 * k.val + 1))) : sProp 𝕄) := by
  have hk : k.val < 15 := trips_eq ▸ k.isLt
  unfold half1
  refine wp_half (QR := iprop(role c arg3 arg8 arg13 qs X (2 * k.val + 1 + 4) ∗ midS c arg0 arg6 arg7 arg11 arg12 XQ X RS WS arg10 arg9 (2 * k.val + 1))) c arg0 arg3 arg6 arg7 arg8 arg11 arg12 arg13 qs XQ X RS WS (2 * k.val) (by omega) arg9 arg10
    (o8_1 k) (o9_1 k) (o10_1 k) (lane1 k).1 (lane1 k).2 (o11_1 k) (o12_1 k) ?_
  refine wp_rf_mid c arg0 arg3 arg6 arg7 arg8 arg11 arg12 arg13 qs XQ X RS WS (2 * k.val + 1) arg9 arg10 (wp_rf_enW c arg3 arg8 arg13 qs X (2 * k.val + 1) (cond2_iff k) (o13 k) (o14 k) (fun _ => o15 k))

/-- The second half step of a trip. -/
theorem wp_half2 (k : Fin k0_t1_loop.trips) :
    iprop(role c arg3 arg8 arg13 qs X (2 * k.val + 1 + 1) ∗ midS c arg0 arg6 arg7 arg11 arg12 XQ X RS WS arg10 arg9 (2 * k.val + 1))
      ⊢ (WP c (half2 arg0 harg0 arg1 harg1 arg2 harg2 arg3 harg3 arg4 harg4 arg5 harg5 arg6 harg6 arg7 harg7 arg8 harg8 arg9 harg9 arg10 harg10 arg11 harg11 arg12 harg12 arg13 arg14 laneV k)
        (fun _ => iprop(role c arg3 arg8 arg13 qs X (2 * k.val + 1 + 1 + 4) ∗ midS c arg0 arg6 arg7 arg11 arg12 XQ X RS WS arg9 arg10 (2 * k.val + 1 + 1))) : sProp 𝕄) := by
  have hk : k.val < 15 := trips_eq ▸ k.isLt
  unfold half2
  refine wp_half (QR := iprop(role c arg3 arg8 arg13 qs X (2 * k.val + 1 + 1 + 4) ∗ midS c arg0 arg6 arg7 arg11 arg12 XQ X RS WS arg9 arg10 (2 * k.val + 1 + 1))) c arg0 arg3 arg6 arg7 arg8 arg11 arg12 arg13 qs XQ X RS WS (2 * k.val + 1) (by omega) arg10 arg9
    (o8_2 k) (o9_2 k) (o10_2 k) (lane2 k).1 (lane2 k).2 (o11_2 k) (o12_2 k) ?_
  refine wp_rf_mid c arg0 arg3 arg6 arg7 arg8 arg11 arg12 arg13 qs XQ X RS WS (2 * k.val + 1 + 1) arg10 arg9 (wp_rf_enW c arg3 arg8 arg13 qs X (2 * k.val + 1 + 1) (cond3_iff k) (o16 k) (o17 k) (fun _ => o18 k))

/-- One trip of the loop, from its state to the next. -/
theorem wp_body (k : Fin k0_t1_loop.trips) :
    loopI c arg0 arg3 arg6 arg7 arg8 arg11 arg12 arg13 qs XQ X RS WS arg9 arg10 k.val
      ⊢ (WP c (do half1 arg0 harg0 arg1 harg1 arg2 harg2 arg3 harg3 arg4 harg4 arg5 harg5 arg6 harg6 arg7 harg7 arg8 harg8 arg9 harg9 arg10 harg10 arg11 harg11 arg12 harg12 arg13 arg14 laneV k
                  half2 arg0 harg0 arg1 harg1 arg2 harg2 arg3 harg3 arg4 harg4 arg5 harg5 arg6 harg6 arg7 harg7 arg8 harg8 arg9 harg9 arg10 harg10 arg11 harg11 arg12 harg12 arg13 arg14 laneV k)
        (fun _ => loopI c arg0 arg3 arg6 arg7 arg8 arg11 arg12 arg13 qs XQ X RS WS arg9 arg10 (k.val + 1)) : sProp 𝕄) := by
  unfold loopI
  iintro ⟨H1, H2, H3, H4, HM⟩
  iapply (wp_then Variants.none (c : Thread nD τ) none Set.univ (wp_half1 c arg0 harg0 arg1 harg1 arg2 harg2 arg3 harg3 arg4 harg4 arg5 harg5 arg6 harg6 arg7 harg7 arg8 harg8 arg9 harg9 arg10 harg10 arg11 harg11 arg12 harg12 arg13 arg14 qs XQ X RS WS k)) $$ [H1 HM]
  · isplitl [H1]; · iexact H1
    iexact HM
  iintro %_ ⟨H1, HM⟩
  iapply (wp_wand_r frame (wpE (defs₀ (F := F)) Variants.none (c : Thread nD τ) none) Set.univ)
  isplitl [H2 HM]
  · iapply (wp_half2 c arg0 harg0 arg1 harg1 arg2 harg2 arg3 harg3 arg4 harg4 arg5 harg5 arg6 harg6 arg7 harg7 arg8 harg8 arg9 harg9 arg10 harg10 arg11 harg11 arg12 harg12 arg13 arg14 qs XQ X RS WS k)
    isplitl [H2]; · iexact H2
    iexact HM
  · iintro %_ ⟨H2, HM⟩
    have e1 : 2 * (k.val + 1) + 1 = 2 * k.val + 3 := by omega
    have e2 : 2 * (k.val + 1) + 2 = 2 * k.val + 4 := by omega
    have e3 : 2 * (k.val + 1) + 3 = 2 * k.val + 1 + 4 := by omega
    have e4 : 2 * (k.val + 1) + 4 = 2 * k.val + 1 + 1 + 4 := by omega
    have e5 : 2 * (k.val + 1) = 2 * k.val + 1 + 1 := by omega
    rw [e1, e2, e3, e4, e5]
    isplitl [H3]; · iexact H3
    isplitl [H4]; · iexact H4
    isplitl [H1]; · iexact H1
    isplitl [H2]; · iexact H2
    iexact HM

end Loop

end Cert.Kernel.Hand

end
-- ==== Proof.KRun.lean ====
module

public import proofs.«01_k».proof.Proof.KLoop

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The offsets of an access, from the printed words to plain numbers. -/
theorem off1_0 : k0_off1 0#32 = ![(0 : Fin 4).val] := by decide +kernel
/-- The offsets of an access, from the printed words to plain numbers. -/
theorem off1_1 : k0_off1 1#32 = ![(1 : Fin 4).val] := by decide +kernel
/-- The offsets of an access, from the printed words to plain numbers. -/
theorem off1_2 : k0_off1 2#32 = ![(2 : Fin 4).val] := by decide +kernel
/-- The offsets of an access, from the printed words to plain numbers. -/
theorem off1_3 : k0_off1 3#32 = ![(3 : Fin 4).val] := by decide +kernel
/-- The offsets of an access, from the printed words to plain numbers. -/
theorem off2_0 : k0_off2 0#32 = ![(0 : Fin 4).val, 0, 0] := by decide +kernel
/-- The offsets of an access, from the printed words to plain numbers. -/
theorem off2_1 : k0_off2 1#32 = ![(1 : Fin 4).val, 0, 0] := by decide +kernel
/-- The offsets of an access, from the printed words to plain numbers. -/
theorem off2_2 : k0_off2 2#32 = ![(2 : Fin 4).val, 0, 0] := by decide +kernel
/-- The offsets of an access, from the printed words to plain numbers. -/
theorem off2_3 : k0_off2 3#32 = ![(3 : Fin 4).val, 0, 0] := by decide +kernel
/-- The offsets of an access, from the printed words to plain numbers. -/
theorem off3_0 : k0_off3 0#32 = ![1024 * (0 : Fin 32).val, 0] := by decide +kernel
/-- The offsets of an access, from the printed words to plain numbers. -/
theorem off4_0 : k0_off4 0#32 = ![(0 : Fin 4).val, 0, 0] := by decide +kernel
/-- The offsets of an access, from the printed words to plain numbers. -/
theorem off5_0 : k0_off5 = ![(0 : Fin 4).val] := by decide +kernel
/-- The offsets of an access, from the printed words to plain numbers. -/
theorem off6_0 : k0_off6 = ![(0 : Fin 4).val, 0, 0] := by decide +kernel
/-- The offsets of an access, from the printed words to plain numbers. -/
theorem off7_0 : k0_off7 = ![1024 * (4 : Fin 32).val, 0] := by decide +kernel
/-- The offsets of an access, from the printed words to plain numbers. -/
theorem off1_31 : k0_off1 31#32 = ![(30 + 1) % 4] := by decide +kernel
/-- The offsets of an access, from the printed words to plain numbers. -/
theorem off2_31 : k0_off2 31#32 = ![(30 + 1) % 4, 0, 0] := by decide +kernel
/-- The offsets of an access, from the printed words to plain numbers. -/
theorem off3_31 : k0_off3 31#32 = ![1024 * (30 + 1), 0] := by decide +kernel
/-- The offsets of an access, from the printed words to plain numbers. -/
theorem off4_31 : k0_off4 31#32 = ![(30 + 1) % 4, 0, 0] := by decide +kernel
/-- The offsets of an access, from the printed words to plain numbers. -/
theorem off19_30 : ∀ o : Fin 8, k0_off19 (BitVec.ofNat 32 o.val) = ![8 * 30 + o.val, 0] := by decide +kernel
/-- The lanes that the epilogue before the last fills. -/
theorem lane31 : laneW (prevW 31#32) 0#32 = BitVec.ofNat 32 (2 * 30) ∧ laneW (prevW 31#32) 1#32 = BitVec.ofNat 32 (2 * 30 + 1) := by decide +kernel

section Run

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (XS TS : Vec F S72x128 .f32) (RS : S96x128.Idx → F .f32) (WS : S256x128.Idx → F .f32)

/-- The cell the column scales' copy completes on. -/
abbrev semW (sems : DmaSems sig S3) : SemLoc sig := .dma (semI sems).sem

/-- The column scales under way. -/
def fltWS (hbm : Memref sig .tc .hbm S256x128 .f32) (dst : Memref sig .tc .vmem S256x128 .f32) (sems : DmaSems sig S3) : sProp 𝕄 :=
  Transfers.Flight (countersEmb (U := Pipeline.UD sig nD τ)) (c : Thread nD τ) (semW sems) () (dst.view.amount (semW sems))
      iprop(owns (c : Thread nD τ) dst fullShare WS ∗ owns (c : Thread nD τ) hbm fullShare WS)

/-- A chunk that exists is on its way to its slot. -/
theorem role_lt (p : ℕ) (hp : p < 32) : (role c arg3 arg8 arg13 qs X p : sProp 𝕄) = fltS c arg3 arg8 arg13 (qs (sl p)) X (sl p) (fN p) := by
  unfold role; rw [if_pos hp]

/-- The first copies: the column scales and four chunks. -/
theorem wp_start :
    iprop(owns (c : Thread nD τ) arg4 fullShare WS ∗ (∃ Y, owns (c : Thread nD τ) arg7 fullShare Y) ∗ semVal ((c : Thread nD τ), semW arg14) 0
      ∗ freeS c arg3 arg8 arg13 (qs 0) X 0 ∗ freeS c arg3 arg8 arg13 (qs 1) X 1 ∗ freeS c arg3 arg8 arg13 (qs 2) X 2 ∗ freeS c arg3 arg8 arg13 (qs 3) X 3)
      ⊢ (WP c (startP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(fltWS c WS arg4 arg7 arg14 ∗ fltS c arg3 arg8 arg13 (qs 0) X 0 0 ∗ fltS c arg3 arg8 arg13 (qs 1) X 1 1
          ∗ fltS c arg3 arg8 arg13 (qs 2) X 2 2 ∗ fltS c arg3 arg8 arg13 (qs 3) X 3 3)) : sProp 𝕄) := by
  unfold startP
  rw [Prog.bind_lift]
  iintro ⟨Hw, ⟨%Y, Hd⟩, Hs, H0, H1, H2, H3⟩
  ihave Hd := (owns_elim c _ _ _) $$ Hd
  icases Hd with ⟨%fd, %hfd, Hd⟩
  ihave Hw := (owns_elim c _ _ _) $$ Hw
  icases Hw with ⟨%fs, %hfs, Hw⟩
  iapply (Transfers.wp_dmaLocal (countersEmb (U := Pipeline.UD sig nD τ)) Variants.none (c : Thread nD τ) none (src := arg4) (dst := arg7)
    (sm := semW arg14) (q := fullShare) (fs := fs) (fd := fd) (Sd := arg7.view.set) () _ rfl (View.amount_pos _ _ (by decide)) (Finset.Subset.refl _)) $$ [Hd Hw Hs]
  · isplitl [Hw]; · iexact Hw
    isplitl [Hd]; · iexact Hd
    iexact Hs
  iintro HF
  iapply (wp_then Variants.none (c : Thread nD τ) none Set.univ (wp_enW c arg3 arg8 arg13 (qs 0) X 0 0 off1_0 off2_0 rfl)) $$ H0
  iintro %_ H0
  iapply (wp_then Variants.none (c : Thread nD τ) none Set.univ (wp_enW c arg3 arg8 arg13 (qs 1) X 1 1 off1_1 off2_1 rfl)) $$ H1
  iintro %_ H1
  iapply (wp_then Variants.none (c : Thread nD τ) none Set.univ (wp_enW c arg3 arg8 arg13 (qs 2) X 2 2 off1_2 off2_2 rfl)) $$ H2
  iintro %_ H2
  iapply (wp_wand_r frame (wpE (defs₀ (F := F)) Variants.none (c : Thread nD τ) none) Set.univ)
  isplitl [H3]
  · iapply (wp_enW c arg3 arg8 arg13 (qs 3) X 3 3 off1_3 off2_3 rfl); iexact H3
  iintro %_ H3
  isplitl [HF]
  · unfold fltWS
    iapply (Transfers.Flight_mono (D' := iprop(owns (c : Thread nD τ) arg7 fullShare WS ∗ owns (c : Thread nD τ) arg4 fullShare WS)) _ _ ?_) $$ HF
    iintro ⟨H1, H2⟩
    isplitl [H1]
    · iapply (owns_of c _ _ (by rw [View.read_write_univ, ← hfs])) $$ H1
    · iapply (owns_of c _ _ hfs) $$ H2
  isplitl [H0]; · iexact H0
  isplitl [H1]; · iexact H1
  isplitl [H2]; · iexact H2
  iexact H3

/-- The row scales and the starting values of the statistics. -/
theorem wp_init :
    iprop(fltWS c WS arg4 arg7 arg14 ∗ (∃ W, owes (c : Thread nD τ) 0 W) ∗ owns (c : Thread nD τ) arg1 fullShare XS ∗ owns (c : Thread nD τ) arg2 fullShare TS
      ∗ (∃ Y, owns (c : Thread nD τ) arg6 fullShare Y) ∗ (∃ Y, owns (c : Thread nD τ) arg11 fullShare Y) ∗ (∃ Y, owns (c : Thread nD τ) arg12 fullShare Y))
      ⊢ (WP c (initP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(owns (c : Thread nD τ) arg4 fullShare WS ∗ owns (c : Thread nD τ) arg7 fullShare WS ∗ semVal ((c : Thread nD τ), semW arg14) 0
          ∗ (∃ W, owes (c : Thread nD τ) 0 W) ∗ owns (c : Thread nD τ) arg1 fullShare XS ∗ owns (c : Thread nD τ) arg2 fullShare TS
          ∗ owns (c : Thread nD τ) arg6 fullShare (rsV XS TS) ∗ owns (c : Thread nD τ) arg11 fullShare (k0_pay352 (F := F)) ∗ owns (c : Thread nD τ) arg12 fullShare (k0_pay353 (F := F)))) : sProp 𝕄) := by
  unfold initP
  simp only [Prog.bind_lift]
  unfold Prog.lift
  iintro ⟨HF, ⟨%W, HO⟩, H1, H2, ⟨%Y6, H6⟩, ⟨%Y11, H11⟩, ⟨%Y12, H12⟩⟩
  iapply (owns_load Variants.none (c : Thread nD τ) none Set.univ) $$ H6
  iintro H6
  iapply (owns_store Variants.none (c : Thread nD τ) none Set.univ) $$ H6
  iintro H6
  iapply (owns_load Variants.none (c : Thread nD τ) none Set.univ) $$ H1
  iintro H1
  iapply (owns_load Variants.none (c : Thread nD τ) none Set.univ) $$ H2
  iintro H2
  iapply (owns_load Variants.none (c : Thread nD τ) none Set.univ) $$ H6
  iintro H6
  iapply (owns_store Variants.none (c : Thread nD τ) none Set.univ) $$ H6
  iintro H6
  iapply (owns_load Variants.none (c : Thread nD τ) none Set.univ) $$ H11
  iintro H11
  iapply (owns_store Variants.none (c : Thread nD τ) none Set.univ) $$ H11
  iintro H11
  iapply (owns_load Variants.none (c : Thread nD τ) none Set.univ) $$ H12
  iintro H12
  iapply (owns_store Variants.none (c : Thread nD τ) none Set.univ) $$ H12
  iintro H12
  rw [overlay_full, overlay_full, overlay_full, emb_full, emb_full]
  unfold fltWS
  iapply (Transfers.wp_waitLocal (countersEmb (U := Pipeline.UD sig nD τ)) Variants.none (c : Thread nD τ) none (srcw := arg4) (dstw := arg7)
    (k := fun x => Prog.ret x) () rfl) $$ [HF HO]
  · isplitl [HF]; · iexact HF
    iexact HO
  iintro ⟨⟨H7, H4⟩, H3, HO⟩
  iapply (wp_done Variants.none (c : Thread nD τ) none Set.univ)
  isplitl [H4]; · iexact H4
  isplitl [H7]; · iexact H7
  isplitl [H3]; · iexact H3
  isplitl [HO]; · iexists _; iexact HO
  isplitl [H1]; · iexact H1
  isplitl [H2]; · iexact H2
  isplitl [H6]; · unfold rsV; iexact H6
  isplitl [H11]; · iexact H11
  iexact H12

/-- The first half step, with no epilogue. -/
theorem wp_first :
    iprop(fltS c arg3 arg8 arg13 (qs 0) X 0 0 ∗ (∃ W, owes (c : Thread nD τ) 0 W) ∗ owns (c : Thread nD τ) arg0 fullShare XQ ∗ (∃ Y, owns (c : Thread nD τ) arg9 fullShare Y))
      ⊢ (WP c (firstP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(fltS c arg3 arg8 arg13 (qs 0) X 0 4 ∗ (∃ W, owes (c : Thread nD τ) 0 W) ∗ owns (c : Thread nD τ) arg0 fullShare XQ
          ∗ owns (c : Thread nD τ) arg9 fullShare (dotC XQ X 0))) : sProp 𝕄) := by
  unfold firstP
  iintro ⟨HF, HO, HX, HA⟩
  iapply (wp_then Variants.none (c : Thread nD τ) none Set.univ (wp_wtW c arg3 arg8 arg13 (qs 0) X 0 0 off1_0 off2_0 off3_0)) $$ [HF HO]
  · isplitl [HF]; · iexact HF
    iexact HO
  iintro %_ ⟨HF, HO⟩
  unfold fullS
  icases HF with ⟨HF, HS, HW⟩
  iapply (wp_then Variants.none (c : Thread nD τ) none Set.univ (wp_mm c arg0 arg8 arg9 0 off4_0 XQ (chunk X 0))) $$ [HX HF HA]
  · isplitl [HX]; · iexact HX
    isplitl [HF]; · iexact HF
    iexact HA
  iintro %_ ⟨HX, HF, HA⟩
  iapply (wp_wand_r frame (wpE (defs₀ (F := F)) Variants.none (c : Thread nD τ) none) Set.univ)
  isplitl [HF HS HW]
  · iapply (wp_enW c arg3 arg8 arg13 (qs 0) X 0 4 off5_0 off6_0 off7_0)
    unfold freeS
    isplitl [HF]; · iexists _; iexact HF
    isplitl [HS]; · iexact HS
    iexact HW
  iintro %_ HF
  isplitl [HF]; · iexact HF
  isplitl [HO]; · iexact HO
  isplitl [HX]; · iexact HX
  unfold dotC
  iexact HA

/-- The last step: the result from the two statistics arrays. -/
theorem wp_fin (D M : S72x128.Idx → F .f32) :
    iprop(owns (c : Thread nD τ) arg11 fullShare D ∗ owns (c : Thread nD τ) arg12 fullShare M ∗ (∃ Y, owns (c : Thread nD τ) arg5 fullShare Y))
      ⊢ (WP c (finP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(owns (c : Thread nD τ) arg11 fullShare D ∗ owns (c : Thread nD τ) arg12 fullShare M ∗ owns (c : Thread nD τ) arg5 fullShare (k0_pay3 M D))) : sProp 𝕄) := by
  unfold finP
  simp only [Prog.bind_lift]
  unfold Prog.lift
  iintro ⟨H11, H12, ⟨%Y5, H5⟩⟩
  iapply (owns_load Variants.none (c : Thread nD τ) none Set.univ) $$ H12
  iintro H12
  iapply (owns_load Variants.none (c : Thread nD τ) none Set.univ) $$ H11
  iintro H11
  iapply (owns_load Variants.none (c : Thread nD τ) none Set.univ) $$ H5
  iintro H5
  iapply (owns_store Variants.none (c : Thread nD τ) none Set.univ) $$ H5
  iintro H5
  rw [overlay_full, emb_full, emb_full]
  iapply (wp_done Variants.none (c : Thread nD τ) none Set.univ)
  isplitl [H11]; · iexact H11
  isplitl [H12]; · iexact H12
  iexact H5

/-- What is held once the last chunk is folded in and the result stored. -/
def lastQ : sProp 𝕄 :=
  iprop(freeS c arg3 arg8 arg13 (qs 3) X 3 ∗ (∃ W, owes (c : Thread nD τ) 0 W) ∗ owns (c : Thread nD τ) arg0 fullShare XQ
    ∗ owns (c : Thread nD τ) arg6 fullShare RS ∗ owns (c : Thread nD τ) arg7 fullShare WS ∗ (∃ A, owns (c : Thread nD τ) arg9 fullShare A) ∗ (∃ A, owns (c : Thread nD τ) arg10 fullShare A)
    ∗ (∃ A, owns (c : Thread nD τ) arg11 fullShare A) ∗ (∃ A, owns (c : Thread nD τ) arg12 fullShare A)
    ∗ owns (c : Thread nD τ) arg5 fullShare (k0_pay3 (mN XQ X RS WS 32) (dN XQ X RS WS 32)))

/-- All that follows the loop. -/
theorem wp_tail :
    iprop((freeS c arg3 arg8 arg13 (qs 3) X 3 ∗ midS c arg0 arg6 arg7 arg11 arg12 XQ X RS WS arg10 arg9 31) ∗ (∃ Y, owns (c : Thread nD τ) arg5 fullShare Y))
      ⊢ (WP c (do epi arg6 arg7 arg10 arg11 arg12 laneV 62#32 63#32 (fun o => ![248 + o.val, 0]) inbLast
                  finP arg0 harg0 arg1 harg1 arg2 harg2 arg3 harg3 arg4 harg4 arg5 harg5 arg6 harg6 arg7 harg7 arg8 harg8 arg9 harg9 arg10 harg10 arg11 harg11 arg12 harg12 arg13 arg14)
        (fun _ => lastQ c arg0 arg3 arg5 arg6 arg7 arg8 arg9 arg10 arg11 arg12 arg13 qs XQ X RS WS) : sProp 𝕄) := by
  unfold midS lastQ
  iintro ⟨⟨HF, HO, HX, HD, HA⟩, H5⟩
  iapply (wp_then Variants.none (c : Thread nD τ) none Set.univ (wp_epiC c arg6 arg7 arg11 arg12 XQ X RS WS arg10 31 rfl rfl (fun o => rfl))) $$ HD
  iintro %_ HD
  unfold foldO
  icases HD with ⟨Hr, Hw, Ha, Hd, Hm⟩
  iapply (wp_wand_r frame (wpE (defs₀ (F := F)) Variants.none (c : Thread nD τ) none) Set.univ)
  isplitl [Hd Hm H5]
  · iapply (wp_fin c arg0 harg0 arg1 harg1 arg2 harg2 arg3 harg3 arg4 harg4 arg5 harg5 arg6 harg6 arg7 harg7 arg8 harg8 arg9 harg9 arg10 harg10 arg11 harg11 arg12 harg12 arg13 arg14 (dN XQ X RS WS 32) (mN XQ X RS WS 32))
    isplitl [Hd]; · iexact Hd
    isplitl [Hm]; · iexact Hm
    iexact H5
  iintro %_ ⟨Hd, Hm, H5⟩
  isplitl [HF]; · iexact HF
  isplitl [HO]; · iexact HO
  isplitl [HX]; · iexact HX
  isplitl [Hr]; · iexact Hr
  isplitl [Hw]; · iexact Hw
  isplitl [HA]; · iexact HA
  isplitl [Ha]; · iexists _; iexact Ha
  isplitl [Hd]; · iexists _; iexact Hd
  isplitl [Hm]; · iexists _; iexact Hm
  iexact H5

end Run

end Cert.Kernel.Hand

end
-- ==== Proof.KTrip.lean ====
module

public import proofs.«01_k».proof.Proof.KLoop

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop -/

section Loop

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (RS : S96x128.Idx → F .f32) (WS : S256x128.Idx → F .f32)

/-- One trip. -/
def tripP (k : Fin k0_t1_loop.trips) : Pg F PUnit := do
  half1 arg0 harg0 arg1 harg1 arg2 harg2 arg3 harg3 arg4 harg4 arg5 harg5 arg6 harg6 arg7 harg7 arg8 harg8 arg9 harg9 arg10 harg10 arg11 harg11 arg12 harg12 arg13 arg14 laneV k
  half2 arg0 harg0 arg1 harg1 arg2 harg2 arg3 harg3 arg4 harg4 arg5 harg5 arg6 harg6 arg7 harg7 arg8 harg8 arg9 harg9 arg10 harg10 arg11 harg11 arg12 harg12 arg13 arg14 laneV k

/-- One trip keeps the loop's invariant. -/
theorem wp_trip (k : Fin k0_t1_loop.trips) :
    loopI c arg0 arg3 arg6 arg7 arg8 arg11 arg12 arg13 qs XQ X RS WS arg9 arg10 k.val
      ⊢ (WP c (tripP (F := F) arg0 harg0 arg1 harg1 arg2 harg2 arg3 harg3 arg4 harg4 arg5 harg5 arg6 harg6 arg7 harg7 arg8 harg8 arg9 harg9 arg10 harg10 arg11 harg11 arg12 harg12 arg13 arg14 k) (fun _ => loopI c arg0 arg3 arg6 arg7 arg8 arg11 arg12 arg13 qs XQ X RS WS arg9 arg10 (k.val + 1)) : sProp 𝕄) := by
  unfold tripP
  exact wp_body c arg0 harg0 arg1 harg1 arg2 harg2 arg3 harg3 arg4 harg4 arg5 harg5 arg6 harg6 arg7 harg7 arg8 harg8 arg9 harg9 arg10 harg10 arg11 harg11 arg12 harg12 arg13 arg14 qs XQ X RS WS k

end Loop

/-- A loop by its invariant. -/
theorem wp_loopI (c : Dev nD) (I : ℕ → sProp 𝕄) (body : Fin k0_t1_loop.trips → PUnit → Pg F PUnit)
    (hb : ∀ (k : Fin k0_t1_loop.trips) (acc : PUnit), I k.val ⊢ WP c (body k acc) (fun _ => I (k.val + 1))) :
    I 0 ⊢ (WP c (Scf.Loop.for k0_t1_loop k0_t1_ok PUnit.unit body) (fun _ => I k0_t1_loop.trips) : sProp 𝕄) := by
  have h := Scf.wp_for frame (wpE (defs₀ (F := F)) Variants.none (c : Thread nD τ) none) Set.univ k0_t1_loop.lb k0_t1_loop.ub k0_t1_loop.st k0_t1_ok PUnit.unit
    body (fun i _ => I i) hb (Q := fun _ => I k0_t1_loop.trips)
  iintro H
  iapply h
  isplitl [H]; · iexact H
  iintro %_ H
  iexact H

section Loop

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (RS : S96x128.Idx → F .f32) (WS : S256x128.Idx → F .f32)

/-- The loop runs from its first state to its last, as fifteen trips. -/
theorem wp_loop0 :
    loopI c arg0 arg3 arg6 arg7 arg8 arg11 arg12 arg13 qs XQ X RS WS arg9 arg10 0
      ⊢ (WP c (Scf.Loop.for k0_t1_loop k0_t1_ok PUnit.unit (fun k _ => tripP (F := F) arg0 harg0 arg1 harg1 arg2 harg2 arg3 harg3 arg4 harg4 arg5 harg5 arg6 harg6 arg7 harg7 arg8 harg8 arg9 harg9 arg10 harg10 arg11 harg11 arg12 harg12 arg13 arg14 k))
        (fun _ => loopI c arg0 arg3 arg6 arg7 arg8 arg11 arg12 arg13 qs XQ X RS WS arg9 arg10 k0_t1_loop.trips) : sProp 𝕄) :=
  wp_loopI c (fun i => loopI c arg0 arg3 arg6 arg7 arg8 arg11 arg12 arg13 qs XQ X RS WS arg9 arg10 i) (fun k _ => tripP (F := F) arg0 harg0 arg1 harg1 arg2 harg2 arg3 harg3 arg4 harg4 arg5 harg5 arg6 harg6 arg7 harg7 arg8 harg8 arg9 harg9 arg10 harg10 arg11 harg11 arg12 harg12 arg13 arg14 k)
    (fun k _ => wp_trip c arg0 harg0 arg1 harg1 arg2 harg2 arg3 harg3 arg4 harg4 arg5 harg5 arg6 harg6 arg7 harg7 arg8 harg8 arg9 harg9 arg10 harg10 arg11 harg11 arg12 harg12 arg13 arg14 qs XQ X RS WS k)

/-- The printed loop runs from its first state to its last. -/
theorem wp_loop :
    loopI c arg0 arg3 arg6 arg7 arg8 arg11 arg12 arg13 qs XQ X RS WS arg9 arg10 0
      ⊢ (WP c (Scf.Loop.for k0_t1_loop k0_t1_ok PUnit.unit (fun k _ => tripP (F := F) arg0 harg0 arg1 harg1 arg2 harg2 arg3 harg3 arg4 harg4 arg5 harg5 arg6 harg6 arg7 harg7 arg8 harg8 arg9 harg9 arg10 harg10 arg11 harg11 arg12 harg12 arg13 arg14 k))
        (fun _ => loopI c arg0 arg3 arg6 arg7 arg8 arg11 arg12 arg13 qs XQ X RS WS arg9 arg10 15) : sProp 𝕄) := by
  have h := wp_loop0 c arg0 harg0 arg1 harg1 arg2 harg2 arg3 harg3 arg4 harg4 arg5 harg5 arg6 harg6 arg7 harg7 arg8 harg8 arg9 harg9 arg10 harg10 arg11 harg11 arg12 harg12 arg13 arg14 qs XQ X RS WS
  have e : loopI c arg0 arg3 arg6 arg7 arg8 arg11 arg12 arg13 qs XQ X RS WS arg9 arg10 k0_t1_loop.trips
    = loopI c arg0 arg3 arg6 arg7 arg8 arg11 arg12 arg13 qs XQ X RS WS arg9 arg10 15 := congrArg _ trips_eq
  rwa [e] at h

end Loop

end Cert.Kernel.Hand

end
-- ==== Proof.KTop.lean ====
module

public import proofs.«01_k».proof.Proof.KRun
public import proofs.«01_k».proof.Proof.KTrip

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring as its four slots -/

section Slots

variable (c : Dev nD) (ring : Memref sig .tc .vmem S4x1024x4096 .fp8e4m3)

/-- The positions of the ring that slot `s` covers. -/
theorem slot_set (s : Fin 4) :
    (slotM ring s).view.set = (ring.view.slice (Rect.unit (s := S4x1024x4096) ![s.val, 0, 0] S1x1024x4096.size (inbSlot s))).set :=
  View.set_reshape _ _

/-- A slot lies inside the ring. -/
theorem slot_sub (s : Fin 4) : (slotM ring s).view.set ⊆ ring.view.set := by
  rw [slot_set]; exact View.set_slice_subset _ _

/-- Two slots do not overlap. -/
theorem slot_disj (s t : Fin 4) (h : s ≠ t) : Disjoint (slotM ring s).view.set (slotM ring t).view.set := by
  rw [slot_set, slot_set]
  have hv : s.val ≠ t.val := fun e => h (Fin.ext e)
  refine View.disjoint_slice_of_sep _ _ _ (0 : Fin 3) rfl rfl ?_
  show s.val + 1 ≤ t.val ∨ t.val + 1 ≤ s.val
  omega

/-- The elements of the ring outside its first slots. -/
abbrev rst1 := ring.view.set \ (slotM ring 0).view.set
/-- The ring without slots 0 and 1. -/
abbrev rst2 := rst1 ring \ (slotM ring 1).view.set
/-- The ring without slots 0, 1 and 2. -/
abbrev rst3 := rst2 ring \ (slotM ring 2).view.set

/-- Slot 1 lies in the ring without slot 0. -/
theorem sub1 : (slotM ring 1).view.set ⊆ rst1 ring :=
  Finset.subset_sdiff.2 ⟨slot_sub ring 1, slot_disj ring 1 0 (by decide)⟩
/-- Slot 2 lies in what slots 0 and 1 leave. -/
theorem sub2 : (slotM ring 2).view.set ⊆ rst2 ring :=
  Finset.subset_sdiff.2 ⟨Finset.subset_sdiff.2 ⟨slot_sub ring 2, slot_disj ring 2 0 (by decide)⟩, slot_disj ring 2 1 (by decide)⟩
/-- Slot 3 lies in what slots 0, 1 and 2 leave. -/
theorem sub3 : (slotM ring 3).view.set ⊆ rst3 ring :=
  Finset.subset_sdiff.2 ⟨Finset.subset_sdiff.2 ⟨Finset.subset_sdiff.2 ⟨slot_sub ring 3, slot_disj ring 3 0 (by decide)⟩,
    slot_disj ring 3 1 (by decide)⟩, slot_disj ring 3 2 (by decide)⟩

/-- What the four slots leave of the ring. -/
def leftR : sProp 𝕄 :=
  iprop(∃ f : ring.view.ty.Contents (Elt F), ring.view.loc (c : Thread nD τ) ↦[rst3 ring \ (slotM ring 3).view.set]{fullShare} f)

/-- A slot's elements at some contents. -/
def ptS (s : Fin 4) : sProp 𝕄 :=
  iprop(∃ f : ring.view.ty.Contents (Elt F), ring.view.loc (c : Thread nD τ) ↦[(slotM ring s).view.set]{fullShare} f)

/-- The points-to of a slot as its ownership. -/
theorem ptS_owns (s : Fin 4) : ptS c ring s ⊢ (iprop(∃ Y, owns (c : Thread nD τ) (slotM ring s) fullShare Y) : sProp 𝕄) := by
  unfold ptS
  iintro ⟨%f, H⟩
  iexists (slotM ring s).view.read (Elt F) f
  have e : (ring.view.loc (c : Thread nD τ) ↦[(slotM ring s).view.set]{fullShare} f : sProp 𝕄)
    ⊢ owns (c : Thread nD τ) (slotM ring s) fullShare ((slotM ring s).view.read (Elt F) f) := owns_of c (slotM ring s) fullShare rfl
  iapply e; iexact H

/-- The ownership of a slot as its points-to. -/
theorem owns_ptS (s : Fin 4) : (iprop(∃ Y, owns (c : Thread nD τ) (slotM ring s) fullShare Y) : sProp 𝕄) ⊢ ptS c ring s := by
  unfold ptS
  iintro ⟨%Y, H⟩
  ihave H := (owns_elim c _ _ _) $$ H
  icases H with ⟨%f, -, H⟩
  iexists f
  iexact H

/-- The ring splits into its four slots. -/
theorem ring_split : (iprop(∃ Y, owns (c : Thread nD τ) ring fullShare Y) : sProp 𝕄)
    ⊢ iprop(ptS c ring 0 ∗ ptS c ring 1 ∗ ptS c ring 2 ∗ ptS c ring 3 ∗ leftR c ring) := by
  unfold ptS leftR
  iintro ⟨%Y, H⟩
  ihave H := (owns_elim c _ _ _) $$ H
  icases H with ⟨%f, -, H⟩
  ihave H := (pointsTo_split_subset (slot_sub ring 0)).1 $$ H
  icases H with ⟨H0, H⟩
  ihave H := (pointsTo_split_subset (sub1 ring)).1 $$ H
  icases H with ⟨H1, H⟩
  ihave H := (pointsTo_split_subset (sub2 ring)).1 $$ H
  icases H with ⟨H2, H⟩
  ihave H := (pointsTo_split_subset (sub3 ring)).1 $$ H
  icases H with ⟨H3, H⟩
  isplitl [H0]; · iexists f; iexact H0
  isplitl [H1]; · iexists f; iexact H1
  isplitl [H2]; · iexists f; iexact H2
  isplitl [H3]; · iexists f; iexact H3
  iexists f; iexact H

/-- The four slots join to the ring. -/
theorem ring_join : iprop(ptS c ring 0 ∗ ptS c ring 1 ∗ ptS c ring 2 ∗ ptS c ring 3 ∗ leftR c ring)
    ⊢ (iprop(∃ Y, owns (c : Thread nD τ) ring fullShare Y) : sProp 𝕄) := by
  unfold ptS leftR
  iintro ⟨⟨%f0, H0⟩, ⟨%f1, H1⟩, ⟨%f2, H2⟩, ⟨%f3, H3⟩, %f, H⟩
  ihave H := (pointsTo_join_subset (ℓ := ring.view.loc (c : Thread nD τ)) (sub3 ring)) $$ [H3 H]
  · isplitl [H3]; · iexact H3
    iexact H
  ihave H := (pointsTo_join_subset (ℓ := ring.view.loc (c : Thread nD τ)) (sub2 ring)) $$ [H2 H]
  · isplitl [H2]; · iexact H2
    iexact H
  ihave H := (pointsTo_join_subset (ℓ := ring.view.loc (c : Thread nD τ)) (sub1 ring)) $$ [H1 H]
  · isplitl [H1]; · iexact H1
    iexact H
  ihave H := (pointsTo_join_subset (ℓ := ring.view.loc (c : Thread nD τ)) (slot_sub ring 0)) $$ [H0 H]
  · isplitl [H0]; · iexact H0
    iexact H
  iexists _
  iapply (owns_of c ring fullShare rfl)
  iexact H

end Slots

/-! ## The head in four shares -/

/-- The four slots' shares of the head. -/
def qsV : Fin 4 → PosShare TreeShare :=
  ![(fullShare : PosShare TreeShare).left.left, (fullShare : PosShare TreeShare).left.right,
    (fullShare : PosShare TreeShare).right.left, (fullShare : PosShare TreeShare).right.right]

/-- The head's ownership splits into a share for each slot. -/
theorem head_shares (c : Dev nD) (hbm : Memref sig .tc .hbm S32768x4096 .fp8e4m3) (X : S32768x4096.Idx → Elt F .fp8e4m3) :
    (owns (c : Thread nD τ) hbm fullShare X : sProp 𝕄) ⊣⊢ iprop(owns (c : Thread nD τ) hbm (qsV 0) X ∗ owns (c : Thread nD τ) hbm (qsV 1) X
      ∗ owns (c : Thread nD τ) hbm (qsV 2) X ∗ owns (c : Thread nD τ) hbm (qsV 3) X) := by
  constructor
  · iintro H
    ihave H := (owns_halves _ _ _ _).1 $$ H
    icases H with ⟨H1, H2⟩
    ihave H1 := (owns_halves _ _ _ _).1 $$ H1
    icases H1 with ⟨H0, H1⟩
    ihave H2 := (owns_halves _ _ _ _).1 $$ H2
    icases H2 with ⟨H2, H3⟩
    isplitl [H0]; · iexact H0
    isplitl [H1]; · iexact H1
    isplitl [H2]; · iexact H2
    iexact H3
  · iintro ⟨H0, H1, H2, H3⟩
    iapply (owns_halves _ _ _ _).2
    isplitl [H0 H1]
    · iapply (owns_halves _ _ _ _).2
      isplitl [H0]; · iexact H0
      iexact H1
    · iapply (owns_halves _ _ _ _).2
      isplitl [H2]; · iexact H2
      iexact H3

/-! ## The body -/

section Top

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (XQ : Vec F S96x4096 .fp8e4m3) (X : S32768x4096.Idx → Elt F .fp8e4m3)
  (XS TS : Vec F S72x128 .f32) (WS : S256x128.Idx → F .f32)

/-- What the body needs. -/
def headPre : sProp 𝕄 :=
  iprop(owns (c : Thread nD τ) arg0 fullShare XQ ∗ owns (c : Thread nD τ) arg1 fullShare XS ∗ owns (c : Thread nD τ) arg2 fullShare TS
    ∗ owns (c : Thread nD τ) arg3 fullShare X ∗ owns (c : Thread nD τ) arg4 fullShare WS ∗ (∃ Y, owns (c : Thread nD τ) arg5 fullShare Y)
    ∗ (∃ Y, owns (c : Thread nD τ) arg6 fullShare Y) ∗ (∃ Y, owns (c : Thread nD τ) arg7 fullShare Y) ∗ (∃ Y, owns (c : Thread nD τ) arg8 fullShare Y)
    ∗ (∃ Y, owns (c : Thread nD τ) arg9 fullShare Y) ∗ (∃ Y, owns (c : Thread nD τ) arg10 fullShare Y) ∗ (∃ Y, owns (c : Thread nD τ) arg11 fullShare Y)
    ∗ (∃ Y, owns (c : Thread nD τ) arg12 fullShare Y)
    ∗ semVal ((c : Thread nD τ), semM arg13 0) 0 ∗ semVal ((c : Thread nD τ), semM arg13 1) 0 ∗ semVal ((c : Thread nD τ), semM arg13 2) 0
    ∗ semVal ((c : Thread nD τ), semM arg13 3) 0 ∗ semVal ((c : Thread nD τ), semW arg14) 0 ∗ ∃ W, owes (c : Thread nD τ) 0 W)

/-- What the body leaves. -/
def headPost : sProp 𝕄 :=
  iprop(owns (c : Thread nD τ) arg0 fullShare XQ ∗ owns (c : Thread nD τ) arg1 fullShare XS ∗ owns (c : Thread nD τ) arg2 fullShare TS
    ∗ owns (c : Thread nD τ) arg3 fullShare X ∗ owns (c : Thread nD τ) arg4 fullShare WS ∗ owns (c : Thread nD τ) arg5 fullShare (outV XQ X XS TS WS)
    ∗ (∃ Y, owns (c : Thread nD τ) arg6 fullShare Y) ∗ (∃ Y, owns (c : Thread nD τ) arg7 fullShare Y) ∗ (∃ Y, owns (c : Thread nD τ) arg8 fullShare Y)
    ∗ (∃ Y, owns (c : Thread nD τ) arg9 fullShare Y) ∗ (∃ Y, owns (c : Thread nD τ) arg10 fullShare Y) ∗ (∃ Y, owns (c : Thread nD τ) arg11 fullShare Y)
    ∗ (∃ Y, owns (c : Thread nD τ) arg12 fullShare Y)
    ∗ semVal ((c : Thread nD τ), semM arg13 0) 0 ∗ semVal ((c : Thread nD τ), semM arg13 1) 0 ∗ semVal ((c : Thread nD τ), semM arg13 2) 0
    ∗ semVal ((c : Thread nD τ), semM arg13 3) 0 ∗ semVal ((c : Thread nD τ), semW arg14) 0 ∗ ∃ W, owes (c : Thread nD τ) 0 W)

/-- The last chunk but for its own fold. -/
def lastA : Pg F PUnit := do
  wtW arg3 arg8 arg13 (k0_off1 31#32) (k0_off1_inb 4) (k0_off2 31#32) (k0_off2_inb 4) (k0_off3 31#32) (k0_off3_inb 1)
    (harg3.wordExact_slice rfl _ (k0_off3_wordsfp8e4m3 1)) ((harg8.wordExact_slice rfl _ (k0_off2_wordsfp8e4m3 4)).reshape _ _)
  epi arg6 arg7 arg9 arg11 arg12 laneV (laneW (prevW 31#32) 0#32) (laneW (prevW 31#32) 1#32)
    (fun o => k0_off19 (BitVec.ofNat 32 o.val)) (fun o => k0_off19_inb o)
  mm arg0 arg8 arg10 (k0_off4 31#32) (k0_off4_inb 1)
  Prog.ret ⟨⟩

/-- The end of the kernel in two parts. -/
theorem last_split :
    lastP (F := F) arg0 harg0 arg1 harg1 arg2 harg2 arg3 harg3 arg4 harg4 arg5 harg5 arg6 harg6 arg7 harg7 arg8 harg8 arg9 harg9 arg10 harg10 arg11 harg11 arg12 harg12 arg13 arg14
      = lastA arg0 arg3 harg3 arg6 arg7 arg8 harg8 arg9 arg10 arg11 arg12 arg13 >>= fun _ => (do
          epi arg6 arg7 arg10 arg11 arg12 laneV 62#32 63#32 (fun o => ![248 + o.val, 0]) inbLast
          finP arg0 harg0 arg1 harg1 arg2 harg2 arg3 harg3 arg4 harg4 arg5 harg5 arg6 harg6 arg7 harg7 arg8 harg8 arg9 harg9 arg10 harg10 arg11 harg11 arg12 harg12 arg13 arg14) := by
  unfold lastP lastA
  simp only [bind, Prog.bind_assoc]
  rfl

/-- The last half step and the last epilogue. -/
theorem wp_lastA (RS : S96x128.Idx → F .f32) :
    iprop(role c arg3 arg8 arg13 qsV X 31 ∗ midS c arg0 arg6 arg7 arg11 arg12 XQ X RS WS arg9 arg10 30)
      ⊢ (WP c (lastA arg0 arg3 harg3 arg6 arg7 arg8 harg8 arg9 arg10 arg11 arg12 arg13)
        (fun _ => iprop(freeS c arg3 arg8 arg13 (qsV 3) X 3 ∗ midS c arg0 arg6 arg7 arg11 arg12 XQ X RS WS arg10 arg9 31)) : sProp 𝕄) := by
  unfold lastA
  refine wp_half (QR := iprop(freeS c arg3 arg8 arg13 (qsV 3) X 3 ∗ midS c arg0 arg6 arg7 arg11 arg12 XQ X RS WS arg10 arg9 31)) c arg0 arg3 arg6 arg7 arg8 arg11 arg12 arg13 qsV XQ X RS WS 30 (by decide) arg9 arg10
    off1_31 off2_31 off3_31 lane31.1 lane31.2 off19_30 off4_31 ?_
  iintro H
  iapply (wp_done Variants.none (c : Thread nD τ) none Set.univ)
  iexact H

/-- A slot with no further chunk is free. -/
theorem role_ge (p : ℕ) (s : Fin 4) (hs : sl p = s) (hp : ¬ p < 32) : (role c arg3 arg8 arg13 qsV X p : sProp 𝕄) = freeS c arg3 arg8 arg13 (qsV s) X s := by
  subst hs; unfold role; rw [if_neg hp]

/-- A slot with a further chunk is being filled with it. -/
theorem role_fl (p : ℕ) (s : Fin 4) (f : Fin 32) (hs : sl p = s) (hf : fN p = f) (hp : p < 32) :
    (role c arg3 arg8 arg13 qsV X p : sProp 𝕄) = fltS c arg3 arg8 arg13 (qsV s) X s f := by
  subst hs hf; unfold role; rw [if_pos hp]

/-- The whole kernel runs on its buffers, leaves the result and gives everything back. -/
theorem wp_head :
    headPre c arg0 arg1 arg2 arg3 arg4 arg5 arg6 arg7 arg8 arg9 arg10 arg11 arg12 arg13 arg14 XQ X XS TS WS
      ⊢ (WP c (cc0_spec_head (F := F) arg0 harg0 arg1 harg1 arg2 harg2 arg3 harg3 arg4 harg4 arg5 harg5 arg6 harg6 arg7 harg7 arg8 harg8 arg9 harg9 arg10 harg10 arg11 harg11 arg12 harg12 arg13 arg14)
        (fun _ => headPost c arg0 arg1 arg2 arg3 arg4 arg5 arg6 arg7 arg8 arg9 arg10 arg11 arg12 arg13 arg14 XQ X XS TS WS) : sProp 𝕄) := by
  rw [head_eq]
  unfold headP headPre
  iintro ⟨H0, H1, H2, H3, H4, H5, H6, H7, H8, H9, H10, H11, H12, S0, S1, S2, S3, SW, HO⟩
  ihave H8 := (ring_split c arg8) $$ H8
  icases H8 with ⟨R0, R1, R2, R3, RL⟩
  ihave H3 := (head_shares c arg3 X).1 $$ H3
  icases H3 with ⟨W0, W1, W2, W3⟩
  ihave R0 := (ptS_owns c arg8 0) $$ R0
  ihave R1 := (ptS_owns c arg8 1) $$ R1
  ihave R2 := (ptS_owns c arg8 2) $$ R2
  ihave R3 := (ptS_owns c arg8 3) $$ R3
  iapply (wp_then Variants.none (c : Thread nD τ) none Set.univ (wp_start c arg0 harg0 arg1 harg1 arg2 harg2 arg3 harg3 arg4 harg4 arg5 harg5 arg6 harg6 arg7 harg7 arg8 harg8 arg9 harg9 arg10 harg10 arg11 harg11 arg12 harg12 arg13 arg14 qsV X WS)) $$ [H4 H7 SW R0 S0 W0 R1 S1 W1 R2 S2 W2 R3 S3 W3]
  · isplitl [H4]; · iexact H4
    isplitl [H7]; · iexact H7
    isplitl [SW]; · iexact SW
    unfold freeS
    isplitl [R0 S0 W0]
    · isplitl [R0]; · iexact R0
      isplitl [S0]; · iexact S0
      iexact W0
    isplitl [R1 S1 W1]
    · isplitl [R1]; · iexact R1
      isplitl [S1]; · iexact S1
      iexact W1
    isplitl [R2 S2 W2]
    · isplitl [R2]; · iexact R2
      isplitl [S2]; · iexact S2
      iexact W2
    · isplitl [R3]; · iexact R3
      isplitl [S3]; · iexact S3
      iexact W3
  iintro %_ ⟨HF, F0, F1, F2, F3⟩
  iapply (wp_then Variants.none (c : Thread nD τ) none Set.univ (wp_init c arg0 harg0 arg1 harg1 arg2 harg2 arg3 harg3 arg4 harg4 arg5 harg5 arg6 harg6 arg7 harg7 arg8 harg8 arg9 harg9 arg10 harg10 arg11 harg11 arg12 harg12 arg13 arg14 XS TS WS)) $$ [HF HO H1 H2 H6 H11 H12]
  · isplitl [HF]; · iexact HF
    isplitl [HO]; · iexact HO
    isplitl [H1]; · iexact H1
    isplitl [H2]; · iexact H2
    isplitl [H6]; · iexact H6
    isplitl [H11]; · iexact H11
    iexact H12
  iintro %_ ⟨H4, H7, SW, HO, H1, H2, H6, H11, H12⟩
  iapply (wp_then Variants.none (c : Thread nD τ) none Set.univ (wp_first c arg0 harg0 arg1 harg1 arg2 harg2 arg3 harg3 arg4 harg4 arg5 harg5 arg6 harg6 arg7 harg7 arg8 harg8 arg9 harg9 arg10 harg10 arg11 harg11 arg12 harg12 arg13 arg14 qsV XQ X)) $$ [F0 HO H0 H9]
  · isplitl [F0]; · iexact F0
    isplitl [HO]; · iexact HO
    isplitl [H0]; · iexact H0
    iexact H9
  iintro %_ ⟨F0, HO, H0, H9⟩
  iapply (wp_then Variants.none (c : Thread nD τ) none Set.univ (wp_loop c arg0 harg0 arg1 harg1 arg2 harg2 arg3 harg3 arg4 harg4 arg5 harg5 arg6 harg6 arg7 harg7 arg8 harg8 arg9 harg9 arg10 harg10 arg11 harg11 arg12 harg12 arg13 arg14 qsV XQ X (rsV XS TS) WS)) $$ [F0 F1 F2 F3 HO H0 H6 H7 H9 H11 H12 H10]
  · unfold loopI
    rw [role_fl c arg3 arg8 arg13 X (2 * 0 + 1) 1 1 (by decide) (by decide) (by decide),
      role_fl c arg3 arg8 arg13 X (2 * 0 + 2) 2 2 (by decide) (by decide) (by decide),
      role_fl c arg3 arg8 arg13 X (2 * 0 + 3) 3 3 (by decide) (by decide) (by decide),
      role_fl c arg3 arg8 arg13 X (2 * 0 + 4) 0 4 (by decide) (by decide) (by decide)]
    isplitl [F1]; · iexact F1
    isplitl [F2]; · iexact F2
    isplitl [F3]; · iexact F3
    isplitl [F0]; · iexact F0
    unfold midS foldO
    isplitl [HO]; · iexact HO
    isplitl [H0]; · iexact H0
    isplitr [H10]
    · isplitl [H6]; · iexact H6
      isplitl [H7]; · iexact H7
      isplitl [H9]; · iexact H9
      isplitl [H11]; · iexact H11
      iexact H12
    · iexact H10
  iintro %_ HI
  unfold loopI
  rw [role_ge c arg3 arg8 arg13 X (2 * 15 + 2) 0 (by decide) (by decide),
    role_ge c arg3 arg8 arg13 X (2 * 15 + 3) 1 (by decide) (by decide),
    role_ge c arg3 arg8 arg13 X (2 * 15 + 4) 2 (by decide) (by decide)]
  icases HI with ⟨F3, F0, F1, F2, HM⟩
  rw [last_split]
  iapply (wp_then Variants.none (c : Thread nD τ) none Set.univ (wp_lastA c arg0 arg3 harg3 arg6 arg7 arg8 harg8 arg9 arg10 arg11 arg12 arg13 XQ X WS (rsV XS TS))) $$ [F3 HM]
  · isplitl [F3]; · iexact F3
    iexact HM
  iintro %_ HL
  iapply (wp_wand_r frame (wpE (defs₀ (F := F)) Variants.none (c : Thread nD τ) none) Set.univ)
  isplitl [HL H5]
  · iapply (wp_tail c arg0 harg0 arg1 harg1 arg2 harg2 arg3 harg3 arg4 harg4 arg5 harg5 arg6 harg6 arg7 harg7 arg8 harg8 arg9 harg9 arg10 harg10 arg11 harg11 arg12 harg12 arg13 arg14 qsV XQ X (rsV XS TS) WS)
    isplitl [HL]; · iexact HL
    iexact H5
  iintro %_ HQ
  unfold lastQ
  icases HQ with ⟨F3, HO, H0, H6, H7, H9, H10, H11, H12, H5⟩
  unfold freeS
  icases F0 with ⟨R0, S0, W0⟩
  icases F1 with ⟨R1, S1, W1⟩
  icases F2 with ⟨R2, S2, W2⟩
  icases F3 with ⟨R3, S3, W3⟩
  unfold headPost
  isplitl [H0]; · iexact H0
  isplitl [H1]; · iexact H1
  isplitl [H2]; · iexact H2
  isplitl [W0 W1 W2 W3]
  · iapply (head_shares c arg3 X).2
    isplitl [W0]; · iexact W0
    isplitl [W1]; · iexact W1
    isplitl [W2]; · iexact W2
    iexact W3
  isplitl [H4]; · iexact H4
  isplitl [H5]; · unfold outV; iexact H5
  isplitl [H6]; · iexists _; iexact H6
  isplitl [H7]; · iexists _; iexact H7
  isplitl [R0 R1 R2 R3 RL]
  · ihave R0 := (owns_ptS c arg8 0) $$ R0
    ihave R1 := (owns_ptS c arg8 1) $$ R1
    ihave R2 := (owns_ptS c arg8 2) $$ R2
    ihave R3 := (owns_ptS c arg8 3) $$ R3
    iapply (ring_join c arg8)
    isplitl [R0]; · iexact R0
    isplitl [R1]; · iexact R1
    isplitl [R2]; · iexact R2
    isplitl [R3]; · iexact R3
    iexact RL
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [SW]; · iexact SW
  iexact HO

end Top

end Cert.Kernel.Hand

end
-- ==== Proof.KFrame.lean ====
module

public import proofs.«01_k».proof.Proof.KTop
public import proofs.«01_k».proof.Proof.Gen.Kernel.Frame

@[expose] public section

set_option maxRecDepth 65536

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands -/

/-- The host program is the launch with its windows, scratch buffers and semaphores. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The head weights, left in HBM. -/
abbrev hbW : Memref sig .tc .hbm S32768x4096 .fp8e4m3 := Memref.whole main_arg3
/-- The column scales, left in HBM. -/
abbrev hbS : Memref sig .tc .hbm S256x128 .f32 := Memref.whole main_v4
/-- Scratch: the row scales. -/
abbrev sc0 : Memref sig .tc .vmem S96x128 .f32 := Memref.whole cc0_scratch0
/-- Scratch: the column scales. -/
abbrev sc1 : Memref sig .tc .vmem S256x128 .f32 := Memref.whole cc0_scratch1
/-- Scratch: the ring of four chunks. -/
abbrev sc2 : Memref sig .tc .vmem S4x1024x4096 .fp8e4m3 := Memref.whole cc0_scratch2
/-- Scratch: the accumulator of even chunks. -/
abbrev sc3 : Memref sig .tc .vmem S96x1024 .f32 := Memref.whole cc0_scratch3
/-- Scratch: the accumulator of odd chunks. -/
abbrev sc4 : Memref sig .tc .vmem S96x1024 .f32 := Memref.whole cc0_scratch4
/-- Scratch: the tile sums. -/
abbrev sc5 : Memref sig .tc .vmem S72x128 .f32 := Memref.whole cc0_scratch5
/-- Scratch: the tile maxima. -/
abbrev sc6 : Memref sig .tc .vmem S72x128 .f32 := Memref.whole cc0_scratch6

/-- The body's own cells: the four of the ring and the three of the input copies. -/
abbrev osem0 : Fin 7 → SemLoc sig := fun j =>
  (![SemLoc.dma 4, SemLoc.dma 5, SemLoc.dma 6, SemLoc.dma 7, SemLoc.dma 8, SemLoc.dma 9, SemLoc.dma 10] : Fin 7 → SemLoc sig) j

/-- The side conditions of the launch on its own semaphores. -/
theorem ownSemFacts0 : Pipeline.OwnSemFacts spec0 osem0 := by decide

/-- The launch's own semaphores, one by one, all at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semM cc0_scratch7 0) 0 ∗ semVal ((c : Thread nD τ), semM cc0_scratch7 1) 0
          ∗ semVal ((c : Thread nD τ), semM cc0_scratch7 2) 0 ∗ semVal ((c : Thread nD τ), semM cc0_scratch7 3) 0
          ∗ semVal ((c : Thread nD τ), SemLoc.dma 8) 0 ∗ semVal ((c : Thread nD τ), SemLoc.dma 9) 0
          ∗ semVal ((c : Thread nD τ), semW cc0_scratch8) 0) := by
  have e0 : semM cc0_scratch7 0 = SemLoc.dma 4 := by decide
  have e1 : semM cc0_scratch7 1 = SemLoc.dma 5 := by decide
  have e2 : semM cc0_scratch7 2 = SemLoc.dma 6 := by decide
  have e3 : semM cc0_scratch7 3 = SemLoc.dma 7 := by decide
  have e4 : semW cc0_scratch8 = SemLoc.dma 10 := by decide
  rw [e0, e1, e2, e3, e4, Pipeline.ownSems0_eq_of_list c osem0 [0, 1, 2, 3, 4, 5, 6] (by decide) (by decide)]; rfl

/-- The buffers the body reads itself. -/
def H0 : Finset (Ref sig .tc) := {main_arg3, main_v4}
/-- The arrays left in HBM are no windows. -/
theorem H0_sub : H0 ⊆ Pipeline.restRefs sig spec0 := by decide

/-- The ownership of the arrays left in HBM, one by one. -/
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_v4) ↦{fullShare} V m c main_v4)) := by
  rw [BI.bigSep_eq_bigSepL_of_eq [main_arg3, main_v4] (by decide) (by decide)]; rfl

/-- What the launch hands its grid point beside the windows, one by one. -/
theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d)
                ∗ (∃ d, owns (c : Thread nD τ) sc2 fullShare d) ∗ (∃ d, owns (c : Thread nD τ) sc3 fullShare d)
                ∗ (∃ d, owns (c : Thread nD τ) sc4 fullShare d) ∗ (∃ d, owns (c : Thread nD τ) sc5 fullShare d)
                ∗ (∃ d, owns (c : Thread nD τ) sc6 fullShare d))
          ∗ (∃ r, prngReg c r)
          ∗ iprop(semVal ((c : Thread nD τ), semM cc0_scratch7 0) 0 ∗ semVal ((c : Thread nD τ), semM cc0_scratch7 1) 0
              ∗ semVal ((c : Thread nD τ), semM cc0_scratch7 2) 0 ∗ semVal ((c : Thread nD τ), semM cc0_scratch7 3) 0
              ∗ semVal ((c : Thread nD τ), SemLoc.dma 8) 0 ∗ semVal ((c : Thread nD τ), SemLoc.dma 9) 0
              ∗ semVal ((c : Thread nD τ), semW cc0_scratch8) 0)
          ∗ iprop(owns (c : Thread nD τ) hbW fullShare (V m c main_arg3) ∗ owns (c : Thread nD τ) hbS fullShare (V m c main_v4))) := by
  rw [Pipeline.ΦD_eq, scopedRest0_eq, ownSems00_eq, hbmPts0_eq]
  simp only [sc0, sc1, sc2, sc3, sc4, sc5, sc6, hbW, hbS, owns_whole]; try rfl

/-! ## The pipeline's data -/

/-- The result of core `c`. -/
def resV (c : Dev nD) (t : Fin cfg0.N) : Vec F S72x128 .f32 :=
  outV (iblk m c 0 t) (V m c main_arg3) (iblk m c 1 t) (iblk m c 2 t) (V m c main_v4)

/-- The contents of the windows before and after the one grid point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resV m c t
  Φ _ := Pipeline.ΦD osem0 spec0 H0 (V m) c
  q _ := fullShare
  owed _ := 0

/-- The windows start from what the host program left in their arrays. -/
theorem A_eq (c : Dev nD) (w : Fin cfg0.W) : (dats m 0 c).A w = V m c (Pipeline.arrRef spec0 w) := by
  dsimp only [dats]
/-- What a window holds after the grid point. -/
theorem after0_0 (c : Dev nD) (t : Fin cfg0.N) : (dats m 0 c).after 0 t = iblk m c 0 t := by dsimp only [dats]
/-- What a window holds after the grid point. -/
theorem after0_1 (c : Dev nD) (t : Fin cfg0.N) : (dats m 0 c).after 1 t = iblk m c 1 t := by dsimp only [dats]
/-- What a window holds after the grid point. -/
theorem after0_2 (c : Dev nD) (t : Fin cfg0.N) : (dats m 0 c).after 2 t = iblk m c 2 t := by dsimp only [dats]
/-- What a window holds after the grid point. -/
theorem after0_3 (c : Dev nD) (t : Fin cfg0.N) : (dats m 0 c).after 3 t = resV m c t := by dsimp only [dats]

/-- What a window holds before the grid point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- What a window holds before the grid point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- What a window holds before the grid point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What holds before the body of the grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What holds after the body of the grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body of the grid point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold resV
  iintro ⟨⟨⟨P0, P1, P2, P3, P4, P5, P6⟩, Hg, ⟨S0, S1, S2, S3, S8, S9, SW⟩, ⟨HW, HS⟩⟩, ⟨%W, -, HO⟩, ⟨%d0, H0⟩, ⟨%d1, H1⟩, ⟨%d2, H2⟩, ⟨%d3, H3⟩⟩
  iapply (wp_wand_r frame (wpE (defs₀ (F := F)) Variants.none (c : Thread nD τ) none) Set.univ)
  isplitl [P0 P1 P2 P3 P4 P5 P6 S0 S1 S2 S3 SW HW HS HO H0 H1 H2 H3]
  · iapply (wp_head c _ _ _ _ _ _ _ _ _ _ _ _ _ _ _ _ _ _ _ _ _ _ _ _ _ _ _ _ (iblk m c 0 t) (V m c main_arg3) (iblk m c 1 t) (iblk m c 2 t) (V m c main_v4))
    unfold headPre
    isplitl [H0]; · iexact H0
    isplitl [H1]; · iexact H1
    isplitl [H2]; · iexact H2
    isplitl [HW]; · iexact HW
    isplitl [HS]; · iexact HS
    isplitl [H3]; · iexists _; iexact H3
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [S0]; · iexact S0
    isplitl [S1]; · iexact S1
    isplitl [S2]; · iexact S2
    isplitl [S3]; · iexact S3
    isplitl [SW]; · iexact SW
    iexists W; iexact HO
  iintro %_ HP
  unfold headPost
  icases HP with ⟨H0, H1, H2, HW, HS, H3, P0, P1, P2, P3, P4, P5, P6, S0, S1, S2, S3, SW, ⟨%W', HO⟩⟩
  isplitr [HO H0 H1 H2 H3]
  · isplitl [P0 P1 P2 P3 P4 P5 P6]
    · isplitl [P0]; · iexact P0
      isplitl [P1]; · iexact P1
      isplitl [P2]; · iexact P2
      isplitl [P3]; · iexact P3
      isplitl [P4]; · iexact P4
      isplitl [P5]; · iexact P5
      iexact P6
    isplitl [Hg]; · iexact Hg
    isplitl [S0 S1 S2 S3 S8 S9 SW]
    · isplitl [S0]; · iexact S0
      isplitl [S1]; · iexact S1
      isplitl [S2]; · iexact S2
      isplitl [S3]; · iexact S3
      isplitl [S8]; · iexact S8
      isplitl [S9]; · iexact S9
      iexact SW
    isplitl [HW]; · iexact HW
    iexact HS
  isplitl [HO]
  · iexists W'; isplitr; · ipureintro; exact fun _ _ => Or.inl trivial
    iexact HO
  isplitl [H0]; · iexact H0
  isplitl [H1]; · iexact H1
  isplitl [H2]; · iexact H2
  iexact H3

/-- The launch's table of bodies, at its one grid point. -/
theorem defs₀_row (t : Fin cfg0.N) :
    defs₀ (F := F) .tc cfg0.body (cfg0.bodyArgs t (cfg0.slots t)) = bodyAt0 t := by
  unfold defs₀; rw [Defs.onTc_tc]

/-- The obligation of the launch on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs and leaves what the launch's postcondition says. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The result and the arguments after the run. -/
theorem run_blocks : θ_run defs (onTc (τ := τ) (main (F := F))) ⟨m, fun _ => 0, ρ⟩ (fun r => (∀ c : Dev nD,
      r.2.mem ((c.tc : Thread nD τ).loc main_v5) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

/-- The frame: the arguments as launched and every semaphore at zero. -/
theorem frameH : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_blocks m ρ)

end Cert.Kernel.Hand

end
-- ==== Proof.KIProg.lean ====
module

public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.SL.Sem

variable {F : FTy → Type} [FloatOps F]

/-- A program of the kernel's core. -/
abbrev Pg (F : FTy → Type) [FloatOps F] (α : Type) := Prog (TpuEff nD τ sig (Elt F) Λ₀ .tc) α

/-! ## The values of one tile -/

/-- One chunk of 128 vocabulary columns of eight rows: the dot products times the row scales times the column scales. -/
def s2v (a x : Vec F S8x128 .f32) (w : Vec F S1x128 .f32) : FVec F S8x128 .f32 :=
  mulf (mulf a x) (broadcastTo S8x128 w broadcasts_S1x128_S8x128)

/-- The ceiling of the row maxima of a tile of four chunks. -/
def tmax (s0 s1 s2 s3 : FVec F S8x128 .f32) : FVec F S8x1 .f32 :=
  ceil (shapeCast S8x1 (multiReduction .maximumf [1] S8 (maximumf (maximumf s0 s1) (maximumf s2 s3)) 0xFF800000#32
    reduces_S8x128_S8 (.inl rfl) rfl) shapeCasts_S8_S8x1)

/-- One chunk's powers of two, the tile's maximum taken off. -/
def tex (s : FVec F S8x128 .f32) (m : FVec F S8x1 .f32) : FVec F S8x128 .f32 :=
  exp2 (subf s (broadcastTo S8x128 m broadcasts_S8x1_S8x128))

/-- The row sums of a tile's powers of two. -/
def tsum (s0 s1 s2 s3 : FVec F S8x128 .f32) (m : FVec F S8x1 .f32) : FVec F S8x1 .f32 :=
  shapeCast S8x1 (multiReduction .add [1] S8 (addf (addf (tex s0 m) (tex s1 m)) (addf (tex s2 m) (tex s3 m))) 0x00000000#32
    reduces_S8x128_S8 (.inl rfl) rfl) shapeCasts_S8_S8x1

/-- Put a column of eight values into the lane whose number is `b`. -/
def put (lane : IVec S8x128 32) (b : BitVec 32) (x : FVec F S8x1 .f32) (prev : FVec F S8x128 .f32) : FVec F S8x128 .f32 :=
  select (cmpi .eq lane (broadcast S8x128 b))
    (broadcastTo S8x128 (shapeCast S8x1 x shapeCasts_S8x1_S8x1) broadcasts_S8x1_S8x128) prev

/-- Eight chunks, two tiles: the sums, put into their lanes. -/
def newD (lane : IVec S8x128 32) (b0 b1 : BitVec 32) (s0 s1 s2 s3 s4 s5 s6 s7 : FVec F S8x128 .f32) (d : FVec F S8x128 .f32) : FVec F S8x128 .f32 :=
  put lane b1 (tsum s4 s5 s6 s7 (tmax s4 s5 s6 s7)) (put lane b0 (tsum s0 s1 s2 s3 (tmax s0 s1 s2 s3)) d)

/-- Eight chunks, two tiles: the maxima, put into their lanes. -/
def newM (lane : IVec S8x128 32) (b0 b1 : BitVec 32) (s0 s1 s2 s3 s4 s5 s6 s7 : FVec F S8x128 .f32) (d : FVec F S8x128 .f32) : FVec F S8x128 .f32 :=
  put lane b1 (tmax s4 s5 s6 s7) (put lane b0 (tmax s0 s1 s2 s3) d)

/-! ## One group of eight rows -/

/-- A group's rows lie inside the statistics arrays. -/
theorem inbRows (g : Fin 9) : ∀ a, (![8 * g.val, 0] : Fin 2 → ℕ) a + S8x128.size a ≤ S72x128.size a := by
  revert g; decide
/-- A group's rows lie inside the row scales. -/
theorem inbRs (g : Fin 9) : ∀ a, (![8 * g.val, 0] : Fin 2 → ℕ) a + S8x128.size a ≤ S96x128.size a := by
  revert g; decide
/-- A group's block of 128 columns lies inside the accumulator. -/
theorem inbAcc (g : Fin 9) (o : Fin 8) : ∀ a, (![8 * g.val, 128 * o.val] : Fin 2 → ℕ) a + S8x128.size a ≤ S96x1024.size a := by
  revert g o; decide

/-- Load a group's rows of a statistics array. -/
def ldRow (m : Memref sig .tc .vmem S72x128 .f32) (g : Fin 9) : Pg F (Vec F S8x128 .f32) :=
  Prog.lift (.load m (Rect.unit (s := S72x128) ![8 * g.val, 0] S8x128.size (inbRows g)).toLoadRect (View.loadsAt_vmem h_S8x128))
/-- Store a group's rows of a statistics array. -/
def stRow (m : Memref sig .tc .vmem S72x128 .f32) (g : Fin 9) (v : FVec F S8x128 .f32) : Pg F PUnit :=
  Prog.lift (.store m (Rect.unit (s := S72x128) ![8 * g.val, 0] S8x128.size (inbRows g)) v Finset.univ (View.stores_vmem_bits_univ h_S8x128 rfl) (.inl rfl))
/-- Load a group's row scales. -/
def ldRs (m : Memref sig .tc .vmem S96x128 .f32) (g : Fin 9) : Pg F (Vec F S8x128 .f32) :=
  Prog.lift (.load m (Rect.unit (s := S96x128) ![8 * g.val, 0] S8x128.size (inbRs g)).toLoadRect (View.loadsAt_vmem h_S8x128))
/-- Load a group's block of 128 columns of an accumulator. -/
def ldAcc (m : Memref sig .tc .vmem S96x1024 .f32) (g : Fin 9) (o : Fin 8) : Pg F (Vec F S8x128 .f32) :=
  Prog.lift (.load m (Rect.unit (s := S96x1024) ![8 * g.val, 128 * o.val] S8x128.size (inbAcc g o)).toLoadRect (View.loadsAt_vmem h_S8x128))
/-- Load 128 column scales. -/
def ldWs (m : Memref sig .tc .vmem S256x128 .f32) (off : Fin 2 → ℕ) (h : ∀ a, off a + S1x128.size a ≤ S256x128.size a) : Pg F (Vec F S1x128 .f32) :=
  Prog.lift (.load m (Rect.unit (s := S256x128) off S1x128.size h).toLoadRect (View.loadsAt_vmem h_S1x128))

/-- The fold of eight rows of a chunk of the head into the running sums and maxima. -/
def grp (rsM : Memref sig .tc .vmem S96x128 .f32) (wsM : Memref sig .tc .vmem S256x128 .f32)
    (accM : Memref sig .tc .vmem S96x1024 .f32) (dM mM : Memref sig .tc .vmem S72x128 .f32) (lane : IVec S8x128 32)
    (b0 b1 : BitVec 32) (offW : Fin 8 → Fin 2 → ℕ) (hW : ∀ o a, offW o a + S1x128.size a ≤ S256x128.size a) (g : Fin 9) : Pg F PUnit := do
  let x ← ldRs rsM g
  let d ← ldRow dM g
  let mm ← ldRow mM g
  let a0 ← ldAcc accM g 0
  let w0 ← ldWs wsM (offW 0) (hW 0)
  let a1 ← ldAcc accM g 1
  let w1 ← ldWs wsM (offW 1) (hW 1)
  let a2 ← ldAcc accM g 2
  let w2 ← ldWs wsM (offW 2) (hW 2)
  let a3 ← ldAcc accM g 3
  let w3 ← ldWs wsM (offW 3) (hW 3)
  let a4 ← ldAcc accM g 4
  let w4 ← ldWs wsM (offW 4) (hW 4)
  let a5 ← ldAcc accM g 5
  let w5 ← ldWs wsM (offW 5) (hW 5)
  let a6 ← ldAcc accM g 6
  let w6 ← ldWs wsM (offW 6) (hW 6)
  let a7 ← ldAcc accM g 7
  let w7 ← ldWs wsM (offW 7) (hW 7)
  let _ ← ldRow dM g
  stRow dM g (shapeCast S8x128 (newD lane b0 b1 (s2v a0 x w0) (s2v a1 x w1) (s2v a2 x w2) (s2v a3 x w3) (s2v a4 x w4) (s2v a5 x w5) (s2v a6 x w6) (s2v a7 x w7) d) shapeCasts_S8x128_S8x128)
  let _ ← ldRow mM g
  stRow mM g (shapeCast S8x128 (newM lane b0 b1 (s2v a0 x w0) (s2v a1 x w1) (s2v a2 x w2) (s2v a3 x w3) (s2v a4 x w4) (s2v a5 x w5) (s2v a6 x w6) (s2v a7 x w7) mm) shapeCasts_S8x128_S8x128)

/-- The fold of all 72 rows of a chunk. -/
def epi (rsM : Memref sig .tc .vmem S96x128 .f32) (wsM : Memref sig .tc .vmem S256x128 .f32)
    (accM : Memref sig .tc .vmem S96x1024 .f32) (dM mM : Memref sig .tc .vmem S72x128 .f32) (lane : IVec S8x128 32)
    (b0 b1 : BitVec 32) (offW : Fin 8 → Fin 2 → ℕ) (hW : ∀ o a, offW o a + S1x128.size a ≤ S256x128.size a) : Pg F PUnit := do
  grp rsM wsM accM dM mM lane b0 b1 offW hW 0
  grp rsM wsM accM dM mM lane b0 b1 offW hW 1
  grp rsM wsM accM dM mM lane b0 b1 offW hW 2
  grp rsM wsM accM dM mM lane b0 b1 offW hW 3
  grp rsM wsM accM dM mM lane b0 b1 offW hW 4
  grp rsM wsM accM dM mM lane b0 b1 offW hW 5
  grp rsM wsM accM dM mM lane b0 b1 offW hW 6
  grp rsM wsM accM dM mM lane b0 b1 offW hW 7
  grp rsM wsM accM dM mM lane b0 b1 offW hW 8

/-! ## The ring, the products -/

/-- One slot of the ring. -/
def slotV (m : Memref sig .tc .vmem S4x1024x4096 .fp8e4m3) (off : Fin 3 → ℕ) (h : ∀ a, off a + S1x1024x4096.size a ≤ S4x1024x4096.size a) :
    Memref sig .tc .vmem S1024x4096 .fp8e4m3 :=
  (m.slice (Rect.unit (s := S4x1024x4096) off S1x1024x4096.size h) (fun _ => rfl)).squeeze S1024x4096 squeezes_S1x1024x4096_S1024x4096
/-- One chunk of the head. -/
def srcV (m : Memref sig .tc .hbm S32768x4096 .fp8e4m3) (off : Fin 2 → ℕ) (h : ∀ a, off a + S1024x4096.size a ≤ S32768x4096.size a) :
    Memref sig .tc .hbm S1024x4096 .fp8e4m3 :=
  m.slice (Rect.unit (s := S32768x4096) off S1024x4096.size h) (fun _ => rfl)
/-- One semaphore of the ring. -/
def semV (m : DmaSems sig S4) (off : Fin 1 → ℕ) (h : ∀ a, off a + S1.size a ≤ S4.size a) : DmaSems sig S_ :=
  (m.slice (Rect.unit (s := S4) off S1.size h)).squeeze S_ squeezes_S1_S_

/-- Wait for the copy into a ring slot. -/
def wtW (hbm : Memref sig .tc .hbm S32768x4096 .fp8e4m3) (ring : Memref sig .tc .vmem S4x1024x4096 .fp8e4m3) (sems : DmaSems sig S4)
    (o1 : Fin 1 → ℕ) (h1 : ∀ a, o1 a + S1.size a ≤ S4.size a) (o2 : Fin 3 → ℕ) (h2 : ∀ a, o2 a + S1x1024x4096.size a ≤ S4x1024x4096.size a)
    (o3 : Fin 2 → ℕ) (h3 : ∀ a, o3 a + S1024x4096.size a ≤ S32768x4096.size a)
    (e3 : (srcV hbm o3 h3).view.WordExact) (e2 : (slotV ring o2 h2).view.WordExact) : Pg F PUnit :=
  Prog.lift (.waitDma2 (semV sems o1 h1).sem (srcV hbm o3 h3) (slotV ring o2 h2) e3 e2)

/-- Start the copy into a ring slot. -/
def enW (hbm : Memref sig .tc .hbm S32768x4096 .fp8e4m3) (ring : Memref sig .tc .vmem S4x1024x4096 .fp8e4m3) (sems : DmaSems sig S4)
    (o1 : Fin 1 → ℕ) (h1 : ∀ a, o1 a + S1.size a ≤ S4.size a) (o2 : Fin 3 → ℕ) (h2 : ∀ a, o2 a + S1x1024x4096.size a ≤ S4x1024x4096.size a)
    (o3 : Fin 2 → ℕ) (h3 : ∀ a, o3 a + S1024x4096.size a ≤ S32768x4096.size a)
    (e3 : (srcV hbm o3 h3).view.WordExact) (e2 : (slotV ring o2 h2).view.WordExact) : Pg F PUnit :=
  Prog.lift (.enqueueDma (srcV hbm o3 h3) (.here (slotV ring o2 h2)) (.dma (semV sems o1 h1).sem) e3 e2 ⟨Or.inl rfl, trivial⟩)

/-- The products of the codes with the chunk of the head in a ring slot. -/
def mm (xqM : Memref sig .tc .vmem S96x4096 .fp8e4m3) (ring : Memref sig .tc .vmem S4x1024x4096 .fp8e4m3)
    (accM : Memref sig .tc .vmem S96x1024 .f32) (o2 : Fin 3 → ℕ) (h2 : ∀ a, o2 a + S1x1024x4096.size a ≤ S4x1024x4096.size a) : Pg F PUnit := do
  let a ← Prog.lift (.load xqM (Rect.unit (s := S96x4096) ![0, 0] S96x4096.size inb_S96x4096_S96x4096_0_0).toLoadRect (View.loadsAt_vmem h_S96x4096))
  let b ← Prog.lift (.load ring (Rect.unit (s := S4x1024x4096) o2 S1x1024x4096.size h2).toLoadRect (View.loadsAt_vmem h_S1x1024x4096))
  let _ ← Prog.lift (.load accM (Rect.unit (s := S96x1024) ![0, 0] S96x1024.size inb_S96x1024_S96x1024_0_0).toLoadRect (View.loadsAt_vmem h_S96x1024))
  Prog.lift (.store accM (Rect.unit (s := S96x1024) ![0, 0] S96x1024.size inb_S96x1024_S96x1024_0_0) (k0_pay354 a b) Finset.univ (View.stores_vmem_bits_univ h_S96x1024 rfl) (.inl rfl))

end Cert.KernelIdeal.Hand

end
-- ==== Proof.KIBody.lean ====
module

public import proofs.«01_k».proof.Proof.KIProg
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.Tactic Idealize.SL.Sem

variable {F : FTy → Type} [FloatOps F]

/-- A step taken only under a condition. -/
def rf (c : Prop) [Decidable c] (A : c → Pg F PUnit) : Pg F PUnit := if h : c then A h else pure ⟨⟩

/-- The number of the chunk before. -/
def prevW (n : BitVec 32) : BitVec 32 := Scalar.subi n 1#32

/-- The numbers of a chunk's two lanes. -/
def laneW (n t : BitVec 32) : BitVec 32 := Scalar.addi (Scalar.muli n 2#32) t

/-- The number of the chunk that a half of the loop's body takes. -/
def halfW (k : Fin k0_t1_loop.trips) (b : BitVec 32) : BitVec 32 := Scalar.addi (Scalar.muli 2#32 (Scf.iv 0#32 1#32 k)) b

/-- The first half of the loop's body. -/
def half1 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (lane : IVec S8x128 32) (k : Fin k0_t1_loop.trips) : Pg F PUnit := do
  wtW arg3 arg8 arg13 (k0_off8 k 1#32) (k0_off8_inb k 0) (k0_off9 k 1#32) (k0_off9_inb k 0) (k0_off10 k 1#32) (k0_off10_inb k 0)
    (harg3.wordExact_slice rfl _ (k0_off10_wordsfp8e4m3 k 0)) ((harg8.wordExact_slice rfl _ (k0_off9_wordsfp8e4m3 k 0)).reshape _ _)
  epi arg6 arg7 arg9 arg11 arg12 lane (laneW (prevW (halfW k 1#32)) 0#32) (laneW (prevW (halfW k 1#32)) 1#32)
    (fun o => k0_off11 k 1#32 (BitVec.ofNat 32 o.val)) (fun o => k0_off11_inb k 0 o)
  mm arg0 arg8 arg10 (k0_off12 k 1#32) (k0_off12_inb k 0)
  rf (k0_cond2 k = 1#1) fun h => enW arg3 arg8 arg13 (k0_off13 k) (k0_off13_inb k h) (k0_off14 k) (k0_off14_inb k h) (k0_off15 k) (k0_off15_inb k h)
    (harg3.wordExact_slice rfl _ (k0_off15_wordsfp8e4m3 k h)) ((harg8.wordExact_slice rfl _ (k0_off14_wordsfp8e4m3 k h)).reshape _ _)

/-- The second half of the loop's body. -/
def half2 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (lane : IVec S8x128 32) (k : Fin k0_t1_loop.trips) : Pg F PUnit := do
  wtW arg3 arg8 arg13 (k0_off8 k 2#32) (k0_off8_inb k 1) (k0_off9 k 2#32) (k0_off9_inb k 1) (k0_off10 k 2#32) (k0_off10_inb k 1)
    (harg3.wordExact_slice rfl _ (k0_off10_wordsfp8e4m3 k 1)) ((harg8.wordExact_slice rfl _ (k0_off9_wordsfp8e4m3 k 1)).reshape _ _)
  epi arg6 arg7 arg10 arg11 arg12 lane (laneW (prevW (halfW k 2#32)) 0#32) (laneW (prevW (halfW k 2#32)) 1#32)
    (fun o => k0_off11 k 2#32 (BitVec.ofNat 32 o.val)) (fun o => k0_off11_inb k 1 o)
  mm arg0 arg8 arg9 (k0_off12 k 2#32) (k0_off12_inb k 1)
  rf (k0_cond3 k = 1#1) fun h => enW arg3 arg8 arg13 (k0_off16 k) (k0_off16_inb k h) (k0_off17 k) (k0_off17_inb k h) (k0_off18 k) (k0_off18_inb k h)
    (harg3.wordExact_slice rfl _ (k0_off18_wordsfp8e4m3 k h)) ((harg8.wordExact_slice rfl _ (k0_off17_wordsfp8e4m3 k h)).reshape _ _)

set_option maxHeartbeats 4000000 in
/-- The printed loop body is the two half steps, named in their parts. -/
theorem body_eq (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (lane : IVec S8x128 32) (c0 c4 : BitVec 32) (k : Fin k0_t1_loop.trips) :
    k0_t1_body (F := F) arg0 harg0 arg1 harg1 arg2 harg2 arg3 harg3 arg4 harg4 arg5 harg5 arg6 harg6 arg7 harg7 arg8 harg8 arg9 harg9 arg10 harg10 arg11 harg11 arg12 harg12 arg13 arg14 lane c0 c4 k ⟨⟩
      = (do half1 arg0 harg0 arg1 harg1 arg2 harg2 arg3 harg3 arg4 harg4 arg5 harg5 arg6 harg6 arg7 harg7 arg8 harg8 arg9 harg9 arg10 harg10 arg11 harg11 arg12 harg12 arg13 arg14 lane k; half2 arg0 harg0 arg1 harg1 arg2 harg2 arg3 harg3 arg4 harg4 arg5 harg5 arg6 harg6 arg7 harg7 arg8 harg8 arg9 harg9 arg10 harg10 arg11 harg11 arg12 harg12 arg13 arg14 lane k) := by
  by_cases h2 : k0_cond2 k = 1#1 <;> by_cases h3 : k0_cond3 k = 1#1
  · simp only [k0_t1_body, k0_part57_eq_skeleton, k0_part57_skel, k0_part29_eq_skeleton, k0_part29_skel, half1, half2, rf, dif_pos h2, dif_pos h3]
    sl_kernel_rfl
  · simp only [k0_t1_body, k0_part57_eq_skeleton, k0_part57_skel, k0_part29_eq_skeleton, k0_part29_skel, half1, half2, rf, dif_pos h2, dif_neg h3]
    sl_kernel_rfl
  · simp only [k0_t1_body, k0_part57_eq_skeleton, k0_part57_skel, k0_part29_eq_skeleton, k0_part29_skel, half1, half2, rf, dif_neg h2, dif_pos h3]
    sl_kernel_rfl
  · simp only [k0_t1_body, k0_part57_eq_skeleton, k0_part57_skel, k0_part29_eq_skeleton, k0_part29_skel, half1, half2, rf, dif_neg h2, dif_neg h3]
    sl_kernel_rfl

end Cert.KernelIdeal.Hand

end
-- ==== Proof.KIHead.lean ====
module

public import proofs.«01_k».proof.Proof.KIBody

@[expose] public section

set_option maxRecDepth 65536

noncomputable section

namespace Cert.KernelIdeal.Hand

open Cert.KernelIdeal Cert.KernelIdeal.Gen
open Idealize.ShloMosaic Idealize.ShloMosaic.Tactic Idealize.SL.Sem

variable {F : FTy → Type} [FloatOps F]

/-- The lane numbers. -/
abbrev laneV : IVec S8x128 32 := iota .tc S8x128 32 [1] iota_S8x128_d1_w32

/-- The first refill always happens. -/
theorem cond1_pos : k0_cond1 = 1#1 := by decide +kernel
/-- The last refill never happens. -/
theorem cond4_neg : ¬ k0_cond4 = 1#1 := by decide +kernel

/-- The semaphore of the copy of the column scales. -/
def semI (m : DmaSems sig S3) : DmaSems sig S_ :=
  (m.slice (Rect.unit (s := S3) ![2] S1.size inb_S3_S1_2)).squeeze S_ squeezes_S1_S_

/-- The copies started before anything else: the column scales, and the first four chunks of the head. -/
def startP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  Prog.lift (.enqueueDma arg4 (.here arg7) (.dma (semI arg14).sem) harg4.wordExact harg7.wordExact ⟨Or.inl rfl, trivial⟩)
  enW arg3 arg8 arg13 (k0_off1 0#32) (k0_off1_inb 0) (k0_off2 0#32) (k0_off2_inb 0) ![0, 0] inb_S32768x4096_S1024x4096_0_0
    (harg3.wordExact_slice rfl _ wordsfp8e4m3_S32768x4096_S1024x4096_0_0) ((harg8.wordExact_slice rfl _ (k0_off2_wordsfp8e4m3 0)).reshape _ _)
  enW arg3 arg8 arg13 (k0_off1 1#32) (k0_off1_inb 1) (k0_off2 1#32) (k0_off2_inb 1) ![1024, 0] inb_S32768x4096_S1024x4096_1024_0
    (harg3.wordExact_slice rfl _ wordsfp8e4m3_S32768x4096_S1024x4096_1024_0) ((harg8.wordExact_slice rfl _ (k0_off2_wordsfp8e4m3 1)).reshape _ _)
  enW arg3 arg8 arg13 (k0_off1 2#32) (k0_off1_inb 2) (k0_off2 2#32) (k0_off2_inb 2) ![2048, 0] inb_S32768x4096_S1024x4096_2048_0
    (harg3.wordExact_slice rfl _ wordsfp8e4m3_S32768x4096_S1024x4096_2048_0) ((harg8.wordExact_slice rfl _ (k0_off2_wordsfp8e4m3 2)).reshape _ _)
  enW arg3 arg8 arg13 (k0_off1 3#32) (k0_off1_inb 3) (k0_off2 3#32) (k0_off2_inb 3) ![3072, 0] inb_S32768x4096_S1024x4096_3072_0
    (harg3.wordExact_slice rfl _ wordsfp8e4m3_S32768x4096_S1024x4096_3072_0) ((harg8.wordExact_slice rfl _ (k0_off2_wordsfp8e4m3 3)).reshape _ _)

/-- The row scales, the empty sums and maxima, and the wait for the column scales. -/
def initP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  let _ ← Prog.lift (.load arg6 (Rect.unit (s := S96x128) ![0, 0] S96x128.size inb_S96x128_S96x128_0_0).toLoadRect (View.loadsAt_vmem h_S96x128))
  Prog.lift (.store arg6 (Rect.unit (s := S96x128) ![0, 0] S96x128.size inb_S96x128_S96x128_0_0) (k0_pay350 (F := F)) Finset.univ (View.stores_vmem_bits_univ h_S96x128 rfl) (.inl rfl))
  let xs ← Prog.lift (.load arg1 (Rect.unit (s := S72x128) ![0, 0] S72x128.size inb_S72x128_S72x128_0_0).toLoadRect (View.loadsAt_vmem h_S72x128))
  let ts ← Prog.lift (.load arg2 (Rect.unit (s := S72x128) ![0, 0] S72x128.size inb_S72x128_S72x128_0_0).toLoadRect (View.loadsAt_vmem h_S72x128))
  let _ ← Prog.lift (.load arg6 (Rect.unit (s := S96x128) ![0, 0] S72x128.size inb_S96x128_S72x128_0_0).toLoadRect (View.loadsAt_vmem h_S72x128))
  Prog.lift (.store arg6 (Rect.unit (s := S96x128) ![0, 0] S72x128.size inb_S96x128_S72x128_0_0) (k0_pay351 xs ts) Finset.univ (View.stores_vmem_bits_univ h_S72x128 rfl) (.inl rfl))
  let _ ← Prog.lift (.load arg11 (Rect.unit (s := S72x128) ![0, 0] S72x128.size inb_S72x128_S72x128_0_0).toLoadRect (View.loadsAt_vmem h_S72x128))
  Prog.lift (.store arg11 (Rect.unit (s := S72x128) ![0, 0] S72x128.size inb_S72x128_S72x128_0_0) (k0_pay352 (F := F)) Finset.univ (View.stores_vmem_bits_univ h_S72x128 rfl) (.inl rfl))
  let _ ← Prog.lift (.load arg12 (Rect.unit (s := S72x128) ![0, 0] S72x128.size inb_S72x128_S72x128_0_0).toLoadRect (View.loadsAt_vmem h_S72x128))
  Prog.lift (.store arg12 (Rect.unit (s := S72x128) ![0, 0] S72x128.size inb_S72x128_S72x128_0_0) (k0_pay353 (F := F)) Finset.univ (View.stores_vmem_bits_univ h_S72x128 rfl) (.inl rfl))
  Prog.lift (.waitDma2 (semI arg14).sem arg4 arg7 harg4.wordExact harg7.wordExact)

/-- The first chunk's products, and the copy of the fifth chunk started. -/
def firstP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  wtW arg3 arg8 arg13 (k0_off1 0#32) (k0_off1_inb 0) (k0_off2 0#32) (k0_off2_inb 0) (k0_off3 0#32) (k0_off3_inb 0)
    (harg3.wordExact_slice rfl _ (k0_off3_wordsfp8e4m3 0)) ((harg8.wordExact_slice rfl _ (k0_off2_wordsfp8e4m3 0)).reshape _ _)
  mm arg0 arg8 arg9 (k0_off4 0#32) (k0_off4_inb 0)
  enW arg3 arg8 arg13 k0_off5 (k0_off5_inb cond1_pos) k0_off6 (k0_off6_inb cond1_pos) k0_off7 (k0_off7_inb cond1_pos)
    (harg3.wordExact_slice rfl _ (k0_off7_wordsfp8e4m3 cond1_pos)) ((harg8.wordExact_slice rfl _ (k0_off6_wordsfp8e4m3 cond1_pos)).reshape _ _)

/-- The result from the running sums and maxima. -/
def finP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  let m ← Prog.lift (.load arg12 (Rect.unit (s := S72x128) ![0, 0] S72x128.size inb_S72x128_S72x128_0_0).toLoadRect (View.loadsAt_vmem h_S72x128))
  let d ← Prog.lift (.load arg11 (Rect.unit (s := S72x128) ![0, 0] S72x128.size inb_S72x128_S72x128_0_0).toLoadRect (View.loadsAt_vmem h_S72x128))
  let _ ← Prog.lift (.load arg5 (Rect.unit (s := S72x128) ![0, 0] S72x128.size inb_S72x128_S72x128_0_0).toLoadRect (View.loadsAt_vmem h_S72x128))
  Prog.lift (.store arg5 (Rect.unit (s := S72x128) ![0, 0] S72x128.size inb_S72x128_S72x128_0_0) (k0_pay3 m d) Finset.univ (View.stores_vmem_bits_univ h_S72x128 rfl) (.inl rfl))

/-- The rows of column scales of the last chunk lie inside the array. -/
theorem inbLast (o : Fin 8) : ∀ a, (![248 + o.val, 0] : Fin 2 → ℕ) a + S1x128.size a ≤ S256x128.size a := by
  revert o; decide

/-- The last chunk, the last two folds, the result. -/
def lastP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  wtW arg3 arg8 arg13 (k0_off1 31#32) (k0_off1_inb 4) (k0_off2 31#32) (k0_off2_inb 4) (k0_off3 31#32) (k0_off3_inb 1)
    (harg3.wordExact_slice rfl _ (k0_off3_wordsfp8e4m3 1)) ((harg8.wordExact_slice rfl _ (k0_off2_wordsfp8e4m3 4)).reshape _ _)
  epi arg6 arg7 arg9 arg11 arg12 laneV (laneW (prevW 31#32) 0#32) (laneW (prevW 31#32) 1#32)
    (fun o => k0_off19 (BitVec.ofNat 32 o.val)) (fun o => k0_off19_inb o)
  mm arg0 arg8 arg10 (k0_off4 31#32) (k0_off4_inb 1)
  epi arg6 arg7 arg10 arg11 arg12 laneV 62#32 63#32 (fun o => ![248 + o.val, 0]) inbLast
  finP arg0 harg0 arg1 harg1 arg2 harg2 arg3 harg3 arg4 harg4 arg5 harg5 arg6 harg6 arg7 harg7 arg8 harg8 arg9 harg9 arg10 harg10 arg11 harg11 arg12 harg12 arg13 arg14

/-- The body as a sequence of these. -/
def headP (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F PUnit := do
  startP arg0 harg0 arg1 harg1 arg2 harg2 arg3 harg3 arg4 harg4 arg5 harg5 arg6 harg6 arg7 harg7 arg8 harg8 arg9 harg9 arg10 harg10 arg11 harg11 arg12 harg12 arg13 arg14
  initP arg0 harg0 arg1 harg1 arg2 harg2 arg3 harg3 arg4 harg4 arg5 harg5 arg6 harg6 arg7 harg7 arg8 harg8 arg9 harg9 arg10 harg10 arg11 harg11 arg12 harg12 arg13 arg14
  firstP arg0 harg0 arg1 harg1 arg2 harg2 arg3 harg3 arg4 harg4 arg5 harg5 arg6 harg6 arg7 harg7 arg8 harg8 arg9 harg9 arg10 harg10 arg11 harg11 arg12 harg12 arg13 arg14
  Scf.Loop.for k0_t1_loop k0_t1_ok ⟨⟩ (fun k _ => do half1 arg0 harg0 arg1 harg1 arg2 harg2 arg3 harg3 arg4 harg4 arg5 harg5 arg6 harg6 arg7 harg7 arg8 harg8 arg9 harg9 arg10 harg10 arg11 harg11 arg12 harg12 arg13 arg14 laneV k; half2 arg0 harg0 arg1 harg1 arg2 harg2 arg3 harg3 arg4 harg4 arg5 harg5 arg6 harg6 arg7 harg7 arg8 harg8 arg9 harg9 arg10 harg10 arg11 harg11 arg12 harg12 arg13 arg14 laneV k)
  lastP arg0 harg0 arg1 harg1 arg2 harg2 arg3 harg3 arg4 harg4 arg5 harg5 arg6 harg6 arg7 harg7 arg8 harg8 arg9 harg9 arg10 harg10 arg11 harg11 arg12 harg12 arg13 arg14

/-- What the printed body runs after the loop, up to its last two stores. -/
def rest1 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : Pg F (Σ' (v2268 : FVec F S8x128 .f32), FVec F S8x128 .f32) := do
  let ⟨v85, v86, v87, v88, v89, v96, v103, v110, v112⟩ : Σ' (v85 : BitVec 32) (v86 : BitVec 32) (v87 : Vec F S8x128 .f32) (v88 : Vec F S8x128 .f32) (v89 : Vec F S8x128 .f32) (v96 : FVec F S8x128 .f32) (v103 : FVec F S8x128 .f32) (v110 : FVec F S8x128 .f32), FVec F S8x128 .f32 ← k0_part61 arg0 harg0 arg1 harg1 arg2 harg2 arg3 harg3 arg4 harg4 arg5 harg5 arg6 harg6 arg7 harg7 arg8 harg8 arg9 harg9 arg10 harg10 arg11 harg11 arg12 harg12 arg13 arg14
  let ⟨v147, v150, v157, v159⟩ : Σ' (v147 : FVec F S8x128 .f32) (v150 : FVec F S8x128 .f32) (v157 : FVec F S8x128 .f32), FVec F S8x128 .f32 ← k0_part62 arg0 harg0 arg1 harg1 arg2 harg2 arg3 harg3 arg4 harg4 arg5 harg5 arg6 harg6 arg7 harg7 arg8 harg8 arg9 harg9 arg10 harg10 arg11 harg11 arg12 harg12 arg13 arg14 laneV v85 v86 v87 v88 v89 v96 v103 v110 v112
  let ⟨v205, v208, v209⟩ : Σ' (v205 : IVec S8x128 1) (v208 : FVec F S8x128 .f32), FVec F S8x1 .f32 ← k0_part63 arg0 harg0 arg1 harg1 arg2 harg2 arg3 harg3 arg4 harg4 arg5 harg5 arg6 harg6 arg7 harg7 arg8 harg8 arg9 harg9 arg10 harg10 arg11 harg11 arg12 harg12 arg13 arg14 laneV v85 v86 v87 v147 v157 v159
  let ⟨v218, v219, v220, v227, v234, v241, v243⟩ : Σ' (v218 : Vec F S8x128 .f32) (v219 : Vec F S8x128 .f32) (v220 : Vec F S8x128 .f32) (v227 : FVec F S8x128 .f32) (v234 : FVec F S8x128 .f32) (v241 : FVec F S8x128 .f32), FVec F S8x128 .f32 ← k0_part64 arg0 harg0 arg1 harg1 arg2 harg2 arg3 harg3 arg4 harg4 arg5 harg5 arg6 harg6 arg7 harg7 arg8 harg8 arg9 harg9 arg10 harg10 arg11 harg11 arg12 harg12 arg13 arg14 v86 v150 v205 v208 v209
  let ⟨v278, v281, v288, v290, c5_i32_146⟩ : Σ' (v278 : FVec F S8x128 .f32) (v281 : FVec F S8x128 .f32) (v288 : FVec F S8x128 .f32) (v290 : FVec F S8x128 .f32), BitVec 32 ← k0_part65 arg0 harg0 arg1 harg1 arg2 harg2 arg3 harg3 arg4 harg4 arg5 harg5 arg6 harg6 arg7 harg7 arg8 harg8 arg9 harg9 arg10 harg10 arg11 harg11 arg12 harg12 arg13 arg14 laneV v85 v86 v218 v219 v220 v227 v234 v241 v243
  let ⟨v315, v336, v337⟩ : Σ' (v315 : FVec F S8x1 .f32) (v336 : IVec S8x128 1), FVec F S8x1 .f32 ← k0_part66 arg0 harg0 arg1 harg1 arg2 harg2 arg3 harg3 arg4 harg4 arg5 harg5 arg6 harg6 arg7 harg7 arg8 harg8 arg9 harg9 arg10 harg10 arg11 harg11 arg12 harg12 arg13 arg14 laneV v85 v86 v218 v288 v290 c5_i32_146
  let ⟨v349, v350, v351, v358, v365, v372⟩ : Σ' (v349 : Vec F S8x128 .f32) (v350 : Vec F S8x128 .f32) (v351 : Vec F S8x128 .f32) (v358 : FVec F S8x128 .f32) (v365 : FVec F S8x128 .f32), FVec F S8x128 .f32 ← k0_part67 arg0 harg0 arg1 harg1 arg2 harg2 arg3 harg3 arg4 harg4 arg5 harg5 arg6 harg6 arg7 harg7 arg8 harg8 arg9 harg9 arg10 harg10 arg11 harg11 arg12 harg12 arg13 arg14 v86 v278 v281 v315 v336 v337
  let ⟨v409, v412, v419⟩ : Σ' (v409 : FVec F S8x128 .f32) (v412 : FVec F S8x128 .f32), FVec F S8x128 .f32 ← k0_part68 arg0 harg0 arg1 harg1 arg2 harg2 arg3 harg3 arg4 harg4 arg5 harg5 arg6 harg6 arg7 harg7 arg8 harg8 arg9 harg9 arg10 harg10 arg11 harg11 arg12 harg12 arg13 arg14 laneV v85 v86 v349 v350 v351 v358 v365 v372
  let ⟨v446, v463, v465⟩ : Σ' (v446 : FVec F S8x1 .f32) (v463 : FVec F S8x1 .f32), BitVec 32 ← k0_part69 arg0 harg0 arg1 harg1 arg2 harg2 arg3 harg3 arg4 harg4 arg5 harg5 arg6 harg6 arg7 harg7 arg8 harg8 arg9 harg9 arg10 harg10 arg11 harg11 arg12 harg12 arg13 arg14 v85 v86 v349 v419
  let ⟨v480, v481, v482, v489, v496, v498, v501⟩ : Σ' (v480 : Vec F S8x128 .f32) (v481 : Vec F S8x128 .f32) (v482 : Vec F S8x128 .f32) (v489 : FVec F S8x128 .f32) (v496 : FVec F S8x128 .f32) (v498 : FVec F S8x128 .f32), Vec F S1x128 .f32 ← k0_part70 arg0 harg0 arg1 harg1 arg2 harg2 arg3 harg3 arg4 harg4 arg5 harg5 arg6 harg6 arg7 harg7 arg8 harg8 arg9 harg9 arg10 harg10 arg11 harg11 arg12 harg12 arg13 arg14 laneV v86 v409 v412 v446 v463 v465
  let ⟨laneV0, laneV3, laneV5, laneV9⟩ : Σ' (laneV0 : FVec F S8x128 .f32) (laneV3 : FVec F S8x128 .f32) (laneV5 : FVec F S8x128 .f32), FVec F S8x128 .f32 ← k0_part71 arg0 harg0 arg1 harg1 arg2 harg2 arg3 harg3 arg4 harg4 arg5 harg5 arg6 harg6 arg7 harg7 arg8 harg8 arg9 harg9 arg10 harg10 arg11 harg11 arg12 harg12 arg13 arg14 laneV v85 v86 v480 v481 v482 v489 v496 v498 v501
  let ⟨v577, v594, c2_i32_256⟩ : Σ' (v577 : FVec F S8x1 .f32) (v594 : FVec F S8x1 .f32), BitVec 32 ← k0_part72 arg0 harg0 arg1 harg1 arg2 harg2 arg3 harg3 arg4 harg4 arg5 harg5 arg6 harg6 arg7 harg7 arg8 harg8 arg9 harg9 arg10 harg10 arg11 harg11 arg12 harg12 arg13 arg14 v86 v480 laneV5 laneV9
  let ⟨v611, v612, v613, v620, v627, v629, v630⟩ : Σ' (v611 : Vec F S8x128 .f32) (v612 : Vec F S8x128 .f32) (v613 : Vec F S8x128 .f32) (v620 : FVec F S8x128 .f32) (v627 : FVec F S8x128 .f32) (v629 : FVec F S8x128 .f32), BitVec 32 ← k0_part73 arg0 harg0 arg1 harg1 arg2 harg2 arg3 harg3 arg4 harg4 arg5 harg5 arg6 harg6 arg7 harg7 arg8 harg8 arg9 harg9 arg10 harg10 arg11 harg11 arg12 harg12 arg13 arg14 laneV v85 v86 laneV0 laneV3 v577 v594 c2_i32_256
  let ⟨v671, v674, v676⟩ : Σ' (v671 : FVec F S8x128 .f32) (v674 : FVec F S8x128 .f32), FVec F S8x128 .f32 ← k0_part74 arg0 harg0 arg1 harg1 arg2 harg2 arg3 harg3 arg4 harg4 arg5 harg5 arg6 harg6 arg7 harg7 arg8 harg8 arg9 harg9 arg10 harg10 arg11 harg11 arg12 harg12 arg13 arg14 laneV v85 v86 v611 v612 v613 v620 v627 v629 v630
  let ⟨v708, v723⟩ : Σ' (v708 : FVec F S8x1 .f32), FVec F S8x128 .f32 ← k0_part75 arg0 harg0 arg1 harg1 arg2 harg2 arg3 harg3 arg4 harg4 arg5 harg5 arg6 harg6 arg7 harg7 arg8 harg8 arg9 harg9 arg10 harg10 arg11 harg11 arg12 harg12 arg13 arg14 v86 v611 v676
  let ⟨v742, v743, v744, v751, v758, v759⟩ : Σ' (v742 : Vec F S8x128 .f32) (v743 : Vec F S8x128 .f32) (v744 : Vec F S8x128 .f32) (v751 : FVec F S8x128 .f32) (v758 : FVec F S8x128 .f32), Vec F S8x128 .f32 ← k0_part76 arg0 harg0 arg1 harg1 arg2 harg2 arg3 harg3 arg4 harg4 arg5 harg5 arg6 harg6 arg7 harg7 arg8 harg8 arg9 harg9 arg10 harg10 arg11 harg11 arg12 harg12 arg13 arg14 laneV v85 v86 v671 v674 v708 v723
  let ⟨v802, v805, v807⟩ : Σ' (v802 : FVec F S8x128 .f32) (v805 : FVec F S8x128 .f32), FVec F S8x128 .f32 ← k0_part77 arg0 harg0 arg1 harg1 arg2 harg2 arg3 harg3 arg4 harg4 arg5 harg5 arg6 harg6 arg7 harg7 arg8 harg8 arg9 harg9 arg10 harg10 arg11 harg11 arg12 harg12 arg13 arg14 laneV v85 v86 v742 v743 v744 v751 v758 v759
  let ⟨v839, v848, v851, v852⟩ : Σ' (v839 : FVec F S8x1 .f32) (v848 : FVec F S8x128 .f32) (v851 : FVec F S8x128 .f32), FVec F S8x128 .f32 ← k0_part78 arg0 harg0 arg1 harg1 arg2 harg2 arg3 harg3 arg4 harg4 arg5 harg5 arg6 harg6 arg7 harg7 arg8 harg8 arg9 harg9 arg10 harg10 arg11 harg11 arg12 harg12 arg13 arg14 v86 v742 v807
  let ⟨v873, v874, v875, v882, v889⟩ : Σ' (v873 : Vec F S8x128 .f32) (v874 : Vec F S8x128 .f32) (v875 : Vec F S8x128 .f32) (v882 : FVec F S8x128 .f32), FVec F S8x128 .f32 ← k0_part79 arg0 harg0 arg1 harg1 arg2 harg2 arg3 harg3 arg4 harg4 arg5 harg5 arg6 harg6 arg7 harg7 arg8 harg8 arg9 harg9 arg10 harg10 arg11 harg11 arg12 harg12 arg13 arg14 laneV v85 v86 v802 v805 v839 v848 v851 v852
  let ⟨v933, v936⟩ : Σ' (v933 : FVec F S8x128 .f32), FVec F S8x128 .f32 ← k0_part80 arg0 harg0 arg1 harg1 arg2 harg2 arg3 harg3 arg4 harg4 arg5 harg5 arg6 harg6 arg7 harg7 arg8 harg8 arg9 harg9 arg10 harg10 arg11 harg11 arg12 harg12 arg13 arg14 laneV v85 v86 v873 v874 v875 v882 v889
  let ⟨v964, v970, v973, v976, v979, v980⟩ : Σ' (v964 : FVec F S8x128 .f32) (v970 : FVec F S8x1 .f32) (v973 : FVec F S8x128 .f32) (v976 : FVec F S8x128 .f32) (v979 : FVec F S8x128 .f32), FVec F S8x128 .f32 ← k0_part81 arg0 harg0 arg1 harg1 arg2 harg2 arg3 harg3 arg4 harg4 arg5 harg5 arg6 harg6 arg7 harg7 arg8 harg8 arg9 harg9 arg10 harg10 arg11 harg11 arg12 harg12 arg13 arg14 v86 v873
  let ⟨v1004, v1005, v1006, v1013, v1015⟩ : Σ' (v1004 : Vec F S8x128 .f32) (v1005 : Vec F S8x128 .f32) (v1006 : Vec F S8x128 .f32) (v1013 : FVec F S8x128 .f32), FVec F S8x128 .f32 ← k0_part82 arg0 harg0 arg1 harg1 arg2 harg2 arg3 harg3 arg4 harg4 arg5 harg5 arg6 harg6 arg7 harg7 arg8 harg8 arg9 harg9 arg10 harg10 arg11 harg11 arg12 harg12 arg13 arg14 laneV v85 v86 v933 v936 v964 v970 v973 v976 v979 v980
  let ⟨v1061, v1064, v1065⟩ : Σ' (v1061 : IVec S8x128 1) (v1064 : FVec F S8x128 .f32), FVec F S8x1 .f32 ← k0_part83 arg0 harg0 arg1 harg1 arg2 harg2 arg3 harg3 arg4 harg4 arg5 harg5 arg6 harg6 arg7 harg7 arg8 harg8 arg9 harg9 arg10 harg10 arg11 harg11 arg12 harg12 arg13 arg14 laneV v85 v86 v1004 v1005 v1013 v1015
  let ⟨v1067, v1088, v1095, v1101, v1104, v1107, v1108⟩ : Σ' (v1067 : FVec F S8x128 .f32) (v1088 : FVec F S8x128 .f32) (v1095 : FVec F S8x128 .f32) (v1101 : FVec F S8x1 .f32) (v1104 : FVec F S8x128 .f32) (v1107 : FVec F S8x128 .f32), FVec F S8x128 .f32 ← k0_part84 arg0 harg0 arg1 harg1 arg2 harg2 arg3 harg3 arg4 harg4 arg5 harg5 arg6 harg6 arg7 harg7 arg8 harg8 arg9 harg9 arg10 harg10 arg11 harg11 arg12 harg12 arg13 arg14 v86 v1004 v1006 v1061 v1065
  let ⟨v1135, v1136, v1137, v1144, v1146, c1_i32_469⟩ : Σ' (v1135 : Vec F S8x128 .f32) (v1136 : Vec F S8x128 .f32) (v1137 : Vec F S8x128 .f32) (v1144 : FVec F S8x128 .f32) (v1146 : FVec F S8x128 .f32), BitVec 32 ← k0_part85 arg0 harg0 arg1 harg1 arg2 harg2 arg3 harg3 arg4 harg4 arg5 harg5 arg6 harg6 arg7 harg7 arg8 harg8 arg9 harg9 arg10 harg10 arg11 harg11 arg12 harg12 arg13 arg14 laneV v85 v86 v1064 v1067 v1088 v1095 v1101 v1104 v1107 v1108
  let ⟨v1171, v1192, v1193⟩ : Σ' (v1171 : FVec F S8x1 .f32) (v1192 : IVec S8x128 1), FVec F S8x1 .f32 ← k0_part86 arg0 harg0 arg1 harg1 arg2 harg2 arg3 harg3 arg4 harg4 arg5 harg5 arg6 harg6 arg7 harg7 arg8 harg8 arg9 harg9 arg10 harg10 arg11 harg11 arg12 harg12 arg13 arg14 laneV v85 v86 v1135 v1144 v1146 c1_i32_469
  let ⟨v1195, v1198, v1212, v1219, v1226, v1232, v1235, v1236⟩ : Σ' (v1195 : FVec F S8x128 .f32) (v1198 : FVec F S8x128 .f32) (v1212 : FVec F S8x128 .f32) (v1219 : FVec F S8x128 .f32) (v1226 : FVec F S8x128 .f32) (v1232 : FVec F S8x1 .f32) (v1235 : FVec F S8x128 .f32), FVec F S8x128 .f32 ← k0_part87 arg0 harg0 arg1 harg1 arg2 harg2 arg3 harg3 arg4 harg4 arg5 harg5 arg6 harg6 arg7 harg7 arg8 harg8 arg9 harg9 arg10 harg10 arg11 harg11 arg12 harg12 arg13 arg14 v86 v1135 v1136 v1137 v1171 v1192 v1193
  let v1275 : BitVec 32 ← k0_part88 arg0 harg0 arg1 harg1 arg2 harg2 arg3 harg3 arg4 harg4 arg5 harg5 arg6 harg6 arg7 harg7 arg8 harg8 arg9 harg9 arg10 harg10 arg11 harg11 arg12 harg12 arg13 arg14 laneV v85 v1195 v1198 v1212 v1219 v1226 v1232 v1235 v1236
  let ⟨v1279, v1280, v1281, v1286, v1291, v1296, v1301, v1307, v1308⟩ : Σ' (v1279 : Vec F S8x128 .f32) (v1280 : Vec F S8x128 .f32) (v1281 : Vec F S8x128 .f32) (v1286 : FVec F S8x128 .f32) (v1291 : FVec F S8x128 .f32) (v1296 : FVec F S8x128 .f32) (v1301 : FVec F S8x128 .f32) (v1307 : FVec F S8x1 .f32), FVec F S8x128 .f32 ← k0_part89 arg0 harg0 arg1 harg1 arg2 harg2 arg3 harg3 arg4 harg4 arg5 harg5 arg6 harg6 arg7 harg7 arg8 harg8 arg9 harg9 arg10 harg10 arg11 harg11 arg12 harg12 arg13 arg14 v1275
  let ⟨v1329, v1332, v1337, v1342, v1347, v1349, v1350⟩ : Σ' (v1329 : FVec F S8x128 .f32) (v1332 : FVec F S8x128 .f32) (v1337 : FVec F S8x128 .f32) (v1342 : FVec F S8x128 .f32) (v1347 : FVec F S8x128 .f32) (v1349 : FVec F S8x128 .f32), Vec F S1x128 .f32 ← k0_part90 arg0 harg0 arg1 harg1 arg2 harg2 arg3 harg3 arg4 harg4 arg5 harg5 arg6 harg6 arg7 harg7 arg8 harg8 arg9 harg9 arg10 harg10 arg11 harg11 arg12 harg12 arg13 arg14 laneV v1279 v1280 v1281 v1286 v1291 v1296 v1301 v1307 v1308
  let ⟨v1390, v1391, v1392, v1393⟩ : Σ' (v1390 : Vec F S8x128 .f32) (v1391 : Vec F S8x128 .f32) (v1392 : Vec F S8x128 .f32), Vec F S8x128 .f32 ← k0_part91 arg0 harg0 arg1 harg1 arg2 harg2 arg3 harg3 arg4 harg4 arg5 harg5 arg6 harg6 arg7 harg7 arg8 harg8 arg9 harg9 arg10 harg10 arg11 harg11 arg12 harg12 arg13 arg14 laneV v1329 v1332 v1337 v1342 v1347 v1349 v1350
  let ⟨v1418, v1435, v1436⟩ : Σ' (v1418 : FVec F S8x1 .f32) (v1435 : FVec F S8x1 .f32), IVec S8x128 32 ← k0_part92 arg0 harg0 arg1 harg1 arg2 harg2 arg3 harg3 arg4 harg4 arg5 harg5 arg6 harg6 arg7 harg7 arg8 harg8 arg9 harg9 arg10 harg10 arg11 harg11 arg12 harg12 arg13 arg14 v1390 v1393
  let ⟨v1440, v1443, v1463, v1469, v1472, v1475, v1478, v1479⟩ : Σ' (v1440 : FVec F S8x128 .f32) (v1443 : FVec F S8x128 .f32) (v1463 : FVec F S8x128 .f32) (v1469 : FVec F S8x1 .f32) (v1472 : FVec F S8x128 .f32) (v1475 : FVec F S8x128 .f32) (v1478 : FVec F S8x128 .f32), FVec F S8x128 .f32 ← k0_part93 arg0 harg0 arg1 harg1 arg2 harg2 arg3 harg3 arg4 harg4 arg5 harg5 arg6 harg6 arg7 harg7 arg8 harg8 arg9 harg9 arg10 harg10 arg11 harg11 arg12 harg12 arg13 arg14 laneV v1390 v1391 v1392 v1418 v1435 v1436
  let ⟨v1501, v1502, v1503, v1508, v1513, v1515⟩ : Σ' (v1501 : Vec F S8x128 .f32) (v1502 : Vec F S8x128 .f32) (v1503 : Vec F S8x128 .f32) (v1508 : FVec F S8x128 .f32) (v1513 : FVec F S8x128 .f32), FVec F S8x128 .f32 ← k0_part94 arg0 harg0 arg1 harg1 arg2 harg2 arg3 harg3 arg4 harg4 arg5 harg5 arg6 harg6 arg7 harg7 arg8 harg8 arg9 harg9 arg10 harg10 arg11 harg11 arg12 harg12 arg13 arg14 laneV v1440 v1443 v1463 v1469 v1472 v1475 v1478 v1479
  let ⟨v1551, v1554, v1559, v1560⟩ : Σ' (v1551 : FVec F S8x128 .f32) (v1554 : FVec F S8x128 .f32) (v1559 : FVec F S8x128 .f32), Vec F S8x128 .f32 ← k0_part95 arg0 harg0 arg1 harg1 arg2 harg2 arg3 harg3 arg4 harg4 arg5 harg5 arg6 harg6 arg7 harg7 arg8 harg8 arg9 harg9 arg10 harg10 arg11 harg11 arg12 harg12 arg13 arg14 laneV v1501 v1502 v1503 v1508 v1513 v1515
  let ⟨v1602, v1605⟩ : Σ' (v1602 : FVec F S8x128 .f32), FVec F S8x128 .f32 ← k0_part96 arg0 harg0 arg1 harg1 arg2 harg2 arg3 harg3 arg4 harg4 arg5 harg5 arg6 harg6 arg7 harg7 arg8 harg8 arg9 harg9 arg10 harg10 arg11 harg11 arg12 harg12 arg13 arg14 laneV v1501 v1551 v1554 v1559 v1560
  let ⟨v1612, v1613, v1614, v1619, v1624, v1629, v1634, v1638⟩ : Σ' (v1612 : Vec F S8x128 .f32) (v1613 : Vec F S8x128 .f32) (v1614 : Vec F S8x128 .f32) (v1619 : FVec F S8x128 .f32) (v1624 : FVec F S8x128 .f32) (v1629 : FVec F S8x128 .f32) (v1634 : FVec F S8x128 .f32), FVec F S8 .f32 ← k0_part97 arg0 harg0 arg1 harg1 arg2 harg2 arg3 harg3 arg4 harg4 arg5 harg5 arg6 harg6 arg7 harg7 arg8 harg8 arg9 harg9 arg10 harg10 arg11 harg11 arg12 harg12 arg13 arg14 v1602 v1605
  let ⟨v1662, v1665, v1670, v1675, v1680, v1682⟩ : Σ' (v1662 : FVec F S8x128 .f32) (v1665 : FVec F S8x128 .f32) (v1670 : FVec F S8x128 .f32) (v1675 : FVec F S8x128 .f32) (v1680 : FVec F S8x128 .f32), FVec F S8x128 .f32 ← k0_part98 arg0 harg0 arg1 harg1 arg2 harg2 arg3 harg3 arg4 harg4 arg5 harg5 arg6 harg6 arg7 harg7 arg8 harg8 arg9 harg9 arg10 harg10 arg11 harg11 arg12 harg12 arg13 arg14 laneV v1612 v1613 v1614 v1619 v1624 v1629 v1634 v1638
  let ⟨v1723, v1724, v1725⟩ : Σ' (v1723 : Vec F S8x128 .f32) (v1724 : Vec F S8x128 .f32), Vec F S8x128 .f32 ← k0_part99 arg0 harg0 arg1 harg1 arg2 harg2 arg3 harg3 arg4 harg4 arg5 harg5 arg6 harg6 arg7 harg7 arg8 harg8 arg9 harg9 arg10 harg10 arg11 harg11 arg12 harg12 arg13 arg14 laneV v1662 v1665 v1670 v1675 v1680 v1682
  let ⟨v1751, v1767⟩ : Σ' (v1751 : FVec F S8x1 .f32), FVec F S8 .f32 ← k0_part100 arg0 harg0 arg1 harg1 arg2 harg2 arg3 harg3 arg4 harg4 arg5 harg5 arg6 harg6 arg7 harg7 arg8 harg8 arg9 harg9 arg10 harg10 arg11 harg11 arg12 harg12 arg13 arg14 v1723
  let ⟨v1773, v1776, v1791, v1796, v1802, v1805, v1808, v1809⟩ : Σ' (v1773 : FVec F S8x128 .f32) (v1776 : FVec F S8x128 .f32) (v1791 : FVec F S8x128 .f32) (v1796 : FVec F S8x128 .f32) (v1802 : FVec F S8x1 .f32) (v1805 : FVec F S8x128 .f32) (v1808 : FVec F S8x128 .f32), FVec F S8x128 .f32 ← k0_part101 arg0 harg0 arg1 harg1 arg2 harg2 arg3 harg3 arg4 harg4 arg5 harg5 arg6 harg6 arg7 harg7 arg8 harg8 arg9 harg9 arg10 harg10 arg11 harg11 arg12 harg12 arg13 arg14 laneV v1723 v1724 v1725 v1751 v1767
  let ⟨v1834, v1835, v1836, v1841, v1846⟩ : Σ' (v1834 : Vec F S8x128 .f32) (v1835 : Vec F S8x128 .f32) (v1836 : Vec F S8x128 .f32) (v1841 : FVec F S8x128 .f32), FVec F S8x128 .f32 ← k0_part102 arg0 harg0 arg1 harg1 arg2 harg2 arg3 harg3 arg4 harg4 arg5 harg5 arg6 harg6 arg7 harg7 arg8 harg8 arg9 harg9 arg10 harg10 arg11 harg11 arg12 harg12 arg13 arg14 laneV v1773 v1776 v1791 v1796 v1802 v1805 v1808 v1809
  let ⟨v1884, v1887, v1892⟩ : Σ' (v1884 : FVec F S8x128 .f32) (v1887 : FVec F S8x128 .f32), FVec F S8x128 .f32 ← k0_part103 arg0 harg0 arg1 harg1 arg2 harg2 arg3 harg3 arg4 harg4 arg5 harg5 arg6 harg6 arg7 harg7 arg8 harg8 arg9 harg9 arg10 harg10 arg11 harg11 arg12 harg12 arg13 arg14 laneV v1834 v1835 v1836 v1841 v1846
  let ⟨v1932, v1935, v1937⟩ : Σ' (v1932 : IVec S8x128 1) (v1935 : FVec F S8x128 .f32), FVec F S8x128 .f32 ← k0_part104 arg0 harg0 arg1 harg1 arg2 harg2 arg3 harg3 arg4 harg4 arg5 harg5 arg6 harg6 arg7 harg7 arg8 harg8 arg9 harg9 arg10 harg10 arg11 harg11 arg12 harg12 arg13 arg14 laneV v1834 v1884 v1892
  let ⟨v1945, v1946, v1947, v1952, v1957, v1962, v1967, v1968, v1969⟩ : Σ' (v1945 : Vec F S8x128 .f32) (v1946 : Vec F S8x128 .f32) (v1947 : Vec F S8x128 .f32) (v1952 : FVec F S8x128 .f32) (v1957 : FVec F S8x128 .f32) (v1962 : FVec F S8x128 .f32) (v1967 : FVec F S8x128 .f32) (v1968 : FVec F S8x128 .f32), FVec F S8x128 .f32 ← k0_part105 arg0 harg0 arg1 harg1 arg2 harg2 arg3 harg3 arg4 harg4 arg5 harg5 arg6 harg6 arg7 harg7 arg8 harg8 arg9 harg9 arg10 harg10 arg11 harg11 arg12 harg12 arg13 arg14 v1887 v1932 v1935 v1937
  let ⟨v1995, v1998, v2003, v2008, v2013⟩ : Σ' (v1995 : FVec F S8x128 .f32) (v1998 : FVec F S8x128 .f32) (v2003 : FVec F S8x128 .f32) (v2008 : FVec F S8x128 .f32), FVec F S8x128 .f32 ← k0_part106 arg0 harg0 arg1 harg1 arg2 harg2 arg3 harg3 arg4 harg4 arg5 harg5 arg6 harg6 arg7 harg7 arg8 harg8 arg9 harg9 arg10 harg10 arg11 harg11 arg12 harg12 arg13 arg14 laneV v1945 v1946 v1947 v1952 v1957 v1962 v1967 v1968 v1969
  let ⟨v2056, v2057⟩ : Σ' (v2056 : Vec F S8x128 .f32), Vec F S8x128 .f32 ← k0_part107 arg0 harg0 arg1 harg1 arg2 harg2 arg3 harg3 arg4 harg4 arg5 harg5 arg6 harg6 arg7 harg7 arg8 harg8 arg9 harg9 arg10 harg10 arg11 harg11 arg12 harg12 arg13 arg14 laneV v1945 v1995 v1998 v2003 v2008 v2013
  let ⟨v2058, v2084, v2097, v2098⟩ : Σ' (v2058 : Vec F S8x128 .f32) (v2084 : FVec F S8x1 .f32) (v2097 : FVec F S8x128 .f32), FVec F S8x128 .f32 ← k0_part108 arg0 harg0 arg1 harg1 arg2 harg2 arg3 harg3 arg4 harg4 arg5 harg5 arg6 harg6 arg7 harg7 arg8 harg8 arg9 harg9 arg10 harg10 arg11 harg11 arg12 harg12 arg13 arg14 v2056
  let ⟨v2106, v2109, v2119, v2124, v2129, v2135, v2138, v2139⟩ : Σ' (v2106 : FVec F S8x128 .f32) (v2109 : FVec F S8x128 .f32) (v2119 : FVec F S8x128 .f32) (v2124 : FVec F S8x128 .f32) (v2129 : FVec F S8x128 .f32) (v2135 : FVec F S8x1 .f32) (v2138 : FVec F S8x128 .f32), FVec F S8x128 .f32 ← k0_part109 arg0 harg0 arg1 harg1 arg2 harg2 arg3 harg3 arg4 harg4 arg5 harg5 arg6 harg6 arg7 harg7 arg8 harg8 arg9 harg9 arg10 harg10 arg11 harg11 arg12 harg12 arg13 arg14 laneV v2056 v2057 v2058 v2084 v2097 v2098
  let ⟨v2167, v2168, v2169, v2174, v2176, v2177⟩ : Σ' (v2167 : Vec F S8x128 .f32) (v2168 : Vec F S8x128 .f32) (v2169 : Vec F S8x128 .f32) (v2174 : FVec F S8x128 .f32) (v2176 : FVec F S8x128 .f32), Vec F S1x128 .f32 ← k0_part110 arg0 harg0 arg1 harg1 arg2 harg2 arg3 harg3 arg4 harg4 arg5 harg5 arg6 harg6 arg7 harg7 arg8 harg8 arg9 harg9 arg10 harg10 arg11 harg11 arg12 harg12 arg13 arg14 laneV v2106 v2109 v2119 v2124 v2129 v2135 v2138 v2139
  let ⟨v2217, v2220, v2222⟩ : Σ' (v2217 : FVec F S8x128 .f32) (v2220 : FVec F S8x128 .f32), FVec F S8x128 .f32 ← k0_part111 arg0 harg0 arg1 harg1 arg2 harg2 arg3 harg3 arg4 harg4 arg5 harg5 arg6 harg6 arg7 harg7 arg8 harg8 arg9 harg9 arg10 harg10 arg11 harg11 arg12 harg12 arg13 arg14 laneV v2167 v2168 v2169 v2174 v2176 v2177
  let ⟨v2246, v2265, v2267⟩ : Σ' (v2246 : FVec F S8x1 .f32) (v2265 : IVec S8x128 1), FVec F S8x128 .f32 ← k0_part112 arg0 harg0 arg1 harg1 arg2 harg2 arg3 harg3 arg4 harg4 arg5 harg5 arg6 harg6 arg7 harg7 arg8 harg8 arg9 harg9 arg10 harg10 arg11 harg11 arg12 harg12 arg13 arg14 laneV v2167 v2222
  pure ⟨k0_pay704 v2217 v2265 v2267, k0_pay705 v2220 v2246 v2265⟩

/-- The printed body's last stores. -/
def rest2 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) (x : Σ' (v2268 : FVec F S8x128 .f32), FVec F S8x128 .f32) : Pg F PUnit := do
  let ⟨v2268, v2271⟩ := x
  let v2272 : Vec F S8x128 .f32 ← Prog.lift (.load arg11 (Rect.unit (s := S72x128) ![64, 0] S8x128.size inb_S72x128_S8x128_64_0).toLoadRect (View.loadsAt_vmem h_S8x128))
  Prog.lift (.store arg11 (Rect.unit (s := S72x128) ![64, 0] S8x128.size inb_S72x128_S8x128_64_0) (k0_pay1 v2268) Finset.univ (View.stores_vmem_bits_univ h_S8x128 rfl) (.inl rfl))
  let v2275 : Vec F S8x128 .f32 ← Prog.lift (.load arg12 (Rect.unit (s := S72x128) ![64, 0] S8x128.size inb_S72x128_S8x128_64_0).toLoadRect (View.loadsAt_vmem h_S8x128))
  Prog.lift (.store arg12 (Rect.unit (s := S72x128) ![64, 0] S8x128.size inb_S72x128_S8x128_64_0) (k0_pay2 v2271) Finset.univ (View.stores_vmem_bits_univ h_S8x128 rfl) (.inl rfl))
  let v2278 : Vec F S72x128 .f32 ← Prog.lift (.load arg12 (Rect.unit (s := S72x128) ![0, 0] S72x128.size inb_S72x128_S72x128_0_0).toLoadRect (View.loadsAt_vmem h_S72x128))
  let v2281 : Vec F S72x128 .f32 ← Prog.lift (.load arg11 (Rect.unit (s := S72x128) ![0, 0] S72x128.size inb_S72x128_S72x128_0_0).toLoadRect (View.loadsAt_vmem h_S72x128))
  let v2299 : Vec F S72x128 .f32 ← Prog.lift (.load arg5 (Rect.unit (s := S72x128) ![0, 0] S72x128.size inb_S72x128_S72x128_0_0).toLoadRect (View.loadsAt_vmem h_S72x128))
  Prog.lift (.store arg5 (Rect.unit (s := S72x128) ![0, 0] S72x128.size inb_S72x128_S72x128_0_0) (k0_pay3 v2278 v2281) Finset.univ (View.stores_vmem_bits_univ h_S72x128 rfl) (.inl rfl))
  pure ⟨⟩

set_option maxHeartbeats 4000000 in
/-- The printed text before the loop is the named parts. -/
theorem head_eq1 (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) :
    cc0_spec_head (F := F) arg0 harg0 arg1 harg1 arg2 harg2 arg3 harg3 arg4 harg4 arg5 harg5 arg6 harg6 arg7 harg7 arg8 harg8 arg9 harg9 arg10 harg10 arg11 harg11 arg12 harg12 arg13 arg14
      = ((do startP arg0 harg0 arg1 harg1 arg2 harg2 arg3 harg3 arg4 harg4 arg5 harg5 arg6 harg6 arg7 harg7 arg8 harg8 arg9 harg9 arg10 harg10 arg11 harg11 arg12 harg12 arg13 arg14; initP arg0 harg0 arg1 harg1 arg2 harg2 arg3 harg3 arg4 harg4 arg5 harg5 arg6 harg6 arg7 harg7 arg8 harg8 arg9 harg9 arg10 harg10 arg11 harg11 arg12 harg12 arg13 arg14; firstP arg0 harg0 arg1 harg1 arg2 harg2 arg3 harg3 arg4 harg4 arg5 harg5 arg6 harg6 arg7 harg7 arg8 harg8 arg9 harg9 arg10 harg10 arg11 harg11 arg12 harg12 arg13 arg14) >>= fun _ =>
          ((Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 arg14 laneV 0#32 4#32) >>= fun _ => (pure PUnit.unit : Pg F PUnit)) >>= fun _ => rest1 arg0 harg0 arg1 harg1 arg2 harg2 arg3 harg3 arg4 harg4 arg5 harg5 arg6 harg6 arg7 harg7 arg8 harg8 arg9 harg9 arg10 harg10 arg11 harg11 arg12 harg12 arg13 arg14)) >>= rest2 arg0 harg0 arg1 harg1 arg2 harg2 arg3 harg3 arg4 harg4 arg5 harg5 arg6 harg6 arg7 harg7 arg8 harg8 arg9 harg9 arg10 harg10 arg11 harg11 arg12 harg12 arg13 arg14 := by
  simp only [cc0_spec_head_eq_skeleton, cc0_spec_head_skel, k0_part113_eq_skeleton, k0_part113_skel, k0_part60_eq_skeleton, k0_part60_skel, dif_pos cond1_pos]
  sl_kernel_rfl

set_option maxHeartbeats 4000000 in
/-- The printed text after the loop is the named parts. -/
theorem rest_eq (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : (rest1 arg0 harg0 arg1 harg1 arg2 harg2 arg3 harg3 arg4 harg4 arg5 harg5 arg6 harg6 arg7 harg7 arg8 harg8 arg9 harg9 arg10 harg10 arg11 harg11 arg12 harg12 arg13 arg14 >>= rest2 arg0 harg0 arg1 harg1 arg2 harg2 arg3 harg3 arg4 harg4 arg5 harg5 arg6 harg6 arg7 harg7 arg8 harg8 arg9 harg9 arg10 harg10 arg11 harg11 arg12 harg12 arg13 arg14) = lastP (F := F) arg0 harg0 arg1 harg1 arg2 harg2 arg3 harg3 arg4 harg4 arg5 harg5 arg6 harg6 arg7 harg7 arg8 harg8 arg9 harg9 arg10 harg10 arg11 harg11 arg12 harg12 arg13 arg14 := by
  simp only [rest1, k0_part89_eq_skeleton, k0_part89_skel, dif_neg cond4_neg]
  sl_kernel_rfl

/-- The whole printed kernel is the named parts: start, loop, last half step, result. -/
theorem head_eq (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3) : cc0_spec_head (F := F) arg0 harg0 arg1 harg1 arg2 harg2 arg3 harg3 arg4 harg4 arg5 harg5 arg6 harg6 arg7 harg7 arg8 harg8 arg9 harg9 arg10 harg10 arg11 harg11 arg12 harg12 arg13 arg14 = headP arg0 harg0 arg1 harg1 arg2 harg2 arg3 harg3 arg4 harg4 arg5 harg5 arg6 harg6 arg7 harg7 arg8 harg8 arg9 harg9 arg10 harg10 arg11 harg11 arg12 harg12 arg13 arg14 := by
  rw [head_eq1]
  unfold headP
  rw [← rest_eq]
  rw [show (fun (k : Fin k0_t1_loop.trips) (_ : Unit) => (do half1 (F := F) arg0 harg0 arg1 harg1 arg2 harg2 arg3 harg3 arg4 harg4 arg5 harg5 arg6 harg6 arg7 harg7 arg8 harg8 arg9 harg9 arg10 harg10 arg11 harg11 arg12 harg12 arg13 arg14 laneV k; half2 arg0 harg0 arg1 harg1 arg2 harg2 arg3 harg3 arg4 harg4 arg5 harg5 arg6 harg6 arg7 harg7 arg8 harg8 arg9 harg9 arg10 harg10 arg11 harg11 arg12 harg12 arg13 arg14 laneV k))
      = k0_t1_body arg0 harg0 arg1 harg1 arg2 harg2 arg3 harg3 arg4 harg4 arg5 harg5 arg6 harg6 arg7 harg7 arg8 harg8 arg9 harg9 arg10 harg10 arg11 harg11 arg12 harg12 arg13 arg14 laneV 0#32 4#32 from funext fun k => funext fun _ => (body_eq arg0 harg0 arg1 harg1 arg2 harg2 arg3 harg3 arg4 harg4 arg5 harg5 arg6 harg6 arg7 harg7 arg8 harg8 arg9 harg9 arg10 harg10 arg11 harg11 arg12 harg12 arg13 arg14 laneV 0#32 4#32 k).symm]
  simp only [bind_assoc, pure_bind]

end Cert.KernelIdeal.Hand

end
-- ==== Proof.KIRing.lean ====
module

public import proofs.«01_k».proof.Proof.KIHead
public import proofs.«01_k».proof.Proof.Base
public import Idealize.ShloMosaic.Lib.ReshapeSlab

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The weakest precondition of a piece of the kernel. -/
abbrev WP (c : Dev nD) {α : Type} (p : Pg F α) (Q : α → sProp 𝕄) : sProp 𝕄 :=
  wp frame (wpE (defs₀ (F := F)) Variants.none (c : Thread nD τ) none) Set.univ p Q

/-! ## The ring's slots and the chunks of the head -/

/-- A semaphore of the ring is one of the four. -/
theorem inbSem (s : Fin 4) : ∀ a, (![s.val] : Fin 1 → ℕ) a + S1.size a ≤ S4.size a := by revert s; decide
/-- A slot lies inside the ring. -/
theorem inbSlot (s : Fin 4) : ∀ a, (![s.val, 0, 0] : Fin 3 → ℕ) a + S1x1024x4096.size a ≤ S4x1024x4096.size a := by
  revert s; decide
/-- A chunk lies inside the head. -/
theorem inbSrc (p : Fin 32) : ∀ a, (![1024 * p.val, 0] : Fin 2 → ℕ) a + S1024x4096.size a ≤ S32768x4096.size a := by
  revert p; decide

/-- Slot `s` of the ring. -/
abbrev slotM (ring : Memref sig .tc .vmem S4x1024x4096 .fp8e4m3) (s : Fin 4) : Memref sig .tc .vmem S1024x4096 .fp8e4m3 :=
  slotV ring ![s.val, 0, 0] (inbSlot s)
/-- Chunk `p` of the head. -/
abbrev srcM (hbm : Memref sig .tc .hbm S32768x4096 .fp8e4m3) (p : Fin 32) : Memref sig .tc .hbm S1024x4096 .fp8e4m3 :=
  srcV hbm ![1024 * p.val, 0] (inbSrc p)
/-- The semaphore of slot `s`. -/
abbrev semM (sems : DmaSems sig S4) (s : Fin 4) : SemLoc sig := .dma (semV sems ![s.val] (inbSem s)).sem

/-- A chunk of 1024 rows of the head. -/
def chunk (X : S32768x4096.Idx → Elt F .fp8e4m3) (p : Fin 32) : S1024x4096.Idx → Elt F .fp8e4m3 :=
  fun i => X ((Rect.unit (s := S32768x4096) ![1024 * p.val, 0] S1024x4096.size (inbSrc p)).emb i)

/-- A chunk as a load of its slot reads it. -/
def asSlot (Y : S1024x4096.Idx → Elt F .fp8e4m3) : Vec F S1x1024x4096 .fp8e4m3 :=
  fun i => Y ((Shape.reshapeEquiv (squeezes_S1x1024x4096_S1024x4096).numel_eq).symm i)

/-- The products of the codes with a chunk of the head. -/
def dotC (XQ : Vec F S96x4096 .fp8e4m3) (X : S32768x4096.Idx → Elt F .fp8e4m3) (p : Fin 32) : FVec F S96x1024 .f32 :=
  k0_pay354 XQ (asSlot (chunk X p))

section Ring

variable (c : Dev nD) (hbm : Memref sig .tc .hbm S32768x4096 .fp8e4m3) (ring : Memref sig .tc .vmem S4x1024x4096 .fp8e4m3)
  (sems : DmaSems sig S4) (q : PosShare TreeShare) (X : S32768x4096.Idx → Elt F .fp8e4m3)

/-- The head without one chunk, at one share. -/
def restS (p : Fin 32) : sProp 𝕄 :=
  iprop(∃ f, ⌜hbm.view.read (Elt F) f = X⌝ ∗ hbm.view.loc (c : Thread nD τ) ↦[hbm.view.set \ (srcM hbm p).view.set]{q} f)

/-- A slot not in use, and its share of the head. -/
def freeS (s : Fin 4) : sProp 𝕄 :=
  iprop((∃ Y, owns (c : Thread nD τ) (slotM ring s) fullShare Y) ∗ semVal ((c : Thread nD τ), semM sems s) 0
    ∗ owns (c : Thread nD τ) hbm q X)

/-- A slot with a copy under way. -/
def fltS (s : Fin 4) (p : Fin 32) : sProp 𝕄 :=
  iprop(Transfers.Flight (countersEmb (U := Pipeline.UD sig nD τ)) (c : Thread nD τ) (semM sems s) () ((slotM ring s).view.amount (semM sems s))
      iprop(owns (c : Thread nD τ) (slotM ring s) fullShare (chunk X p) ∗ owns (c : Thread nD τ) (srcM hbm p) q (chunk X p))
    ∗ restS c hbm q X p)

/-- A slot with its copy landed. -/
def fullS (s : Fin 4) (p : Fin 32) : sProp 𝕄 :=
  iprop(owns (c : Thread nD τ) (slotM ring s) fullShare (chunk X p) ∗ semVal ((c : Thread nD τ), semM sems s) 0
    ∗ owns (c : Thread nD τ) hbm q X)

/-- A slot whose chunk has been used may be filled again. -/
theorem fullS_free (s : Fin 4) (p : Fin 32) : fullS c hbm ring sems q X s p ⊢ (freeS c hbm ring sems q X s : sProp 𝕄) := by
  unfold fullS freeS
  iintro ⟨H1, H2, H3⟩
  isplitl [H1]; · iexists _; iexact H1
  isplitl [H2]; · iexact H2
  iexact H3

/-- A share of the head splits into a chunk and the rest. -/
theorem src_split (p : Fin 32) :
    (owns (c : Thread nD τ) hbm q X : sProp 𝕄) ⊢ iprop(owns (c : Thread nD τ) (srcM hbm p) q (chunk X p) ∗ restS c hbm q X p) :=
  owns_slice_split (c : Thread nD τ) hbm q _ (fun _ => rfl) X

/-- A chunk and the rest join to a share of the head. -/
theorem src_join (p : Fin 32) :
    iprop(owns (c : Thread nD τ) (srcM hbm p) q (chunk X p) ∗ restS c hbm q X p) ⊢ (owns (c : Thread nD τ) hbm q X : sProp 𝕄) := by
  unfold restS
  iintro ⟨H, %f, %hf, HR⟩
  have h := owns_slice_join (Ix := Unit) (Name := ℕ) (U := Pipeline.UD sig nD τ) (Lvl := ℕ) (c : Thread nD τ) hbm q
    (Rect.unit (s := S32768x4096) ![1024 * p.val, 0] S1024x4096.size (inbSrc p)) (fun _ => rfl) (chunk X p) f
  have e : (Rect.unit (s := S32768x4096) ![1024 * p.val, 0] S1024x4096.size (inbSrc p)).overlay (hbm.view.read (Elt F) f) (chunk X p) = X := by
    rw [hf]; funext j
    by_cases hj : j ∈ (Rect.unit (s := S32768x4096) ![1024 * p.val, 0] S1024x4096.size (inbSrc p)).set
    · rw [← Rect.map_emb_univ] at hj
      obtain ⟨i, -, rfl⟩ := Finset.mem_map.mp hj
      rw [Rect.overlay_emb]; rfl
    · rw [Rect.overlay_of_not_mem _ _ _ hj]
  rw [e] at h
  iapply h
  isplitl [H]; · iexact H
  iexact HR

/-- Ownership of a buffer as points-to facts. -/
theorem owns_elim {sp : Space} {s : Shape} {e : EltTy} (m : Memref sig .tc sp s e) (q : PosShare TreeShare) (X : s.Idx → Elt F e) :
    (owns (c : Thread nD τ) m q X : sProp 𝕄)
      ⊢ iprop(∃ f, ⌜m.view.read (Elt F) f = X⌝ ∗ m.view.loc (c : Thread nD τ) ↦[m.view.set]{q} f) := .rfl

/-- Points-to facts as ownership of a buffer. -/
theorem owns_of {sp : Space} {s : Shape} {e : EltTy} (m : Memref sig .tc sp s e) (q : PosShare TreeShare) {X : s.Idx → Elt F e}
    {f : m.view.ty.Contents (Elt F)} (h : m.view.read (Elt F) f = X) :
    (m.view.loc (c : Thread nD τ) ↦[m.view.set]{q} f : sProp 𝕄) ⊢ owns (c : Thread nD τ) m q X := by
  subst h; unfold owns; iintro H; iexists f; isplitr; · ipureintro; rfl
  iexact H

/-- Starting the copy of a chunk into a free slot. -/
theorem wp_enW (s : Fin 4) (p : Fin 32) {o1 : Fin 1 → ℕ} {h1 : ∀ a, o1 a + S1.size a ≤ S4.size a} {o2 : Fin 3 → ℕ} {h2 : ∀ a, o2 a + S1x1024x4096.size a ≤ S4x1024x4096.size a}
    {o3 : Fin 2 → ℕ} {h3 : ∀ a, o3 a + S1024x4096.size a ≤ S32768x4096.size a}
    {e3 : (srcV hbm o3 h3).view.WordExact} {e2 : (slotV ring o2 h2).view.WordExact}
    (E1 : o1 = ![s.val]) (E2 : o2 = ![s.val, 0, 0]) (E3 : o3 = ![1024 * p.val, 0]) :
    (freeS c hbm ring sems q X s : sProp 𝕄)
      ⊢ WP c (enW hbm ring sems o1 h1 o2 h2 o3 h3 e3 e2) (fun _ => fltS c hbm ring sems q X s p) := by
  subst E1 E2 E3
  unfold freeS fltS enW
  iintro ⟨⟨%Y, Hd⟩, Hs, Hw⟩
  ihave Hw := (src_split c hbm q X p) $$ Hw
  icases Hw with ⟨Hw, Hr⟩
  ihave Hd := (owns_elim c _ _ _) $$ Hd
  icases Hd with ⟨%fd, %hfd, Hd⟩
  ihave Hw := (owns_elim c _ _ _) $$ Hw
  icases Hw with ⟨%fs, %hfs, Hw⟩
  iapply (Transfers.wp_dmaLocal (countersEmb (U := Pipeline.UD sig nD τ)) Variants.none (c : Thread nD τ) none (src := srcM hbm p) (dst := slotM ring s)
    (sm := semM sems s) (k := fun x => Prog.ret x) (q := q) (fs := fs) (fd := fd) (Sd := (slotM ring s).view.set) () _ rfl (View.amount_pos _ _ (by decide)) (Finset.Subset.refl _)) $$ [Hd Hw Hs]
  · isplitl [Hw]; · iexact Hw
    isplitl [Hd]; · iexact Hd
    iexact Hs
  iintro HF
  iapply (wp_done Variants.none (c : Thread nD τ) none Set.univ)
  isplitl [HF]
  · iapply (Transfers.Flight_mono (D' := iprop(owns (c : Thread nD τ) (slotM ring s) fullShare (chunk X p) ∗ owns (c : Thread nD τ) (srcM hbm p) q (chunk X p))) _ _ ?_) $$ HF
    iintro ⟨H1, H2⟩
    isplitl [H1]
    · iapply (owns_of c _ _ (by rw [View.read_write_univ, ← hfs])) $$ H1
    · iapply (owns_of c _ _ hfs) $$ H2
  · iexact Hr

/-- Waiting for the copy of a chunk: the slot then holds it. -/
theorem wp_wtW (s : Fin 4) (p : Fin 32) {o1 : Fin 1 → ℕ} {h1 : ∀ a, o1 a + S1.size a ≤ S4.size a} {o2 : Fin 3 → ℕ} {h2 : ∀ a, o2 a + S1x1024x4096.size a ≤ S4x1024x4096.size a}
    {o3 : Fin 2 → ℕ} {h3 : ∀ a, o3 a + S1024x4096.size a ≤ S32768x4096.size a}
    {e3 : (srcV hbm o3 h3).view.WordExact} {e2 : (slotV ring o2 h2).view.WordExact}
    (E1 : o1 = ![s.val]) (E2 : o2 = ![s.val, 0, 0]) (E3 : o3 = ![1024 * p.val, 0]) :
    iprop(fltS c hbm ring sems q X s p ∗ ∃ W, owes (c : Thread nD τ) 0 W)
      ⊢ (WP c (wtW hbm ring sems o1 h1 o2 h2 o3 h3 e3 e2) (fun _ => iprop(fullS c hbm ring sems q X s p ∗ ∃ W, owes (c : Thread nD τ) 0 W)) : sProp 𝕄) := by
  subst E1 E2 E3
  unfold fullS fltS wtW
  iintro ⟨⟨HF, HR⟩, %W, HO⟩
  iapply (Transfers.wp_waitLocal (countersEmb (U := Pipeline.UD sig nD τ)) Variants.none (c : Thread nD τ) none (srcw := srcM hbm p) (dstw := slotM ring s)
    (k := fun x => Prog.ret x) () rfl) $$ [HF HO]
  · isplitl [HF]; · iexact HF
    iexact HO
  iintro ⟨⟨H1, H2⟩, H3, H4⟩
  iapply (wp_done Variants.none (c : Thread nD τ) none Set.univ)
  isplitr [H4]
  · isplitl [H1]; · iexact H1
    isplitl [H3]; · iexact H3
    iapply (src_join c hbm q X p)
    isplitl [H2]; · iexact H2
    iexact HR
  · iexists _; iexact H4

end Ring

end Cert.KernelIdeal.Hand

end
-- ==== Proof.KIFold.lean ====
module

public import proofs.«01_k».proof.Proof.KIRing

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The products -/

/-- A load of a ring slot reads the slot's contents. -/
theorem slot_load (c : Dev nD) (ring : Memref sig .tc .vmem S4x1024x4096 .fp8e4m3) (s : Fin 4) {α : Type} {Q : α → sProp 𝕄}
    {o2 : Fin 3 → ℕ} {h2 : ∀ a, o2 a + S1x1024x4096.size a ≤ S4x1024x4096.size a} (E2 : o2 = ![s.val, 0, 0])
    {hl : ring.view.LoadsAt (Rect.unit (s := S4x1024x4096) o2 S1x1024x4096.size h2).toLoadRect}
    {k : Vec F S1x1024x4096 .fp8e4m3 → Pg F α} {Y : S1024x4096.Idx → Elt F .fp8e4m3} :
    (owns (c : Thread nD τ) (slotM ring s) fullShare Y : sProp 𝕄)
      ⊢ iprop((owns (c : Thread nD τ) (slotM ring s) fullShare Y -∗ WP c (k (asSlot Y)) Q)
        -∗ WP c (.op (.load ring (Rect.unit (s := S4x1024x4096) o2 S1x1024x4096.size h2).toLoadRect hl) k) Q) := by
  subst E2
  iintro H HK
  ihave H := (owns_elim c _ _ _) $$ H
  icases H with ⟨%f, %hf, H⟩
  iapply (wp_load_rect Variants.none (c : Thread nD τ) none Set.univ (m := ring)
    (r := Rect.unit (s := S4x1024x4096) ![s.val, 0, 0] S1x1024x4096.size h2) (hl := hl) (k := k) (S := (slotM ring s).view.set) (q := fullShare) (f := f)
    (by
      have : (slotM ring s).view.set = (ring.access (Rect.unit (s := S4x1024x4096) ![s.val, 0, 0] S1x1024x4096.size h2)).set := View.set_reshape _ _
      rw [this])) $$ [H]
  · iexact H
  iintro H
  have hr : (ring.access (Rect.unit (s := S4x1024x4096) ![s.val, 0, 0] S1x1024x4096.size h2)).read (Elt F) f = asSlot Y := by
    subst hf
    funext i
    show _ = (ring.access (Rect.unit (s := S4x1024x4096) ![s.val, 0, 0] S1x1024x4096.size h2)).read (Elt F) f
      (Shape.reshapeEquiv (squeezes_S1x1024x4096_S1024x4096).numel_eq ((Shape.reshapeEquiv (squeezes_S1x1024x4096_S1024x4096).numel_eq).symm i))
    rw [Equiv.apply_symm_apply]
  rw [hr]
  iapply HK
  have e : ((ring.access (Rect.unit (s := S4x1024x4096) ![s.val, 0, 0] S1x1024x4096.size h2)).loc (c : Thread nD τ) ↦[(slotM ring s).view.set]{fullShare} f : sProp 𝕄)
      ⊢ owns (c : Thread nD τ) (slotM ring s) fullShare Y := owns_of c (slotM ring s) fullShare hf
  iapply e $$ H

/-- The product of the codes with one chunk of the head: it reads the ring slot and fills an accumulator. -/
theorem wp_mm (c : Dev nD) (xqM : Memref sig .tc .vmem S96x4096 .fp8e4m3) (ring : Memref sig .tc .vmem S4x1024x4096 .fp8e4m3)
    (accM : Memref sig .tc .vmem S96x1024 .f32) (s : Fin 4) {o2 : Fin 3 → ℕ} {h2 : ∀ a, o2 a + S1x1024x4096.size a ≤ S4x1024x4096.size a}
    (E2 : o2 = ![s.val, 0, 0]) (XQ : Vec F S96x4096 .fp8e4m3) (Y : S1024x4096.Idx → Elt F .fp8e4m3) :
    iprop(owns (c : Thread nD τ) xqM fullShare XQ ∗ owns (c : Thread nD τ) (slotM ring s) fullShare Y ∗ ∃ A, owns (c : Thread nD τ) accM fullShare A)
      ⊢ (WP c (mm xqM ring accM o2 h2) (fun _ => iprop(owns (c : Thread nD τ) xqM fullShare XQ ∗ owns (c : Thread nD τ) (slotM ring s) fullShare Y
          ∗ owns (c : Thread nD τ) accM fullShare (k0_pay354 XQ (asSlot Y)))) : sProp 𝕄) := by
  unfold mm
  simp only [Prog.bind_lift]
  unfold Prog.lift
  iintro ⟨H1, H2, %A, H3⟩
  iapply (owns_load Variants.none (c : Thread nD τ) none Set.univ) $$ H1
  iintro H1
  iapply (slot_load c ring s E2) $$ H2
  iintro H2
  iapply (owns_load Variants.none (c : Thread nD τ) none Set.univ) $$ H3
  iintro H3
  iapply (owns_store Variants.none (c : Thread nD τ) none Set.univ) $$ H3
  iintro H3
  iapply (wp_done Variants.none (c : Thread nD τ) none Set.univ)
  isplitl [H1]; · iexact H1
  isplitl [H2]; · iexact H2
  rw [overlay_full, emb_full]
  iexact H3

/-! ## One group of rows -/

section Fold

variable (lane : IVec S8x128 32) (b0 b1 : BitVec 32) (A : S96x1024.Idx → F .f32) (RS : S96x128.Idx → F .f32) (WS : S256x128.Idx → F .f32)
  (offW : Fin 8 → Fin 2 → ℕ) (hW : ∀ o a, offW o a + S1x128.size a ≤ S256x128.size a)

/-- The rows of group `g` of the statistics arrays. -/
abbrev rowR (g : Fin 9) : Rect S72x128 := Rect.unit (s := S72x128) ![8 * g.val, 0] S8x128.size (inbRows g)

/-- A chunk of 128 columns of eight rows, scaled. -/
def sC (g : Fin 9) (o : Fin 8) : FVec F S8x128 .f32 :=
  s2v (fun i => A ((Rect.unit (s := S96x1024) ![8 * g.val, 128 * o.val] S8x128.size (inbAcc g o)).emb i))
    (fun i => RS ((Rect.unit (s := S96x128) ![8 * g.val, 0] S8x128.size (inbRs g)).emb i))
    (fun i => WS ((Rect.unit (s := S256x128) (offW o) S1x128.size (hW o)).emb i))

/-- The running sums after one group's fold. -/
def stepD (g : Fin 9) (D : S72x128.Idx → F .f32) : S72x128.Idx → F .f32 :=
  (rowR g).overlay D (shapeCast S8x128 (newD lane b0 b1 (sC A RS WS offW hW g 0) (sC A RS WS offW hW g 1) (sC A RS WS offW hW g 2) (sC A RS WS offW hW g 3)
    (sC A RS WS offW hW g 4) (sC A RS WS offW hW g 5) (sC A RS WS offW hW g 6) (sC A RS WS offW hW g 7) (fun i => D ((rowR g).emb i))) shapeCasts_S8x128_S8x128)

/-- The running maxima after one group's fold. -/
def stepM (g : Fin 9) (D : S72x128.Idx → F .f32) : S72x128.Idx → F .f32 :=
  (rowR g).overlay D (shapeCast S8x128 (newM lane b0 b1 (sC A RS WS offW hW g 0) (sC A RS WS offW hW g 1) (sC A RS WS offW hW g 2) (sC A RS WS offW hW g 3)
    (sC A RS WS offW hW g 4) (sC A RS WS offW hW g 5) (sC A RS WS offW hW g 6) (sC A RS WS offW hW g 7) (fun i => D ((rowR g).emb i))) shapeCasts_S8x128_S8x128)

/-- The running sums after all nine groups. -/
def epiD (D : S72x128.Idx → F .f32) : S72x128.Idx → F .f32 :=
  (List.finRange 9).foldl (fun D g => stepD lane b0 b1 A RS WS offW hW g D) D
/-- What a whole epilogue leaves in the array of tile maxima: the nine group steps one after another. -/
def epiM (D : S72x128.Idx → F .f32) : S72x128.Idx → F .f32 :=
  (List.finRange 9).foldl (fun D g => stepM lane b0 b1 A RS WS offW hW g D) D

variable (c : Dev nD) (rsM : Memref sig .tc .vmem S96x128 .f32) (wsM : Memref sig .tc .vmem S256x128 .f32)
    (accM : Memref sig .tc .vmem S96x1024 .f32) (dM mM : Memref sig .tc .vmem S72x128 .f32)

/-- The fold's buffers. -/
def foldO (D M : S72x128.Idx → F .f32) : sProp 𝕄 :=
  iprop(owns (c : Thread nD τ) rsM fullShare RS ∗ owns (c : Thread nD τ) wsM fullShare WS ∗ owns (c : Thread nD τ) accM fullShare A
    ∗ owns (c : Thread nD τ) dM fullShare D ∗ owns (c : Thread nD τ) mM fullShare M)

/-- One group of an epilogue runs, and changes the two statistics arrays by its step. -/
theorem wp_grp (g : Fin 9) (D M : S72x128.Idx → F .f32) :
    foldO A RS WS c rsM wsM accM dM mM D M
      ⊢ (WP c (grp rsM wsM accM dM mM lane b0 b1 offW hW g)
          (fun _ => foldO A RS WS c rsM wsM accM dM mM (stepD lane b0 b1 A RS WS offW hW g D) (stepM lane b0 b1 A RS WS offW hW g M)) : sProp 𝕄) := by
  unfold grp foldO ldRs ldRow ldAcc ldWs stRow
  simp only [Prog.bind_lift]
  unfold Prog.lift
  iintro ⟨Hr, Hw, Ha, Hd, Hm⟩
  iapply (owns_load Variants.none (c : Thread nD τ) none Set.univ) $$ Hr
  iintro Hr
  iapply (owns_load Variants.none (c : Thread nD τ) none Set.univ) $$ Hd
  iintro Hd
  iapply (owns_load Variants.none (c : Thread nD τ) none Set.univ) $$ Hm
  iintro Hm
  iterate 8
    iapply (owns_load Variants.none (c : Thread nD τ) none Set.univ) $$ Ha
    iintro Ha
    iapply (owns_load Variants.none (c : Thread nD τ) none Set.univ) $$ Hw
    iintro Hw
  iapply (owns_load Variants.none (c : Thread nD τ) none Set.univ) $$ Hd
  iintro Hd
  iapply (owns_store Variants.none (c : Thread nD τ) none Set.univ) $$ Hd
  iintro Hd
  iapply (owns_load Variants.none (c : Thread nD τ) none Set.univ) $$ Hm
  iintro Hm
  iapply (owns_store Variants.none (c : Thread nD τ) none Set.univ) $$ Hm
  iintro Hm
  iapply (wp_done Variants.none (c : Thread nD τ) none Set.univ)
  isplitl [Hr]; · iexact Hr
  isplitl [Hw]; · iexact Hw
  isplitl [Ha]; · iexact Ha
  isplitl [Hd]; · iexact Hd
  iexact Hm

/-- A whole epilogue runs, and changes the two statistics arrays by `epiD` and `epiM`. -/
theorem wp_epi (D M : S72x128.Idx → F .f32) :
    foldO A RS WS c rsM wsM accM dM mM D M
      ⊢ (WP c (epi rsM wsM accM dM mM lane b0 b1 offW hW)
          (fun _ => foldO A RS WS c rsM wsM accM dM mM (epiD lane b0 b1 A RS WS offW hW D) (epiM lane b0 b1 A RS WS offW hW M)) : sProp 𝕄) := by
  unfold epi
  iintro H
  iterate 8
    iapply (wp_then Variants.none (c : Thread nD τ) none Set.univ (wp_grp lane b0 b1 A RS WS offW hW c rsM wsM accM dM mM _ _ _)) $$ H
    iintro %_ H
  iapply (wp_grp lane b0 b1 A RS WS offW hW c rsM wsM accM dM mM _ _ _) $$ H

end Fold

end Cert.KernelIdeal.Hand

end
-- ==== Proof.KILoop.lean ====
module

public import proofs.«01_k».proof.Proof.KIFold

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

/-- A chunk's slot. -/
def sl (p : ℕ) : Fin 4 := ⟨p % 4, Nat.mod_lt _ (by decide)⟩
/-- A chunk's number. -/
def fN (p : ℕ) : Fin 32 := ⟨p % 32, Nat.mod_lt _ (by decide)⟩

/-- The ring returns to a slot after four chunks. -/
theorem sl_add (p : ℕ) : sl (p + 4) = sl p := Fin.ext (Nat.add_mod_right p 4)

/-- Where a chunk's column scales lie: eight rows of 128. -/
def offC (p : Fin 32) (o : Fin 8) : Fin 2 → ℕ := ![8 * p.val + o.val, 0]
/-- The rows of column scales of a chunk lie inside the array. -/
theorem inbC (p : Fin 32) : ∀ o a, offC p o a + S1x128.size a ≤ S256x128.size a := by revert p; decide

/-- The running sums after the first `n` chunks. -/
def dN (XQ : Vec F S96x4096 .fp8e4m3) (X : S32768x4096.Idx → Elt F .fp8e4m3) (RS : S96x128.Idx → F .f32) (WS : S256x128.Idx → F .f32) : ℕ → S72x128.Idx → F .f32
  | 0 => k0_pay352
  | n + 1 => epiD laneV (BitVec.ofNat 32 (2 * n)) (BitVec.ofNat 32 (2 * n + 1)) (dotC XQ X (fN n)) RS WS (offC (fN n)) (inbC (fN n)) (dN XQ X RS WS n)

/-- The running maxima after the first `n` chunks. -/
def mN (XQ : Vec F S96x4096 .fp8e4m3) (X : S32768x4096.Idx → Elt F .fp8e4m3) (RS : S96x128.Idx → F .f32) (WS : S256x128.Idx → F .f32) : ℕ → S72x128.Idx → F .f32
  | 0 => k0_pay353
  | n + 1 => epiM laneV (BitVec.ofNat 32 (2 * n)) (BitVec.ofNat 32 (2 * n + 1)) (dotC XQ X (fN n)) RS WS (offC (fN n)) (inbC (fN n)) (mN XQ X RS WS n)

/-- The row scales: those of the 72 rows, and ones below. -/
def rsV (XS TS : Vec F S72x128 .f32) : S96x128.Idx → F .f32 :=
  (Rect.unit (s := S96x128) ![0, 0] S72x128.size inb_S96x128_S72x128_0_0).overlay (k0_pay350 (F := F)) (k0_pay351 XS TS)

/-- The result. -/
def outV (XQ : Vec F S96x4096 .fp8e4m3) (X : S32768x4096.Idx → Elt F .fp8e4m3) (XS TS : Vec F S72x128 .f32) (WS : S256x128.Idx → F .f32) : FVec F S72x128 .f32 :=
  k0_pay3 (mN XQ X (rsV XS TS) WS 32) (dN XQ X (rsV XS TS) WS 32)

/-! ## The pieces around the loop -/

/-- The refill of an odd chunk happens while there is a chunk four further on. -/
theorem cond2_iff : ∀ k : Fin k0_t1_loop.trips, k0_cond2 k = 1#1 ↔ 2 * k.val + 1 + 4 < 32 := by decide +kernel
/-- The refill of an even chunk happens while there is a chunk four further on. -/
theorem cond3_iff : ∀ k : Fin k0_t1_loop.trips, k0_cond3 k = 1#1 ↔ 2 * k.val + 1 + 1 + 4 < 32 := by decide +kernel
/-- The loop makes fifteen trips. -/
theorem trips_eq : k0_t1_loop.trips = 15 := by decide +kernel
/-- The lanes that the first epilogue of a trip fills. -/
theorem lane1 : ∀ k : Fin k0_t1_loop.trips, laneW (prevW (halfW k 1#32)) 0#32 = BitVec.ofNat 32 (2 * (2 * k.val))
    ∧ laneW (prevW (halfW k 1#32)) 1#32 = BitVec.ofNat 32 (2 * (2 * k.val) + 1) := by decide +kernel
/-- The lanes that the second epilogue of a trip fills. -/
theorem lane2 : ∀ k : Fin k0_t1_loop.trips, laneW (prevW (halfW k 2#32)) 0#32 = BitVec.ofNat 32 (2 * (2 * k.val + 1))
    ∧ laneW (prevW (halfW k 2#32)) 1#32 = BitVec.ofNat 32 (2 * (2 * k.val + 1) + 1) := by decide +kernel

/-- The offsets of an access, from the printed words to plain numbers. -/
theorem o8_1 : ∀ k : Fin k0_t1_loop.trips, k0_off8 k 1#32 = ![(2 * k.val + 1) % 4] := by decide +kernel
/-- The offsets of an access, from the printed words to plain numbers. -/
theorem o9_1 : ∀ k : Fin k0_t1_loop.trips, k0_off9 k 1#32 = ![(2 * k.val + 1) % 4, 0, 0] := by decide +kernel
/-- The offsets of an access, from the printed words to plain numbers. -/
theorem o10_1 : ∀ k : Fin k0_t1_loop.trips, k0_off10 k 1#32 = ![1024 * (2 * k.val + 1), 0] := by decide +kernel
/-- The offsets of an access, from the printed words to plain numbers. -/
theorem o11_1 : ∀ (k : Fin k0_t1_loop.trips) (o : Fin 8), k0_off11 k 1#32 (BitVec.ofNat 32 o.val) = ![8 * (2 * k.val) + o.val, 0] := by decide +kernel
/-- The offsets of an access, from the printed words to plain numbers. -/
theorem o12_1 : ∀ k : Fin k0_t1_loop.trips, k0_off12 k 1#32 = ![(2 * k.val + 1) % 4, 0, 0] := by decide +kernel
/-- The offsets of an access, from the printed words to plain numbers. -/
theorem o8_2 : ∀ k : Fin k0_t1_loop.trips, k0_off8 k 2#32 = ![((2 * k.val + 1) + 1) % 4] := by decide +kernel
/-- The offsets of an access, from the printed words to plain numbers. -/
theorem o9_2 : ∀ k : Fin k0_t1_loop.trips, k0_off9 k 2#32 = ![((2 * k.val + 1) + 1) % 4, 0, 0] := by decide +kernel
/-- The offsets of an access, from the printed words to plain numbers. -/
theorem o10_2 : ∀ k : Fin k0_t1_loop.trips, k0_off10 k 2#32 = ![1024 * ((2 * k.val + 1) + 1), 0] := by decide +kernel
/-- The offsets of an access, from the printed words to plain numbers. -/
theorem o11_2 : ∀ (k : Fin k0_t1_loop.trips) (o : Fin 8), k0_off11 k 2#32 (BitVec.ofNat 32 o.val) = ![8 * ((2 * k.val + 1)) + o.val, 0] := by decide +kernel
/-- The offsets of an access, from the printed words to plain numbers. -/
theorem o12_2 : ∀ k : Fin k0_t1_loop.trips, k0_off12 k 2#32 = ![((2 * k.val + 1) + 1) % 4, 0, 0] := by decide +kernel
/-- The offsets of an access, from the printed words to plain numbers. -/
theorem o13 : ∀ k : Fin k0_t1_loop.trips, k0_off13 k = ![(2 * k.val + 1 + 4) % 4] := by decide +kernel
/-- The offsets of an access, from the printed words to plain numbers. -/
theorem o14 : ∀ k : Fin k0_t1_loop.trips, k0_off14 k = ![(2 * k.val + 1 + 4) % 4, 0, 0] := by decide +kernel
/-- The offsets of an access, from the printed words to plain numbers. -/
theorem o15 : ∀ k : Fin k0_t1_loop.trips, k0_off15 k = ![1024 * (2 * k.val + 1 + 4), 0] := by decide +kernel
/-- The offsets of an access, from the printed words to plain numbers. -/
theorem o16 : ∀ k : Fin k0_t1_loop.trips, k0_off16 k = ![(2 * k.val + 1 + 1 + 4) % 4] := by decide +kernel
/-- The offsets of an access, from the printed words to plain numbers. -/
theorem o17 : ∀ k : Fin k0_t1_loop.trips, k0_off17 k = ![(2 * k.val + 1 + 1 + 4) % 4, 0, 0] := by decide +kernel
/-- The offsets of an access, from the printed words to plain numbers. -/
theorem o18 : ∀ k : Fin k0_t1_loop.trips, k0_off18 k = ![1024 * (2 * k.val + 1 + 1 + 4), 0] := by decide +kernel

section Pieces

variable (c : Dev nD) (arg0 : Memref sig .tc .vmem S96x4096 .fp8e4m3) (arg3 : Memref sig .tc .hbm S32768x4096 .fp8e4m3)
  (arg6 : Memref sig .tc .vmem S96x128 .f32) (arg7 : Memref sig .tc .vmem S256x128 .f32) (arg8 : Memref sig .tc .vmem S4x1024x4096 .fp8e4m3)
  (arg11 arg12 : Memref sig .tc .vmem S72x128 .f32) (arg13 : DmaSems sig S4)
  (qs : Fin 4 → PosShare TreeShare) (XQ : Vec F S96x4096 .fp8e4m3) (X : S32768x4096.Idx → Elt F .fp8e4m3)
  (RS : S96x128.Idx → F .f32) (WS : S256x128.Idx → F .f32)

/-- The slot of chunk `p`: its copy under way, or nothing once the chunks are done. -/
def role (p : ℕ) : sProp 𝕄 :=
  if p < 32 then fltS c arg3 arg8 arg13 (qs (sl p)) X (sl p) (fN p) else freeS c arg3 arg8 arg13 (qs (sl p)) X (sl p)

/-- A refill: it starts the copy four chunks further on, if there is one. -/
theorem wp_rf_enW (n : ℕ) {P : Prop} [Decidable P] (hP : P ↔ n + 4 < 32)
    {o1 : Fin 1 → ℕ} {h1 : P → ∀ a, o1 a + S1.size a ≤ S4.size a} {o2 : Fin 3 → ℕ} {h2 : P → ∀ a, o2 a + S1x1024x4096.size a ≤ S4x1024x4096.size a}
    {o3 : Fin 2 → ℕ} {h3 : P → ∀ a, o3 a + S1024x4096.size a ≤ S32768x4096.size a}
    {e3 : ∀ h, (srcV arg3 o3 (h3 h)).view.WordExact} {e2 : ∀ h, (slotV arg8 o2 (h2 h)).view.WordExact}
    (E1 : o1 = ![(n + 4) % 4]) (E2 : o2 = ![(n + 4) % 4, 0, 0]) (E3 : P → o3 = ![1024 * (n + 4), 0]) :
    (freeS c arg3 arg8 arg13 (qs (sl n)) X (sl n) : sProp 𝕄)
      ⊢ WP c (rf P fun h => enW arg3 arg8 arg13 o1 (h1 h) o2 (h2 h) o3 (h3 h) (e3 h) (e2 h)) (fun _ => role c arg3 arg8 arg13 qs X (n + 4)) := by
  unfold rf role
  by_cases h : P
  · rw [dif_pos h, if_pos (hP.1 h), ← sl_add n]
    refine wp_enW c arg3 arg8 arg13 _ X (sl (n + 4)) (fN (n + 4)) E1 E2 ?_
    rw [E3 h]
    have : (fN (n + 4)).val = n + 4 := Nat.mod_eq_of_lt (hP.1 h)
    rw [this]
  · rw [dif_neg h, if_neg (fun h' => h (hP.2 h')), sl_add n]
    iintro H
    iapply (wp_done Variants.none (c : Thread nD τ) none Set.univ)
    iexact H

/-- The state between two chunks: the codes, and the fold's buffers, the products of chunk `m` in one of the accumulators. -/
def midS (accP accN : Memref sig .tc .vmem S96x1024 .f32) (m : ℕ) : sProp 𝕄 :=
  iprop((∃ W, owes (c : Thread nD τ) 0 W) ∗ owns (c : Thread nD τ) arg0 fullShare XQ
    ∗ foldO (dotC XQ X (fN m)) RS WS c arg6 arg7 accP arg11 arg12 (dN XQ X RS WS m) (mN XQ X RS WS m)
    ∗ ∃ A, owns (c : Thread nD τ) accN fullShare A)

/-- The epilogue of chunk `m`, with the loop's own words for offsets and lanes. -/
theorem wp_epiC (accP : Memref sig .tc .vmem S96x1024 .f32) (m : ℕ) {b0 b1 : BitVec 32} {offW : Fin 8 → Fin 2 → ℕ} {hW : ∀ o a, offW o a + S1x128.size a ≤ S256x128.size a}
    (B0 : b0 = BitVec.ofNat 32 (2 * m)) (B1 : b1 = BitVec.ofNat 32 (2 * m + 1)) (EW : ∀ o, offW o = offC (fN m) o) :
    foldO (dotC XQ X (fN m)) RS WS c arg6 arg7 accP arg11 arg12 (dN XQ X RS WS m) (mN XQ X RS WS m)
      ⊢ (WP c (epi arg6 arg7 accP arg11 arg12 laneV b0 b1 offW hW)
        (fun _ => foldO (dotC XQ X (fN m)) RS WS c arg6 arg7 accP arg11 arg12 (dN XQ X RS WS (m + 1)) (mN XQ X RS WS (m + 1))) : sProp 𝕄) := by
  obtain rfl : offW = offC (fN m) := funext EW
  subst B0 B1
  exact wp_epi _ _ _ _ _ _ _ _ c arg6 arg7 accP arg11 arg12 _ _

/-- A half step: wait for a chunk, epilogue of the chunk before, product with the chunk. -/
theorem wp_half (m : ℕ) (hn : m + 1 < 32) (accP accN : Memref sig .tc .vmem S96x1024 .f32)
    {o1 : Fin 1 → ℕ} {h1 : ∀ a, o1 a + S1.size a ≤ S4.size a} {o2 : Fin 3 → ℕ} {h2 : ∀ a, o2 a + S1x1024x4096.size a ≤ S4x1024x4096.size a}
    {o3 : Fin 2 → ℕ} {h3 : ∀ a, o3 a + S1024x4096.size a ≤ S32768x4096.size a}
    {e3 : (srcV arg3 o3 h3).view.WordExact} {e2 : (slotV arg8 o2 h2).view.WordExact}
    {b0 b1 : BitVec 32} {offW : Fin 8 → Fin 2 → ℕ} {hW : ∀ o a, offW o a + S1x128.size a ≤ S256x128.size a}
    {o4 : Fin 3 → ℕ} {h4 : ∀ a, o4 a + S1x1024x4096.size a ≤ S4x1024x4096.size a}
    {R : Pg F PUnit} {QR : sProp 𝕄}
    (E1 : o1 = ![(m + 1) % 4]) (E2 : o2 = ![(m + 1) % 4, 0, 0]) (E3 : o3 = ![1024 * (m + 1), 0])
    (B0 : b0 = BitVec.ofNat 32 (2 * m)) (B1 : b1 = BitVec.ofNat 32 (2 * m + 1)) (EW : ∀ o, offW o = ![8 * m + o.val, 0])
    (E4 : o4 = ![(m + 1) % 4, 0, 0])
    (hR : iprop(freeS c arg3 arg8 arg13 (qs (sl (m + 1))) X (sl (m + 1)) ∗ midS c arg0 arg6 arg7 arg11 arg12 XQ X RS WS accN accP (m + 1)) ⊢ WP c R (fun _ => QR)) :
    iprop(role c arg3 arg8 arg13 qs X (m + 1) ∗ midS c arg0 arg6 arg7 arg11 arg12 XQ X RS WS accP accN m)
      ⊢ (WP c (do wtW arg3 arg8 arg13 o1 h1 o2 h2 o3 h3 e3 e2
                  epi arg6 arg7 accP arg11 arg12 laneV b0 b1 offW hW
                  mm arg0 arg8 accN o4 h4
                  R) (fun _ => QR) : sProp 𝕄) := by
  have hfv : (fN (m + 1)).val = m + 1 := Nat.mod_eq_of_lt hn
  have hfm : (fN m).val = m := Nat.mod_eq_of_lt (by omega)
  refine Entails.trans ?_ (show _ ⊢ _ from .rfl)
  unfold role
  rw [if_pos hn]
  iintro ⟨HF, HM⟩
  unfold midS
  icases HM with ⟨HO, HX, HD, HA⟩
  iapply (wp_then Variants.none (c : Thread nD τ) none Set.univ (wp_wtW c arg3 arg8 arg13 _ X (sl (m + 1)) (fN (m + 1)) E1 E2 (by rw [hfv]; exact E3))) $$ [HF HO]
  · isplitl [HF]; · iexact HF
    iexact HO
  iintro %_ ⟨HF, HO⟩
  iapply (wp_then Variants.none (c : Thread nD τ) none Set.univ (wp_epiC c arg6 arg7 arg11 arg12 XQ X RS WS accP m B0 B1
    (fun o => by rw [EW o]; unfold offC; rw [hfm]))) $$ HD
  iintro %_ HD
  unfold fullS
  icases HF with ⟨HF, HS, HW⟩
  iapply (wp_then Variants.none (c : Thread nD τ) none Set.univ (wp_mm c arg0 arg8 accN (sl (m + 1)) E4 XQ (chunk X (fN (m + 1))))) $$ [HX HF HA]
  · isplitl [HX]; · iexact HX
    isplitl [HF]; · iexact HF
    iexact HA
  iintro %_ ⟨HX, HF, HA⟩
  iapply hR
  unfold freeS midS foldO
  icases HD with ⟨Hr, Hw, Ha, Hd, Hm⟩
  isplitl [HF HS HW]
  · isplitl [HF]; · iexists _; iexact HF
    isplitl [HS]; · iexact HS
    iexact HW
  isplitl [HO]; · iexact HO
  isplitl [HX]; · iexact HX
  isplitr [Ha]
  · isplitl [Hr]; · iexact Hr
    isplitl [Hw]; · iexact Hw
    isplitl [HA]; · iexact HA
    isplitl [Hd]; · iexact Hd
    iexact Hm
  · iexists _; iexact Ha

/-- The loop's invariant before trip `i`. -/
def loopI (arg9 arg10 : Memref sig .tc .vmem S96x1024 .f32) (i : ℕ) : sProp 𝕄 :=
  iprop(role c arg3 arg8 arg13 qs X (2 * i + 1) ∗ role c arg3 arg8 arg13 qs X (2 * i + 2) ∗ role c arg3 arg8 arg13 qs X (2 * i + 3)
    ∗ role c arg3 arg8 arg13 qs X (2 * i + 4) ∗ midS c arg0 arg6 arg7 arg11 arg12 XQ X RS WS arg9 arg10 (2 * i))

end Pieces

section Loop

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (RS : S96x128.Idx → F .f32) (WS : S256x128.Idx → F .f32)

/-- The refill that ends a half step. -/
theorem wp_rf_mid (n : ℕ) (accP accN : Memref sig .tc .vmem S96x1024 .f32) {R : Pg F PUnit}
    (h : (freeS c arg3 arg8 arg13 (qs (sl n)) X (sl n) : sProp 𝕄) ⊢ WP c R (fun _ => role c arg3 arg8 arg13 qs X (n + 4))) :
    iprop(freeS c arg3 arg8 arg13 (qs (sl n)) X (sl n) ∗ midS c arg0 arg6 arg7 arg11 arg12 XQ X RS WS accN accP n)
      ⊢ (WP c R (fun _ => iprop(role c arg3 arg8 arg13 qs X (n + 4) ∗ midS c arg0 arg6 arg7 arg11 arg12 XQ X RS WS accN accP n)) : sProp 𝕄) := by
  iintro ⟨H, HM⟩
  iapply (wp_wand_r frame (wpE (defs₀ (F := F)) Variants.none (c : Thread nD τ) none) Set.univ)
  isplitl [H]
  · iapply h; iexact H
  · iintro %_ H
    isplitl [H]; · iexact H
    iexact HM

/-- The first half step of a trip. -/
theorem wp_half1 (k : Fin k0_t1_loop.trips) :
    iprop(role c arg3 arg8 arg13 qs X (2 * k.val + 1) ∗ midS c arg0 arg6 arg7 arg11 arg12 XQ X RS WS arg9 arg10 (2 * k.val))
      ⊢ (WP c (half1 arg0 harg0 arg1 harg1 arg2 harg2 arg3 harg3 arg4 harg4 arg5 harg5 arg6 harg6 arg7 harg7 arg8 harg8 arg9 harg9 arg10 harg10 arg11 harg11 arg12 harg12 arg13 arg14 laneV k)
        (fun _ => iprop(role c arg3 arg8 arg13 qs X (2 * k.val + 1 + 4) ∗ midS c arg0 arg6 arg7 arg11 arg12 XQ X RS WS arg10 arg9 (2 * k.val + 1))) : sProp 𝕄) := by
  have hk : k.val < 15 := trips_eq ▸ k.isLt
  unfold half1
  refine wp_half (QR := iprop(role c arg3 arg8 arg13 qs X (2 * k.val + 1 + 4) ∗ midS c arg0 arg6 arg7 arg11 arg12 XQ X RS WS arg10 arg9 (2 * k.val + 1))) c arg0 arg3 arg6 arg7 arg8 arg11 arg12 arg13 qs XQ X RS WS (2 * k.val) (by omega) arg9 arg10
    (o8_1 k) (o9_1 k) (o10_1 k) (lane1 k).1 (lane1 k).2 (o11_1 k) (o12_1 k) ?_
  refine wp_rf_mid c arg0 arg3 arg6 arg7 arg8 arg11 arg12 arg13 qs XQ X RS WS (2 * k.val + 1) arg9 arg10 (wp_rf_enW c arg3 arg8 arg13 qs X (2 * k.val + 1) (cond2_iff k) (o13 k) (o14 k) (fun _ => o15 k))

/-- The second half step of a trip. -/
theorem wp_half2 (k : Fin k0_t1_loop.trips) :
    iprop(role c arg3 arg8 arg13 qs X (2 * k.val + 1 + 1) ∗ midS c arg0 arg6 arg7 arg11 arg12 XQ X RS WS arg10 arg9 (2 * k.val + 1))
      ⊢ (WP c (half2 arg0 harg0 arg1 harg1 arg2 harg2 arg3 harg3 arg4 harg4 arg5 harg5 arg6 harg6 arg7 harg7 arg8 harg8 arg9 harg9 arg10 harg10 arg11 harg11 arg12 harg12 arg13 arg14 laneV k)
        (fun _ => iprop(role c arg3 arg8 arg13 qs X (2 * k.val + 1 + 1 + 4) ∗ midS c arg0 arg6 arg7 arg11 arg12 XQ X RS WS arg9 arg10 (2 * k.val + 1 + 1))) : sProp 𝕄) := by
  have hk : k.val < 15 := trips_eq ▸ k.isLt
  unfold half2
  refine wp_half (QR := iprop(role c arg3 arg8 arg13 qs X (2 * k.val + 1 + 1 + 4) ∗ midS c arg0 arg6 arg7 arg11 arg12 XQ X RS WS arg9 arg10 (2 * k.val + 1 + 1))) c arg0 arg3 arg6 arg7 arg8 arg11 arg12 arg13 qs XQ X RS WS (2 * k.val + 1) (by omega) arg10 arg9
    (o8_2 k) (o9_2 k) (o10_2 k) (lane2 k).1 (lane2 k).2 (o11_2 k) (o12_2 k) ?_
  refine wp_rf_mid c arg0 arg3 arg6 arg7 arg8 arg11 arg12 arg13 qs XQ X RS WS (2 * k.val + 1 + 1) arg10 arg9 (wp_rf_enW c arg3 arg8 arg13 qs X (2 * k.val + 1 + 1) (cond3_iff k) (o16 k) (o17 k) (fun _ => o18 k))

/-- One trip of the loop, from its state to the next. -/
theorem wp_body (k : Fin k0_t1_loop.trips) :
    loopI c arg0 arg3 arg6 arg7 arg8 arg11 arg12 arg13 qs XQ X RS WS arg9 arg10 k.val
      ⊢ (WP c (do half1 arg0 harg0 arg1 harg1 arg2 harg2 arg3 harg3 arg4 harg4 arg5 harg5 arg6 harg6 arg7 harg7 arg8 harg8 arg9 harg9 arg10 harg10 arg11 harg11 arg12 harg12 arg13 arg14 laneV k
                  half2 arg0 harg0 arg1 harg1 arg2 harg2 arg3 harg3 arg4 harg4 arg5 harg5 arg6 harg6 arg7 harg7 arg8 harg8 arg9 harg9 arg10 harg10 arg11 harg11 arg12 harg12 arg13 arg14 laneV k)
        (fun _ => loopI c arg0 arg3 arg6 arg7 arg8 arg11 arg12 arg13 qs XQ X RS WS arg9 arg10 (k.val + 1)) : sProp 𝕄) := by
  unfold loopI
  iintro ⟨H1, H2, H3, H4, HM⟩
  iapply (wp_then Variants.none (c : Thread nD τ) none Set.univ (wp_half1 c arg0 harg0 arg1 harg1 arg2 harg2 arg3 harg3 arg4 harg4 arg5 harg5 arg6 harg6 arg7 harg7 arg8 harg8 arg9 harg9 arg10 harg10 arg11 harg11 arg12 harg12 arg13 arg14 qs XQ X RS WS k)) $$ [H1 HM]
  · isplitl [H1]; · iexact H1
    iexact HM
  iintro %_ ⟨H1, HM⟩
  iapply (wp_wand_r frame (wpE (defs₀ (F := F)) Variants.none (c : Thread nD τ) none) Set.univ)
  isplitl [H2 HM]
  · iapply (wp_half2 c arg0 harg0 arg1 harg1 arg2 harg2 arg3 harg3 arg4 harg4 arg5 harg5 arg6 harg6 arg7 harg7 arg8 harg8 arg9 harg9 arg10 harg10 arg11 harg11 arg12 harg12 arg13 arg14 qs XQ X RS WS k)
    isplitl [H2]; · iexact H2
    iexact HM
  · iintro %_ ⟨H2, HM⟩
    have e1 : 2 * (k.val + 1) + 1 = 2 * k.val + 3 := by omega
    have e2 : 2 * (k.val + 1) + 2 = 2 * k.val + 4 := by omega
    have e3 : 2 * (k.val + 1) + 3 = 2 * k.val + 1 + 4 := by omega
    have e4 : 2 * (k.val + 1) + 4 = 2 * k.val + 1 + 1 + 4 := by omega
    have e5 : 2 * (k.val + 1) = 2 * k.val + 1 + 1 := by omega
    rw [e1, e2, e3, e4, e5]
    isplitl [H3]; · iexact H3
    isplitl [H4]; · iexact H4
    isplitl [H1]; · iexact H1
    isplitl [H2]; · iexact H2
    iexact HM

end Loop

end Cert.KernelIdeal.Hand

end
-- ==== Proof.KIRun.lean ====
module

public import proofs.«01_k».proof.Proof.KILoop

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The offsets of an access, from the printed words to plain numbers. -/
theorem off1_0 : k0_off1 0#32 = ![(0 : Fin 4).val] := by decide +kernel
/-- The offsets of an access, from the printed words to plain numbers. -/
theorem off1_1 : k0_off1 1#32 = ![(1 : Fin 4).val] := by decide +kernel
/-- The offsets of an access, from the printed words to plain numbers. -/
theorem off1_2 : k0_off1 2#32 = ![(2 : Fin 4).val] := by decide +kernel
/-- The offsets of an access, from the printed words to plain numbers. -/
theorem off1_3 : k0_off1 3#32 = ![(3 : Fin 4).val] := by decide +kernel
/-- The offsets of an access, from the printed words to plain numbers. -/
theorem off2_0 : k0_off2 0#32 = ![(0 : Fin 4).val, 0, 0] := by decide +kernel
/-- The offsets of an access, from the printed words to plain numbers. -/
theorem off2_1 : k0_off2 1#32 = ![(1 : Fin 4).val, 0, 0] := by decide +kernel
/-- The offsets of an access, from the printed words to plain numbers. -/
theorem off2_2 : k0_off2 2#32 = ![(2 : Fin 4).val, 0, 0] := by decide +kernel
/-- The offsets of an access, from the printed words to plain numbers. -/
theorem off2_3 : k0_off2 3#32 = ![(3 : Fin 4).val, 0, 0] := by decide +kernel
/-- The offsets of an access, from the printed words to plain numbers. -/
theorem off3_0 : k0_off3 0#32 = ![1024 * (0 : Fin 32).val, 0] := by decide +kernel
/-- The offsets of an access, from the printed words to plain numbers. -/
theorem off4_0 : k0_off4 0#32 = ![(0 : Fin 4).val, 0, 0] := by decide +kernel
/-- The offsets of an access, from the printed words to plain numbers. -/
theorem off5_0 : k0_off5 = ![(0 : Fin 4).val] := by decide +kernel
/-- The offsets of an access, from the printed words to plain numbers. -/
theorem off6_0 : k0_off6 = ![(0 : Fin 4).val, 0, 0] := by decide +kernel
/-- The offsets of an access, from the printed words to plain numbers. -/
theorem off7_0 : k0_off7 = ![1024 * (4 : Fin 32).val, 0] := by decide +kernel
/-- The offsets of an access, from the printed words to plain numbers. -/
theorem off1_31 : k0_off1 31#32 = ![(30 + 1) % 4] := by decide +kernel
/-- The offsets of an access, from the printed words to plain numbers. -/
theorem off2_31 : k0_off2 31#32 = ![(30 + 1) % 4, 0, 0] := by decide +kernel
/-- The offsets of an access, from the printed words to plain numbers. -/
theorem off3_31 : k0_off3 31#32 = ![1024 * (30 + 1), 0] := by decide +kernel
/-- The offsets of an access, from the printed words to plain numbers. -/
theorem off4_31 : k0_off4 31#32 = ![(30 + 1) % 4, 0, 0] := by decide +kernel
/-- The offsets of an access, from the printed words to plain numbers. -/
theorem off19_30 : ∀ o : Fin 8, k0_off19 (BitVec.ofNat 32 o.val) = ![8 * 30 + o.val, 0] := by decide +kernel
/-- The lanes that the epilogue before the last fills. -/
theorem lane31 : laneW (prevW 31#32) 0#32 = BitVec.ofNat 32 (2 * 30) ∧ laneW (prevW 31#32) 1#32 = BitVec.ofNat 32 (2 * 30 + 1) := by decide +kernel

section Run

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (XS TS : Vec F S72x128 .f32) (RS : S96x128.Idx → F .f32) (WS : S256x128.Idx → F .f32)

/-- The cell the column scales' copy completes on. -/
abbrev semW (sems : DmaSems sig S3) : SemLoc sig := .dma (semI sems).sem

/-- The column scales under way. -/
def fltWS (hbm : Memref sig .tc .hbm S256x128 .f32) (dst : Memref sig .tc .vmem S256x128 .f32) (sems : DmaSems sig S3) : sProp 𝕄 :=
  Transfers.Flight (countersEmb (U := Pipeline.UD sig nD τ)) (c : Thread nD τ) (semW sems) () (dst.view.amount (semW sems))
      iprop(owns (c : Thread nD τ) dst fullShare WS ∗ owns (c : Thread nD τ) hbm fullShare WS)

/-- A chunk that exists is on its way to its slot. -/
theorem role_lt (p : ℕ) (hp : p < 32) : (role c arg3 arg8 arg13 qs X p : sProp 𝕄) = fltS c arg3 arg8 arg13 (qs (sl p)) X (sl p) (fN p) := by
  unfold role; rw [if_pos hp]

/-- The first copies: the column scales and four chunks. -/
theorem wp_start :
    iprop(owns (c : Thread nD τ) arg4 fullShare WS ∗ (∃ Y, owns (c : Thread nD τ) arg7 fullShare Y) ∗ semVal ((c : Thread nD τ), semW arg14) 0
      ∗ freeS c arg3 arg8 arg13 (qs 0) X 0 ∗ freeS c arg3 arg8 arg13 (qs 1) X 1 ∗ freeS c arg3 arg8 arg13 (qs 2) X 2 ∗ freeS c arg3 arg8 arg13 (qs 3) X 3)
      ⊢ (WP c (startP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(fltWS c WS arg4 arg7 arg14 ∗ fltS c arg3 arg8 arg13 (qs 0) X 0 0 ∗ fltS c arg3 arg8 arg13 (qs 1) X 1 1
          ∗ fltS c arg3 arg8 arg13 (qs 2) X 2 2 ∗ fltS c arg3 arg8 arg13 (qs 3) X 3 3)) : sProp 𝕄) := by
  unfold startP
  rw [Prog.bind_lift]
  iintro ⟨Hw, ⟨%Y, Hd⟩, Hs, H0, H1, H2, H3⟩
  ihave Hd := (owns_elim c _ _ _) $$ Hd
  icases Hd with ⟨%fd, %hfd, Hd⟩
  ihave Hw := (owns_elim c _ _ _) $$ Hw
  icases Hw with ⟨%fs, %hfs, Hw⟩
  iapply (Transfers.wp_dmaLocal (countersEmb (U := Pipeline.UD sig nD τ)) Variants.none (c : Thread nD τ) none (src := arg4) (dst := arg7)
    (sm := semW arg14) (q := fullShare) (fs := fs) (fd := fd) (Sd := arg7.view.set) () _ rfl (View.amount_pos _ _ (by decide)) (Finset.Subset.refl _)) $$ [Hd Hw Hs]
  · isplitl [Hw]; · iexact Hw
    isplitl [Hd]; · iexact Hd
    iexact Hs
  iintro HF
  iapply (wp_then Variants.none (c : Thread nD τ) none Set.univ (wp_enW c arg3 arg8 arg13 (qs 0) X 0 0 off1_0 off2_0 rfl)) $$ H0
  iintro %_ H0
  iapply (wp_then Variants.none (c : Thread nD τ) none Set.univ (wp_enW c arg3 arg8 arg13 (qs 1) X 1 1 off1_1 off2_1 rfl)) $$ H1
  iintro %_ H1
  iapply (wp_then Variants.none (c : Thread nD τ) none Set.univ (wp_enW c arg3 arg8 arg13 (qs 2) X 2 2 off1_2 off2_2 rfl)) $$ H2
  iintro %_ H2
  iapply (wp_wand_r frame (wpE (defs₀ (F := F)) Variants.none (c : Thread nD τ) none) Set.univ)
  isplitl [H3]
  · iapply (wp_enW c arg3 arg8 arg13 (qs 3) X 3 3 off1_3 off2_3 rfl); iexact H3
  iintro %_ H3
  isplitl [HF]
  · unfold fltWS
    iapply (Transfers.Flight_mono (D' := iprop(owns (c : Thread nD τ) arg7 fullShare WS ∗ owns (c : Thread nD τ) arg4 fullShare WS)) _ _ ?_) $$ HF
    iintro ⟨H1, H2⟩
    isplitl [H1]
    · iapply (owns_of c _ _ (by rw [View.read_write_univ, ← hfs])) $$ H1
    · iapply (owns_of c _ _ hfs) $$ H2
  isplitl [H0]; · iexact H0
  isplitl [H1]; · iexact H1
  isplitl [H2]; · iexact H2
  iexact H3

/-- The row scales and the starting values of the statistics. -/
theorem wp_init :
    iprop(fltWS c WS arg4 arg7 arg14 ∗ (∃ W, owes (c : Thread nD τ) 0 W) ∗ owns (c : Thread nD τ) arg1 fullShare XS ∗ owns (c : Thread nD τ) arg2 fullShare TS
      ∗ (∃ Y, owns (c : Thread nD τ) arg6 fullShare Y) ∗ (∃ Y, owns (c : Thread nD τ) arg11 fullShare Y) ∗ (∃ Y, owns (c : Thread nD τ) arg12 fullShare Y))
      ⊢ (WP c (initP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(owns (c : Thread nD τ) arg4 fullShare WS ∗ owns (c : Thread nD τ) arg7 fullShare WS ∗ semVal ((c : Thread nD τ), semW arg14) 0
          ∗ (∃ W, owes (c : Thread nD τ) 0 W) ∗ owns (c : Thread nD τ) arg1 fullShare XS ∗ owns (c : Thread nD τ) arg2 fullShare TS
          ∗ owns (c : Thread nD τ) arg6 fullShare (rsV XS TS) ∗ owns (c : Thread nD τ) arg11 fullShare (k0_pay352 (F := F)) ∗ owns (c : Thread nD τ) arg12 fullShare (k0_pay353 (F := F)))) : sProp 𝕄) := by
  unfold initP
  simp only [Prog.bind_lift]
  unfold Prog.lift
  iintro ⟨HF, ⟨%W, HO⟩, H1, H2, ⟨%Y6, H6⟩, ⟨%Y11, H11⟩, ⟨%Y12, H12⟩⟩
  iapply (owns_load Variants.none (c : Thread nD τ) none Set.univ) $$ H6
  iintro H6
  iapply (owns_store Variants.none (c : Thread nD τ) none Set.univ) $$ H6
  iintro H6
  iapply (owns_load Variants.none (c : Thread nD τ) none Set.univ) $$ H1
  iintro H1
  iapply (owns_load Variants.none (c : Thread nD τ) none Set.univ) $$ H2
  iintro H2
  iapply (owns_load Variants.none (c : Thread nD τ) none Set.univ) $$ H6
  iintro H6
  iapply (owns_store Variants.none (c : Thread nD τ) none Set.univ) $$ H6
  iintro H6
  iapply (owns_load Variants.none (c : Thread nD τ) none Set.univ) $$ H11
  iintro H11
  iapply (owns_store Variants.none (c : Thread nD τ) none Set.univ) $$ H11
  iintro H11
  iapply (owns_load Variants.none (c : Thread nD τ) none Set.univ) $$ H12
  iintro H12
  iapply (owns_store Variants.none (c : Thread nD τ) none Set.univ) $$ H12
  iintro H12
  rw [overlay_full, overlay_full, overlay_full, emb_full, emb_full]
  unfold fltWS
  iapply (Transfers.wp_waitLocal (countersEmb (U := Pipeline.UD sig nD τ)) Variants.none (c : Thread nD τ) none (srcw := arg4) (dstw := arg7)
    (k := fun x => Prog.ret x) () rfl) $$ [HF HO]
  · isplitl [HF]; · iexact HF
    iexact HO
  iintro ⟨⟨H7, H4⟩, H3, HO⟩
  iapply (wp_done Variants.none (c : Thread nD τ) none Set.univ)
  isplitl [H4]; · iexact H4
  isplitl [H7]; · iexact H7
  isplitl [H3]; · iexact H3
  isplitl [HO]; · iexists _; iexact HO
  isplitl [H1]; · iexact H1
  isplitl [H2]; · iexact H2
  isplitl [H6]; · unfold rsV; iexact H6
  isplitl [H11]; · iexact H11
  iexact H12

/-- The first half step, with no epilogue. -/
theorem wp_first :
    iprop(fltS c arg3 arg8 arg13 (qs 0) X 0 0 ∗ (∃ W, owes (c : Thread nD τ) 0 W) ∗ owns (c : Thread nD τ) arg0 fullShare XQ ∗ (∃ Y, owns (c : Thread nD τ) arg9 fullShare Y))
      ⊢ (WP c (firstP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(fltS c arg3 arg8 arg13 (qs 0) X 0 4 ∗ (∃ W, owes (c : Thread nD τ) 0 W) ∗ owns (c : Thread nD τ) arg0 fullShare XQ
          ∗ owns (c : Thread nD τ) arg9 fullShare (dotC XQ X 0))) : sProp 𝕄) := by
  unfold firstP
  iintro ⟨HF, HO, HX, HA⟩
  iapply (wp_then Variants.none (c : Thread nD τ) none Set.univ (wp_wtW c arg3 arg8 arg13 (qs 0) X 0 0 off1_0 off2_0 off3_0)) $$ [HF HO]
  · isplitl [HF]; · iexact HF
    iexact HO
  iintro %_ ⟨HF, HO⟩
  unfold fullS
  icases HF with ⟨HF, HS, HW⟩
  iapply (wp_then Variants.none (c : Thread nD τ) none Set.univ (wp_mm c arg0 arg8 arg9 0 off4_0 XQ (chunk X 0))) $$ [HX HF HA]
  · isplitl [HX]; · iexact HX
    isplitl [HF]; · iexact HF
    iexact HA
  iintro %_ ⟨HX, HF, HA⟩
  iapply (wp_wand_r frame (wpE (defs₀ (F := F)) Variants.none (c : Thread nD τ) none) Set.univ)
  isplitl [HF HS HW]
  · iapply (wp_enW c arg3 arg8 arg13 (qs 0) X 0 4 off5_0 off6_0 off7_0)
    unfold freeS
    isplitl [HF]; · iexists _; iexact HF
    isplitl [HS]; · iexact HS
    iexact HW
  iintro %_ HF
  isplitl [HF]; · iexact HF
  isplitl [HO]; · iexact HO
  isplitl [HX]; · iexact HX
  unfold dotC
  iexact HA

/-- The last step: the result from the two statistics arrays. -/
theorem wp_fin (D M : S72x128.Idx → F .f32) :
    iprop(owns (c : Thread nD τ) arg11 fullShare D ∗ owns (c : Thread nD τ) arg12 fullShare M ∗ (∃ Y, owns (c : Thread nD τ) arg5 fullShare Y))
      ⊢ (WP c (finP arg0 harg0 arg1 harg1 arg2 harg2 arg3 harg3 arg4 harg4 arg5 harg5 arg6 harg6 arg7 harg7 arg8 harg8 arg9 harg9 arg10 harg10 arg11 harg11 arg12 harg12 arg13 arg14)
        (fun _ => iprop(owns (c : Thread nD τ) arg11 fullShare D ∗ owns (c : Thread nD τ) arg12 fullShare M ∗ owns (c : Thread nD τ) arg5 fullShare (k0_pay3 M D))) : sProp 𝕄) := by
  unfold finP
  simp only [Prog.bind_lift]
  unfold Prog.lift
  iintro ⟨H11, H12, ⟨%Y5, H5⟩⟩
  iapply (owns_load Variants.none (c : Thread nD τ) none Set.univ) $$ H12
  iintro H12
  iapply (owns_load Variants.none (c : Thread nD τ) none Set.univ) $$ H11
  iintro H11
  iapply (owns_load Variants.none (c : Thread nD τ) none Set.univ) $$ H5
  iintro H5
  iapply (owns_store Variants.none (c : Thread nD τ) none Set.univ) $$ H5
  iintro H5
  rw [overlay_full, emb_full, emb_full]
  iapply (wp_done Variants.none (c : Thread nD τ) none Set.univ)
  isplitl [H11]; · iexact H11
  isplitl [H12]; · iexact H12
  iexact H5

/-- What is held once the last chunk is folded in and the result stored. -/
def lastQ : sProp 𝕄 :=
  iprop(freeS c arg3 arg8 arg13 (qs 3) X 3 ∗ (∃ W, owes (c : Thread nD τ) 0 W) ∗ owns (c : Thread nD τ) arg0 fullShare XQ
    ∗ owns (c : Thread nD τ) arg6 fullShare RS ∗ owns (c : Thread nD τ) arg7 fullShare WS ∗ (∃ A, owns (c : Thread nD τ) arg9 fullShare A) ∗ (∃ A, owns (c : Thread nD τ) arg10 fullShare A)
    ∗ (∃ A, owns (c : Thread nD τ) arg11 fullShare A) ∗ (∃ A, owns (c : Thread nD τ) arg12 fullShare A)
    ∗ owns (c : Thread nD τ) arg5 fullShare (k0_pay3 (mN XQ X RS WS 32) (dN XQ X RS WS 32)))

/-- All that follows the loop. -/
theorem wp_tail :
    iprop((freeS c arg3 arg8 arg13 (qs 3) X 3 ∗ midS c arg0 arg6 arg7 arg11 arg12 XQ X RS WS arg10 arg9 31) ∗ (∃ Y, owns (c : Thread nD τ) arg5 fullShare Y))
      ⊢ (WP c (do epi arg6 arg7 arg10 arg11 arg12 laneV 62#32 63#32 (fun o => ![248 + o.val, 0]) inbLast
                  finP arg0 harg0 arg1 harg1 arg2 harg2 arg3 harg3 arg4 harg4 arg5 harg5 arg6 harg6 arg7 harg7 arg8 harg8 arg9 harg9 arg10 harg10 arg11 harg11 arg12 harg12 arg13 arg14)
        (fun _ => lastQ c arg0 arg3 arg5 arg6 arg7 arg8 arg9 arg10 arg11 arg12 arg13 qs XQ X RS WS) : sProp 𝕄) := by
  unfold midS lastQ
  iintro ⟨⟨HF, HO, HX, HD, HA⟩, H5⟩
  iapply (wp_then Variants.none (c : Thread nD τ) none Set.univ (wp_epiC c arg6 arg7 arg11 arg12 XQ X RS WS arg10 31 rfl rfl (fun o => rfl))) $$ HD
  iintro %_ HD
  unfold foldO
  icases HD with ⟨Hr, Hw, Ha, Hd, Hm⟩
  iapply (wp_wand_r frame (wpE (defs₀ (F := F)) Variants.none (c : Thread nD τ) none) Set.univ)
  isplitl [Hd Hm H5]
  · iapply (wp_fin c arg0 harg0 arg1 harg1 arg2 harg2 arg3 harg3 arg4 harg4 arg5 harg5 arg6 harg6 arg7 harg7 arg8 harg8 arg9 harg9 arg10 harg10 arg11 harg11 arg12 harg12 arg13 arg14 (dN XQ X RS WS 32) (mN XQ X RS WS 32))
    isplitl [Hd]; · iexact Hd
    isplitl [Hm]; · iexact Hm
    iexact H5
  iintro %_ ⟨Hd, Hm, H5⟩
  isplitl [HF]; · iexact HF
  isplitl [HO]; · iexact HO
  isplitl [HX]; · iexact HX
  isplitl [Hr]; · iexact Hr
  isplitl [Hw]; · iexact Hw
  isplitl [HA]; · iexact HA
  isplitl [Ha]; · iexists _; iexact Ha
  isplitl [Hd]; · iexists _; iexact Hd
  isplitl [Hm]; · iexists _; iexact Hm
  iexact H5

end Run

end Cert.KernelIdeal.Hand

end
-- ==== Proof.KITrip.lean ====
module

public import proofs.«01_k».proof.Proof.KILoop

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop -/

section Loop

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (RS : S96x128.Idx → F .f32) (WS : S256x128.Idx → F .f32)

/-- One trip. -/
def tripP (k : Fin k0_t1_loop.trips) : Pg F PUnit := do
  half1 arg0 harg0 arg1 harg1 arg2 harg2 arg3 harg3 arg4 harg4 arg5 harg5 arg6 harg6 arg7 harg7 arg8 harg8 arg9 harg9 arg10 harg10 arg11 harg11 arg12 harg12 arg13 arg14 laneV k
  half2 arg0 harg0 arg1 harg1 arg2 harg2 arg3 harg3 arg4 harg4 arg5 harg5 arg6 harg6 arg7 harg7 arg8 harg8 arg9 harg9 arg10 harg10 arg11 harg11 arg12 harg12 arg13 arg14 laneV k

/-- One trip keeps the loop's invariant. -/
theorem wp_trip (k : Fin k0_t1_loop.trips) :
    loopI c arg0 arg3 arg6 arg7 arg8 arg11 arg12 arg13 qs XQ X RS WS arg9 arg10 k.val
      ⊢ (WP c (tripP (F := F) arg0 harg0 arg1 harg1 arg2 harg2 arg3 harg3 arg4 harg4 arg5 harg5 arg6 harg6 arg7 harg7 arg8 harg8 arg9 harg9 arg10 harg10 arg11 harg11 arg12 harg12 arg13 arg14 k) (fun _ => loopI c arg0 arg3 arg6 arg7 arg8 arg11 arg12 arg13 qs XQ X RS WS arg9 arg10 (k.val + 1)) : sProp 𝕄) := by
  unfold tripP
  exact wp_body c arg0 harg0 arg1 harg1 arg2 harg2 arg3 harg3 arg4 harg4 arg5 harg5 arg6 harg6 arg7 harg7 arg8 harg8 arg9 harg9 arg10 harg10 arg11 harg11 arg12 harg12 arg13 arg14 qs XQ X RS WS k

end Loop

/-- A loop by its invariant. -/
theorem wp_loopI (c : Dev nD) (I : ℕ → sProp 𝕄) (body : Fin k0_t1_loop.trips → PUnit → Pg F PUnit)
    (hb : ∀ (k : Fin k0_t1_loop.trips) (acc : PUnit), I k.val ⊢ WP c (body k acc) (fun _ => I (k.val + 1))) :
    I 0 ⊢ (WP c (Scf.Loop.for k0_t1_loop k0_t1_ok PUnit.unit body) (fun _ => I k0_t1_loop.trips) : sProp 𝕄) := by
  have h := Scf.wp_for frame (wpE (defs₀ (F := F)) Variants.none (c : Thread nD τ) none) Set.univ k0_t1_loop.lb k0_t1_loop.ub k0_t1_loop.st k0_t1_ok PUnit.unit
    body (fun i _ => I i) hb (Q := fun _ => I k0_t1_loop.trips)
  iintro H
  iapply h
  isplitl [H]; · iexact H
  iintro %_ H
  iexact H

section Loop

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (qs : Fin 4 → PosShare TreeShare) (XQ : Vec F S96x4096 .fp8e4m3) (X : S32768x4096.Idx → Elt F .fp8e4m3)
  (RS : S96x128.Idx → F .f32) (WS : S256x128.Idx → F .f32)

/-- The loop runs from its first state to its last, as fifteen trips. -/
theorem wp_loop0 :
    loopI c arg0 arg3 arg6 arg7 arg8 arg11 arg12 arg13 qs XQ X RS WS arg9 arg10 0
      ⊢ (WP c (Scf.Loop.for k0_t1_loop k0_t1_ok PUnit.unit (fun k _ => tripP (F := F) arg0 harg0 arg1 harg1 arg2 harg2 arg3 harg3 arg4 harg4 arg5 harg5 arg6 harg6 arg7 harg7 arg8 harg8 arg9 harg9 arg10 harg10 arg11 harg11 arg12 harg12 arg13 arg14 k))
        (fun _ => loopI c arg0 arg3 arg6 arg7 arg8 arg11 arg12 arg13 qs XQ X RS WS arg9 arg10 k0_t1_loop.trips) : sProp 𝕄) :=
  wp_loopI c (fun i => loopI c arg0 arg3 arg6 arg7 arg8 arg11 arg12 arg13 qs XQ X RS WS arg9 arg10 i) (fun k _ => tripP (F := F) arg0 harg0 arg1 harg1 arg2 harg2 arg3 harg3 arg4 harg4 arg5 harg5 arg6 harg6 arg7 harg7 arg8 harg8 arg9 harg9 arg10 harg10 arg11 harg11 arg12 harg12 arg13 arg14 k)
    (fun k _ => wp_trip c arg0 harg0 arg1 harg1 arg2 harg2 arg3 harg3 arg4 harg4 arg5 harg5 arg6 harg6 arg7 harg7 arg8 harg8 arg9 harg9 arg10 harg10 arg11 harg11 arg12 harg12 arg13 arg14 qs XQ X RS WS k)

/-- The printed loop runs from its first state to its last. -/
theorem wp_loop :
    loopI c arg0 arg3 arg6 arg7 arg8 arg11 arg12 arg13 qs XQ X RS WS arg9 arg10 0
      ⊢ (WP c (Scf.Loop.for k0_t1_loop k0_t1_ok PUnit.unit (fun k _ => tripP (F := F) arg0 harg0 arg1 harg1 arg2 harg2 arg3 harg3 arg4 harg4 arg5 harg5 arg6 harg6 arg7 harg7 arg8 harg8 arg9 harg9 arg10 harg10 arg11 harg11 arg12 harg12 arg13 arg14 k))
        (fun _ => loopI c arg0 arg3 arg6 arg7 arg8 arg11 arg12 arg13 qs XQ X RS WS arg9 arg10 15) : sProp 𝕄) := by
  have h := wp_loop0 c arg0 harg0 arg1 harg1 arg2 harg2 arg3 harg3 arg4 harg4 arg5 harg5 arg6 harg6 arg7 harg7 arg8 harg8 arg9 harg9 arg10 harg10 arg11 harg11 arg12 harg12 arg13 arg14 qs XQ X RS WS
  have e : loopI c arg0 arg3 arg6 arg7 arg8 arg11 arg12 arg13 qs XQ X RS WS arg9 arg10 k0_t1_loop.trips
    = loopI c arg0 arg3 arg6 arg7 arg8 arg11 arg12 arg13 qs XQ X RS WS arg9 arg10 15 := congrArg _ trips_eq
  rwa [e] at h

end Loop

end Cert.KernelIdeal.Hand

end
-- ==== Proof.KITop.lean ====
module

public import proofs.«01_k».proof.Proof.KIRun
public import proofs.«01_k».proof.Proof.KITrip

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring as its four slots -/

section Slots

variable (c : Dev nD) (ring : Memref sig .tc .vmem S4x1024x4096 .fp8e4m3)

/-- The positions of the ring that slot `s` covers. -/
theorem slot_set (s : Fin 4) :
    (slotM ring s).view.set = (ring.view.slice (Rect.unit (s := S4x1024x4096) ![s.val, 0, 0] S1x1024x4096.size (inbSlot s))).set :=
  View.set_reshape _ _

/-- A slot lies inside the ring. -/
theorem slot_sub (s : Fin 4) : (slotM ring s).view.set ⊆ ring.view.set := by
  rw [slot_set]; exact View.set_slice_subset _ _

/-- Two slots do not overlap. -/
theorem slot_disj (s t : Fin 4) (h : s ≠ t) : Disjoint (slotM ring s).view.set (slotM ring t).view.set := by
  rw [slot_set, slot_set]
  have hv : s.val ≠ t.val := fun e => h (Fin.ext e)
  refine View.disjoint_slice_of_sep _ _ _ (0 : Fin 3) rfl rfl ?_
  show s.val + 1 ≤ t.val ∨ t.val + 1 ≤ s.val
  omega

/-- The elements of the ring outside its first slots. -/
abbrev rst1 := ring.view.set \ (slotM ring 0).view.set
/-- The ring without slots 0 and 1. -/
abbrev rst2 := rst1 ring \ (slotM ring 1).view.set
/-- The ring without slots 0, 1 and 2. -/
abbrev rst3 := rst2 ring \ (slotM ring 2).view.set

/-- Slot 1 lies in the ring without slot 0. -/
theorem sub1 : (slotM ring 1).view.set ⊆ rst1 ring :=
  Finset.subset_sdiff.2 ⟨slot_sub ring 1, slot_disj ring 1 0 (by decide)⟩
/-- Slot 2 lies in what slots 0 and 1 leave. -/
theorem sub2 : (slotM ring 2).view.set ⊆ rst2 ring :=
  Finset.subset_sdiff.2 ⟨Finset.subset_sdiff.2 ⟨slot_sub ring 2, slot_disj ring 2 0 (by decide)⟩, slot_disj ring 2 1 (by decide)⟩
/-- Slot 3 lies in what slots 0, 1 and 2 leave. -/
theorem sub3 : (slotM ring 3).view.set ⊆ rst3 ring :=
  Finset.subset_sdiff.2 ⟨Finset.subset_sdiff.2 ⟨Finset.subset_sdiff.2 ⟨slot_sub ring 3, slot_disj ring 3 0 (by decide)⟩,
    slot_disj ring 3 1 (by decide)⟩, slot_disj ring 3 2 (by decide)⟩

/-- What the four slots leave of the ring. -/
def leftR : sProp 𝕄 :=
  iprop(∃ f : ring.view.ty.Contents (Elt F), ring.view.loc (c : Thread nD τ) ↦[rst3 ring \ (slotM ring 3).view.set]{fullShare} f)

/-- A slot's elements at some contents. -/
def ptS (s : Fin 4) : sProp 𝕄 :=
  iprop(∃ f : ring.view.ty.Contents (Elt F), ring.view.loc (c : Thread nD τ) ↦[(slotM ring s).view.set]{fullShare} f)

/-- The points-to of a slot as its ownership. -/
theorem ptS_owns (s : Fin 4) : ptS c ring s ⊢ (iprop(∃ Y, owns (c : Thread nD τ) (slotM ring s) fullShare Y) : sProp 𝕄) := by
  unfold ptS
  iintro ⟨%f, H⟩
  iexists (slotM ring s).view.read (Elt F) f
  have e : (ring.view.loc (c : Thread nD τ) ↦[(slotM ring s).view.set]{fullShare} f : sProp 𝕄)
    ⊢ owns (c : Thread nD τ) (slotM ring s) fullShare ((slotM ring s).view.read (Elt F) f) := owns_of c (slotM ring s) fullShare rfl
  iapply e; iexact H

/-- The ownership of a slot as its points-to. -/
theorem owns_ptS (s : Fin 4) : (iprop(∃ Y, owns (c : Thread nD τ) (slotM ring s) fullShare Y) : sProp 𝕄) ⊢ ptS c ring s := by
  unfold ptS
  iintro ⟨%Y, H⟩
  ihave H := (owns_elim c _ _ _) $$ H
  icases H with ⟨%f, -, H⟩
  iexists f
  iexact H

/-- The ring splits into its four slots. -/
theorem ring_split : (iprop(∃ Y, owns (c : Thread nD τ) ring fullShare Y) : sProp 𝕄)
    ⊢ iprop(ptS c ring 0 ∗ ptS c ring 1 ∗ ptS c ring 2 ∗ ptS c ring 3 ∗ leftR c ring) := by
  unfold ptS leftR
  iintro ⟨%Y, H⟩
  ihave H := (owns_elim c _ _ _) $$ H
  icases H with ⟨%f, -, H⟩
  ihave H := (pointsTo_split_subset (slot_sub ring 0)).1 $$ H
  icases H with ⟨H0, H⟩
  ihave H := (pointsTo_split_subset (sub1 ring)).1 $$ H
  icases H with ⟨H1, H⟩
  ihave H := (pointsTo_split_subset (sub2 ring)).1 $$ H
  icases H with ⟨H2, H⟩
  ihave H := (pointsTo_split_subset (sub3 ring)).1 $$ H
  icases H with ⟨H3, H⟩
  isplitl [H0]; · iexists f; iexact H0
  isplitl [H1]; · iexists f; iexact H1
  isplitl [H2]; · iexists f; iexact H2
  isplitl [H3]; · iexists f; iexact H3
  iexists f; iexact H

/-- The four slots join to the ring. -/
theorem ring_join : iprop(ptS c ring 0 ∗ ptS c ring 1 ∗ ptS c ring 2 ∗ ptS c ring 3 ∗ leftR c ring)
    ⊢ (iprop(∃ Y, owns (c : Thread nD τ) ring fullShare Y) : sProp 𝕄) := by
  unfold ptS leftR
  iintro ⟨⟨%f0, H0⟩, ⟨%f1, H1⟩, ⟨%f2, H2⟩, ⟨%f3, H3⟩, %f, H⟩
  ihave H := (pointsTo_join_subset (ℓ := ring.view.loc (c : Thread nD τ)) (sub3 ring)) $$ [H3 H]
  · isplitl [H3]; · iexact H3
    iexact H
  ihave H := (pointsTo_join_subset (ℓ := ring.view.loc (c : Thread nD τ)) (sub2 ring)) $$ [H2 H]
  · isplitl [H2]; · iexact H2
    iexact H
  ihave H := (pointsTo_join_subset (ℓ := ring.view.loc (c : Thread nD τ)) (sub1 ring)) $$ [H1 H]
  · isplitl [H1]; · iexact H1
    iexact H
  ihave H := (pointsTo_join_subset (ℓ := ring.view.loc (c : Thread nD τ)) (slot_sub ring 0)) $$ [H0 H]
  · isplitl [H0]; · iexact H0
    iexact H
  iexists _
  iapply (owns_of c ring fullShare rfl)
  iexact H

end Slots

/-! ## The head in four shares -/

/-- The four slots' shares of the head. -/
def qsV : Fin 4 → PosShare TreeShare :=
  ![(fullShare : PosShare TreeShare).left.left, (fullShare : PosShare TreeShare).left.right,
    (fullShare : PosShare TreeShare).right.left, (fullShare : PosShare TreeShare).right.right]

/-- The head's ownership splits into a share for each slot. -/
theorem head_shares (c : Dev nD) (hbm : Memref sig .tc .hbm S32768x4096 .fp8e4m3) (X : S32768x4096.Idx → Elt F .fp8e4m3) :
    (owns (c : Thread nD τ) hbm fullShare X : sProp 𝕄) ⊣⊢ iprop(owns (c : Thread nD τ) hbm (qsV 0) X ∗ owns (c : Thread nD τ) hbm (qsV 1) X
      ∗ owns (c : Thread nD τ) hbm (qsV 2) X ∗ owns (c : Thread nD τ) hbm (qsV 3) X) := by
  constructor
  · iintro H
    ihave H := (owns_halves _ _ _ _).1 $$ H
    icases H with ⟨H1, H2⟩
    ihave H1 := (owns_halves _ _ _ _).1 $$ H1
    icases H1 with ⟨H0, H1⟩
    ihave H2 := (owns_halves _ _ _ _).1 $$ H2
    icases H2 with ⟨H2, H3⟩
    isplitl [H0]; · iexact H0
    isplitl [H1]; · iexact H1
    isplitl [H2]; · iexact H2
    iexact H3
  · iintro ⟨H0, H1, H2, H3⟩
    iapply (owns_halves _ _ _ _).2
    isplitl [H0 H1]
    · iapply (owns_halves _ _ _ _).2
      isplitl [H0]; · iexact H0
      iexact H1
    · iapply (owns_halves _ _ _ _).2
      isplitl [H2]; · iexact H2
      iexact H3

/-! ## The body -/

section Top

variable (c : Dev nD) (arg0 : Memref sig .tc .vmem S96x4096 .fp8e4m3) (harg0 : arg0.IsWhole) (arg1 : Memref sig .tc .vmem S72x128 .f32) (harg1 : arg1.IsWhole) (arg2 : Memref sig .tc .vmem S72x128 .f32) (harg2 : arg2.IsWhole) (arg3 : Memref sig .tc .hbm S32768x4096 .fp8e4m3) (harg3 : arg3.IsWhole) (arg4 : Memref sig .tc .hbm S256x128 .f32) (harg4 : arg4.IsWhole) (arg5 : Memref sig .tc .vmem S72x128 .f32) (harg5 : arg5.IsWhole) (arg6 : Memref sig .tc .vmem S96x128 .f32) (harg6 : arg6.IsWhole) (arg7 : Memref sig .tc .vmem S256x128 .f32) (harg7 : arg7.IsWhole) (arg8 : Memref sig .tc .vmem S4x1024x4096 .fp8e4m3) (harg8 : arg8.IsWhole) (arg9 : Memref sig .tc .vmem S96x1024 .f32) (harg9 : arg9.IsWhole) (arg10 : Memref sig .tc .vmem S96x1024 .f32) (harg10 : arg10.IsWhole) (arg11 : Memref sig .tc .vmem S72x128 .f32) (harg11 : arg11.IsWhole) (arg12 : Memref sig .tc .vmem S72x128 .f32) (harg12 : arg12.IsWhole) (arg13 : DmaSems sig S4) (arg14 : DmaSems sig S3)
  (XQ : Vec F S96x4096 .fp8e4m3) (X : S32768x4096.Idx → Elt F .fp8e4m3)
  (XS TS : Vec F S72x128 .f32) (WS : S256x128.Idx → F .f32)

/-- What the body needs. -/
def headPre : sProp 𝕄 :=
  iprop(owns (c : Thread nD τ) arg0 fullShare XQ ∗ owns (c : Thread nD τ) arg1 fullShare XS ∗ owns (c : Thread nD τ) arg2 fullShare TS
    ∗ owns (c : Thread nD τ) arg3 fullShare X ∗ owns (c : Thread nD τ) arg4 fullShare WS ∗ (∃ Y, owns (c : Thread nD τ) arg5 fullShare Y)
    ∗ (∃ Y, owns (c : Thread nD τ) arg6 fullShare Y) ∗ (∃ Y, owns (c : Thread nD τ) arg7 fullShare Y) ∗ (∃ Y, owns (c : Thread nD τ) arg8 fullShare Y)
    ∗ (∃ Y, owns (c : Thread nD τ) arg9 fullShare Y) ∗ (∃ Y, owns (c : Thread nD τ) arg10 fullShare Y) ∗ (∃ Y, owns (c : Thread nD τ) arg11 fullShare Y)
    ∗ (∃ Y, owns (c : Thread nD τ) arg12 fullShare Y)
    ∗ semVal ((c : Thread nD τ), semM arg13 0) 0 ∗ semVal ((c : Thread nD τ), semM arg13 1) 0 ∗ semVal ((c : Thread nD τ), semM arg13 2) 0
    ∗ semVal ((c : Thread nD τ), semM arg13 3) 0 ∗ semVal ((c : Thread nD τ), semW arg14) 0 ∗ ∃ W, owes (c : Thread nD τ) 0 W)

/-- What the body leaves. -/
def headPost : sProp 𝕄 :=
  iprop(owns (c : Thread nD τ) arg0 fullShare XQ ∗ owns (c : Thread nD τ) arg1 fullShare XS ∗ owns (c : Thread nD τ) arg2 fullShare TS
    ∗ owns (c : Thread nD τ) arg3 fullShare X ∗ owns (c : Thread nD τ) arg4 fullShare WS ∗ owns (c : Thread nD τ) arg5 fullShare (outV XQ X XS TS WS)
    ∗ (∃ Y, owns (c : Thread nD τ) arg6 fullShare Y) ∗ (∃ Y, owns (c : Thread nD τ) arg7 fullShare Y) ∗ (∃ Y, owns (c : Thread nD τ) arg8 fullShare Y)
    ∗ (∃ Y, owns (c : Thread nD τ) arg9 fullShare Y) ∗ (∃ Y, owns (c : Thread nD τ) arg10 fullShare Y) ∗ (∃ Y, owns (c : Thread nD τ) arg11 fullShare Y)
    ∗ (∃ Y, owns (c : Thread nD τ) arg12 fullShare Y)
    ∗ semVal ((c : Thread nD τ), semM arg13 0) 0 ∗ semVal ((c : Thread nD τ), semM arg13 1) 0 ∗ semVal ((c : Thread nD τ), semM arg13 2) 0
    ∗ semVal ((c : Thread nD τ), semM arg13 3) 0 ∗ semVal ((c : Thread nD τ), semW arg14) 0 ∗ ∃ W, owes (c : Thread nD τ) 0 W)

/-- The last chunk but for its own fold. -/
def lastA : Pg F PUnit := do
  wtW arg3 arg8 arg13 (k0_off1 31#32) (k0_off1_inb 4) (k0_off2 31#32) (k0_off2_inb 4) (k0_off3 31#32) (k0_off3_inb 1)
    (harg3.wordExact_slice rfl _ (k0_off3_wordsfp8e4m3 1)) ((harg8.wordExact_slice rfl _ (k0_off2_wordsfp8e4m3 4)).reshape _ _)
  epi arg6 arg7 arg9 arg11 arg12 laneV (laneW (prevW 31#32) 0#32) (laneW (prevW 31#32) 1#32)
    (fun o => k0_off19 (BitVec.ofNat 32 o.val)) (fun o => k0_off19_inb o)
  mm arg0 arg8 arg10 (k0_off4 31#32) (k0_off4_inb 1)
  Prog.ret ⟨⟩

/-- The end of the kernel in two parts. -/
theorem last_split :
    lastP (F := F) arg0 harg0 arg1 harg1 arg2 harg2 arg3 harg3 arg4 harg4 arg5 harg5 arg6 harg6 arg7 harg7 arg8 harg8 arg9 harg9 arg10 harg10 arg11 harg11 arg12 harg12 arg13 arg14
      = lastA arg0 arg3 harg3 arg6 arg7 arg8 harg8 arg9 arg10 arg11 arg12 arg13 >>= fun _ => (do
          epi arg6 arg7 arg10 arg11 arg12 laneV 62#32 63#32 (fun o => ![248 + o.val, 0]) inbLast
          finP arg0 harg0 arg1 harg1 arg2 harg2 arg3 harg3 arg4 harg4 arg5 harg5 arg6 harg6 arg7 harg7 arg8 harg8 arg9 harg9 arg10 harg10 arg11 harg11 arg12 harg12 arg13 arg14) := by
  unfold lastP lastA
  simp only [bind, Prog.bind_assoc]
  rfl

/-- The last half step and the last epilogue. -/
theorem wp_lastA (RS : S96x128.Idx → F .f32) :
    iprop(role c arg3 arg8 arg13 qsV X 31 ∗ midS c arg0 arg6 arg7 arg11 arg12 XQ X RS WS arg9 arg10 30)
      ⊢ (WP c (lastA arg0 arg3 harg3 arg6 arg7 arg8 harg8 arg9 arg10 arg11 arg12 arg13)
        (fun _ => iprop(freeS c arg3 arg8 arg13 (qsV 3) X 3 ∗ midS c arg0 arg6 arg7 arg11 arg12 XQ X RS WS arg10 arg9 31)) : sProp 𝕄) := by
  unfold lastA
  refine wp_half (QR := iprop(freeS c arg3 arg8 arg13 (qsV 3) X 3 ∗ midS c arg0 arg6 arg7 arg11 arg12 XQ X RS WS arg10 arg9 31)) c arg0 arg3 arg6 arg7 arg8 arg11 arg12 arg13 qsV XQ X RS WS 30 (by decide) arg9 arg10
    off1_31 off2_31 off3_31 lane31.1 lane31.2 off19_30 off4_31 ?_
  iintro H
  iapply (wp_done Variants.none (c : Thread nD τ) none Set.univ)
  iexact H

/-- A slot with no further chunk is free. -/
theorem role_ge (p : ℕ) (s : Fin 4) (hs : sl p = s) (hp : ¬ p < 32) : (role c arg3 arg8 arg13 qsV X p : sProp 𝕄) = freeS c arg3 arg8 arg13 (qsV s) X s := by
  subst hs; unfold role; rw [if_neg hp]

/-- A slot with a further chunk is being filled with it. -/
theorem role_fl (p : ℕ) (s : Fin 4) (f : Fin 32) (hs : sl p = s) (hf : fN p = f) (hp : p < 32) :
    (role c arg3 arg8 arg13 qsV X p : sProp 𝕄) = fltS c arg3 arg8 arg13 (qsV s) X s f := by
  subst hs hf; unfold role; rw [if_pos hp]

/-- The whole kernel runs on its buffers, leaves the result and gives everything back. -/
theorem wp_head :
    headPre c arg0 arg1 arg2 arg3 arg4 arg5 arg6 arg7 arg8 arg9 arg10 arg11 arg12 arg13 arg14 XQ X XS TS WS
      ⊢ (WP c (cc0_spec_head (F := F) arg0 harg0 arg1 harg1 arg2 harg2 arg3 harg3 arg4 harg4 arg5 harg5 arg6 harg6 arg7 harg7 arg8 harg8 arg9 harg9 arg10 harg10 arg11 harg11 arg12 harg12 arg13 arg14)
        (fun _ => headPost c arg0 arg1 arg2 arg3 arg4 arg5 arg6 arg7 arg8 arg9 arg10 arg11 arg12 arg13 arg14 XQ X XS TS WS) : sProp 𝕄) := by
  rw [head_eq]
  unfold headP headPre
  iintro ⟨H0, H1, H2, H3, H4, H5, H6, H7, H8, H9, H10, H11, H12, S0, S1, S2, S3, SW, HO⟩
  ihave H8 := (ring_split c arg8) $$ H8
  icases H8 with ⟨R0, R1, R2, R3, RL⟩
  ihave H3 := (head_shares c arg3 X).1 $$ H3
  icases H3 with ⟨W0, W1, W2, W3⟩
  ihave R0 := (ptS_owns c arg8 0) $$ R0
  ihave R1 := (ptS_owns c arg8 1) $$ R1
  ihave R2 := (ptS_owns c arg8 2) $$ R2
  ihave R3 := (ptS_owns c arg8 3) $$ R3
  iapply (wp_then Variants.none (c : Thread nD τ) none Set.univ (wp_start c arg0 harg0 arg1 harg1 arg2 harg2 arg3 harg3 arg4 harg4 arg5 harg5 arg6 harg6 arg7 harg7 arg8 harg8 arg9 harg9 arg10 harg10 arg11 harg11 arg12 harg12 arg13 arg14 qsV X WS)) $$ [H4 H7 SW R0 S0 W0 R1 S1 W1 R2 S2 W2 R3 S3 W3]
  · isplitl [H4]; · iexact H4
    isplitl [H7]; · iexact H7
    isplitl [SW]; · iexact SW
    unfold freeS
    isplitl [R0 S0 W0]
    · isplitl [R0]; · iexact R0
      isplitl [S0]; · iexact S0
      iexact W0
    isplitl [R1 S1 W1]
    · isplitl [R1]; · iexact R1
      isplitl [S1]; · iexact S1
      iexact W1
    isplitl [R2 S2 W2]
    · isplitl [R2]; · iexact R2
      isplitl [S2]; · iexact S2
      iexact W2
    · isplitl [R3]; · iexact R3
      isplitl [S3]; · iexact S3
      iexact W3
  iintro %_ ⟨HF, F0, F1, F2, F3⟩
  iapply (wp_then Variants.none (c : Thread nD τ) none Set.univ (wp_init c arg0 harg0 arg1 harg1 arg2 harg2 arg3 harg3 arg4 harg4 arg5 harg5 arg6 harg6 arg7 harg7 arg8 harg8 arg9 harg9 arg10 harg10 arg11 harg11 arg12 harg12 arg13 arg14 XS TS WS)) $$ [HF HO H1 H2 H6 H11 H12]
  · isplitl [HF]; · iexact HF
    isplitl [HO]; · iexact HO
    isplitl [H1]; · iexact H1
    isplitl [H2]; · iexact H2
    isplitl [H6]; · iexact H6
    isplitl [H11]; · iexact H11
    iexact H12
  iintro %_ ⟨H4, H7, SW, HO, H1, H2, H6, H11, H12⟩
  iapply (wp_then Variants.none (c : Thread nD τ) none Set.univ (wp_first c arg0 harg0 arg1 harg1 arg2 harg2 arg3 harg3 arg4 harg4 arg5 harg5 arg6 harg6 arg7 harg7 arg8 harg8 arg9 harg9 arg10 harg10 arg11 harg11 arg12 harg12 arg13 arg14 qsV XQ X)) $$ [F0 HO H0 H9]
  · isplitl [F0]; · iexact F0
    isplitl [HO]; · iexact HO
    isplitl [H0]; · iexact H0
    iexact H9
  iintro %_ ⟨F0, HO, H0, H9⟩
  iapply (wp_then Variants.none (c : Thread nD τ) none Set.univ (wp_loop c arg0 harg0 arg1 harg1 arg2 harg2 arg3 harg3 arg4 harg4 arg5 harg5 arg6 harg6 arg7 harg7 arg8 harg8 arg9 harg9 arg10 harg10 arg11 harg11 arg12 harg12 arg13 arg14 qsV XQ X (rsV XS TS) WS)) $$ [F0 F1 F2 F3 HO H0 H6 H7 H9 H11 H12 H10]
  · unfold loopI
    rw [role_fl c arg3 arg8 arg13 X (2 * 0 + 1) 1 1 (by decide) (by decide) (by decide),
      role_fl c arg3 arg8 arg13 X (2 * 0 + 2) 2 2 (by decide) (by decide) (by decide),
      role_fl c arg3 arg8 arg13 X (2 * 0 + 3) 3 3 (by decide) (by decide) (by decide),
      role_fl c arg3 arg8 arg13 X (2 * 0 + 4) 0 4 (by decide) (by decide) (by decide)]
    isplitl [F1]; · iexact F1
    isplitl [F2]; · iexact F2
    isplitl [F3]; · iexact F3
    isplitl [F0]; · iexact F0
    unfold midS foldO
    isplitl [HO]; · iexact HO
    isplitl [H0]; · iexact H0
    isplitr [H10]
    · isplitl [H6]; · iexact H6
      isplitl [H7]; · iexact H7
      isplitl [H9]; · iexact H9
      isplitl [H11]; · iexact H11
      iexact H12
    · iexact H10
  iintro %_ HI
  unfold loopI
  rw [role_ge c arg3 arg8 arg13 X (2 * 15 + 2) 0 (by decide) (by decide),
    role_ge c arg3 arg8 arg13 X (2 * 15 + 3) 1 (by decide) (by decide),
    role_ge c arg3 arg8 arg13 X (2 * 15 + 4) 2 (by decide) (by decide)]
  icases HI with ⟨F3, F0, F1, F2, HM⟩
  rw [last_split]
  iapply (wp_then Variants.none (c : Thread nD τ) none Set.univ (wp_lastA c arg0 arg3 harg3 arg6 arg7 arg8 harg8 arg9 arg10 arg11 arg12 arg13 XQ X WS (rsV XS TS))) $$ [F3 HM]
  · isplitl [F3]; · iexact F3
    iexact HM
  iintro %_ HL
  iapply (wp_wand_r frame (wpE (defs₀ (F := F)) Variants.none (c : Thread nD τ) none) Set.univ)
  isplitl [HL H5]
  · iapply (wp_tail c arg0 harg0 arg1 harg1 arg2 harg2 arg3 harg3 arg4 harg4 arg5 harg5 arg6 harg6 arg7 harg7 arg8 harg8 arg9 harg9 arg10 harg10 arg11 harg11 arg12 harg12 arg13 arg14 qsV XQ X (rsV XS TS) WS)
    isplitl [HL]; · iexact HL
    iexact H5
  iintro %_ HQ
  unfold lastQ
  icases HQ with ⟨F3, HO, H0, H6, H7, H9, H10, H11, H12, H5⟩
  unfold freeS
  icases F0 with ⟨R0, S0, W0⟩
  icases F1 with ⟨R1, S1, W1⟩
  icases F2 with ⟨R2, S2, W2⟩
  icases F3 with ⟨R3, S3, W3⟩
  unfold headPost
  isplitl [H0]; · iexact H0
  isplitl [H1]; · iexact H1
  isplitl [H2]; · iexact H2
  isplitl [W0 W1 W2 W3]
  · iapply (head_shares c arg3 X).2
    isplitl [W0]; · iexact W0
    isplitl [W1]; · iexact W1
    isplitl [W2]; · iexact W2
    iexact W3
  isplitl [H4]; · iexact H4
  isplitl [H5]; · unfold outV; iexact H5
  isplitl [H6]; · iexists _; iexact H6
  isplitl [H7]; · iexists _; iexact H7
  isplitl [R0 R1 R2 R3 RL]
  · ihave R0 := (owns_ptS c arg8 0) $$ R0
    ihave R1 := (owns_ptS c arg8 1) $$ R1
    ihave R2 := (owns_ptS c arg8 2) $$ R2
    ihave R3 := (owns_ptS c arg8 3) $$ R3
    iapply (ring_join c arg8)
    isplitl [R0]; · iexact R0
    isplitl [R1]; · iexact R1
    isplitl [R2]; · iexact R2
    isplitl [R3]; · iexact R3
    iexact RL
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [SW]; · iexact SW
  iexact HO

end Top

end Cert.KernelIdeal.Hand

end
-- ==== Proof.KIFrame.lean ====
module

public import proofs.«01_k».proof.Proof.KITop
public import proofs.«01_k».proof.Proof.Gen.KernelIdeal.Frame

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands -/

/-- The host program is the launch with its windows, scratch buffers and semaphores. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The head weights, left in HBM. -/
abbrev hbW : Memref sig .tc .hbm S32768x4096 .fp8e4m3 := Memref.whole main_arg3
/-- The column scales, left in HBM. -/
abbrev hbS : Memref sig .tc .hbm S256x128 .f32 := Memref.whole main_v4
/-- Scratch: the row scales. -/
abbrev sc0 : Memref sig .tc .vmem S96x128 .f32 := Memref.whole cc0_scratch0
/-- Scratch: the column scales. -/
abbrev sc1 : Memref sig .tc .vmem S256x128 .f32 := Memref.whole cc0_scratch1
/-- Scratch: the ring of four chunks. -/
abbrev sc2 : Memref sig .tc .vmem S4x1024x4096 .fp8e4m3 := Memref.whole cc0_scratch2
/-- Scratch: the accumulator of even chunks. -/
abbrev sc3 : Memref sig .tc .vmem S96x1024 .f32 := Memref.whole cc0_scratch3
/-- Scratch: the accumulator of odd chunks. -/
abbrev sc4 : Memref sig .tc .vmem S96x1024 .f32 := Memref.whole cc0_scratch4
/-- Scratch: the tile sums. -/
abbrev sc5 : Memref sig .tc .vmem S72x128 .f32 := Memref.whole cc0_scratch5
/-- Scratch: the tile maxima. -/
abbrev sc6 : Memref sig .tc .vmem S72x128 .f32 := Memref.whole cc0_scratch6

/-- The body's own cells: the four of the ring and the three of the input copies. -/
abbrev osem0 : Fin 7 → SemLoc sig := fun j =>
  (![SemLoc.dma 4, SemLoc.dma 5, SemLoc.dma 6, SemLoc.dma 7, SemLoc.dma 8, SemLoc.dma 9, SemLoc.dma 10] : Fin 7 → SemLoc sig) j

/-- The side conditions of the launch on its own semaphores. -/
theorem ownSemFacts0 : Pipeline.OwnSemFacts spec0 osem0 := by decide

/-- The launch's own semaphores, one by one, all at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semM cc0_scratch7 0) 0 ∗ semVal ((c : Thread nD τ), semM cc0_scratch7 1) 0
          ∗ semVal ((c : Thread nD τ), semM cc0_scratch7 2) 0 ∗ semVal ((c : Thread nD τ), semM cc0_scratch7 3) 0
          ∗ semVal ((c : Thread nD τ), SemLoc.dma 8) 0 ∗ semVal ((c : Thread nD τ), SemLoc.dma 9) 0
          ∗ semVal ((c : Thread nD τ), semW cc0_scratch8) 0) := by
  have e0 : semM cc0_scratch7 0 = SemLoc.dma 4 := by decide
  have e1 : semM cc0_scratch7 1 = SemLoc.dma 5 := by decide
  have e2 : semM cc0_scratch7 2 = SemLoc.dma 6 := by decide
  have e3 : semM cc0_scratch7 3 = SemLoc.dma 7 := by decide
  have e4 : semW cc0_scratch8 = SemLoc.dma 10 := by decide
  rw [e0, e1, e2, e3, e4, Pipeline.ownSems0_eq_of_list c osem0 [0, 1, 2, 3, 4, 5, 6] (by decide) (by decide)]; rfl

/-- The buffers the body reads itself. -/
def H0 : Finset (Ref sig .tc) := {main_arg3, main_v4}
/-- The arrays left in HBM are no windows. -/
theorem H0_sub : H0 ⊆ Pipeline.restRefs sig spec0 := by decide

/-- The ownership of the arrays left in HBM, one by one. -/
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_v4) ↦{fullShare} V m c main_v4)) := by
  rw [BI.bigSep_eq_bigSepL_of_eq [main_arg3, main_v4] (by decide) (by decide)]; rfl

/-- What the launch hands its grid point beside the windows, one by one. -/
theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d)
                ∗ (∃ d, owns (c : Thread nD τ) sc2 fullShare d) ∗ (∃ d, owns (c : Thread nD τ) sc3 fullShare d)
                ∗ (∃ d, owns (c : Thread nD τ) sc4 fullShare d) ∗ (∃ d, owns (c : Thread nD τ) sc5 fullShare d)
                ∗ (∃ d, owns (c : Thread nD τ) sc6 fullShare d))
          ∗ (∃ r, prngReg c r)
          ∗ iprop(semVal ((c : Thread nD τ), semM cc0_scratch7 0) 0 ∗ semVal ((c : Thread nD τ), semM cc0_scratch7 1) 0
              ∗ semVal ((c : Thread nD τ), semM cc0_scratch7 2) 0 ∗ semVal ((c : Thread nD τ), semM cc0_scratch7 3) 0
              ∗ semVal ((c : Thread nD τ), SemLoc.dma 8) 0 ∗ semVal ((c : Thread nD τ), SemLoc.dma 9) 0
              ∗ semVal ((c : Thread nD τ), semW cc0_scratch8) 0)
          ∗ iprop(owns (c : Thread nD τ) hbW fullShare (V m c main_arg3) ∗ owns (c : Thread nD τ) hbS fullShare (V m c main_v4))) := by
  rw [Pipeline.ΦD_eq, scopedRest0_eq, ownSems00_eq, hbmPts0_eq]
  simp only [sc0, sc1, sc2, sc3, sc4, sc5, sc6, hbW, hbS, owns_whole]; try rfl

/-! ## The pipeline's data -/

/-- The result of core `c`. -/
def resV (c : Dev nD) (t : Fin cfg0.N) : Vec F S72x128 .f32 :=
  outV (iblk m c 0 t) (V m c main_arg3) (iblk m c 1 t) (iblk m c 2 t) (V m c main_v4)

/-- The contents of the windows before and after the one grid point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resV m c t
  Φ _ := Pipeline.ΦD osem0 spec0 H0 (V m) c
  q _ := fullShare
  owed _ := 0

/-- The windows start from what the host program left in their arrays. -/
theorem A_eq (c : Dev nD) (w : Fin cfg0.W) : (dats m 0 c).A w = V m c (Pipeline.arrRef spec0 w) := by
  dsimp only [dats]
/-- What a window holds after the grid point. -/
theorem after0_0 (c : Dev nD) (t : Fin cfg0.N) : (dats m 0 c).after 0 t = iblk m c 0 t := by dsimp only [dats]
/-- What a window holds after the grid point. -/
theorem after0_1 (c : Dev nD) (t : Fin cfg0.N) : (dats m 0 c).after 1 t = iblk m c 1 t := by dsimp only [dats]
/-- What a window holds after the grid point. -/
theorem after0_2 (c : Dev nD) (t : Fin cfg0.N) : (dats m 0 c).after 2 t = iblk m c 2 t := by dsimp only [dats]
/-- What a window holds after the grid point. -/
theorem after0_3 (c : Dev nD) (t : Fin cfg0.N) : (dats m 0 c).after 3 t = resV m c t := by dsimp only [dats]

/-- What a window holds before the grid point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- What a window holds before the grid point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- What a window holds before the grid point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What holds before the body of the grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What holds after the body of the grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body of the grid point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold resV
  iintro ⟨⟨⟨P0, P1, P2, P3, P4, P5, P6⟩, Hg, ⟨S0, S1, S2, S3, S8, S9, SW⟩, ⟨HW, HS⟩⟩, ⟨%W, -, HO⟩, ⟨%d0, H0⟩, ⟨%d1, H1⟩, ⟨%d2, H2⟩, ⟨%d3, H3⟩⟩
  iapply (wp_wand_r frame (wpE (defs₀ (F := F)) Variants.none (c : Thread nD τ) none) Set.univ)
  isplitl [P0 P1 P2 P3 P4 P5 P6 S0 S1 S2 S3 SW HW HS HO H0 H1 H2 H3]
  · iapply (wp_head c _ _ _ _ _ _ _ _ _ _ _ _ _ _ _ _ _ _ _ _ _ _ _ _ _ _ _ _ (iblk m c 0 t) (V m c main_arg3) (iblk m c 1 t) (iblk m c 2 t) (V m c main_v4))
    unfold headPre
    isplitl [H0]; · iexact H0
    isplitl [H1]; · iexact H1
    isplitl [H2]; · iexact H2
    isplitl [HW]; · iexact HW
    isplitl [HS]; · iexact HS
    isplitl [H3]; · iexists _; iexact H3
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [S0]; · iexact S0
    isplitl [S1]; · iexact S1
    isplitl [S2]; · iexact S2
    isplitl [S3]; · iexact S3
    isplitl [SW]; · iexact SW
    iexists W; iexact HO
  iintro %_ HP
  unfold headPost
  icases HP with ⟨H0, H1, H2, HW, HS, H3, P0, P1, P2, P3, P4, P5, P6, S0, S1, S2, S3, SW, ⟨%W', HO⟩⟩
  isplitr [HO H0 H1 H2 H3]
  · isplitl [P0 P1 P2 P3 P4 P5 P6]
    · isplitl [P0]; · iexact P0
      isplitl [P1]; · iexact P1
      isplitl [P2]; · iexact P2
      isplitl [P3]; · iexact P3
      isplitl [P4]; · iexact P4
      isplitl [P5]; · iexact P5
      iexact P6
    isplitl [Hg]; · iexact Hg
    isplitl [S0 S1 S2 S3 S8 S9 SW]
    · isplitl [S0]; · iexact S0
      isplitl [S1]; · iexact S1
      isplitl [S2]; · iexact S2
      isplitl [S3]; · iexact S3
      isplitl [S8]; · iexact S8
      isplitl [S9]; · iexact S9
      iexact SW
    isplitl [HW]; · iexact HW
    iexact HS
  isplitl [HO]
  · iexists W'; isplitr; · ipureintro; exact fun _ _ => Or.inl trivial
    iexact HO
  isplitl [H0]; · iexact H0
  isplitl [H1]; · iexact H1
  isplitl [H2]; · iexact H2
  iexact H3

/-- The launch's table of bodies, at its one grid point. -/
theorem defs₀_row (t : Fin cfg0.N) :
    defs₀ (F := F) .tc cfg0.body (cfg0.bodyArgs t (cfg0.slots t)) = bodyAt0 t := by
  unfold defs₀; rw [Defs.onTc_tc]

/-- The obligation of the launch on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs and leaves what the launch's postcondition says. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The result and the arguments after the run. -/
theorem run_blocks : θ_run defs (onTc (τ := τ) (main (F := F))) ⟨m, fun _ => 0, ρ⟩ (fun r => (∀ c : Dev nD,
      r.2.mem ((c.tc : Thread nD τ).loc main_v5) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

/-- The frame: the arguments as launched and every semaphore at zero. -/
theorem frameH : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_blocks m ρ)

end Cert.KernelIdeal.Hand

end
-- ==== Proof.Math.lean ====
module

public import Idealize.ShloMosaic.PureOps.Ideal
public import Idealize.ShloMosaic.Lib.IdealHost

@[expose] public section

noncomputable section

namespace Cert.Hand

open Idealize.ShloMosaic
open scoped BigOperators

/-! ## Powers of two of extended reals below the top -/

/-- The power of two of an extended real below the top, as a real number. -/
def pw (x : EReal) : ℝ := if x = ⊥ then 0 else (2 : ℝ) ^ x.toReal

/-- A power of two is not negative. -/
theorem pw_nonneg (x : EReal) : 0 ≤ pw x := by
  unfold pw; split
  · exact le_rfl
  · positivity

/-- A power of two is positive unless its exponent is minus infinity. -/
theorem pw_pos {x : EReal} (h : x ≠ ⊥) : 0 < pw x := by
  unfold pw; rw [if_neg h]; positivity

/-- An exponential shifted by a real number is a power of two times a factor. -/
theorem exp2_sub (x : EReal) (hx : x ≠ ⊤) (M : ℝ) : Ideal.exp2 (x - (M : EReal)) = ((pw x * (2 : ℝ) ^ (-M) : ℝ) : EReal) := by
  induction x with
  | bot => rw [EReal.bot_sub]; simp [pw]
  | top => exact absurd rfl hx
  | coe r =>
    rw [← EReal.coe_sub, Ideal.exp2_coe]
    have h : pw (r : EReal) = (2 : ℝ) ^ r := by unfold pw; rw [if_neg (EReal.coe_ne_bot r), EReal.toReal_coe]
    rw [h, ← Real.rpow_add (by norm_num)]
    rfl

/-- An exponential shifted by plus infinity is zero. -/
theorem exp2_sub_top (x : EReal) : Ideal.exp2 (x - ⊤) = 0 := by
  rw [EReal.sub_top]; rfl

/-- A finite sum of reals is the same in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The last step: the maximum and the sum give the logarithm -/

/-- The base-two logarithm the programs form. -/
def lseF (M den : EReal) : EReal := M + Ideal.div (Ideal.log den) (Ideal.log ((2 : ℝ) : EReal))

/-- The logarithm of two is the real one. -/
theorem log_two : Ideal.log ((2 : ℝ) : EReal) = ((Real.log 2 : ℝ) : EReal) := by
  rw [Ideal.log_coe, if_neg (by norm_num)]

/-- The logarithm of two is not zero. -/
theorem log_two_ne : ((Real.log 2 : ℝ) : EReal) ≠ 0 := by
  have := Real.log_pos (by norm_num : (1 : ℝ) < 2)
  exact_mod_cast this.ne'

/-- A log-sum-exp with an empty sum is minus infinity. -/
theorem lseF_zero (M : EReal) : lseF M 0 = ⊥ := by
  unfold lseF
  have h : Ideal.log (0 : EReal) = ⊥ := by rw [← EReal.coe_zero, Ideal.log_coe, if_pos le_rfl]
  rw [h, log_two]
  have : Ideal.div ⊥ ((Real.log 2 : ℝ) : EReal) = ⊥ := by
    unfold Ideal.div
    rw [if_neg log_two_ne, ← EReal.coe_inv]
    exact EReal.bot_mul_coe_of_pos (inv_pos.mpr (Real.log_pos (by norm_num)))
  rw [this, EReal.add_bot]

/-- A log-sum-exp with shift minus infinity is minus infinity. -/
theorem lseF_bot (den : EReal) : lseF ⊥ den = ⊥ := by
  unfold lseF; rw [EReal.bot_add]

/-- A log-sum-exp does not depend on its shift. -/
theorem lseF_real (M Q : ℝ) (hQ : 0 < Q) : lseF (M : EReal) ((Q * (2 : ℝ) ^ (-M) : ℝ) : EReal) = ((Real.log Q / Real.log 2 : ℝ) : EReal) := by
  have h2 : (0 : ℝ) < (2 : ℝ) ^ (-M) := by positivity
  have hl := Real.log_pos (by norm_num : (1 : ℝ) < 2)
  unfold lseF
  rw [log_two, Ideal.log_coe, if_neg (not_le.mpr (mul_pos hQ h2))]
  unfold Ideal.div
  rw [if_neg log_two_ne, ← EReal.coe_inv, ← EReal.coe_mul, ← EReal.coe_add]
  congr 1
  rw [Real.log_mul hQ.ne' h2.ne', Real.log_rpow (by norm_num)]
  field_simp
  ring

/-- Below the top, the logarithm does not depend on which real was taken off. -/
theorem lseF_pw {Q : ℝ} (hQ : 0 ≤ Q) (M : ℝ) :
    lseF (M : EReal) ((Q * (2 : ℝ) ^ (-M) : ℝ) : EReal) = if Q = 0 then ⊥ else ((Real.log Q / Real.log 2 : ℝ) : EReal) := by
  split
  · next h => subst h; rw [zero_mul, EReal.coe_zero, lseF_zero]
  · next h => exact lseF_real M Q (lt_of_le_of_ne hQ (Ne.symm h))

/-! ## The tiles -/

/-- The lane of a tile. -/
def laneT (t : Fin 64) : Fin 128 := ⟨t.val, by omega⟩
/-- The column of a tile's chunk's lane. -/
def col (t : Fin 64) (o : Fin 4) (k : Fin 128) : Fin 32768 := ⟨512 * t.val + 128 * o.val + k.val, by omega⟩

/-- Tile, block and lane name each column once. -/
theorem col_bij : Function.Bijective (fun x : Fin 64 × Fin 4 × Fin 128 => col x.1 x.2.1 x.2.2) := by
  constructor
  · rintro ⟨t, o, k⟩ ⟨t', o', k'⟩ h
    have h := congrArg Fin.val h
    simp only [col] at h
    have ht : t = t' := Fin.ext (by omega)
    have ho : o = o' := Fin.ext (by omega)
    have hk : k = k' := Fin.ext (by omega)
    rw [ht, ho, hk]
  · intro v
    refine ⟨(⟨v.val / 512, by omega⟩, ⟨v.val % 512 / 128, by omega⟩, ⟨v.val % 128, by omega⟩), Fin.ext ?_⟩
    simp only [col]
    omega

/-- A sum over the columns as a sum over tiles, blocks and lanes. -/
theorem sum_col {M : Type} [AddCommMonoid M] (f : Fin 32768 → M) :
    (∑ v, f v) = ∑ t : Fin 64, ∑ k : Fin 128, ((f (col t 0 k) + f (col t 1 k)) + (f (col t 2 k) + f (col t 3 k))) := by
  rw [← col_bij.sum_comp f, Fintype.sum_prod_type]
  refine Finset.sum_congr rfl fun t _ => ?_
  rw [Fintype.sum_prod_type, Finset.sum_comm]
  refine Finset.sum_congr rfl fun k _ => ?_
  rw [Fin.sum_univ_four]
  exact (add_assoc _ _ _)

/-- A sum over 128 lanes of which only 64 count. -/
theorem sum_lanes {M : Type} [AddCommMonoid M] (f : Fin 128 → M) (h : ∀ l : Fin 128, 64 ≤ l.val → f l = 0) :
    (∑ l, f l) = ∑ t : Fin 64, f (laneT t) := by
  have hI : Function.Injective laneT := fun a b e => Fin.ext (congrArg (fun x : Fin 128 => x.val) e)
  rw [show (∑ t : Fin 64, f (laneT t)) = ∑ l ∈ Finset.univ.map ⟨laneT, hI⟩, f l from (Finset.sum_map Finset.univ (⟨laneT, hI⟩ : Fin 64 ↪ Fin 128) f).symm]
  symm
  refine Finset.sum_subset (Finset.subset_univ _) fun l _ hl => h l ?_
  by_contra hn
  exact hl (Finset.mem_map.mpr ⟨⟨l.val, by omega⟩, Finset.mem_univ _, Fin.ext rfl⟩)

/-- The maximum of a tile. -/
def tileSup (s : Fin 32768 → EReal) (t : Fin 64) : EReal :=
  Finset.univ.sup fun k : Fin 128 => max (max (s (col t 0 k)) (s (col t 1 k))) (max (s (col t 2 k)) (s (col t 3 k)))

/-- The sum of a tile. -/
def tileSum (s : Fin 32768 → EReal) (m : EReal) (t : Fin 64) : EReal :=
  ∑ k : Fin 128, ((Ideal.exp2 (s (col t 0 k) - m) + Ideal.exp2 (s (col t 1 k) - m)) + (Ideal.exp2 (s (col t 2 k) - m) + Ideal.exp2 (s (col t 3 k) - m)))

/-- A tile's maximum is above each of its columns. -/
theorem le_tileSup (s : Fin 32768 → EReal) (t : Fin 64) (o : Fin 4) (k : Fin 128) : s (col t o k) ≤ tileSup s t := by
  refine le_trans ?_ (Finset.le_sup (f := fun k : Fin 128 => max (max (s (col t 0 k)) (s (col t 1 k))) (max (s (col t 2 k)) (s (col t 3 k)))) (Finset.mem_univ k))
  match o with
  | 0 => exact le_max_of_le_left (le_max_left _ _)
  | 1 => exact le_max_of_le_left (le_max_right _ _)
  | 2 => exact le_max_of_le_right (le_max_left _ _)
  | 3 => exact le_max_of_le_right (le_max_right _ _)

/-- A finite supremum without plus infinity is not plus infinity. -/
theorem sup_ne_top {ι : Type} (S : Finset ι) (f : ι → EReal) (h : ∀ i, f i ≠ ⊤) : S.sup f ≠ ⊤ :=
  ((Finset.sup_lt_iff (bot_lt_top)).mpr fun i _ => lt_top_iff_ne_top.mpr (h i)).ne

/-- The same for a tile. -/
theorem tileSup_ne_top (s : Fin 32768 → EReal) (hs : ∀ v, s v ≠ ⊤) (t : Fin 64) : tileSup s t ≠ ⊤ := by
  refine sup_ne_top _ _ fun k => ?_
  rw [← lt_top_iff_ne_top]
  exact max_lt (max_lt (hs _).lt_top (hs _).lt_top) (max_lt (hs _).lt_top (hs _).lt_top)

/-- Rounding up does not make plus infinity. -/
theorem ceil_ne_top {x : EReal} (h : x ≠ ⊤) : Ideal.liftRound Int.ceil x ≠ ⊤ := by
  induction x with
  | bot => exact bot_ne_top
  | top => exact absurd rfl h
  | coe r => exact EReal.coe_ne_top _

/-- Only minus infinity rounds up to minus infinity. -/
theorem ceil_eq_bot {x : EReal} (h : Ideal.liftRound Int.ceil x = ⊥) : x = ⊥ := by
  induction x with
  | bot => rfl
  | top => exact absurd h (by simp)
  | coe r => exact absurd h (EReal.coe_ne_bot _)

/-- The sum of the powers of a tile. -/
def tileP (s : Fin 32768 → EReal) (t : Fin 64) : ℝ :=
  ∑ k : Fin 128, ((pw (s (col t 0 k)) + pw (s (col t 1 k))) + (pw (s (col t 2 k)) + pw (s (col t 3 k))))

/-- A tile's sum with a real shift. -/
theorem tileSum_real (s : Fin 32768 → EReal) (hs : ∀ v, s v ≠ ⊤) (t : Fin 64) (μ : ℝ) :
    tileSum s (μ : EReal) t = ((tileP s t * (2 : ℝ) ^ (-μ) : ℝ) : EReal) := by
  unfold tileSum tileP
  simp only [exp2_sub _ (hs _), ← EReal.coe_add]
  rw [coe_sum, Finset.sum_mul]
  congr 1
  refine Finset.sum_congr rfl fun k _ => by ring

/-- A tile of minus infinities has no mass. -/
theorem tileP_zero (s : Fin 32768 → EReal) (t : Fin 64) (h : tileSup s t = ⊥) : tileP s t = 0 := by
  have hb : ∀ o k, s (col t o k) = ⊥ := fun o k => le_bot_iff.mp (h ▸ le_tileSup s t o k)
  unfold tileP
  refine Finset.sum_eq_zero fun k _ => ?_
  simp only [hb, pw, if_true, add_zero]

/-- A tile of minus infinities: what its sum contributes. -/
theorem tileSum_bot (s : Fin 32768 → EReal) (t : Fin 64) (h : tileSup s t = ⊥) (m : EReal) (hm : m = ⊥) : tileSum s m t = 0 := by
  have hb : ∀ o k, s (col t o k) = ⊥ := fun o k => le_bot_iff.mp (h ▸ le_tileSup s t o k)
  unfold tileSum
  refine Finset.sum_eq_zero fun k _ => ?_
  simp only [hb, EReal.bot_sub, Ideal.exp2_bot, add_zero]

/-- A tile's sum, brought to a common real. -/
theorem tile_term (s : Fin 32768 → EReal) (hs : ∀ v, s v ≠ ⊤) (t : Fin 64) (m d : EReal) (hm : m = Ideal.liftRound Int.ceil (tileSup s t))
    (hd : d = tileSum s m t) (M : ℝ) : d * Ideal.exp2 (m - (M : EReal)) = ((tileP s t * (2 : ℝ) ^ (-M) : ℝ) : EReal) := by
  have hmt : m ≠ ⊤ := hm ▸ ceil_ne_top (tileSup_ne_top s hs t)
  by_cases hb : m = ⊥
  · have hz := ceil_eq_bot (hm ▸ hb)
    rw [hd, tileSum_bot s t hz m hb, tileP_zero s t hz, zero_mul, zero_mul, EReal.coe_zero]
  · rw [exp2_sub m hmt M]
    obtain ⟨μ, rfl⟩ : ∃ μ : ℝ, m = (μ : EReal) := ⟨m.toReal, (EReal.coe_toReal hmt hb).symm⟩
    rw [hd, tileSum_real s hs t μ, ← EReal.coe_mul]
    congr 1
    have h : pw (μ : EReal) = (2 : ℝ) ^ μ := by unfold pw; rw [if_neg (EReal.coe_ne_bot μ), EReal.toReal_coe]
    have h2 : (2 : ℝ) ^ (-μ) * (2 : ℝ) ^ μ = 1 := by rw [← Real.rpow_add (by norm_num)]; simp
    rw [h]
    calc tileP s t * (2 : ℝ) ^ (-μ) * ((2 : ℝ) ^ μ * (2 : ℝ) ^ (-M)) = tileP s t * ((2 : ℝ) ^ (-μ) * (2 : ℝ) ^ μ) * (2 : ℝ) ^ (-M) := by ring
      _ = _ := by rw [h2, mul_one]

/-- THE ALGEBRA: tile by tile, with the tiles' maxima taken off and put back, is the whole row at once. -/
theorem lse_tiles (s : Fin 32768 → EReal) (d mf : Fin 128 → EReal) (neg : ℝ)
    (hm : ∀ t, mf (laneT t) = Ideal.liftRound Int.ceil (tileSup s t)) (hd : ∀ t, d (laneT t) = tileSum s (mf (laneT t)) t)
    (hm' : ∀ l : Fin 128, 64 ≤ l.val → mf l = (neg : EReal)) (hd' : ∀ l : Fin 128, 64 ≤ l.val → d l = 0) :
    lseF (Finset.univ.sup mf) (∑ l, d l * Ideal.exp2 (mf l - Finset.univ.sup mf))
      = lseF (Ideal.liftRound Int.ceil (Finset.univ.sup s)) (∑ v, Ideal.exp2 (s v - Ideal.liftRound Int.ceil (Finset.univ.sup s))) := by
  by_cases ht : ∃ v, s v = ⊤
  · obtain ⟨v, hv⟩ := ht
    have h1 : Finset.univ.sup s = ⊤ := top_le_iff.mp (hv ▸ Finset.le_sup (Finset.mem_univ v))
    have h2 : Finset.univ.sup mf = ⊤ := by
      obtain ⟨⟨t, o, k⟩, rfl⟩ := col_bij.2 v
      have h3 : tileSup s t = ⊤ := top_le_iff.mp (hv ▸ le_tileSup s t o k)
      have h4 : mf (laneT t) = ⊤ := by rw [hm, h3]; rfl
      exact top_le_iff.mp (h4 ▸ Finset.le_sup (Finset.mem_univ (laneT t)))
    rw [h1, h2, Ideal.liftRound_top]
    simp only [exp2_sub_top, mul_zero, Finset.sum_const_zero]
  · have hs : ∀ v, s v ≠ ⊤ := fun v e => ht ⟨v, e⟩
    have hmf : ∀ l, mf l ≠ ⊤ := fun l => by
      by_cases hl : l.val < 64
      · have : l = laneT ⟨l.val, hl⟩ := rfl
        rw [this, hm]; exact ceil_ne_top (tileSup_ne_top s hs _)
      · rw [hm' l (by omega)]; exact EReal.coe_ne_top _
    have hMt : Finset.univ.sup mf ≠ ⊤ := sup_ne_top _ _ hmf
    have hMb : Finset.univ.sup mf ≠ ⊥ := by
      intro e
      have := Finset.le_sup (f := mf) (Finset.mem_univ (⟨127, by omega⟩ : Fin 128))
      rw [e, hm' _ (by decide)] at this
      exact EReal.coe_ne_bot _ (le_bot_iff.mp this)
    obtain ⟨M, hM⟩ : ∃ M : ℝ, Finset.univ.sup mf = (M : EReal) := ⟨_, (EReal.coe_toReal hMt hMb).symm⟩
    have hQ : (0 : ℝ) ≤ ∑ v, pw (s v) := Finset.sum_nonneg fun v _ => pw_nonneg _
    have hL : (∑ l, d l * Ideal.exp2 (mf l - Finset.univ.sup mf)) = (((∑ v, pw (s v)) * (2 : ℝ) ^ (-M) : ℝ) : EReal) := by
      rw [hM, sum_lanes _ (fun l hl => by rw [hd' l hl, zero_mul]), Finset.sum_congr rfl (fun t _ => tile_term s hs t _ _ (hm t) (hd t) M),
        coe_sum, sum_col, Finset.sum_mul]
      rfl
    rw [hL, hM, lseF_pw hQ]
    have hRt : Ideal.liftRound Int.ceil (Finset.univ.sup s) ≠ ⊤ := ceil_ne_top (sup_ne_top _ _ hs)
    by_cases hb : Ideal.liftRound Int.ceil (Finset.univ.sup s) = ⊥
    · rw [hb, lseF_bot, if_pos]
      have hz := ceil_eq_bot hb
      refine Finset.sum_eq_zero fun v _ => ?_
      have : s v = ⊥ := le_bot_iff.mp (hz ▸ Finset.le_sup (Finset.mem_univ v))
      unfold pw; rw [if_pos this]
    · obtain ⟨N, hN⟩ : ∃ N : ℝ, Ideal.liftRound Int.ceil (Finset.univ.sup s) = (N : EReal) := ⟨_, (EReal.coe_toReal hRt hb).symm⟩
      rw [hN, Finset.sum_congr rfl (fun v _ => exp2_sub (s v) (hs v) N), coe_sum, ← Finset.sum_mul, lseF_pw hQ]

end Cert.Hand

end
-- ==== Proof.KIVal.lean ====
module

public import proofs.«01_k».proof.Proof.KILoop
public import proofs.«01_k».proof.Proof.Math
public import Idealize.ShloMosaic.Lib.Pipeline.ValueKit
public import Idealize.ShloMosaic.Lib.ValueLayout

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open scoped BigOperators

/-! ## One tile of eight rows -/

/-- The bits of minus infinity. -/
theorem ofBits_neg_inf : Ideal.ofBits .f32 0xFF800000#32 = ⊥ := by simp [Ideal.ofBits, Ideal.ieee]

/-- The bits of two. -/
theorem ofBits_two : Ideal.ofBits .f32 0x40000000#32 = ((2 : ℝ) : EReal) := by
  simp [Ideal.ofBits, Ideal.ieee, -EReal.coe_mul]
  norm_num

/-- The starting value of the maxima is a real number. -/
theorem ofBits_neg : ∃ r : ℝ, Ideal.ofBits .f32 0xF149F2CA#32 = (r : EReal) := by
  refine ⟨(-1 : ℝ) * ((2 ^ 23 + 4846282 : ℕ) : ℝ) * (2 : ℝ) ^ ((226 : Int) - 127 - 23), ?_⟩
  simp [Ideal.ofBits, Ideal.ieee, -EReal.coe_mul, -EReal.coe_neg]

/-- The fold of maxima from minus infinity is the supremum. -/
theorem fold_max_eq_sup {n : ℕ} (f : Fin n → EReal) : (Finset.univ.fold max ⊥ f : EReal) = Finset.univ.sup f := rfl

/-- A chunk read as a ring slot, at an index. -/
theorem asSlot_apply (Y : S1024x4096.Idx → Elt Ideal .fp8e4m3) (j : Fin 1024) (k : Fin 4096) : asSlot (F := Ideal) Y (ix3 0 j k) = Y (ix2 j k) := by
  unfold asSlot
  congr 1
  rw [Equiv.symm_apply_eq]
  exact (ValueIdx.reshapeEquiv_ix2_1ab _ j k).symm

/-- Lane numbers below 128 are equal as words when they are equal. -/
theorem lane_eq (l : Fin 128) (b : ℕ) (hb : b < 128) : (BitVec.ofNat 32 l.val = BitVec.ofNat 32 b) ↔ l.val = b := by
  constructor
  · intro h
    have := congrArg BitVec.toNat h
    simp only [BitVec.toNat_ofNat] at this
    omega
  · intro h; rw [h]

/-- The selection of one lane, at an index. -/
theorem put_apply (b : ℕ) (hb : b < 128) (x : FVec Ideal S8x1 .f32) (prev : FVec Ideal S8x128 .f32) (i : Fin 8) (l : Fin 128) :
    put laneV (BitVec.ofNat 32 b) x prev (ix2 i l) = if l.val = b then x (ix2 i 0) else prev (ix2 i l) := by
  unfold put
  pointwise [laneV]
  by_cases h : l.val = b
  · rw [if_pos h, h]; simp [Scalar.select, IntOp.cmpi]
  · have := mt (lane_eq l b hb).mp h
    rw [if_neg h]; simp only [Scalar.select, IntOp.cmpi, beq_eq_false_iff_ne.mpr this]; rfl

/-- A tile's rounded maximum, at a row. -/
theorem tmax_apply (s0 s1 s2 s3 : FVec Ideal S8x128 .f32) (i : Fin 8) :
    tmax s0 s1 s2 s3 (ix2 i 0) = Ideal.liftRound Int.ceil (Finset.univ.sup fun k : Fin 128 =>
      max (max (s0 (ix2 i k)) (s1 (ix2 i k))) (max (s2 (ix2 i k)) (s3 (ix2 i k)))) := by
  unfold tmax
  pointwise []
  rw [ofBits_neg_inf]; rfl

/-- A tile's sum of exponentials, at a row. -/
theorem tsum_apply (s0 s1 s2 s3 : FVec Ideal S8x128 .f32) (m : FVec Ideal S8x1 .f32) (i : Fin 8) :
    tsum s0 s1 s2 s3 m (ix2 i 0) = ∑ k : Fin 128, ((Ideal.exp2 (s0 (ix2 i k) - m (ix2 i 0)) + Ideal.exp2 (s1 (ix2 i k) - m (ix2 i 0)))
      + (Ideal.exp2 (s2 (ix2 i k) - m (ix2 i 0)) + Ideal.exp2 (s3 (ix2 i k) - m (ix2 i 0)))) := by
  unfold tsum
  pointwise [tex]
  rfl

/-- A scaled product, at an index. -/
theorem s2v_apply (a x : Vec Ideal S8x128 .f32) (w : Vec Ideal S1x128 .f32) (i : Fin 8) (k : Fin 128) :
    s2v a x w (ix2 i k) = a (ix2 i k) * x (ix2 i k) * w (ix2 0 k) := by
  unfold s2v
  pointwise []

/-- A rectangle with unit steps shifts an index by its offsets. -/
theorem emb_unit {n0 n1 m0 m1 : ℕ} (o0 o1 : ℕ) (h : ∀ a, (![o0, o1] : Fin 2 → ℕ) a + (![m0, m1] : Fin 2 → ℕ) a ≤ (![n0, n1] : Fin 2 → ℕ) a)
    (i : Fin m0) (j : Fin m1) (h0 : o0 + i.val < n0) (h1 : o1 + j.val < n1) :
    (Rect.unit (s := ⟨2, ![n0, n1]⟩) ![o0, o1] ![m0, m1] h).emb (ix2 i j) = ix2 ⟨o0 + i.val, h0⟩ ⟨o1 + j.val, h1⟩ := by
  funext a
  apply Fin.ext
  match a with
  | ⟨0, _⟩ => show o0 + 1 * i.val = o0 + i.val; omega
  | ⟨1, _⟩ => show o1 + 1 * j.val = o1 + j.val; omega

/-- A row of the 72 among the 96. -/
def up (r : Fin 72) : Fin 96 := ⟨r.val, by omega⟩

/-- A row's scaled products. -/
def rowS (XQ : Vec Ideal S96x4096 .fp8e4m3) (X : S32768x4096.Idx → Elt Ideal .fp8e4m3) (RS : S96x128.Idx → Ideal .f32)
    (WS : S256x128.Idx → Ideal .f32) (r : Fin 72) (v : Fin 32768) : EReal :=
  (∑ k : Fin 4096, (XQ (ix2 (up r) k) : EReal) * (X (ix2 v k) : EReal)) * RS (ix2 (up r) ⟨v.val % 128, by omega⟩)
    * WS (ix2 ⟨v.val / 128, by omega⟩ ⟨v.val % 128, by omega⟩)

/-- The row of a group. -/
def gr (g : Fin 9) (i : Fin 8) : Fin 72 := ⟨8 * g.val + i.val, by omega⟩

variable (XQ : Vec Ideal S96x4096 .fp8e4m3) (X : S32768x4096.Idx → Elt Ideal .fp8e4m3) (RS : S96x128.Idx → Ideal .f32)
    (WS : S256x128.Idx → Ideal .f32)

/-- The product with one chunk, at an index. -/
theorem dot_apply (p : Fin 32) (r : Fin 96) (j : Fin 1024) :
    dotC (F := Ideal) XQ X p (ix2 r j) = ∑ k : Fin 4096, (XQ (ix2 r k) : EReal) * (X (ix2 ⟨1024 * p.val + j.val, by omega⟩ k) : EReal) := by
  unfold dotC
  pointwise [k0_pay354]
  refine Finset.sum_congr rfl fun k _ => ?_
  rw [asSlot_apply]
  unfold chunk
  have h := emb_unit (1024 * p.val) 0 (inbSrc p) j k (by omega) (by omega)
  refine congrArg (fun x => XQ (ix2 r k) * X x) (h.trans ?_)
  exact congrArg (ix2 _) (Fin.ext (Nat.zero_add _))

/-- The scaled products that the epilogue reads, at an index, are those of the row at the tile's columns. -/
theorem sC_apply (p : Fin 32) (g : Fin 9) (b : Fin 2) (o : Fin 4) (i : Fin 8) (k : Fin 128) :
    sC (F := Ideal) (dotC XQ X p) RS WS (offC p) (inbC p) g ⟨4 * b.val + o.val, by omega⟩ (ix2 i k)
      = rowS XQ X RS WS (gr g i) (col ⟨2 * p.val + b.val, by omega⟩ o k) := by
  unfold sC
  rw [s2v_apply]
  unfold rowS
  have e1 := emb_unit (8 * g.val) (128 * (4 * b.val + o.val)) (inbAcc g ⟨4 * b.val + o.val, by omega⟩) i k (by omega) (by omega)
  have e2 := emb_unit (8 * g.val) 0 (inbRs g) i k (by omega) (by omega)
  have e3 := emb_unit (8 * p.val + (4 * b.val + o.val)) 0 (inbC p ⟨4 * b.val + o.val, by omega⟩) (0 : Fin 1) k (by simp; omega) (by omega)
  refine congrArg₂ (· * ·) (congrArg₂ (· * ·) ?_ ?_) ?_
  · refine (congrArg (dotC (F := Ideal) XQ X p) e1).trans ((dot_apply XQ X p _ _).trans ?_)
    refine Finset.sum_congr rfl fun kk _ => congrArg₂ (· * ·) rfl (congrArg X ?_)
    exact congrArg (fun v => ix2 v kk) (Fin.ext (by simp only [col]; omega))
  · refine congrArg RS (e2.trans (congrArg (ix2 _) (Fin.ext ?_)))
    simp only [col]; omega
  · refine congrArg WS (e3.trans (congrArg₂ ix2 (Fin.ext ?_) (Fin.ext ?_)))
    · simp only [col, Fin.val_zero]; omega
    · simp only [col]; omega

/-! ## One group's step -/

/-- The rows of a group inside the statistics arrays. -/
theorem up_gr (g : Fin 9) (i : Fin 8) (l : Fin 128) : (rowR g).emb (ix2 i l) = ix2 (gr g i) l := by
  have e := emb_unit (8 * g.val) 0 (inbRows g) i l (by omega) (by omega)
  refine e.trans (congrArg (ix2 _) (Fin.ext (Nat.zero_add _)))

/-- Another group's rows lie outside a group's rectangle. -/
theorem not_mem_row (g g' : Fin 9) (h : g' ≠ g) (i : Fin 8) (l : Fin 128) : ix2 (gr g i) l ∉ (rowR g').set := by
  intro hm
  rw [← Rect.map_emb_univ] at hm
  obtain ⟨x, -, hx⟩ := Finset.mem_map.mp hm
  rw [eq_ix2 x] at hx
  have hx := (up_gr g' (x 0) (x 1)).symm.trans hx
  have h0 := congrArg (fun y : S72x128.Idx => (y 0).val) hx
  have h1 : 8 * g'.val + (x 0).val = 8 * g.val + i.val := h0
  have h2 : (x 0).val < 8 := (x 0).isLt
  exact h (Fin.ext (by omega))

/-- The tile's lane, or what was there. -/
def pick (n : Fin 32) (l : Fin 128) (f : Fin 64 → EReal) (x : EReal) : EReal :=
  if l.val = 2 * n.val + 1 then f ⟨2 * n.val + 1, by omega⟩ else if l.val = 2 * n.val then f ⟨2 * n.val, by omega⟩ else x

/-- A tile's maximum and sum, of a row. -/
def tM (r : Fin 72) (t : Fin 64) : EReal := Ideal.liftRound Int.ceil (tileSup (rowS XQ X RS WS r) t)
/-- The sum of exponentials of tile `t` of row `r`. -/
def tD (r : Fin 72) (t : Fin 64) : EReal := tileSum (rowS XQ X RS WS r) (tM XQ X RS WS r t) t

/-- A group step at a row of its own group: the tile maxima of its two tiles at their lanes. -/
theorem stepM_same (n : Fin 32) (g : Fin 9) (i : Fin 8) (l : Fin 128) (M : S72x128.Idx → Ideal .f32) :
    stepM (F := Ideal) laneV (BitVec.ofNat 32 (2 * n.val)) (BitVec.ofNat 32 (2 * n.val + 1)) (dotC XQ X n) RS WS (offC n) (inbC n) g M (ix2 (gr g i) l)
      = pick n l (tM XQ X RS WS (gr g i)) (M (ix2 (gr g i) l)) := by
  have s0 := fun k => sC_apply XQ X RS WS n g 0 0 i k
  have s1 := fun k => sC_apply XQ X RS WS n g 0 1 i k
  have s2 := fun k => sC_apply XQ X RS WS n g 0 2 i k
  have s3 := fun k => sC_apply XQ X RS WS n g 0 3 i k
  have s4 := fun k => sC_apply XQ X RS WS n g 1 0 i k
  have s5 := fun k => sC_apply XQ X RS WS n g 1 1 i k
  have s6 := fun k => sC_apply XQ X RS WS n g 1 2 i k
  have s7 := fun k => sC_apply XQ X RS WS n g 1 3 i k
  unfold stepM
  rw [← up_gr g i l, Rect.overlay_emb, shapeCast_self, up_gr g i l]
  unfold newM
  rw [put_apply _ (by omega), put_apply _ (by omega), tmax_apply, tmax_apply, up_gr]
  unfold pick tM tileSup
  refine if_congr Iff.rfl (congrArg _ (congrArg _ (funext fun k => ?_))) (if_congr Iff.rfl (congrArg _ (congrArg _ (funext fun k => ?_))) rfl)
  · exact congrArg₂ max (congrArg₂ max (s4 k) (s5 k)) (congrArg₂ max (s6 k) (s7 k))
  · exact congrArg₂ max (congrArg₂ max (s0 k) (s1 k)) (congrArg₂ max (s2 k) (s3 k))

/-- A group step leaves the tile maxima of the other groups' rows. -/
theorem stepM_other (n : Fin 32) (g g' : Fin 9) (h : g' ≠ g) (i : Fin 8) (l : Fin 128) (M : S72x128.Idx → Ideal .f32) :
    stepM (F := Ideal) laneV (BitVec.ofNat 32 (2 * n.val)) (BitVec.ofNat 32 (2 * n.val + 1)) (dotC XQ X n) RS WS (offC n) (inbC n) g' M (ix2 (gr g i) l)
      = M (ix2 (gr g i) l) := Rect.overlay_of_not_mem _ _ _ (not_mem_row g g' h i l)

end Cert.KernelIdeal.Hand

end
-- ==== Proof.KIRow.lean ====
module

public import proofs.«01_k».proof.Proof.KIVal

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic
open scoped BigOperators

variable (XQ : Vec Ideal S96x4096 .fp8e4m3) (X : S32768x4096.Idx → Elt Ideal .fp8e4m3) (RS : S96x128.Idx → Ideal .f32)
    (WS : S256x128.Idx → Ideal .f32)

/-- A group step at a row of its own group: the tile sums of its two tiles at their lanes. -/
theorem stepD_same (n : Fin 32) (g : Fin 9) (i : Fin 8) (l : Fin 128) (D : S72x128.Idx → Ideal .f32) :
    stepD (F := Ideal) laneV (BitVec.ofNat 32 (2 * n.val)) (BitVec.ofNat 32 (2 * n.val + 1)) (dotC XQ X n) RS WS (offC n) (inbC n) g D (ix2 (gr g i) l)
      = pick n l (tD XQ X RS WS (gr g i)) (D (ix2 (gr g i) l)) := by
  have s0 := fun k => sC_apply XQ X RS WS n g 0 0 i k
  have s1 := fun k => sC_apply XQ X RS WS n g 0 1 i k
  have s2 := fun k => sC_apply XQ X RS WS n g 0 2 i k
  have s3 := fun k => sC_apply XQ X RS WS n g 0 3 i k
  have s4 := fun k => sC_apply XQ X RS WS n g 1 0 i k
  have s5 := fun k => sC_apply XQ X RS WS n g 1 1 i k
  have s6 := fun k => sC_apply XQ X RS WS n g 1 2 i k
  have s7 := fun k => sC_apply XQ X RS WS n g 1 3 i k
  unfold stepD
  rw [← up_gr g i l, Rect.overlay_emb, shapeCast_self, up_gr g i l]
  unfold newD
  rw [put_apply _ (by omega), put_apply _ (by omega), tsum_apply, tsum_apply, up_gr]
  have m0 : tmax (sC (F := Ideal) (dotC XQ X n) RS WS (offC n) (inbC n) g 0) (sC (dotC XQ X n) RS WS (offC n) (inbC n) g 1)
      (sC (dotC XQ X n) RS WS (offC n) (inbC n) g 2) (sC (dotC XQ X n) RS WS (offC n) (inbC n) g 3) (ix2 i 0)
        = tM XQ X RS WS (gr g i) ⟨2 * n.val, by omega⟩ := by
    rw [tmax_apply]
    unfold tM tileSup
    exact congrArg _ (congrArg _ (funext fun k => congrArg₂ max (congrArg₂ max (s0 k) (s1 k)) (congrArg₂ max (s2 k) (s3 k))))
  have m1 : tmax (sC (F := Ideal) (dotC XQ X n) RS WS (offC n) (inbC n) g 4) (sC (dotC XQ X n) RS WS (offC n) (inbC n) g 5)
      (sC (dotC XQ X n) RS WS (offC n) (inbC n) g 6) (sC (dotC XQ X n) RS WS (offC n) (inbC n) g 7) (ix2 i 0)
        = tM XQ X RS WS (gr g i) ⟨2 * n.val + 1, by omega⟩ := by
    rw [tmax_apply]
    unfold tM tileSup
    exact congrArg _ (congrArg _ (funext fun k => congrArg₂ max (congrArg₂ max (s4 k) (s5 k)) (congrArg₂ max (s6 k) (s7 k))))
  rw [m0, m1]
  unfold pick tD tileSum
  refine if_congr Iff.rfl (Finset.sum_congr rfl fun k _ => ?_) (if_congr Iff.rfl (Finset.sum_congr rfl fun k _ => ?_) rfl)
  · exact congrArg₂ (· + ·) (congrArg₂ (· + ·) (congrArg (fun x => Ideal.exp2 (x - _)) (s4 k)) (congrArg (fun x => Ideal.exp2 (x - _)) (s5 k)))
      (congrArg₂ (· + ·) (congrArg (fun x => Ideal.exp2 (x - _)) (s6 k)) (congrArg (fun x => Ideal.exp2 (x - _)) (s7 k)))
  · exact congrArg₂ (· + ·) (congrArg₂ (· + ·) (congrArg (fun x => Ideal.exp2 (x - _)) (s0 k)) (congrArg (fun x => Ideal.exp2 (x - _)) (s1 k)))
      (congrArg₂ (· + ·) (congrArg (fun x => Ideal.exp2 (x - _)) (s2 k)) (congrArg (fun x => Ideal.exp2 (x - _)) (s3 k)))

/-- A group step leaves the tile sums of the other groups' rows. -/
theorem stepD_other (n : Fin 32) (g g' : Fin 9) (h : g' ≠ g) (i : Fin 8) (l : Fin 128) (D : S72x128.Idx → Ideal .f32) :
    stepD (F := Ideal) laneV (BitVec.ofNat 32 (2 * n.val)) (BitVec.ofNat 32 (2 * n.val + 1)) (dotC XQ X n) RS WS (offC n) (inbC n) g' D (ix2 (gr g i) l)
      = D (ix2 (gr g i) l) := Rect.overlay_of_not_mem _ _ _ (not_mem_row g g' h i l)

/-! ## All groups, all chunks -/

/-- A fold of which one step reaches a place. -/
theorem foldl_once {β : Type} (step : Fin 9 → β → β) (ev : β → EReal) (u : EReal → EReal) (G : Fin 9) (h1 : ∀ D, ev (step G D) = u (ev D))
    (h2 : ∀ g, g ≠ G → ∀ D, ev (step g D) = ev D) (D : β) : ev ((List.finRange 9).foldl (fun D g => step g D) D) = u (ev D) := by
  have key : ∀ (L : List (Fin 9)) (D : β), L.Nodup → ev (L.foldl (fun D g => step g D) D) = if G ∈ L then u (ev D) else ev D := by
    intro L
    induction L with
    | nil => intro D _; simp
    | cons a L ih =>
      intro D hL
      rw [List.nodup_cons] at hL
      rw [List.foldl_cons, ih _ hL.2]
      by_cases ha : a = G
      · subst ha
        rw [if_neg hL.1, if_pos List.mem_cons_self, h1]
      · rw [h2 a ha]
        refine if_congr ?_ rfl rfl
        rw [List.mem_cons]
        exact ⟨Or.inr, fun h => h.resolve_left fun e => ha e.symm⟩
  rw [key _ _ (List.nodup_finRange 9), if_pos (List.mem_finRange G)]

/-- A whole epilogue at an index of the tile maxima. -/
theorem epiM_apply (n : Fin 32) (r : Fin 72) (l : Fin 128) (M : S72x128.Idx → Ideal .f32) :
    epiM (F := Ideal) laneV (BitVec.ofNat 32 (2 * n.val)) (BitVec.ofNat 32 (2 * n.val + 1)) (dotC XQ X n) RS WS (offC n) (inbC n) M (ix2 r l)
      = pick n l (tM XQ X RS WS r) (M (ix2 r l)) := by
  obtain ⟨g, i, rfl⟩ : ∃ g i, r = gr g i := ⟨⟨r.val / 8, by omega⟩, ⟨r.val % 8, by omega⟩, Fin.ext (by simp only [gr]; omega)⟩
  unfold epiM
  exact foldl_once (fun g M => stepM (F := Ideal) laneV (BitVec.ofNat 32 (2 * n.val)) (BitVec.ofNat 32 (2 * n.val + 1)) (dotC XQ X n) RS WS (offC n) (inbC n) g M)
    (fun M => M (ix2 (gr g i) l)) (pick n l (tM XQ X RS WS (gr g i))) g (fun M => stepM_same XQ X RS WS n g i l M) (fun g' h M => stepM_other XQ X RS WS n g g' h i l M) M

/-- A whole epilogue at an index of the tile sums. -/
theorem epiD_apply (n : Fin 32) (r : Fin 72) (l : Fin 128) (D : S72x128.Idx → Ideal .f32) :
    epiD (F := Ideal) laneV (BitVec.ofNat 32 (2 * n.val)) (BitVec.ofNat 32 (2 * n.val + 1)) (dotC XQ X n) RS WS (offC n) (inbC n) D (ix2 r l)
      = pick n l (tD XQ X RS WS r) (D (ix2 r l)) := by
  obtain ⟨g, i, rfl⟩ : ∃ g i, r = gr g i := ⟨⟨r.val / 8, by omega⟩, ⟨r.val % 8, by omega⟩, Fin.ext (by simp only [gr]; omega)⟩
  unfold epiD
  exact foldl_once (fun g M => stepD (F := Ideal) laneV (BitVec.ofNat 32 (2 * n.val)) (BitVec.ofNat 32 (2 * n.val + 1)) (dotC XQ X n) RS WS (offC n) (inbC n) g M)
    (fun M => M (ix2 (gr g i) l)) (pick n l (tD XQ X RS WS (gr g i))) g (fun M => stepD_same XQ X RS WS n g i l M) (fun g' h M => stepD_other XQ X RS WS n g g' h i l M) D

/-- A lane of the first `n` chunks, or what was there. -/
def got (n : ℕ) (l : Fin 128) (f : Fin 64 → EReal) (x : EReal) : EReal :=
  if h : l.val < 2 * n ∧ l.val < 64 then f ⟨l.val, h.2⟩ else x

/-- One more epilogue fills two more lanes. -/
theorem got_step (n : Fin 32) (l : Fin 128) (f : Fin 64 → EReal) (x : EReal) : pick n l f (got n.val l f x) = got (n.val + 1) l f x := by
  unfold pick
  by_cases h1 : l.val = 2 * n.val + 1
  · rw [if_pos h1]; unfold got; rw [dif_pos (by omega)]
    exact congrArg f (Fin.ext h1.symm)
  · rw [if_neg h1]
    by_cases h2 : l.val = 2 * n.val
    · rw [if_pos h2]; unfold got; rw [dif_pos (by omega)]
      exact congrArg f (Fin.ext h2.symm)
    · rw [if_neg h2]; unfold got
      by_cases h3 : l.val < 2 * n.val ∧ l.val < 64
      · rw [dif_pos h3, dif_pos (by omega)]
      · rw [dif_neg h3, dif_neg (by omega)]

/-- A chunk number below 32 is itself. -/
theorem fN_lt (n : ℕ) (h : n < 32) : fN n = ⟨n, h⟩ := Fin.ext (Nat.mod_eq_of_lt h)

/-- After `n` chunks the lanes below `2 n` hold their tiles' maxima, the others the starting value. -/
theorem mN_apply (r : Fin 72) (l : Fin 128) : ∀ n : ℕ, n ≤ 32 → mN (F := Ideal) XQ X RS WS n (ix2 r l)
    = got n l (tM XQ X RS WS r) (Ideal.ofBits .f32 0xF149F2CA#32)
  | 0, _ => by
    show k0_pay353 (F := Ideal) (ix2 r l) = _
    unfold got; rw [dif_neg (by omega)]
    pointwise [k0_pay353]
  | n + 1, h => by
    show epiM (F := Ideal) laneV (BitVec.ofNat 32 (2 * n)) (BitVec.ofNat 32 (2 * n + 1)) (dotC XQ X (fN n)) RS WS (offC (fN n)) (inbC (fN n)) (mN XQ X RS WS n) (ix2 r l) = _
    rw [fN_lt n (by omega)]
    refine (epiM_apply XQ X RS WS ⟨n, by omega⟩ r l _).trans ?_
    rw [mN_apply r l n (by omega)]
    exact got_step ⟨n, by omega⟩ l _ _

/-- After `n` chunks the lanes below `2 n` hold their tiles' sums, the others zero. -/
theorem dN_apply (r : Fin 72) (l : Fin 128) : ∀ n : ℕ, n ≤ 32 → dN (F := Ideal) XQ X RS WS n (ix2 r l)
    = got n l (tD XQ X RS WS r) 0
  | 0, _ => by
    show k0_pay352 (F := Ideal) (ix2 r l) = _
    unfold got; rw [dif_neg (by omega)]
    pointwise [k0_pay352]
  | n + 1, h => by
    show epiD (F := Ideal) laneV (BitVec.ofNat 32 (2 * n)) (BitVec.ofNat 32 (2 * n + 1)) (dotC XQ X (fN n)) RS WS (offC (fN n)) (inbC (fN n)) (dN XQ X RS WS n) (ix2 r l) = _
    rw [fN_lt n (by omega)]
    refine (epiD_apply XQ X RS WS ⟨n, by omega⟩ r l _).trans ?_
    rw [dN_apply r l n (by omega)]
    exact got_step ⟨n, by omega⟩ l _ _

/-! ## The result -/

/-- The last step of the kernel at an index, from the two statistics arrays. -/
theorem pay3_apply (M D : Vec Ideal S72x128 .f32) (r : Fin 72) (l : Fin 128) :
    k0_pay3 (F := Ideal) M D (ix2 r l) = lseF (Finset.univ.sup fun l : Fin 128 => (M (ix2 r l) : EReal))
      (∑ l : Fin 128, (D (ix2 r l) : EReal) * Ideal.exp2 (M (ix2 r l) - Finset.univ.sup fun l : Fin 128 => (M (ix2 r l) : EReal)))
        * Ideal.ofBits .f32 0x3F317218#32 - Ideal.ofBits .f32 0x41265AF6#32 := by
  pointwise [k0_pay3]
  rw [ofBits_neg_inf, ofBits_two]
  rfl

/-- The row's logarithm, as the reference forms it. -/
def lseRow (s : Fin 32768 → EReal) : EReal :=
  lseF (Ideal.liftRound Int.ceil (Finset.univ.sup s)) (∑ v, Ideal.exp2 (s v - Ideal.liftRound Int.ceil (Finset.univ.sup s)))

/-- The kernel's result at an index is the log-sum-exp of the row's scaled products. -/
theorem outV_apply (XS TS : Vec Ideal S72x128 .f32) (r : Fin 72) (l : Fin 128) :
    outV (F := Ideal) XQ X XS TS WS (ix2 r l)
      = lseRow (rowS XQ X (rsV (F := Ideal) XS TS) WS r) * Ideal.ofBits .f32 0x3F317218#32 - Ideal.ofBits .f32 0x41265AF6#32 := by
  unfold outV
  rw [pay3_apply]
  obtain ⟨neg, hneg⟩ := ofBits_neg
  have hM : ∀ l, mN (F := Ideal) XQ X (rsV (F := Ideal) XS TS) WS 32 (ix2 r l) = got 32 l (tM XQ X (rsV (F := Ideal) XS TS) WS r) (neg : EReal) := fun l => by
    rw [mN_apply _ _ _ _ r l 32 le_rfl, hneg]
  have hD := fun l => dN_apply XQ X (rsV (F := Ideal) XS TS) WS r l 32 le_rfl
  simp only [hM, hD]
  congr 2
  refine lse_tiles (rowS XQ X (rsV (F := Ideal) XS TS) WS r) _ _ neg (fun t => ?_) (fun t => ?_) (fun l hl => ?_) (fun l hl => ?_)
  · unfold got; rw [dif_pos ⟨by simp only [laneT]; omega, by simp only [laneT]; omega⟩]; rfl
  · unfold got; rw [dif_pos ⟨by simp only [laneT]; omega, by simp only [laneT]; omega⟩, dif_pos ⟨by simp only [laneT]; omega, by simp only [laneT]; omega⟩]; rfl
  · unfold got; rw [dif_neg (by omega)]
  · unfold got; rw [dif_neg (by omega)]

/-- The row scale at an index. -/
theorem rsV_apply (XS TS : Vec Ideal S72x128 .f32) (r : Fin 72) (k : Fin 128) :
    rsV (F := Ideal) XS TS (ix2 (up r) k) = Ideal.div (XS (ix2 r k)) (TS (ix2 r k)) * Ideal.ofBits .f32 0x3FB8AA3B#32 := by
  unfold rsV
  have e := emb_unit 0 0 inb_S96x128_S72x128_0_0 r k (by omega) (by omega)
  have e' : (Rect.unit (s := S96x128) ![0, 0] S72x128.size inb_S96x128_S72x128_0_0).emb (ix2 r k) = ix2 (up r) k :=
    e.trans (congrArg₂ ix2 (Fin.ext (Nat.zero_add _)) (Fin.ext (Nat.zero_add _)))
  rw [← e', Rect.overlay_emb]
  pointwise [k0_pay351]

end Cert.KernelIdeal.Hand

end
-- ==== Proof.KIFinal.lean ====
module

public import proofs.«01_k».proof.Proof.KIRow
public import proofs.«01_k».proof.Proof.KIFrame
public import Idealize.ShloMosaic.Lib.Claim

@[expose] public section

set_option maxRecDepth 65536

noncomputable section

namespace Cert.KernelIdeal.Hand

open Cert.KernelIdeal Cert.KernelIdeal.Gen Cert.Hand
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Every window has its one block at the origin. -/
theorem idx : win0_0.index t0_0 = ![0, 0] ∧ win0_1.index t0_0 = ![0, 0] ∧ win0_2.index t0_0 = ![0, 0] ∧ win0_3.index t0_0 = ![0, 0] := by
  decide +kernel

/-- The result array at the end is what the body leaves in the result's window. -/
theorem final (c : Dev nD) : (dats m 0 c).arrAt 3 cfg0.N = resV m c t0_0 := by
  refine (dats m 0 c).arrAt_eq_of_after_last 3 t0_0 (by decide +kernel) _ fun j => ?_
  blk_simp
  rw [after0_3]

/-- The first window holds the codes. -/
theorem iblk0 (c : Dev nD) : iblk m c 0 t0_0 = m ((c : Thread nD τ).loc main_arg0) := by
  blk_ext! [iblk, V, idx]

/-- The second window holds the rows' quantiser scales. -/
theorem iblk1 (c : Dev nD) (r : Fin 72) (k : Fin 128) : iblk m c 1 t0_0 (ix2 r k) = m ((c : Thread nD τ).loc main_arg1) (ix1 r) := by
  have e : (win0_1.blk t0_0).view.emb (ix2 r k) = ix2 r k := by blk_ext [idx]
  blk_simp [iblk, idx]
  refine (congrArg (V m c main_v1) e).trans ?_
  entry_read
  pointwise []

/-- The third window holds the rows' temperatures. -/
theorem iblk2 (c : Dev nD) (r : Fin 72) (k : Fin 128) : iblk m c 2 t0_0 (ix2 r k) = m ((c : Thread nD τ).loc main_arg2) (ix1 r) := by
  have e : (win0_2.blk t0_0).view.emb (ix2 r k) = ix2 r k := by blk_ext [idx]
  blk_simp [iblk, idx]
  refine (congrArg (V m c main_v3) e).trans ?_
  entry_read
  pointwise []

/-- The column scales in rows of 128. -/
theorem vv4 (c : Dev nD) (a : Fin 256) (b : Fin 128) : V m c main_v4 (ix2 a b) = m ((c : Thread nD τ).loc main_arg4) (ix1 ⟨128 * a.val + b.val, by omega⟩) := by
  entry_read
  refine shapeCast_apply _ _ _ (ix1 ⟨128 * a.val + b.val, by omega⟩) ?_
  rw [Shape.rowMajor_val_one]
  refine Eq.trans ?_ (Shape.rowMajor_val_two (d := ![256, 128]) (ix2 a b)).symm
  show 128 * a.val + b.val = a.val * 128 + b.val
  omega

/-- A row's scaled products, from the arguments. -/
def rowA (XQ : S96x4096.Idx → EReal) (X : S32768x4096.Idx → EReal) (xs ts : S72.Idx → EReal) (ws : S32768.Idx → EReal)
    (r : Fin 72) (v : Fin 32768) : EReal :=
  (∑ k : Fin 4096, XQ (ix2 (up r) k) * X (ix2 v k)) * (Ideal.div (xs (ix1 r)) (ts (ix1 r)) * Ideal.ofBits .f32 0x3FB8AA3B#32) * ws (ix1 v)

/-- The result of the kernel at an index. -/
theorem final_apply (c : Dev nD) (r : Fin 72) (l : Fin 128) :
    (dats m 0 c).arrAt 3 cfg0.N (ix2 r l) = lseRow (rowA (m ((c : Thread nD τ).loc main_arg0)) (m ((c : Thread nD τ).loc main_arg3))
      (m ((c : Thread nD τ).loc main_arg1)) (m ((c : Thread nD τ).loc main_arg2)) (m ((c : Thread nD τ).loc main_arg4)) r)
        * Ideal.ofBits .f32 0x3F317218#32 - Ideal.ofBits .f32 0x41265AF6#32 := by
  rw [final]
  unfold resV
  refine (outV_apply _ _ _ _ _ r l).trans ?_
  refine congrArg (fun s => lseRow s * Ideal.ofBits .f32 0x3F317218#32 - Ideal.ofBits .f32 0x41265AF6#32) (funext fun v => ?_)
  unfold rowS rowA
  rw [rsV_apply, iblk0, iblk1, iblk2, vv4]
  refine congrArg (fun x => _ * m ((c : Thread nD τ).loc main_arg4) (ix1 x)) (Fin.ext ?_)
  show 128 * (v.val / 128) + v.val % 128 = v.val
  omega

end Cert.KernelIdeal.Hand

end
-- ==== Proof.RFinal.lean ====
module

public import proofs.«01_k».proof.Proof.KIFinal
public import proofs.«01_k».proof.Proof.Gen.ReferenceIdeal.Value
public import Idealize.ShloMosaic.Lib.Claim
public import Idealize.ShloMosaic.Lib.Pipeline.ValueKit

@[expose] public section

set_option maxRecDepth 65536

noncomputable section

namespace Cert.ReferenceIdeal.Hand

open Cert.ReferenceIdeal Cert.ReferenceIdeal.Gen Cert.Hand
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ)

/-- Every window has its one block at the origin. -/
theorem idx : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] := by
  decide +kernel

/-- The result array at the end is what the body leaves in the result's window. -/
theorem final (c : Dev nD) : (dats m 0 c).arrAt 5 cfg0.N
    = out0_5 (iblk m c 0 t0_0) (iblk m c 1 t0_0) (iblk m c 2 t0_0) (iblk m c 3 t0_0) (iblk m c 4 t0_0) := by
  refine (dats m 0 c).arrAt_eq_of_after_last 5 t0_0 (by decide +kernel) _ fun j => ?_
  blk_simp
  rw [after0_5]

/-- The reference's body at an index: the log-sum-exp of the row's scaled products. -/
theorem pay_apply (XQ : Vec Ideal S72x4096 .fp8e4m3) (X : Vec Ideal S32768x4096 .fp8e4m3) (xs ts : Vec Ideal S72x1 .f32) (ws : Vec Ideal S1x32768 .f32)
    (r : Fin 72) (l : Fin 128) : k0_pay1 (F := Ideal) XQ X xs ts ws (ix2 r l)
      = Cert.KernelIdeal.Hand.lseRow (fun v => (∑ k : Fin 4096, (XQ (ix2 r k) : EReal) * (X (ix2 v k) : EReal))
          * (Ideal.div (xs (ix2 r 0)) (ts (ix2 r 0)) * Ideal.ofBits .f32 0x3FB8AA3B#32) * ws (ix2 0 v))
        * Ideal.ofBits .f32 0x3F317218#32 - Ideal.ofBits .f32 0x41265AF6#32 := by
  pointwise [k0_pay1]
  rw [Cert.KernelIdeal.Hand.ofBits_neg_inf, Cert.KernelIdeal.Hand.ofBits_two]
  rfl

/-- The first window holds the codes. -/
theorem iblk0 (c : Dev nD) (r : Fin 96) (k : Fin 4096) : iblk m c 0 t0_0 (ix2 r k) = m ((c : Thread nD τ).loc main_arg0) (ix2 r k) := by
  have e : iblk m c 0 t0_0 = m ((c : Thread nD τ).loc main_arg0) := by blk_ext! [iblk, V, idx]
  rw [e]

/-- The fourth window holds the head weights. -/
theorem iblk3 (c : Dev nD) : iblk m c 3 t0_0 = m ((c : Thread nD τ).loc main_arg3) := by
  blk_ext! [iblk, V, idx]

/-- The second window holds the rows' quantiser scales. -/
theorem iblk1 (c : Dev nD) (r : Fin 72) : iblk m c 1 t0_0 (ix2 r 0) = m ((c : Thread nD τ).loc main_arg1) (ix1 r) := by
  have e : (win0_1.blk t0_0).view.emb (ix2 r 0) = ix2 r 0 := by blk_ext [idx]
  blk_simp [iblk, idx]
  refine (congrArg (V m c main_v0) e).trans ?_
  entry_read
  pointwise []

/-- The third window holds the rows' temperatures. -/
theorem iblk2 (c : Dev nD) (r : Fin 72) : iblk m c 2 t0_0 (ix2 r 0) = m ((c : Thread nD τ).loc main_arg2) (ix1 r) := by
  have e : (win0_2.blk t0_0).view.emb (ix2 r 0) = ix2 r 0 := by blk_ext [idx]
  blk_simp [iblk, idx]
  refine (congrArg (V m c main_v1) e).trans ?_
  entry_read
  pointwise []

/-- The fifth window holds the column scales. -/
theorem iblk4 (c : Dev nD) (v : Fin 32768) : iblk m c 4 t0_0 (ix2 0 v) = m ((c : Thread nD τ).loc main_arg4) (ix1 v) := by
  have e : (win0_4.blk t0_0).view.emb (ix2 0 v) = ix2 0 v := by blk_ext [idx]
  blk_simp [iblk, idx]
  refine (congrArg (V m c main_v2) e).trans ?_
  entry_read
  pointwise []

/-- The reference's result is its body on its blocks, with the first 72 rows of the codes. -/
theorem out_apply (x0 : Vec Ideal S96x4096 .fp8e4m3) (x1 x2 : Vec Ideal S72x1 .f32) (x3 : Vec Ideal S32768x4096 .fp8e4m3) (x4 : Vec Ideal S1x32768 .f32) :
    out0_5 x0 x1 x2 x3 x4 = k0_pay1 (F := Ideal) (fun i => x0 (r0_0.emb i)) x3 x1 x2 x4 := by
  frame_out
  rfl

/-- The first 72 rows of the codes. -/
theorem rows (r : Fin 72) (k : Fin 4096) : r0_0.emb (ix2 r k) = ix2 (Cert.KernelIdeal.Hand.up r) k := by
  refine (Cert.KernelIdeal.Hand.emb_unit 0 0 _ r k (by omega) (by omega)).trans ?_
  refine congrArg₂ ix2 (Fin.ext (Nat.zero_add _)) (Fin.ext (Nat.zero_add _))

/-- The result of the reference at an index. -/
theorem final_apply (c : Dev nD) (r : Fin 72) (l : Fin 128) :
    (dats m 0 c).arrAt 5 cfg0.N (ix2 r l) = Cert.KernelIdeal.Hand.lseRow (Cert.KernelIdeal.Hand.rowA (m ((c : Thread nD τ).loc main_arg0)) (m ((c : Thread nD τ).loc main_arg3))
      (m ((c : Thread nD τ).loc main_arg1)) (m ((c : Thread nD τ).loc main_arg2)) (m ((c : Thread nD τ).loc main_arg4)) r)
        * Ideal.ofBits .f32 0x3F317218#32 - Ideal.ofBits .f32 0x41265AF6#32 := by
  rw [final, out_apply, pay_apply]
  refine congrArg (fun s => Cert.KernelIdeal.Hand.lseRow s * Ideal.ofBits .f32 0x3F317218#32 - Ideal.ofBits .f32 0x41265AF6#32) (funext fun v => ?_)
  unfold Cert.KernelIdeal.Hand.rowA
  rw [iblk1, iblk2, iblk4, iblk3]
  simp only [rows, iblk0]

end Cert.ReferenceIdeal.Hand

end
-- ==== Proof.Equal.lean ====
module

public import proofs.«01_k».proof.Defs
public import proofs.«01_k».proof.Proof.KIFinal
public import proofs.«01_k».proof.Proof.RFinal

@[expose] public section

set_option maxRecDepth 65536

noncomputable section

namespace Cert.Hand

open Idealize.ShloMosaic Idealize.SL.Sem

/-- The kernel and the reference leave the same array: both hold, at row `r` and every lane, the same log-sum-exp of the
row's scaled products, whatever the extended reals in the arguments are. -/
theorem algebraic : Cert.algebraic_KernelIdeal_ReferenceIdeal := by
  intro m ρ m' ρ' _ hag
  refine ⟨fun c => (Cert.KernelIdeal.Hand.dats m 0 c).arrAt 3 _,
    (θ_run _ _ _).mono (fun _ h => h.1) (Cert.KernelIdeal.Hand.run_blocks m ρ),
    (θ_run _ _ _).mono (fun _ h c => ⟨(h c).1.trans ?_, (h c).2⟩) (Cert.ReferenceIdeal.Value.run_blocks m' ρ')⟩
  obtain ⟨h0, h1, h2, h3, h4⟩ := hag c
  refine funext fun j => ?_
  obtain ⟨r, l, rfl⟩ : ∃ (r : Fin 72) (l : Fin 128), j = ix2 r l :=
    ⟨j 0, j 1, by funext d; match d with | ⟨0, _⟩ => rfl | ⟨1, _⟩ => rfl⟩
  refine (Cert.ReferenceIdeal.Hand.final_apply m' c r l).trans (Eq.trans ?_ (Cert.KernelIdeal.Hand.final_apply m c r l).symm)
  rw [h0, h1, h2, h3, h4]

end Cert.Hand

end
-- ==== Proof.QPlain.lean ====
module

public import Idealize.ShloMosaic.PureOps.Ideal
public import Idealize.ShloMosaic.Lib.IdealHost

@[expose] public section

noncomputable section

namespace Cert.Hand

open Idealize.ShloMosaic
open scoped BigOperators

/-! ## The quantiser of one row, over the extended reals -/

/-- The mean square of a row of 4096 entries. -/
def meanSq (x : Fin 4096 → EReal) : EReal := Ideal.div (∑ k, x k * x k) (Ideal.ofBits .f32 0x45800000#32)

/-- The row over the square root of its mean square plus 1e-5, times the norm's weights. -/
def normRow (x w : Fin 4096 → EReal) (k : Fin 4096) : EReal :=
  Ideal.div (x k) (Ideal.sqrt (meanSq x + Ideal.ofBits .f32 0x3727C5AC#32)) * w k

/-- The greatest absolute value in a row. -/
def maxAbs (y : Fin 4096 → EReal) : EReal :=
  Finset.fold max (Ideal.ofBits .f32 0xFF800000#32) (fun k => (FloatOps.absf (F := Ideal) (φ := .f32) (y k) : EReal)) Finset.univ

/-- The row's scale: its greatest absolute value over 448, and one for a row of zeros. -/
def scaleRow (y : Fin 4096 → EReal) : EReal :=
  if maxAbs y = 0 then 1 else Ideal.div (maxAbs y) (Ideal.ofBits .f32 0x43E00000#32)

/-- The row's codes: the row over its scale, held between -448 and 448. -/
def codeRow (y : Fin 4096 → EReal) (k : Fin 4096) : EReal :=
  min (Ideal.ofBits .f32 0x43E00000#32) (max (Ideal.ofBits .f32 0xC3E00000#32) (Ideal.div (y k) (scaleRow y)))

/-- Multiplying by 1/4096 is dividing by 4096, for every extended real. -/
theorem mul_eq_div (s : EReal) : s * Ideal.ofBits .f32 0x39800000#32 = Ideal.div s (Ideal.ofBits .f32 0x45800000#32) := by
  have h1 : Ideal.ofBits .f32 0x39800000#32 = ((1 / 4096 : ℝ) : EReal) := by
    simp [Ideal.ofBits, Ideal.ieee, -EReal.coe_mul]
    norm_num
  have h2 : Ideal.ofBits .f32 0x45800000#32 = ((4096 : ℝ) : EReal) := by
    simp [Ideal.ofBits, Ideal.ieee, -EReal.coe_mul]
    norm_num
  rw [h1, h2, Ideal.div_coe (by norm_num)]

end Cert.Hand

end
-- ==== Proof.QRows.lean ====
module

public import proofs.«01_k».proof.Proof.Gen.QuantIdeal.Value
public import proofs.«01_k».proof.Proof.QPlain
public import Idealize.ShloMosaic.Lib.Claim
public import Idealize.ShloMosaic.Lib.Pipeline.ValueKit

@[expose] public section

set_option maxRecDepth 65536

noncomputable section

namespace Cert.QuantIdeal.Hand

open Cert.QuantIdeal Cert.QuantIdeal.Gen Cert.Hand
open Idealize.ShloMosaic Idealize.ShloMosaic.TcCoe Idealize.ShloMosaic.Tactic
open Idealize.ShloMosaic.Pipeline (Dat)

/-! ## One trip's values at an index -/

/-- A trip's scales at an index: the row's scale, on every lane. -/
theorem pay4_apply (x : Vec Ideal S1x6x4096 .bf16) (w : Vec Ideal S1x4096 .f32) (s : Fin 6) (l : Fin 128) :
    k0_pay2 (F := Ideal) (k0_pay4 x w) (ix3 0 s l) = scaleRow (normRow (fun k => x (ix3 0 s k)) (fun k => w (ix2 0 k))) := by
  pointwise [k0_pay2, k0_pay4, k0_pay3]
  simp only [mul_eq_div]
  rfl

/-- A trip's codes at an index: the row's codes. -/
theorem pay6_apply (x : Vec Ideal S1x6x4096 .bf16) (w : Vec Ideal S1x4096 .f32) (s : Fin 6) (k : Fin 4096) :
    k0_pay6 (F := Ideal) x w (ix3 0 s k) = codeRow (normRow (fun k => x (ix3 0 s k)) (fun k => w (ix2 0 k))) k := by
  pointwise [k0_pay6, k0_pay5, k0_pay4, k0_pay3]
  simp only [mul_eq_div]
  rfl

/-! ## The stores of the loop -/

section Trips

variable (𝒱 : Variants) (c : Dev nD) (bd : Option 𝒱.V) (arg0 : Memref sig .tc .hbm S12x6x4096 .bf16) (harg0 : arg0.IsWhole) (arg1 : Memref sig .tc .hbm S1x4096 .f32) (harg1 : arg1.IsWhole) (arg2 : Memref sig .tc .vmem S12x6x4096 .fp8e4m3) (harg2 : arg2.IsWhole) (arg3 : Memref sig .tc .vmem S12x6x128 .f32) (harg3 : arg3.IsWhole) (arg4 : Memref sig .tc .vmem S12x6x4096 .bf16) (harg4 : arg4.IsWhole) (arg5 : Memref sig .tc .vmem S1x4096 .f32) (harg5 : arg5.IsWhole) (arg6 : Memref sig .tc .vmem S96x4096 .f32) (harg6 : arg6.IsWhole) (arg7 : DmaSems sig S3) (X4 : BufTy.Contents (Elt Ideal) arg4.view.ty) (X5 : BufTy.Contents (Elt Ideal) arg5.view.ty)

/-- What a trip's codes are made of: the trip's slice of the rows. -/
abbrev ldX (k : Fin k0_t1_loop.trips) : Vec Ideal S1x6x4096 .bf16 :=
  View.readAt (Elt Ideal) arg4.view (Rect.unit (s := S12x6x4096) (k0_off1 k) S1x6x4096.size (Facts₀.k0_off1_inb k)).toLoadRect X4

/-- What a trip's codes are made of: the norm's weights. -/
abbrev ldW : Vec Ideal S1x4096 .f32 :=
  View.readAt (Elt Ideal) arg5.view (Rect.unit (s := S1x4096) ![0, 0] S1x4096.size Facts₀.inb_S1x4096_S1x4096_0_0).toLoadRect X5

/-- A trip stores one block of codes. -/
theorem trip_codes (k : Fin k0_t1_loop.trips) :
    (trip_k0_t1 (F := Ideal) 𝒱 c bd arg0 harg0 arg1 harg1 arg2 harg2 arg3 harg3 arg4 harg4 arg5 harg5 arg6 harg6 arg7 X4 X5 k).1
      = [⟨Rect.unit (s := S12x6x4096) (k0_off1 k) S1x6x4096.size (Facts₀.k0_off1_inb k), k0_pay6 (ldX arg4 X4 k) (ldW arg5 X5)⟩] := by
  unfold trip_k0_t1
  rfl

/-- A trip stores one block of scales. -/
theorem trip_scales (k : Fin k0_t1_loop.trips) :
    (trip_k0_t1 (F := Ideal) 𝒱 c bd arg0 harg0 arg1 harg1 arg2 harg2 arg3 harg3 arg4 harg4 arg5 harg5 arg6 harg6 arg7 X4 X5 k).2.1
      = [⟨Rect.unit (s := S12x6x128) (k0_off3 k) S1x6x128.size (Facts₀.k0_off3_inb k), k0_pay2 (k0_pay4 (ldX arg4 X4 k) (ldW arg5 X5))⟩] := by
  unfold trip_k0_t1
  rfl

/-- Every store of the loop is some trip's. -/
theorem pb_mem (n : ℕ) (hn : n ≤ k0_t1_loop.trips) :
    (∀ pc ∈ (pb_k0_t1 (F := Ideal) 𝒱 c bd arg0 harg0 arg1 harg1 arg2 harg2 arg3 harg3 arg4 harg4 arg5 harg5 arg6 harg6 arg7 X4 X5 n).1,
        ∃ k : Fin k0_t1_loop.trips, pc = ⟨Rect.unit (s := S12x6x4096) (k0_off1 k) S1x6x4096.size (Facts₀.k0_off1_inb k), k0_pay6 (ldX arg4 X4 k) (ldW arg5 X5)⟩)
    ∧ (∀ pc ∈ (pb_k0_t1 (F := Ideal) 𝒱 c bd arg0 harg0 arg1 harg1 arg2 harg2 arg3 harg3 arg4 harg4 arg5 harg5 arg6 harg6 arg7 X4 X5 n).2.1,
        ∃ k : Fin k0_t1_loop.trips, pc = ⟨Rect.unit (s := S12x6x128) (k0_off3 k) S1x6x128.size (Facts₀.k0_off3_inb k), k0_pay2 (k0_pay4 (ldX arg4 X4 k) (ldW arg5 X5))⟩) := by
  induction n with
  | zero =>
    rw [pb_k0_t1.eq_1]
    exact ⟨fun _ h => absurd h List.not_mem_nil, fun _ h => absurd h List.not_mem_nil⟩
  | succ n ih =>
    obtain ⟨i1, i2⟩ := ih (Nat.le_of_succ_le hn)
    have e := pb_k0_t1_succ (F := Ideal) 𝒱 c bd arg0 harg0 arg1 harg1 arg2 harg2 arg3 harg3 arg4 harg4 arg5 harg5 arg6 harg6 arg7 X4 X5 ⟨n, hn⟩
    have e' := e
    replace e := congrArg Prod.fst e
    replace e' := congrArg (fun p => p.2.1) e'
    dsimp only at e e'
    rw [trip_codes] at e
    rw [trip_scales] at e'
    constructor
    · intro pc h
      rw [e] at h
      rcases List.mem_append.1 h with h | h
      · exact ⟨⟨n, hn⟩, List.mem_singleton.1 h⟩
      · exact i1 pc h
    · intro pc h
      rw [e'] at h
      rcases List.mem_append.1 h with h | h
      · exact ⟨⟨n, hn⟩, List.mem_singleton.1 h⟩
      · exact i2 pc h

end Trips

end Cert.QuantIdeal.Hand

end
-- ==== Proof.QIFinal.lean ====
module

public import proofs.«01_k».proof.Proof.QRows

@[expose] public section

set_option maxRecDepth 65536

noncomputable section

namespace Cert.QuantIdeal.Hand

open Cert.QuantIdeal Cert.QuantIdeal.Gen Cert.Hand
open Idealize.ShloMosaic Idealize.ShloMosaic.TcCoe Idealize.ShloMosaic.Tactic
open Idealize.ShloMosaic.Pipeline (Dat)

/-- Where the loop's trips read and store: at their own batch row. -/
theorem off : ∀ k : Fin k0_t1_loop.trips, k0_off1 k = ![k.val, 0, 0] ∧ k0_off3 k = ![k.val, 0, 0] := by
  decide +kernel

/-- The loop has twelve trips. -/
theorem trips : k0_t1_loop.trips = 12 := by decide +kernel

/-- A slab of one batch row, at an index. -/
theorem emb_slab {n0 n1 n2 : ℕ} (o : Fin 3 → ℕ) (b : ℕ) (ho : o = ![b, 0, 0]) (hb : b < n0)
    (h : ∀ a, o a + (![1, n1, n2] : Fin 3 → ℕ) a ≤ (![n0, n1, n2] : Fin 3 → ℕ) a) (i : Fin n1) (j : Fin n2) :
    (Rect.unit (s := ⟨3, ![n0, n1, n2]⟩) o ![1, n1, n2] h).emb (ix3 0 i j) = ix3 ⟨b, hb⟩ i j := by
  subst ho
  funext a
  apply Fin.ext
  match a with
  | ⟨0, _⟩ => show b + 1 * 0 = b; omega
  | ⟨1, _⟩ => show 0 + 1 * i.val = i.val; omega
  | ⟨2, _⟩ => show 0 + 1 * j.val = j.val; omega

/-- A buffer that one transfer filled whole reads as what was transferred. -/
theorem read_filled {s : Shape} {e : EltTy} (v : View sig .tc .vmem s e) (p : s.Idx → Elt Ideal e) :
    v.read (Elt Ideal) (v.writes (Elt Ideal) v.junk [⟨Rect.whole s, p⟩]) = p := by
  rw [View.read_writes_junk_eq_canon]
  funext y
  refine View.canon_apply_of_pieces p _ ?_ y ⟨_, List.mem_singleton.2 rfl, ?_⟩
  · intro pc h x
    obtain rfl := List.mem_singleton.1 h
    refine congrArg p (funext fun a => Fin.ext ?_)
    show (x a).val = 0 + 1 * (x a).val
    omega
  · rw [Rect.set_whole]; exact Finset.mem_univ _

section Pieces

variable (arg4 : Memref sig .tc .vmem S12x6x4096 .bf16) (arg5 : Memref sig .tc .vmem S1x4096 .f32)
  (X : Vec Ideal S12x6x4096 .bf16) (W : Vec Ideal S1x4096 .f32)
  (X4 : BufTy.Contents (Elt Ideal) arg4.view.ty) (X5 : BufTy.Contents (Elt Ideal) arg5.view.ty)
  (h4 : arg4.view.read (Elt Ideal) X4 = X) (h5 : arg5.view.read (Elt Ideal) X5 = W)

include h4 in
/-- A trip's slice of the rows, at an index. -/
theorem ldX_apply (k : Fin k0_t1_loop.trips) (s : Fin 6) (j : Fin 4096) :
    ldX arg4 X4 k (ix3 0 s j) = X (ix3 ⟨k.val, trips ▸ k.isLt⟩ s j) := by
  rw [← h4]
  exact congrArg (arg4.view.read (Elt Ideal) X4) (emb_slab _ k.val (off k).1 (trips ▸ k.isLt) _ s j)

include h5 in
/-- The norm's weights as a trip reads them, at an index. -/
theorem ldW_apply (j : Fin 4096) : ldW arg5 X5 (ix2 0 j) = W (ix2 0 j) := by
  rw [← h5]
  refine congrArg (arg5.view.read (Elt Ideal) X5) (funext fun a => Fin.ext ?_)
  match a with
  | ⟨0, _⟩ => rfl
  | ⟨1, _⟩ => show 0 + 1 * j.val = j.val; omega

/-- The codes that the loop leaves. -/
def codesOf : S12x6x4096.Idx → Elt Ideal .fp8e4m3 :=
  fun i => codeRow (normRow (fun k => X (ix3 (i 0) (i 1) k)) (fun k => W (ix2 0 k))) (i 2)

/-- The scales that the loop leaves. -/
def scalesOf : S12x6x128.Idx → Elt Ideal .f32 :=
  fun i => scaleRow (normRow (fun k => X (ix3 (i 0) (i 1) k)) (fun k => W (ix2 0 k)))

include h4 h5 in
/-- A trip's stored codes are the codes at the batch row it stores to. -/
theorem codes_piece (k : Fin k0_t1_loop.trips) (x : S1x6x4096.Idx) :
    k0_pay6 (ldX arg4 X4 k) (ldW arg5 X5) x
      = codesOf X W ((Rect.unit (s := S12x6x4096) (k0_off1 k) S1x6x4096.size (Facts₀.k0_off1_inb k)).emb x) := by
  obtain ⟨s, j, rfl⟩ : ∃ (s : Fin 6) (j : Fin 4096), x = ix3 0 s j :=
    ⟨x 1, x 2, by funext d; match d with | ⟨0, _⟩ => exact Subsingleton.elim (α := Fin 1) _ _ | ⟨1, _⟩ => rfl | ⟨2, _⟩ => rfl⟩
  refine (pay6_apply _ _ s j).trans (Eq.trans ?_ (congrArg (codesOf X W) (emb_slab _ k.val (off k).1 (trips ▸ k.isLt) _ s j)).symm)
  simp only [ldX_apply arg4 X X4 h4, ldW_apply arg5 W X5 h5]
  rfl

include h4 h5 in
/-- A trip's stored scales are the scales at the batch row it stores to. -/
theorem scales_piece (k : Fin k0_t1_loop.trips) (x : S1x6x128.Idx) :
    k0_pay2 (k0_pay4 (ldX arg4 X4 k) (ldW arg5 X5)) x
      = scalesOf X W ((Rect.unit (s := S12x6x128) (k0_off3 k) S1x6x128.size (Facts₀.k0_off3_inb k)).emb x) := by
  obtain ⟨s, j, rfl⟩ : ∃ (s : Fin 6) (j : Fin 128), x = ix3 0 s j :=
    ⟨x 1, x 2, by funext d; match d with | ⟨0, _⟩ => exact Subsingleton.elim (α := Fin 1) _ _ | ⟨1, _⟩ => rfl | ⟨2, _⟩ => rfl⟩
  refine (pay4_apply _ _ s j).trans (Eq.trans ?_ (congrArg (scalesOf X W) (emb_slab _ k.val (off k).2 (trips ▸ k.isLt) _ s j)).symm)
  simp only [ldX_apply arg4 X X4 h4, ldW_apply arg5 W X5 h5]
  rfl

end Pieces

section Run

variable (c : Dev nD) (arg2 : Memref sig .tc .vmem S12x6x4096 .fp8e4m3) (harg2 : arg2.IsWhole) (arg3 : Memref sig .tc .vmem S12x6x128 .f32) (harg3 : arg3.IsWhole) (arg4 : Memref sig .tc .vmem S12x6x4096 .bf16) (harg4 : arg4.IsWhole) (arg5 : Memref sig .tc .vmem S1x4096 .f32) (harg5 : arg5.IsWhole) (arg6 : Memref sig .tc .vmem S96x4096 .f32) (harg6 : arg6.IsWhole)
  (fh0 : HbBuf0 (F := Ideal) c hbM0_0) (fh1 : HbBuf0 (F := Ideal) c hbM0_1)

/-- The kernel's codes are those of the array it copies in and of the norm's weights. -/
theorem out_codes : out0_A_0 (F := Ideal) c arg2 harg2 arg3 harg3 arg4 harg4 arg5 harg5 arg6 harg6 fh0 fh1 = codesOf fh0 fh1 := by
  unfold out0_A_0
  rw [View.read_writes_junk_eq_canon]
  funext y
  refine View.canon_apply_of_pieces (codesOf fh0 fh1) _ ?_ y (cover0_A_0 c arg2 harg2 arg3 harg3 arg4 harg4 arg5 harg5 arg6 harg6 fh0 fh1 y)
  intro pc h x
  unfold kernelRun0_A at h
  obtain ⟨k, rfl⟩ := (pb_mem _ _ _ _ _ _ _ _ _ _ _ _ _ _ _ _ _ _ _ _ _ (by decide +kernel)).1 pc h
  exact codes_piece arg4 arg5 fh0 fh1 _ _ (read_filled _ _) (read_filled _ _) k x

/-- The kernel's scales are those of the array it copies in and of the norm's weights. -/
theorem out_scales : out0_A_1 (F := Ideal) c arg2 harg2 arg3 harg3 arg4 harg4 arg5 harg5 arg6 harg6 fh0 fh1 = scalesOf fh0 fh1 := by
  unfold out0_A_1
  rw [View.read_writes_junk_eq_canon]
  funext y
  refine View.canon_apply_of_pieces (scalesOf fh0 fh1) _ ?_ y (cover0_A_1 c arg2 harg2 arg3 harg3 arg4 harg4 arg5 harg5 arg6 harg6 fh0 fh1 y)
  intro pc h x
  unfold kernelRun0_A at h
  obtain ⟨k, rfl⟩ := (pb_mem _ _ _ _ _ _ _ _ _ _ _ _ _ _ _ _ _ _ _ _ _ (by decide +kernel)).2 pc h
  exact scales_piece arg4 arg5 fh0 fh1 _ _ (read_filled _ _) (read_filled _ _) k x

end Run

variable (m : (ℓ : Loc nD τ sig) → Buf (Elt Ideal) ℓ)

/-- Every window has its one block at the origin. -/
theorem idx : win0_0.index t0_0 = ![0, 0, 0] ∧ win0_1.index t0_0 = ![0, 0, 0] := by
  decide +kernel

/-- The norm's weights as the kernel takes them, at an index. -/
theorem weights (c : Dev nD) (k : Fin 4096) : V m c main_v0 (ix2 0 k) = m ((c : Thread nD τ).loc main_arg1) (ix1 k) := by
  entry_read
  pointwise []

/-- The rows as the kernel takes them. -/
theorem rows (c : Dev nD) : V m c main_arg0 = m ((c : Thread nD τ).loc main_arg0) := V_main_arg0 m c

/-- The codes at the end are what the body leaves in their window. -/
theorem final0 (c : Dev nD) : (dats m 0 c).arrAt 0 cfg0.N = codesOf (V m c main_arg0) (V m c main_v0) := by
  refine (dats m 0 c).arrAt_eq_of_after_last 0 t0_0 (by decide +kernel) _ fun j => ?_
  blk_simp
  rw [after0_0]
  exact congrFun (out_codes c _ _ _ _ _ _ _ _ _ _ (V m c main_arg0) (V m c main_v0)) _

/-- The scales at the end are what the body leaves in their window. -/
theorem final1 (c : Dev nD) : (dats m 0 c).arrAt 1 cfg0.N = scalesOf (V m c main_arg0) (V m c main_v0) := by
  refine (dats m 0 c).arrAt_eq_of_after_last 1 t0_0 (by decide +kernel) _ fun j => ?_
  blk_simp
  rw [after0_1]
  exact congrFun (out_scales c _ _ _ _ _ _ _ _ _ _ (V m c main_arg0) (V m c main_v0)) _

/-- The kernel's codes at an index, from its arguments. -/
theorem final_codes (c : Dev nD) (b : Fin 12) (s : Fin 6) (k : Fin 4096) : (dats m 0 c).arrAt 0 cfg0.N (ix3 b s k)
    = codeRow (normRow (fun k => m ((c : Thread nD τ).loc main_arg0) (ix3 b s k)) (fun k => m ((c : Thread nD τ).loc main_arg1) (ix1 k))) k := by
  rw [final0]
  show codeRow (normRow (fun k => V m c main_arg0 (ix3 b s k)) (fun k => V m c main_v0 (ix2 0 k))) k = _
  exact congrArg (codeRow · k) (congrArg₂ normRow (funext fun j => congrFun (rows m c) (ix3 b s j)) (funext fun j => weights m c j))

/-- The kernel's scales at an index, from its arguments. -/
theorem final_scales (c : Dev nD) (b : Fin 12) (s : Fin 6) (l : Fin 128) : (dats m 0 c).arrAt 1 cfg0.N (ix3 b s l)
    = scaleRow (normRow (fun k => m ((c : Thread nD τ).loc main_arg0) (ix3 b s k)) (fun k => m ((c : Thread nD τ).loc main_arg1) (ix1 k))) := by
  rw [final1]
  show scaleRow (normRow (fun k => V m c main_arg0 (ix3 b s k)) (fun k => V m c main_v0 (ix2 0 k))) = _
  exact congrArg scaleRow (congrArg₂ normRow (funext fun j => congrFun (rows m c) (ix3 b s j)) (funext fun j => weights m c j))

end Cert.QuantIdeal.Hand

end
-- ==== Proof.QRef.lean ====
module

public import proofs.«01_k».proof.Proof.Gen.QuantReferenceIdeal.Value
public import proofs.«01_k».proof.Proof.QPlain
public import Idealize.ShloMosaic.Lib.Claim
public import Idealize.ShloMosaic.Lib.Pipeline.ValueKit

@[expose] public section

set_option maxRecDepth 65536

noncomputable section

namespace Cert.QuantReferenceIdeal.Hand

open Cert.QuantReferenceIdeal Cert.QuantReferenceIdeal.Gen Cert.Hand
open Idealize.ShloMosaic Idealize.ShloMosaic.TcCoe Idealize.ShloMosaic.Tactic
open Idealize.ShloMosaic.Pipeline (Dat)

variable (m : (ℓ : Loc nD τ sig) → Buf (Elt Ideal) ℓ)

/-- The reference's scales at an index: the row's scale, on every lane. -/
theorem pay4_apply (x : Vec Ideal S12x6x4096 .bf16) (w : Vec Ideal S1x1x4096 .f32) (b : Fin 12) (s : Fin 6) (l : Fin 128) :
    k0_pay4 (F := Ideal) x w (ix3 b s l) = scaleRow (normRow (fun k => x (ix3 b s k)) (fun k => w (ix3 0 0 k))) := by
  pointwise [k0_pay4, k0_pay2, k0_pay1]
  rfl

/-- The reference's codes at an index: the row's codes. -/
theorem pay3_apply (x : Vec Ideal S12x6x4096 .bf16) (w : Vec Ideal S1x1x4096 .f32) (b : Fin 12) (s : Fin 6) (k : Fin 4096) :
    k0_pay3 (F := Ideal) x w (ix3 b s k) = codeRow (normRow (fun k => x (ix3 b s k)) (fun k => w (ix3 0 0 k))) k := by
  pointwise [k0_pay3, k0_pay2, k0_pay1]
  rfl

/-- Every window has its one block at the origin. -/
theorem idx : win0_0.index t0_0 = ![0, 0, 0] ∧ win0_1.index t0_0 = ![0, 0, 0] ∧ win0_2.index t0_0 = ![0, 0, 0] ∧ win0_3.index t0_0 = ![0, 0, 0] := by
  decide +kernel

/-- The first window holds the rows. -/
theorem iblk0 (c : Dev nD) : iblk m c 0 t0_0 = m ((c : Thread nD τ).loc main_arg0) := by
  blk_ext! [iblk, V, idx]

/-- The second window holds the norm's weights. -/
theorem iblk1 (c : Dev nD) (k : Fin 4096) : iblk m c 1 t0_0 (ix3 0 0 k) = m ((c : Thread nD τ).loc main_arg1) (ix1 k) := by
  have e : (win0_1.blk t0_0).view.emb (ix3 0 0 k) = ix3 0 0 k := by blk_ext [idx]
  blk_simp [iblk, idx]
  refine (congrArg (V m c main_v0) e).trans ?_
  entry_read
  pointwise []

/-- The reference's codes are its body on its blocks. -/
theorem out2 (x0 : Vec Ideal S12x6x4096 .bf16) (x1 : Vec Ideal S1x1x4096 .f32) : out0_2 x0 x1 = k0_pay3 (F := Ideal) x0 x1 := by
  frame_out

/-- The reference's scales are its body on its blocks. -/
theorem out3 (x0 : Vec Ideal S12x6x4096 .bf16) (x1 : Vec Ideal S1x1x4096 .f32) : out0_3 x0 x1 = k0_pay4 (F := Ideal) x0 x1 := by
  frame_out

/-- The codes at the end are what the body leaves in their window. -/
theorem final2 (c : Dev nD) : (dats m 0 c).arrAt 2 cfg0.N = out0_2 (iblk m c 0 t0_0) (iblk m c 1 t0_0) := by
  refine (dats m 0 c).arrAt_eq_of_after_last 2 t0_0 (by decide +kernel) _ fun j => ?_
  blk_simp
  rw [after0_2]

/-- The scales at the end are what the body leaves in their window. -/
theorem final3 (c : Dev nD) : (dats m 0 c).arrAt 3 cfg0.N = out0_3 (iblk m c 0 t0_0) (iblk m c 1 t0_0) := by
  refine (dats m 0 c).arrAt_eq_of_after_last 3 t0_0 (by decide +kernel) _ fun j => ?_
  blk_simp
  rw [after0_3]

/-- The reference's codes at an index, from its arguments. -/
theorem final_codes (c : Dev nD) (b : Fin 12) (s : Fin 6) (k : Fin 4096) : (dats m 0 c).arrAt 2 cfg0.N (ix3 b s k)
    = codeRow (normRow (fun k => m ((c : Thread nD τ).loc main_arg0) (ix3 b s k)) (fun k => m ((c : Thread nD τ).loc main_arg1) (ix1 k))) k := by
  rw [final2, out2]
  refine (pay3_apply _ _ b s k).trans ?_
  simp only [iblk0, iblk1]

/-- The reference's scales at an index, from its arguments. -/
theorem final_scales (c : Dev nD) (b : Fin 12) (s : Fin 6) (l : Fin 128) : (dats m 0 c).arrAt 3 cfg0.N (ix3 b s l)
    = scaleRow (normRow (fun k => m ((c : Thread nD τ).loc main_arg0) (ix3 b s k)) (fun k => m ((c : Thread nD τ).loc main_arg1) (ix1 k))) := by
  rw [final3, out3]
  refine (pay4_apply _ _ b s l).trans ?_
  simp only [iblk0, iblk1]

end Cert.QuantReferenceIdeal.Hand

end
-- ==== Proof.QEqual.lean ====
module

public import proofs.«01_k».proof.Defs
public import proofs.«01_k».proof.Proof.QIFinal
public import proofs.«01_k».proof.Proof.QRef

@[expose] public section

set_option maxRecDepth 65536

noncomputable section

namespace Cert.Hand

open Idealize.ShloMosaic Idealize.SL.Sem

/-- The quantiser and its reference leave the same codes and the same scales: both hold, row by row, the same quotient held
between -448 and 448 and the same scale, whatever the extended reals in the arguments are. -/
theorem quant_algebraic : Cert.algebraic_QuantIdeal_QuantReferenceIdeal := by
  intro m ρ m' ρ' _ hag
  refine ⟨fun c => (Cert.QuantIdeal.Gen.dats m 0 c).arrAt 0 _, fun c => (Cert.QuantIdeal.Gen.dats m 0 c).arrAt 1 _,
    Cert.QuantIdeal.Value.run_blocks m ρ,
    (θ_run _ _ _).mono (fun _ h c => ⟨(h c).1.trans ?_, (h c).2.1.trans ?_, (h c).2.2⟩) (Cert.QuantReferenceIdeal.Value.run_blocks m' ρ')⟩
  · obtain ⟨h0, h1⟩ := hag c
    refine funext fun j => ?_
    obtain ⟨b, s, k, rfl⟩ : ∃ (b : Fin 12) (s : Fin 6) (k : Fin 4096), j = ix3 b s k :=
      ⟨j 0, j 1, j 2, by funext d; match d with | ⟨0, _⟩ => rfl | ⟨1, _⟩ => rfl | ⟨2, _⟩ => rfl⟩
    refine (Cert.QuantReferenceIdeal.Hand.final_codes m' c b s k).trans (Eq.trans ?_ (Cert.QuantIdeal.Hand.final_codes m c b s k).symm)
    rw [h0, h1]
  · obtain ⟨h0, h1⟩ := hag c
    refine funext fun j => ?_
    obtain ⟨b, s, l, rfl⟩ : ∃ (b : Fin 12) (s : Fin 6) (l : Fin 128), j = ix3 b s l :=
      ⟨j 0, j 1, j 2, by funext d; match d with | ⟨0, _⟩ => rfl | ⟨1, _⟩ => rfl | ⟨2, _⟩ => rfl⟩
    refine (Cert.QuantReferenceIdeal.Hand.final_scales m' c b s l).trans (Eq.trans ?_ (Cert.QuantIdeal.Hand.final_scales m c b s l).symm)
    rw [h0, h1]

end Cert.Hand

end
-- ==== Proof.APlain.lean ====
module

public import proofs.«01_k».proof.Proof.QPlain
public import Idealize.ShloMosaic.Lib.Claim
public import Idealize.ShloMosaic.Lib.Pipeline.ValueKit

@[expose] public section

set_option maxRecDepth 65536

noncomputable section

namespace Cert.Hand

open Idealize.ShloMosaic

/-! ## The acceptance table, in plain words, over the extended reals -/

/-- What one row of drafts is decided from: the target's log-sum-exp (base 2), the scaled products at the three draft ids
(one lane of each holds the product, the sum takes it out), the ids, the windows of codes about the ids, the drafts' scales
and log-sum-exps, and the residual sums. -/
structure Row where
  lse : EReal
  s2 : Fin 3 → Fin 128 → EReal
  ids : Fin 3 → BitVec 32
  win : Fin 9 → Fin 128 → EReal
  qs : Fin 3 → EReal
  ql : Fin 3 → EReal
  sums : Fin 3 → EReal

/-- The entry of a window at the lane that an id's last seven bits name. -/
def pick (id : BitVec 32) (w : Fin 128 → EReal) : EReal :=
  ∑ x : Fin 128, Scalar.select (IntOp.cmpi CmpIPredicate.eq (BitVec.ofNat 32 x.val) (IntOp.andi id 127#32)) (w x) 0

/-- The base-2 logarithm of the target's probability of the draft id `k`. -/
def log2P (R : Row) (k : Fin 3) : EReal := (∑ x, R.s2 k x) - R.lse

/-- The target's probability of the draft id `k`. -/
def probP (R : Row) (k : Fin 3) : EReal := FloatOps.exp2 (F := Ideal) (φ := .f32) (log2P R k)

/-- The draft's log-probability, at draft position `j`, of the draft id `k`; its window of codes is number `w`. -/
def logQ (R : Row) (j k : Fin 3) (w : Fin 9) : EReal := pick (R.ids k) (R.win w) * R.qs j - R.ql j

/-- The draft's probability, at draft position `j`, of the draft id `k`. -/
def probQ (R : Row) (j k : Fin 3) (w : Fin 9) : EReal := Ideal.exp (logQ R j k w)

/-- The acceptance probability: residual mass over draft mass, at most one (a draft mass of zero counts as one). -/
def accept (r d : EReal) : EReal := min 1 (Ideal.div r (if d = 0 then 1 else d))

/-- What is left of the mass `r` after `d`, at least zero. -/
def left (r d : EReal) : EReal := max (r - d) 0

/-- The twelve columns of a row of drafts: log-probabilities under the target, under the draft, acceptance probabilities, and
residual sums. -/
def column (R : Row) : Fin 12 → EReal :=
  ![log2P R 0 * Ideal.ofBits FTy.f32 1060205080#32, log2P R 1 * Ideal.ofBits FTy.f32 1060205080#32,
    log2P R 2 * Ideal.ofBits FTy.f32 1060205080#32,
    logQ R 0 0 0, logQ R 1 1 4, logQ R 2 2 8,
    accept (probP R 0) (probQ R 0 0 0),
    accept (left (probP R 1) (probQ R 0 1 1)) (R.sums 0 * probQ R 1 1 4),
    accept (left (left (probP R 2) (probQ R 0 2 2)) (R.sums 0 * probQ R 1 2 5)) (R.sums 1 * probQ R 2 2 8),
    R.sums 0, R.sums 1, R.sums 2]

/-- A draft column at a row of the table: zero on the rows that carry no draft and on the rows at or past the number of live
rows. -/
def draft (n : BitVec 32) (R : Fin 64 → Row) (r : Fin 72) (j : Fin 12) : EReal :=
  if h : r.val < 64 then Scalar.select (IntOp.cmpi CmpIPredicate.slt (BitVec.ofNat 32 r.val) n) (column (R ⟨r.val, h⟩) j) 0 else 0

/-- The table: the target's log-sum-exp, the twelve draft columns, the row's scale, zeros. -/
def entry (n : BitVec 32) (lse xs : Fin 72 → EReal) (R : Fin 64 → Row) (r : Fin 72) (l : Fin 128) : EReal :=
  if h : l.val < 1 then lse r * Ideal.ofBits FTy.f32 1060205080#32 - Ideal.ofBits FTy.f32 1093032694#32
  else if h : l.val - 1 < 12 then draft n R r ⟨l.val - 1, h⟩
  else if h : l.val - 1 - 12 < 1 then xs r else 0

/-- The rows of drafts are the table's first sixty-four. -/
theorem lt72 (r : Fin 64) : r.val < 72 := by omega

/-- Equality of words is symmetric. -/
theorem cmpi_eq_comm {w : ℕ} (a b : BitVec w) : IntOp.cmpi CmpIPredicate.eq a b = IntOp.cmpi CmpIPredicate.eq b a := by
  unfold IntOp.cmpi
  simp only [eq_comm, BEq.comm]

/-- A choice by the lane's number. -/
theorem lane_select (l : Fin 128) (k : ℕ) (hk : k < 128) (a b : EReal) :
    Scalar.select (IntOp.cmpi CmpIPredicate.eq (BitVec.ofNat 32 l.val) (BitVec.ofNat 32 k)) a b = if l.val = k then a else b := by
  by_cases h : l.val = k
  · subst h
    rw [if_pos rfl]
    simp [Scalar.select, IntOp.cmpi]
  · rw [if_neg h]
    have : BitVec.ofNat 32 l.val ≠ BitVec.ofNat 32 k := fun e => by
      have := congrArg BitVec.toNat e
      simp only [BitVec.toNat_ofNat] at this
      have := l.isLt
      omega
    have e : (BitVec.ofNat 32 l.val == BitVec.ofNat 32 k) = false := beq_eq_false_iff_ne.2 this
    simp only [Scalar.select, IntOp.cmpi, e]
    rfl

/-- A table filled lane by lane is the table with its columns side by side. -/
theorem lanes_live (l : Fin 128) (x t : EReal) (b : BitVec 1) (a0 a1 a2 a3 a4 a5 a6 a7 a8 a9 a10 a11 : EReal) :
    Scalar.select (IntOp.cmpi CmpIPredicate.eq (BitVec.ofNat 32 l.val) 13#32) x (Scalar.select (IntOp.cmpi CmpIPredicate.eq (BitVec.ofNat 32 l.val) 0#32) t (Scalar.select b (Scalar.select (IntOp.cmpi CmpIPredicate.eq (BitVec.ofNat 32 l.val) 12#32) a11 (Scalar.select (IntOp.cmpi CmpIPredicate.eq (BitVec.ofNat 32 l.val) 11#32) a10 (Scalar.select (IntOp.cmpi CmpIPredicate.eq (BitVec.ofNat 32 l.val) 10#32) a9 (Scalar.select (IntOp.cmpi CmpIPredicate.eq (BitVec.ofNat 32 l.val) 9#32) a8 (Scalar.select (IntOp.cmpi CmpIPredicate.eq (BitVec.ofNat 32 l.val) 8#32) a7 (Scalar.select (IntOp.cmpi CmpIPredicate.eq (BitVec.ofNat 32 l.val) 7#32) a6 (Scalar.select (IntOp.cmpi CmpIPredicate.eq (BitVec.ofNat 32 l.val) 6#32) a5 (Scalar.select (IntOp.cmpi CmpIPredicate.eq (BitVec.ofNat 32 l.val) 5#32) a4 (Scalar.select (IntOp.cmpi CmpIPredicate.eq (BitVec.ofNat 32 l.val) 4#32) a3 (Scalar.select (IntOp.cmpi CmpIPredicate.eq (BitVec.ofNat 32 l.val) 3#32) a2 (Scalar.select (IntOp.cmpi CmpIPredicate.eq (BitVec.ofNat 32 l.val) 2#32) a1 (Scalar.select (IntOp.cmpi CmpIPredicate.eq (BitVec.ofNat 32 l.val) 1#32) a0 0)))))))))))) 0))
      = if h : l.val < 1 then t else if h : l.val - 1 < 12 then Scalar.select b (![a0, a1, a2, a3, a4, a5, a6, a7, a8, a9, a10, a11] ⟨l.val - 1, h⟩) 0
        else if h : l.val - 1 - 12 < 1 then x else 0 := by
  rw [lane_select l 13 (by decide), lane_select l 0 (by decide), lane_select l 12 (by decide), lane_select l 11 (by decide), lane_select l 10 (by decide), lane_select l 9 (by decide), lane_select l 8 (by decide), lane_select l 7 (by decide), lane_select l 6 (by decide), lane_select l 5 (by decide), lane_select l 4 (by decide), lane_select l 3 (by decide), lane_select l 2 (by decide), lane_select l 1 (by decide)]
  rcases (by omega : l.val = 0 ∨ l.val = 1 ∨ l.val = 2 ∨ l.val = 3 ∨ l.val = 4 ∨ l.val = 5 ∨ l.val = 6 ∨ l.val = 7 ∨ l.val = 8
    ∨ l.val = 9 ∨ l.val = 10 ∨ l.val = 11 ∨ l.val = 12 ∨ l.val = 13 ∨ 14 ≤ l.val) with
    h | h | h | h | h | h | h | h | h | h | h | h | h | h | h
  case inr.inr.inr.inr.inr.inr.inr.inr.inr.inr.inr.inr.inr.inr =>
    rw [if_neg (by omega : ¬ l.val = 13), if_neg (by omega : ¬ l.val = 0), if_neg (by omega : ¬ l.val = 12), if_neg (by omega : ¬ l.val = 11), if_neg (by omega : ¬ l.val = 10), if_neg (by omega : ¬ l.val = 9), if_neg (by omega : ¬ l.val = 8), if_neg (by omega : ¬ l.val = 7), if_neg (by omega : ¬ l.val = 6), if_neg (by omega : ¬ l.val = 5), if_neg (by omega : ¬ l.val = 4), if_neg (by omega : ¬ l.val = 3), if_neg (by omega : ¬ l.val = 2), if_neg (by omega : ¬ l.val = 1),
      dif_neg (by omega), dif_neg (by omega), dif_neg (by omega)]
    simp [Scalar.select]
  all_goals
    obtain ⟨l, hl⟩ := l
    obtain rfl : l = _ := h
    rfl

/-- The rows without drafts. -/
theorem lanes_dead (l : Fin 128) (x t : EReal) :
    Scalar.select (IntOp.cmpi CmpIPredicate.eq (BitVec.ofNat 32 l.val) 13#32) x (Scalar.select (IntOp.cmpi CmpIPredicate.eq (BitVec.ofNat 32 l.val) 0#32) t 0)
      = if h : l.val < 1 then t else if h : l.val - 1 < 12 then 0 else if h : l.val - 1 - 12 < 1 then x else 0 := by
  rw [lane_select l 13 (by decide), lane_select l 0 (by decide)]
  split_ifs <;> first | rfl | omega

end Cert.Hand

end
-- ==== Proof.ARows.lean ====
module

public import proofs.«01_k».proof.Proof.Gen.AcceptIdeal.Value
public import proofs.«01_k».proof.Proof.APlain
public import Idealize.ShloMosaic.Lib.Claim
public import Idealize.ShloMosaic.Lib.Pipeline.ValueKit

@[expose] public section

set_option maxRecDepth 65536

noncomputable section

namespace Cert.AcceptIdeal.Hand

open Cert.AcceptIdeal Cert.AcceptIdeal.Gen Cert.Hand
open Idealize.ShloMosaic Idealize.ShloMosaic.TcCoe Idealize.ShloMosaic.Tactic
open Idealize.ShloMosaic.Pipeline (Dat)

section Body

variable (c : Dev nD) (arg0 : Memref sig .tc .smem S1 .i32) (harg0 : arg0.IsWhole) (arg1 : Memref sig .tc .vmem S72x128 .f32) (harg1 : arg1.IsWhole) (arg2 : Memref sig .tc .vmem S72x128 .f32) (harg2 : arg2.IsWhole) (arg3 : Memref sig .tc .vmem S3x64x128 .f32) (harg3 : arg3.IsWhole) (arg4 : Memref sig .tc .vmem S3x64x128 .i32) (harg4 : arg4.IsWhole) (arg5 : Memref sig .tc .vmem S9x64x128 .f32) (harg5 : arg5.IsWhole) (arg6 : Memref sig .tc .vmem S3x64x128 .f32) (harg6 : arg6.IsWhole) (arg7 : Memref sig .tc .vmem S3x64x128 .f32) (harg7 : arg7.IsWhole) (arg8 : Memref sig .tc .vmem S3x64x128 .f32) (harg8 : arg8.IsWhole) (arg9 : Memref sig .tc .vmem S72x128 .f32) (harg9 : arg9.IsWhole)
    (x0 : Vec Ideal S1 .i32) (x1 : Vec Ideal S72x128 .f32) (x2 : Vec Ideal S72x128 .f32) (x3 : Vec Ideal S3x64x128 .f32) (x4 : Vec Ideal S3x64x128 .i32) (x5 : Vec Ideal S9x64x128 .f32) (x6 : Vec Ideal S3x64x128 .f32) (x7 : Vec Ideal S3x64x128 .f32) (x8 : Vec Ideal S3x64x128 .f32)
    (lse xs : Fin 72 → EReal) (R : Fin 64 → Row)
    (h1 : ∀ r l, x1 (ix2 r l) = lse r) (h2 : ∀ r l, x2 (ix2 r l) = xs r)
    (hl : ∀ r : Fin 64, lse ⟨r.val, lt72 r⟩ = (R r).lse)
    (h3 : ∀ k r l, x3 (ix3 k r l) = (R r).s2 k l) (h4 : ∀ k r l, x4 (ix3 k r l) = (R r).ids k)
    (h5 : ∀ k r l, x5 (ix3 k r l) = (R r).win k l) (h6 : ∀ k r l, x6 (ix3 k r l) = (R r).qs k)
    (h7 : ∀ k r l, x7 (ix3 k r l) = (R r).ql k) (h8 : ∀ k r l, x8 (ix3 k r l) = (R r).sums k)

include h1 h2 hl h3 h4 h5 h6 h7 h8 in
/-- The kernel's body leaves the table, whatever the whole blocks it is given. -/
theorem out_apply (r : Fin 72) (l : Fin 128) : out0_A_9 (F := Ideal) c arg0 harg0 arg1 harg1 arg2 harg2 arg3 harg3 arg4 harg4 arg5 harg5 arg6 harg6 arg7 harg7 arg8 harg8 arg9 harg9 x0 x1 x2 x3 x4 x5 x6 x7 x8 (ix2 r l)
    = entry (x0 (ix1 0)) lse xs R r l := by
  suffices h : out0_A_9 (F := Ideal) c arg0 harg0 arg1 harg1 arg2 harg2 arg3 harg3 arg4 harg4 arg5 harg5 arg6 harg6 arg7 harg7 arg8 harg8 arg9 harg9 x0 x1 x2 x3 x4 x5 x6 x7 x8
      = fun y => entry (x0 (ix1 0)) lse xs R (y 0) (y 1) by
    rw [h]
    rfl
  frame_out
  funext y
  obtain ⟨r, l, rfl⟩ : ∃ (r : Fin 72) (l : Fin 128), y = ix2 r l :=
    ⟨y 0, y 1, by funext d; match d with | ⟨0, _⟩ => rfl | ⟨1, _⟩ => rfl⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  simp only [h1, h2, h3, h4, h5, h6, h7, h8]
  by_cases hr : r.val < 64
  · rw [dif_pos hr]
    refine (lanes_live l _ _ _ _ _ _ _ _ _ _ _ _ _ _ _).trans ?_
    simp only [entry, draft, dif_pos hr]
    have e : lse r = (R ⟨r.val, hr⟩).lse := hl ⟨r.val, hr⟩
    refine congrArg (fun w => dite _ _ w) (funext fun h => ?_)
    refine congrArg (fun w => dite _ w _) (funext fun h' => ?_)
    refine congrArg₂ (fun b v => Scalar.select b v 0) ?_ (congrFun ?_ _)
    · rfl
    · simp only [column, accept, left, probP, probQ, log2P, logQ, pick, ← e]
      congr!
  · rw [dif_neg hr]
    refine (lanes_dead l _ _).trans ?_
    simp only [entry, draft, dif_neg hr]

end Body

end Cert.AcceptIdeal.Hand

end
-- ==== Proof.AIFinal.lean ====
module

public import proofs.«01_k».proof.Proof.ARows
public import Idealize.ShloMosaic.Lib.Claim
public import Idealize.ShloMosaic.Lib.Pipeline.ValueKit

@[expose] public section

set_option maxRecDepth 65536

noncomputable section

namespace Cert.AcceptIdeal.Hand

open Cert.AcceptIdeal Cert.AcceptIdeal.Gen Cert.Hand
open Idealize.ShloMosaic Idealize.ShloMosaic.TcCoe Idealize.ShloMosaic.Tactic
open Idealize.ShloMosaic.Pipeline (Dat)

variable (m : (ℓ : Loc nD τ sig) → Buf (Elt Ideal) ℓ)

/-- A row of drafts, out of the arguments. -/
def rowOf (c : Dev nD) (r : Fin 64) : Row :=
  ⟨m ((c : Thread nD τ).loc main_arg1) (ix1 ⟨r.val, lt72 r⟩), fun k x => m ((c : Thread nD τ).loc main_arg3) (ix3 k r x), fun k => m ((c : Thread nD τ).loc main_arg4) (ix2 r k),
    fun w x => m ((c : Thread nD τ).loc main_arg5) (ix3 w r x), fun k => m ((c : Thread nD τ).loc main_arg6) (ix2 r k), fun k => m ((c : Thread nD τ).loc main_arg7) (ix2 r k), fun k => m ((c : Thread nD τ).loc main_arg8) (ix2 r k)⟩

/-- Every window has its one block at the origin. -/
theorem idx : win0_0.index t0_0 = ![0] ∧ win0_1.index t0_0 = ![0, 0] ∧ win0_2.index t0_0 = ![0, 0] ∧ win0_3.index t0_0 = ![0, 0, 0]
    ∧ win0_4.index t0_0 = ![0, 0, 0] ∧ win0_5.index t0_0 = ![0, 0, 0] ∧ win0_6.index t0_0 = ![0, 0, 0] ∧ win0_7.index t0_0 = ![0, 0, 0]
    ∧ win0_8.index t0_0 = ![0, 0, 0] ∧ win0_9.index t0_0 = ![0, 0] := by
  decide +kernel

/-- The number of live rows, as the body reads it. -/
theorem iblk0 (c : Dev nD)  : iblk m c 0 t0_0 (ix1 0) = m ((c : Thread nD τ).loc main_arg0) (ix1 0) := by
  have e : (win0_0.blk t0_0).view.emb (ix1 0) = ix1 0 := by blk_ext [idx]
  blk_simp [iblk, idx]
  refine (congrArg (V m c main_arg0) e).trans ?_
  exact congrFun (V_main_arg0 m c) _

/-- The target's log-sum-exp, spread along the lanes. -/
theorem iblk1 (c : Dev nD) (r : Fin 72) (l : Fin 128) : iblk m c 1 t0_0 (ix2 r l) = m ((c : Thread nD τ).loc main_arg1) (ix1 r) := by
  have e : (win0_1.blk t0_0).view.emb (ix2 r l) = ix2 r l := by blk_ext [idx]
  blk_simp [iblk, idx]
  refine (congrArg (V m c main_v1) e).trans ?_
  entry_read
  pointwise []

/-- The rows' scales, spread along the lanes. -/
theorem iblk2 (c : Dev nD) (r : Fin 72) (l : Fin 128) : iblk m c 2 t0_0 (ix2 r l) = m ((c : Thread nD τ).loc main_arg2) (ix1 r) := by
  have e : (win0_2.blk t0_0).view.emb (ix2 r l) = ix2 r l := by blk_ext [idx]
  blk_simp [iblk, idx]
  refine (congrArg (V m c main_v3) e).trans ?_
  entry_read
  pointwise []

/-- The scaled products at the draft ids. -/
theorem iblk3 (c : Dev nD) (k : Fin 3) (r : Fin 64) (l : Fin 128) : iblk m c 3 t0_0 (ix3 k r l) = m ((c : Thread nD τ).loc main_arg3) (ix3 k r l) := by
  have e : (win0_3.blk t0_0).view.emb (ix3 k r l) = ix3 k r l := by blk_ext [idx]
  blk_simp [iblk, idx]
  refine (congrArg (V m c main_arg3) e).trans ?_
  exact congrFun (V_main_arg3 m c) _

/-- The draft ids, turned and spread along the lanes. -/
theorem iblk4 (c : Dev nD) (k : Fin 3) (r : Fin 64) (l : Fin 128) : iblk m c 4 t0_0 (ix3 k r l) = m ((c : Thread nD τ).loc main_arg4) (ix2 r k) := by
  have e : (win0_4.blk t0_0).view.emb (ix3 k r l) = ix3 k r l := by blk_ext [idx]
  blk_simp [iblk, idx]
  refine (congrArg (V m c main_v6) e).trans ?_
  entry_read
  pointwise []

/-- The windows of codes. -/
theorem iblk5 (c : Dev nD) (k : Fin 9) (r : Fin 64) (l : Fin 128) : iblk m c 5 t0_0 (ix3 k r l) = m ((c : Thread nD τ).loc main_arg5) (ix3 k r l) := by
  have e : (win0_5.blk t0_0).view.emb (ix3 k r l) = ix3 k r l := by blk_ext [idx]
  blk_simp [iblk, idx]
  refine (congrArg (V m c main_arg5) e).trans ?_
  exact congrFun (V_main_arg5 m c) _

/-- The drafts' scales, turned and spread along the lanes. -/
theorem iblk6 (c : Dev nD) (k : Fin 3) (r : Fin 64) (l : Fin 128) : iblk m c 6 t0_0 (ix3 k r l) = m ((c : Thread nD τ).loc main_arg6) (ix2 r k) := by
  have e : (win0_6.blk t0_0).view.emb (ix3 k r l) = ix3 k r l := by blk_ext [idx]
  blk_simp [iblk, idx]
  refine (congrArg (V m c main_v9) e).trans ?_
  entry_read
  pointwise []

/-- The drafts' log-sum-exps, turned and spread along the lanes. -/
theorem iblk7 (c : Dev nD) (k : Fin 3) (r : Fin 64) (l : Fin 128) : iblk m c 7 t0_0 (ix3 k r l) = m ((c : Thread nD τ).loc main_arg7) (ix2 r k) := by
  have e : (win0_7.blk t0_0).view.emb (ix3 k r l) = ix3 k r l := by blk_ext [idx]
  blk_simp [iblk, idx]
  refine (congrArg (V m c main_v12) e).trans ?_
  entry_read
  pointwise []

/-- The residual sums, turned and spread along the lanes. -/
theorem iblk8 (c : Dev nD) (k : Fin 3) (r : Fin 64) (l : Fin 128) : iblk m c 8 t0_0 (ix3 k r l) = m ((c : Thread nD τ).loc main_arg8) (ix2 r k) := by
  have e : (win0_8.blk t0_0).view.emb (ix3 k r l) = ix3 k r l := by blk_ext [idx]
  blk_simp [iblk, idx]
  refine (congrArg (V m c main_v15) e).trans ?_
  entry_read
  pointwise []

/-- The table at the end is what the body leaves in its window. -/
theorem final9 (c : Dev nD) : (dats m 0 c).arrAt 9 cfg0.N = outsAt0 m c t0_0 := by
  refine (dats m 0 c).arrAt_eq_of_after_last 9 t0_0 (by decide +kernel) _ fun j => ?_
  blk_simp
  rw [after0_9]

/-- The table at an index, from the arguments. -/
theorem final_table (c : Dev nD) (r : Fin 72) (l : Fin 128) : (dats m 0 c).arrAt 9 cfg0.N (ix2 r l)
    = entry (m ((c : Thread nD τ).loc main_arg0) (ix1 0)) (fun r => m ((c : Thread nD τ).loc main_arg1) (ix1 r))
      (fun r => m ((c : Thread nD τ).loc main_arg2) (ix1 r)) (rowOf m c) r l := by
  rw [final9]
  unfold outsAt0
  refine (out_apply c _ _ _ _ _ _ _ _ _ _ _ _ _ _ _ _ _ _ _ _ _ _ _ _ _ _ _ _ _ (fun r => m ((c : Thread nD τ).loc main_arg1) (ix1 r))
    (fun r => m ((c : Thread nD τ).loc main_arg2) (ix1 r)) (rowOf m c) (iblk1 m c) (iblk2 m c) (fun _ => rfl) (iblk3 m c) (iblk4 m c)
    (iblk5 m c) (iblk6 m c) (iblk7 m c) (iblk8 m c) r l).trans ?_
  rw [iblk0]

end Cert.AcceptIdeal.Hand

end
-- ==== Proof.ARef.lean ====
module

public import proofs.«01_k».proof.Proof.Gen.AcceptReferenceIdeal.Value
public import proofs.«01_k».proof.Proof.APlain
public import Idealize.ShloMosaic.Lib.Claim
public import Idealize.ShloMosaic.Lib.Pipeline.ValueKit

@[expose] public section

set_option maxRecDepth 65536

noncomputable section

namespace Cert.AcceptReferenceIdeal.Hand

open Cert.AcceptReferenceIdeal Cert.AcceptReferenceIdeal.Gen Cert.Hand
open Idealize.ShloMosaic Idealize.ShloMosaic.TcCoe Idealize.ShloMosaic.Tactic
open Idealize.ShloMosaic.Pipeline (Dat)

set_option maxHeartbeats 2000000 in
/-- The reference's draft columns at an index, from the columns of one lane they are put side by side from. -/
theorem pay34_apply (v4 v5 : Vec Ideal S64x3 .f32) (v29 v53 v61 v69 v84 v87 v90 v92 v94 v96 v97 v98 v99 v101 v103 v105 v111 v114 : FVec Ideal S64x1 .f32) (n : Elt Ideal .i32) (r : Fin 64) (j : Fin 12) :
    k0_pay34 (F := Ideal) v4 v5 v53 v61 v69 v84 v87 v90 v92 v94 v96 v97 v98 v99 v101 v103 v105 v111 v114 (k0_pay31 v4 v29) (k0_pay32 v4 v29) k0_pay33 n (ix2 r j)
      = Scalar.select (IntOp.cmpi CmpIPredicate.slt (BitVec.ofNat 32 r.val) n)
        ((![v84 (ix2 r 0), v87 (ix2 r 0), v90 (ix2 r 0), v92 (ix2 r 0), v94 (ix2 r 0), v96 (ix2 r 0),
          accept (v101 (ix2 r 0)) (Ideal.exp (v29 (ix2 r 0) - v4 (ix2 r 0))),
          accept (left (v103 (ix2 r 0)) (v97 (ix2 r 0) * v111 (ix2 r 0))) (v98 (ix2 r 0) * Ideal.exp (v53 (ix2 r 0) - v4 (ix2 r 1))),
          accept (left (left (v105 (ix2 r 0)) (v97 (ix2 r 0) * v114 (ix2 r 0))) (v98 (ix2 r 0) * Ideal.exp (v61 (ix2 r 0) - v4 (ix2 r 1)))) (v99 (ix2 r 0) * Ideal.exp (v69 (ix2 r 0) - v4 (ix2 r 2))),
          v5 (ix2 r 0), v5 (ix2 r 1), v5 (ix2 r 2)] : Fin 12 → EReal) j) 0 := by
  pointwise [k0_pay34, k0_pay31, k0_pay32, k0_pay33, k0_pay23]
  refine congrArg (fun v => Scalar.select _ v 0) ?_
  simp only [accept, left]
  rcases j with ⟨j, hj⟩
  rcases (by omega : j = 0 ∨ j = 1 ∨ j = 2 ∨ j = 3 ∨ j = 4 ∨ j = 5 ∨ j = 6 ∨ j = 7 ∨ j = 8 ∨ j = 9 ∨ j = 10 ∨ j = 11) with
    rfl | rfl | rfl | rfl | rfl | rfl | rfl | rfl | rfl | rfl | rfl | rfl
  · rw [dif_pos (by simp)]
    rfl
  · rw [dif_neg (by simp), dif_pos (by simp)]
    rfl
  · rw [dif_neg (by simp), dif_neg (by simp), dif_pos (by simp)]
    rfl
  · rw [dif_neg (by simp), dif_neg (by simp), dif_neg (by simp), dif_pos (by simp)]
    rfl
  · rw [dif_neg (by simp), dif_neg (by simp), dif_neg (by simp), dif_neg (by simp), dif_pos (by simp)]
    rfl
  · rw [dif_neg (by simp), dif_neg (by simp), dif_neg (by simp), dif_neg (by simp), dif_neg (by simp), dif_pos (by simp)]
    rfl
  · rw [dif_neg (by simp), dif_neg (by simp), dif_neg (by simp), dif_neg (by simp), dif_neg (by simp), dif_neg (by simp), dif_pos (by simp)]
    rfl
  · rw [dif_neg (by simp), dif_neg (by simp), dif_neg (by simp), dif_neg (by simp), dif_neg (by simp), dif_neg (by simp), dif_neg (by simp), dif_pos (by simp)]
    rfl
  · rw [dif_neg (by simp), dif_neg (by simp), dif_neg (by simp), dif_neg (by simp), dif_neg (by simp), dif_neg (by simp), dif_neg (by simp), dif_neg (by simp), dif_pos (by simp)]
    rfl
  · rw [dif_neg (by simp), dif_neg (by simp), dif_neg (by simp), dif_neg (by simp), dif_neg (by simp), dif_neg (by simp), dif_neg (by simp), dif_neg (by simp), dif_neg (by simp)]
    rfl
  · rw [dif_neg (by simp), dif_neg (by simp), dif_neg (by simp), dif_neg (by simp), dif_neg (by simp), dif_neg (by simp), dif_neg (by simp), dif_neg (by simp), dif_neg (by simp)]
    rfl
  · rw [dif_neg (by simp), dif_neg (by simp), dif_neg (by simp), dif_neg (by simp), dif_neg (by simp), dif_neg (by simp), dif_neg (by simp), dif_neg (by simp), dif_neg (by simp)]
    rfl

/-- The reference's table at an index, from the columns it is put side by side from. -/
theorem pay1_apply (v166 : FVec Ideal S64x12 .f32) (v169 v175 : Vec Ideal S72x1 .f32) (r : Fin 72) (l : Fin 128) :
    k0_pay1 (F := Ideal) v166 v169 v175 (ix2 r l)
      = if h : l.val < 1 then v169 (ix2 r 0) * Ideal.ofBits FTy.f32 1060205080#32 - Ideal.ofBits FTy.f32 1093032694#32
        else if h : l.val - 1 < 12 then (if h' : r.val < 64 then v166 (ix2 ⟨r.val, h'⟩ ⟨l.val - 1, h⟩) else 0)
        else if h : l.val - 1 - 12 < 1 then v175 (ix2 r 0) else 0 := by
  have z : ∀ p : Fin 1, ix2 (n0 := 72) (n1 := 1) r p = ix2 r 0 := fun p => by rw [Subsingleton.elim p 0]
  pointwise [k0_pay1]
  split_ifs <;> first | rfl | simp only [z]

/-- Which side the lane stands on does not matter. -/
theorem flip (id : BitVec 32) (x : ℕ) :
    IntOp.cmpi CmpIPredicate.eq (IntOp.andi id 127#32) (BitVec.ofNat 32 x) = IntOp.cmpi CmpIPredicate.eq (BitVec.ofNat 32 x) (IntOp.andi id 127#32) :=
  cmpi_eq_comm _ _

section Body

variable (c : Dev nD) (arg0 : Memref sig .tc .smem S1 .i32) (harg0 : arg0.IsWhole) (arg1 : Memref sig .tc .vmem S72x1 .f32) (harg1 : arg1.IsWhole) (arg2 : Memref sig .tc .vmem S72x1 .f32) (harg2 : arg2.IsWhole) (arg3 : Memref sig .tc .vmem S3x64x128 .f32) (harg3 : arg3.IsWhole) (arg4 : Memref sig .tc .vmem S64x3 .i32) (harg4 : arg4.IsWhole) (arg5 : Memref sig .tc .vmem S9x64x128 .f32) (harg5 : arg5.IsWhole) (arg6 : Memref sig .tc .vmem S64x3 .f32) (harg6 : arg6.IsWhole) (arg7 : Memref sig .tc .vmem S64x3 .f32) (harg7 : arg7.IsWhole) (arg8 : Memref sig .tc .vmem S64x3 .f32) (harg8 : arg8.IsWhole) (arg9 : Memref sig .tc .vmem S72x128 .f32) (harg9 : arg9.IsWhole)
    (x0 : Vec Ideal S1 .i32) (x1 : Vec Ideal S72x1 .f32) (x2 : Vec Ideal S72x1 .f32) (x3 : Vec Ideal S3x64x128 .f32) (x4 : Vec Ideal S64x3 .i32) (x5 : Vec Ideal S9x64x128 .f32) (x6 : Vec Ideal S64x3 .f32) (x7 : Vec Ideal S64x3 .f32) (x8 : Vec Ideal S64x3 .f32)
    (lse xs : Fin 72 → EReal) (R : Fin 64 → Row)
    (h1 : ∀ r, x1 (ix2 r 0) = lse r) (h2 : ∀ r, x2 (ix2 r 0) = xs r)
    (hl : ∀ r : Fin 64, lse ⟨r.val, lt72 r⟩ = (R r).lse)
    (h3 : ∀ k r l, x3 (ix3 k r l) = (R r).s2 k l) (h4 : ∀ k r, x4 (ix2 r k) = (R r).ids k)
    (h5 : ∀ k r l, x5 (ix3 k r l) = (R r).win k l) (h6 : ∀ k r, x6 (ix2 r k) = (R r).qs k)
    (h7 : ∀ k r, x7 (ix2 r k) = (R r).ql k) (h8 : ∀ k r, x8 (ix2 r k) = (R r).sums k)

include h1 h2 hl h3 h4 h5 h6 h7 h8 in
set_option maxHeartbeats 2000000 in
/-- The reference's body leaves the table, whatever the whole blocks it is given. -/
theorem out_apply (r : Fin 72) (l : Fin 128) : out0_A_9 (F := Ideal) c arg0 harg0 arg1 harg1 arg2 harg2 arg3 harg3 arg4 harg4 arg5 harg5 arg6 harg6 arg7 harg7 arg8 harg8 arg9 harg9 x0 x1 x2 x3 x4 x5 x6 x7 x8 (ix2 r l)
    = entry (x0 (ix1 0)) lse xs R r l := by
  suffices h : out0_A_9 (F := Ideal) c arg0 harg0 arg1 harg1 arg2 harg2 arg3 harg3 arg4 harg4 arg5 harg5 arg6 harg6 arg7 harg7 arg8 harg8 arg9 harg9 x0 x1 x2 x3 x4 x5 x6 x7 x8
      = fun y => entry (x0 (ix1 0)) lse xs R (y 0) (y 1) by
    rw [h]
    rfl
  frame_out
  funext y
  obtain ⟨r, l, rfl⟩ : ∃ (r : Fin 72) (l : Fin 128), y = ix2 r l :=
    ⟨y 0, y 1, by funext d; match d with | ⟨0, _⟩ => rfl | ⟨1, _⟩ => rfl⟩
  refine (pay1_apply _ _ _ r l).trans (?_ : _ = entry (x0 (ix1 0)) lse xs R r l)
  simp only [entry, draft, h1, h2]
  refine congrArg (fun w => dite _ _ w) (funext fun h => ?_)
  refine congrArg (fun w => dite _ w _) (funext fun h' => ?_)
  by_cases hr : r.val < 64
  · rw [dif_pos hr, dif_pos hr]
    have e : lse r = (R ⟨r.val, hr⟩).lse := hl ⟨r.val, hr⟩
    refine (pay34_apply _ _ _ _ _ _ _ _ _ _ _ _ _ _ _ _ _ _ _ _ _ ⟨r.val, hr⟩ ⟨l.val - 1, h'⟩).trans ?_
    refine congrArg₂ (fun b v => Scalar.select b v 0) ?_ (congrFun ?_ _)
    · pointwise []
    · pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
      simp only [h1, h3, h4, h5, h6, h7, h8, flip, column, accept, left, probP, probQ, log2P, logQ, pick, ← e]
      congr!
  · rw [dif_neg hr, dif_neg hr]

end Body

end Cert.AcceptReferenceIdeal.Hand

end
-- ==== Proof.ARFinal.lean ====
module

public import proofs.«01_k».proof.Proof.ARef
public import Idealize.ShloMosaic.Lib.Claim
public import Idealize.ShloMosaic.Lib.Pipeline.ValueKit

@[expose] public section

set_option maxRecDepth 65536

noncomputable section

namespace Cert.AcceptReferenceIdeal.Hand

open Cert.AcceptReferenceIdeal Cert.AcceptReferenceIdeal.Gen Cert.Hand
open Idealize.ShloMosaic Idealize.ShloMosaic.TcCoe Idealize.ShloMosaic.Tactic
open Idealize.ShloMosaic.Pipeline (Dat)

variable (m : (ℓ : Loc nD τ sig) → Buf (Elt Ideal) ℓ)

/-- A row of drafts, out of the arguments. -/
def rowOf (c : Dev nD) (r : Fin 64) : Row :=
  ⟨m ((c : Thread nD τ).loc main_arg1) (ix1 ⟨r.val, lt72 r⟩), fun k x => m ((c : Thread nD τ).loc main_arg3) (ix3 k r x), fun k => m ((c : Thread nD τ).loc main_arg4) (ix2 r k),
    fun w x => m ((c : Thread nD τ).loc main_arg5) (ix3 w r x), fun k => m ((c : Thread nD τ).loc main_arg6) (ix2 r k), fun k => m ((c : Thread nD τ).loc main_arg7) (ix2 r k), fun k => m ((c : Thread nD τ).loc main_arg8) (ix2 r k)⟩

/-- Every window has its one block at the origin. -/
theorem idx : win0_0.index t0_0 = ![0] ∧ win0_1.index t0_0 = ![0, 0] ∧ win0_2.index t0_0 = ![0, 0] ∧ win0_3.index t0_0 = ![0, 0, 0]
    ∧ win0_4.index t0_0 = ![0, 0] ∧ win0_5.index t0_0 = ![0, 0, 0] ∧ win0_6.index t0_0 = ![0, 0] ∧ win0_7.index t0_0 = ![0, 0]
    ∧ win0_8.index t0_0 = ![0, 0] ∧ win0_9.index t0_0 = ![0, 0] := by
  decide +kernel

/-- The number of live rows, as the body reads it. -/
theorem iblk0 (c : Dev nD)  : iblk m c 0 t0_0 (ix1 0) = m ((c : Thread nD τ).loc main_arg0) (ix1 0) := by
  have e : (win0_0.blk t0_0).view.emb (ix1 0) = ix1 0 := by blk_ext [idx]
  blk_simp [iblk, idx]
  refine (congrArg (V m c main_arg0) e).trans ?_
  exact congrFun (V_main_arg0 m c) _

/-- The target's log-sum-exp, as a column. -/
theorem iblk1 (c : Dev nD) (r : Fin 72) : iblk m c 1 t0_0 (ix2 r 0) = m ((c : Thread nD τ).loc main_arg1) (ix1 r) := by
  have e : (win0_1.blk t0_0).view.emb (ix2 r 0) = ix2 r 0 := by blk_ext [idx]
  blk_simp [iblk, idx]
  refine (congrArg (V m c main_v0) e).trans ?_
  entry_read
  pointwise []

/-- The rows' scales, as a column. -/
theorem iblk2 (c : Dev nD) (r : Fin 72) : iblk m c 2 t0_0 (ix2 r 0) = m ((c : Thread nD τ).loc main_arg2) (ix1 r) := by
  have e : (win0_2.blk t0_0).view.emb (ix2 r 0) = ix2 r 0 := by blk_ext [idx]
  blk_simp [iblk, idx]
  refine (congrArg (V m c main_v1) e).trans ?_
  entry_read
  pointwise []

/-- The scaled products at the draft ids. -/
theorem iblk3 (c : Dev nD) (k : Fin 3) (r : Fin 64) (l : Fin 128) : iblk m c 3 t0_0 (ix3 k r l) = m ((c : Thread nD τ).loc main_arg3) (ix3 k r l) := by
  have e : (win0_3.blk t0_0).view.emb (ix3 k r l) = ix3 k r l := by blk_ext [idx]
  blk_simp [iblk, idx]
  refine (congrArg (V m c main_arg3) e).trans ?_
  exact congrFun (V_main_arg3 m c) _

/-- The draft ids. -/
theorem iblk4 (c : Dev nD) (k : Fin 3) (r : Fin 64) : iblk m c 4 t0_0 (ix2 r k) = m ((c : Thread nD τ).loc main_arg4) (ix2 r k) := by
  have e : (win0_4.blk t0_0).view.emb (ix2 r k) = ix2 r k := by blk_ext [idx]
  blk_simp [iblk, idx]
  refine (congrArg (V m c main_arg4) e).trans ?_
  exact congrFun (V_main_arg4 m c) _

/-- The windows of codes. -/
theorem iblk5 (c : Dev nD) (k : Fin 9) (r : Fin 64) (l : Fin 128) : iblk m c 5 t0_0 (ix3 k r l) = m ((c : Thread nD τ).loc main_arg5) (ix3 k r l) := by
  have e : (win0_5.blk t0_0).view.emb (ix3 k r l) = ix3 k r l := by blk_ext [idx]
  blk_simp [iblk, idx]
  refine (congrArg (V m c main_arg5) e).trans ?_
  exact congrFun (V_main_arg5 m c) _

/-- The drafts' scales. -/
theorem iblk6 (c : Dev nD) (k : Fin 3) (r : Fin 64) : iblk m c 6 t0_0 (ix2 r k) = m ((c : Thread nD τ).loc main_arg6) (ix2 r k) := by
  have e : (win0_6.blk t0_0).view.emb (ix2 r k) = ix2 r k := by blk_ext [idx]
  blk_simp [iblk, idx]
  refine (congrArg (V m c main_arg6) e).trans ?_
  exact congrFun (V_main_arg6 m c) _

/-- The drafts' log-sum-exps. -/
theorem iblk7 (c : Dev nD) (k : Fin 3) (r : Fin 64) : iblk m c 7 t0_0 (ix2 r k) = m ((c : Thread nD τ).loc main_arg7) (ix2 r k) := by
  have e : (win0_7.blk t0_0).view.emb (ix2 r k) = ix2 r k := by blk_ext [idx]
  blk_simp [iblk, idx]
  refine (congrArg (V m c main_arg7) e).trans ?_
  exact congrFun (V_main_arg7 m c) _

/-- The residual sums. -/
theorem iblk8 (c : Dev nD) (k : Fin 3) (r : Fin 64) : iblk m c 8 t0_0 (ix2 r k) = m ((c : Thread nD τ).loc main_arg8) (ix2 r k) := by
  have e : (win0_8.blk t0_0).view.emb (ix2 r k) = ix2 r k := by blk_ext [idx]
  blk_simp [iblk, idx]
  refine (congrArg (V m c main_arg8) e).trans ?_
  exact congrFun (V_main_arg8 m c) _

/-- The table at the end is what the body leaves in its window. -/
theorem final9 (c : Dev nD) : (dats m 0 c).arrAt 9 cfg0.N = outsAt0 m c t0_0 := by
  refine (dats m 0 c).arrAt_eq_of_after_last 9 t0_0 (by decide +kernel) _ fun j => ?_
  blk_simp
  rw [after0_9]

/-- The table at an index, from the arguments. -/
theorem final_table (c : Dev nD) (r : Fin 72) (l : Fin 128) : (dats m 0 c).arrAt 9 cfg0.N (ix2 r l)
    = entry (m ((c : Thread nD τ).loc main_arg0) (ix1 0)) (fun r => m ((c : Thread nD τ).loc main_arg1) (ix1 r))
      (fun r => m ((c : Thread nD τ).loc main_arg2) (ix1 r)) (rowOf m c) r l := by
  rw [final9]
  unfold outsAt0
  refine (out_apply c _ _ _ _ _ _ _ _ _ _ _ _ _ _ _ _ _ _ _ _ _ _ _ _ _ _ _ _ _ (fun r => m ((c : Thread nD τ).loc main_arg1) (ix1 r))
    (fun r => m ((c : Thread nD τ).loc main_arg2) (ix1 r)) (rowOf m c) (iblk1 m c) (iblk2 m c) (fun _ => rfl) (iblk3 m c) (iblk4 m c)
    (iblk5 m c) (iblk6 m c) (iblk7 m c) (iblk8 m c) r l).trans ?_
  rw [iblk0]

end Cert.AcceptReferenceIdeal.Hand

end
-- ==== Proof.AEqual.lean ====
module

public import proofs.«01_k».proof.Defs
public import proofs.«01_k».proof.Proof.AIFinal
public import proofs.«01_k».proof.Proof.ARFinal

@[expose] public section

set_option maxRecDepth 65536

noncomputable section

namespace Cert.Hand

open Idealize.ShloMosaic Idealize.SL.Sem

/-- The acceptance kernel and its reference leave the same table: the target's log-sum-exp, the drafts' log-probabilities under
the target and under the draft, the acceptance probabilities, the residual sums and the rows' scales, whatever the extended
reals and the words in the arguments are. -/
theorem accept_algebraic : Cert.algebraic_AcceptIdeal_AcceptReferenceIdeal := by
  intro m ρ m' ρ' _ hag
  refine ⟨fun c => (Cert.AcceptIdeal.Gen.dats m 0 c).arrAt 9 _,
    Cert.AcceptIdeal.Value.run_blocks m ρ,
    (θ_run _ _ _).mono (fun _ h c => ⟨(h c).1.trans ?_, (h c).2⟩) (Cert.AcceptReferenceIdeal.Value.run_blocks m' ρ')⟩
  obtain ⟨h0, h1, h2, h3, h4, h5, h6, h7, h8⟩ := hag c
  refine funext fun j => ?_
  obtain ⟨r, l, rfl⟩ : ∃ (r : Fin 72) (l : Fin 128), j = ix2 r l :=
    ⟨j 0, j 1, by funext d; match d with | ⟨0, _⟩ => rfl | ⟨1, _⟩ => rfl⟩
  refine (Cert.AcceptReferenceIdeal.Hand.final_table m' c r l).trans (Eq.trans ?_ (Cert.AcceptIdeal.Hand.final_table m c r l).symm)
  have e : Cert.AcceptReferenceIdeal.Hand.rowOf m' c = Cert.AcceptIdeal.Hand.rowOf m c := by
    unfold Cert.AcceptReferenceIdeal.Hand.rowOf Cert.AcceptIdeal.Hand.rowOf
    rw [h1, h3, h4, h5, h6, h7, h8]
  rw [e, h0, h1, h2]

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KFrame
public import proofs.«01_k».proof.Proof.KIFrame
public import proofs.«01_k».proof.Proof.Equal
public import proofs.«01_k».proof.Proof.QEqual
public import proofs.«01_k».proof.Proof.AEqual
public import Idealize.ShloMosaic.Adequacy
public import Idealize.ShloMosaic.Init
public import proofs.«01_k».proof.Proof.Gen.ReferenceIdeal
public import proofs.«01_k».proof.Proof.Gen.ReferenceIdeal.Value
public import proofs.«01_k».proof.Proof.Gen.Quant
public import proofs.«01_k».proof.Proof.Gen.Quant.Skeleton
public import proofs.«01_k».proof.Proof.Gen.Quant.Loops
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Loops
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantReferenceIdeal
public import proofs.«01_k».proof.Proof.Gen.QuantReferenceIdeal.Value
public import proofs.«01_k».proof.Proof.Gen.QuantIdeal.Value
public import proofs.«01_k».proof.Proof.Gen.Accept
public import proofs.«01_k».proof.Proof.Gen.Accept.Frame
public import proofs.«01_k».proof.Proof.Gen.AcceptIdeal
public import proofs.«01_k».proof.Proof.Gen.AcceptIdeal.Value
public import proofs.«01_k».proof.Proof.Gen.AcceptReferenceIdeal
public import proofs.«01_k».proof.Proof.Gen.AcceptReferenceIdeal.Value

@[expose] public section

noncomputable section

namespace Cert.Proof

open Idealize.ShloMosaic Idealize.SL.Sem

/-- Of the head product, of the quantiser and of the acceptance table: the three frames, the ideal program as the kernel over the extended reals, and
its equality with the reference. -/
theorem claim : Cert.Claim := ⟨Cert.Kernel.Gen.facts, Cert.KernelIdeal.Gen.facts, Cert.ReferenceIdeal.Gen.facts,
  Cert.Quant.Gen.facts, Cert.QuantIdeal.Gen.facts, Cert.QuantReferenceIdeal.Gen.facts,
  Cert.Accept.Gen.facts, Cert.AcceptIdeal.Gen.facts, Cert.AcceptReferenceIdeal.Gen.facts,
  fun m ρ _ => Cert.Kernel.Hand.frameH m ρ, fun m ρ _ => Cert.KernelIdeal.Hand.frameH m ρ,
  fun m ρ _ => Cert.ReferenceIdeal.Gen.frame m ρ,
  fun m ρ _ => Cert.Quant.Gen.frame m ρ, fun m ρ _ => Cert.QuantIdeal.Gen.frame m ρ,
  fun m ρ _ => Cert.QuantReferenceIdeal.Gen.frame m ρ,
  fun m ρ _ => Cert.Accept.Gen.frame m ρ, fun m ρ _ => Cert.AcceptIdeal.Gen.frame m ρ,
  fun m ρ _ => Cert.AcceptReferenceIdeal.Gen.frame m ρ,
  trivial, Cert.Hand.algebraic, trivial, Cert.Hand.quant_algebraic,
  trivial, Cert.Hand.accept_algebraic⟩

end Cert.Proof

end
